-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_gla [hPre_finite_gla : Cert.Pre_finite_gla.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_gla.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_gla [hPre_finite_gla : Cert.Pre_finite_gla.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_gla.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite_gla [hKernel12Ideal : Cert.Kernel12Ideal.Facts] [hPre_finite_gla : Cert.Pre_finite_gla.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_gla m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite_gla [hReference12Ideal : Cert.Reference12Ideal.Facts] [hPre_finite_gla : Cert.Pre_finite_gla.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_gla m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_gla [hKernel12Ideal : Cert.Kernel12Ideal.Facts] [hReference12Ideal : Cert.Reference12Ideal.Facts] [hPre_finite_gla : Cert.Pre_finite_gla.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_gla m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v43) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite_gla : Cert.Pre_finite_gla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_gla (hKernel12Ideal := hKernel12Ideal) (hPre_finite_gla := hPre_finite_gla)
    ∧ quiescent_Reference12Ideal (hReference12Ideal := hReference12Ideal)
    ∧ quiescent_Reference12Ideal_pre_finite_gla (hReference12Ideal := hReference12Ideal) (hPre_finite_gla := hPre_finite_gla)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_gla (hKernel12Ideal := hKernel12Ideal) (hReference12Ideal := hReference12Ideal) (hPre_finite_gla := hPre_finite_gla)
-- ==== Pre_finite.lean ====
abbrev S8192x8192 : Shape := ⟨2, ![8192, 8192]⟩
abbrev S8192x128 : Shape := ⟨2, ![8192, 128]⟩
abbrev S2x4x6144 : Shape := ⟨3, ![2, 4, 6144]⟩
abbrev S16 : Shape := ⟨1, ![16]⟩
abbrev S128 : Shape := ⟨1, ![128]⟩
abbrev S8192x6144 : Shape := ⟨2, ![8192, 6144]⟩
abbrev S_ : Shape := ⟨0, ![]⟩
abbrev S8192x32 : Shape := ⟨2, ![8192, 32]⟩
abbrev S1x4x6144 : Shape := ⟨3, ![1, 4, 6144]⟩
abbrev S4x6144 : Shape := ⟨2, ![4, 6144]⟩

class Facts : Prop where
  slices_S8192x8192_S8192x6144_0_0 : S8192x8192.Slices ![0, 0] S8192x6144
  bcast_S_S8192x6144 : S_.BroadcastsInDim S8192x6144 (![] : Fin 0 → Fin S8192x6144.rank)
  reducesTo_S8192x6144_S_d0_1 : S8192x6144.ReducesTo [0, 1] S_
  h_S_ : 0 < S_.numel
  slices_S8192x128_S8192x32_0_0 : S8192x128.Slices ![0, 0] S8192x32
  bcast_S_S8192x32 : S_.BroadcastsInDim S8192x32 (![] : Fin 0 → Fin S8192x32.rank)
  reducesTo_S8192x32_S_d0_1 : S8192x32.ReducesTo [0, 1] S_
  slices_S2x4x6144_S1x4x6144_0_0_0 : S2x4x6144.Slices ![0, 0, 0] S1x4x6144
  shapeCasts_S1x4x6144_S4x6144 : S1x4x6144.ShapeCasts S4x6144
  bcast_S_S4x6144 : S_.BroadcastsInDim S4x6144 (![] : Fin 0 → Fin S4x6144.rank)
  reducesTo_S4x6144_S_d0_1 : S4x6144.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg3 : FVec F S16 .f32) (main_arg4 : FVec F S16 .f32) (main_v17 : IVec S_ 1) : IVec S_ 1 :=
  let main_v18 : FVec F S16 .f32 := Host.absf main_arg3
  let main_cst_4 : FVec F S_ .f32 := constant S_ .f32 0x7F800000#32
  let main_v19 : FVec F S16 .f32 := broadcastInDim S16 ![] bcast_S_S16 main_cst_4
  let main_v20 : IVec S16 1 := cmpf .olt main_v18 main_v19
  let main_c_5 : IVec S_ 1 := constantI S_ 1 1#1
  let main_v21 : IVec S_ 1 := (fun x v => Host.reduce IntOp.andi x v reducesTo_S16_S_d0 h_S_) main_v20 main_c_5
  let main_v22 : IVec S_ 1 := andi main_v17 main_v21
  let main_v23 : FVec F S16 .f32 := Host.absf main_arg4
  let main_cst_6 : FVec F S_ .f32 := constant S_ .f32 0x7F800000#32
  let main_v24 : FVec F S16 .f32 := broadcastInDim S16 ![] bcast_S_S16 main_cst_6
  let main_v25 : IVec S16 1 := cmpf .olt main_v23 main_v24
  let main_c_7 : IVec S_ 1 := constantI S_ 1 1#1
  let main_v26 : IVec S_ 1 := (fun x v => Host.reduce IntOp.andi x v reducesTo_S16_S_d0 h_S_) main_v25 main_c_7
  let main_v27 : IVec S_ 1 := andi main_v22 main_v26
  main_v27

def fn {F : FTy → Type} [FloatOps F] (main_arg0 : FVec F S8192x8192 .f32) (main_arg1 : FVec F S8192x128 .f32) (main_arg2 : FVec F S2x4x6144 .f32) (main_arg3 : FVec F S16 .f32) (main_arg4 : FVec F S16 .f32) (main_arg5 : FVec F S128 .f32) : IVec S_ 1 :=
  let main_v0 : FVec F S8192x6144 .f32 := (extractStridedSlice S8192x6144 ![0, 0] · slices_S8192x8192_S8192x6144_0_0) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x32 .f32 := (extractStridedSlice S8192x32 ![0, 0] · slices_S8192x128_S8192x32_0_0) main_arg1
  let main_v6 : FVec F S8192x32 .f32 := Host.absf main_v5
  let main_cst_0 : FVec F S_ .f32 := constant S_ .f32 0x7F800000#32
  let main_v7 : FVec F S8192x32 .f32 := broadcastInDim S8192x32 ![] bcast_S_S8192x32 main_cst_0
  let main_v8 : IVec S8192x32 1 := cmpf .olt main_v6 main_v7
  let main_c_1 : IVec S_ 1 := constantI S_ 1 1#1
  let main_v9 : IVec S_ 1 := (fun x v => Host.reduce IntOp.andi x v reducesTo_S8192x32_S_d0_1 h_S_) main_v8 main_c_1
  let main_v10 : IVec S_ 1 := andi main_v4 main_v9
  let main_v11 : FVec F S1x4x6144 .f32 := (extractStridedSlice S1x4x6144 ![0, 0, 0] · slices_S2x4x6144_S1x4x6144_0_0_0) main_arg2
  let main_v12 : FVec F S4x6144 .f32 := shapeCast S4x6144 main_v11 shapeCasts_S1x4x6144_S4x6144
  let main_v13 : FVec F S4x6144 .f32 := Host.absf main_v12
  let main_cst_2 : FVec F S_ .f32 := constant S_ .f32 0x7F800000#32
  let main_v14 : FVec F S4x6144 .f32 := broadcastInDim S4x6144 ![] bcast_S_S4x6144 main_cst_2
  let main_v15 : IVec S4x6144 1 := cmpf .olt main_v13 main_v14
  let main_c_3 : IVec S_ 1 := constantI S_ 1 1#1
  let main_v16 : IVec S_ 1 := (fun x v => Host.reduce IntOp.andi x v reducesTo_S4x6144_S_d0_1 h_S_) main_v15 main_c_3
  let main_v17 : IVec S_ 1 := andi main_v10 main_v16
  fn_part1 (F := F) main_arg3 main_arg4 main_v17
-- ==== Pre_finite_gla.lean ====
abbrev S8192x7168 : Shape := ⟨2, ![8192, 7168]⟩
abbrev S8192x128 : Shape := ⟨2, ![8192, 128]⟩
abbrev S2x16x512 : Shape := ⟨3, ![2, 16, 512]⟩
abbrev S2x512 : Shape := ⟨2, ![2, 512]⟩
abbrev S256 : Shape := ⟨1, ![256]⟩
abbrev S8192x2048 : Shape := ⟨2, ![8192, 2048]⟩
abbrev S_ : Shape := ⟨0, ![]⟩
abbrev S8192x16 : Shape := ⟨2, ![8192, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩

class Facts : Prop where
  slices_S8192x7168_S8192x2048_0_4096 : S8192x7168.Slices ![0, 4096] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x128_S8192x16_0_32 : S8192x128.Slices ![0, 32] S8192x16
  bcast_S_S8192x16 : S_.BroadcastsInDim S8192x16 (![] : Fin 0 → Fin S8192x16.rank)
  reducesTo_S8192x16_S_d0_1 : S8192x16.ReducesTo [0, 1] S_
  slices_S2x16x512_S1x16x512_0_0_0 : S2x16x512.Slices ![0, 0, 0] S1x16x512
  shapeCasts_S1x16x512_S16x512 : S1x16x512.ShapeCasts S16x512
  bcast_S_S16x512 : S_.BroadcastsInDim S16x512 (![] : Fin 0 → Fin S16x512.rank)
  reducesTo_S16x512_S_d0_1 : S16x512.ReducesTo [0, 1] S_
  slices_S2x512_S1x512_0_0 : S2x512.Slices ![0, 0] S1x512
  shapeCasts_S1x512_S512 : S1x512.ShapeCasts S512
  bcast_S_S512 : S_.BroadcastsInDim S512 (![] : Fin 0 → Fin S512.rank)
  reducesTo_S512_S_d0 : S512.ReducesTo [0] S_

variable [Facts]

def fn_part1 {F : FTy → Type} [FloatOps F] (main_arg3 : FVec F S2x512 .f32) (main_v17 : IVec S_ 1) : IVec S_ 1 :=
  let main_v18 : FVec F S1x512 .f32 := (extractStridedSlice S1x512 ![0, 0] · slices_S2x512_S1x512_0_0) main_arg3
  let main_v19 : FVec F S512 .f32 := shapeCast S512 main_v18 shapeCasts_S1x512_S512
  let main_v20 : FVec F S512 .f32 := Host.absf main_v19
  let main_cst_4 : FVec F S_ .f32 := constant S_ .f32 0x7F800000#32
  let main_v21 : FVec F S512 .f32 := broadcastInDim S512 ![] bcast_S_S512 main_cst_4
  let main_v22 : IVec S512 1 := cmpf .olt main_v20 main_v21
  let main_c_5 : IVec S_ 1 := constantI S_ 1 1#1
  let main_v23 : IVec S_ 1 := (fun x v => Host.reduce IntOp.andi x v reducesTo_S512_S_d0 h_S_) main_v22 main_c_5
  let main_v24 : IVec S_ 1 := andi main_v17 main_v23
  main_v24

def fn {F : FTy → Type} [FloatOps F] (main_arg0 : FVec F S8192x7168 .f32) (main_arg1 : FVec F S8192x128 .f32) (main_arg2 : FVec F S2x16x512 .f32) (main_arg3 : FVec F S2x512 .f32) (main_arg4 : FVec F S256 .f32) : IVec S_ 1 :=
  let main_v0 : FVec F S8192x2048 .f32 := (extractStridedSlice S8192x2048 ![0, 4096] · slices_S8192x7168_S8192x2048_0_4096) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x16 .f32 := (extractStridedSlice S8192x16 ![0, 32] · slices_S8192x128_S8192x16_0_32) main_arg1
  let main_v6 : FVec F S8192x16 .f32 := Host.absf main_v5
  let main_cst_0 : FVec F S_ .f32 := constant S_ .f32 0x7F800000#32
  let main_v7 : FVec F S8192x16 .f32 := broadcastInDim S8192x16 ![] bcast_S_S8192x16 main_cst_0
  let main_v8 : IVec S8192x16 1 := cmpf .olt main_v6 main_v7
  let main_c_1 : IVec S_ 1 := constantI S_ 1 1#1
  let main_v9 : IVec S_ 1 := (fun x v => Host.reduce IntOp.andi x v reducesTo_S8192x16_S_d0_1 h_S_) main_v8 main_c_1
  let main_v10 : IVec S_ 1 := andi main_v4 main_v9
  let main_v11 : FVec F S1x16x512 .f32 := (extractStridedSlice S1x16x512 ![0, 0, 0] · slices_S2x16x512_S1x16x512_0_0_0) main_arg2
  let main_v12 : FVec F S16x512 .f32 := shapeCast S16x512 main_v11 shapeCasts_S1x16x512_S16x512
  let main_v13 : FVec F S16x512 .f32 := Host.absf main_v12
  let main_cst_2 : FVec F S_ .f32 := constant S_ .f32 0x7F800000#32
  let main_v14 : FVec F S16x512 .f32 := broadcastInDim S16x512 ![] bcast_S_S16x512 main_cst_2
  let main_v15 : IVec S16x512 1 := cmpf .olt main_v13 main_v14
  let main_c_3 : IVec S_ 1 := constantI S_ 1 1#1
  let main_v16 : IVec S_ 1 := (fun x v => Host.reduce IntOp.andi x v reducesTo_S16x512_S_d0_1 h_S_) main_v15 main_c_3
  let main_v17 : IVec S_ 1 := andi main_v10 main_v16
  fn_part1 (F := F) main_arg3 main_v17
-- ==== Kernel.lean ====
abbrev S8192x8192 : Shape := ⟨2, ![8192, 8192]⟩
abbrev S8192x128 : Shape := ⟨2, ![8192, 128]⟩
abbrev S2x4x6144 : Shape := ⟨3, ![2, 4, 6144]⟩
abbrev S16 : Shape := ⟨1, ![16]⟩
abbrev S128 : Shape := ⟨1, ![128]⟩
abbrev S2x1x8 : Shape := ⟨3, ![2, 1, 8]⟩
abbrev S_ : Shape := ⟨0, ![]⟩
abbrev S2x1x128 : Shape := ⟨3, ![2, 1, 128]⟩
abbrev S1x128 : Shape := ⟨2, ![1, 128]⟩
abbrev S8192x2048 : Shape := ⟨2, ![8192, 2048]⟩
abbrev S256x1024 : Shape := ⟨2, ![256, 1024]⟩
abbrev S256x128 : Shape := ⟨2, ![256, 128]⟩
abbrev S1x4x1024 : Shape := ⟨3, ![1, 4, 1024]⟩
abbrev S1x1x128 : Shape := ⟨3, ![1, 1, 128]⟩
abbrev S8x128x128 : Shape := ⟨3, ![8, 128, 128]⟩
abbrev S3x8x1024 : Shape := ⟨3, ![3, 8, 1024]⟩
abbrev S1x8x1024 : Shape := ⟨3, ![1, 8, 1024]⟩
abbrev S8x1024 : Shape := ⟨2, ![8, 1024]⟩
abbrev S264x1024 : Shape := ⟨2, ![264, 1024]⟩
abbrev S4x1024 : Shape := ⟨2, ![4, 1024]⟩
abbrev S1x1024 : Shape := ⟨2, ![1, 1024]⟩
abbrev S256x256 : Shape := ⟨2, ![256, 256]⟩
abbrev S128x256 : Shape := ⟨2, ![128, 256]⟩
abbrev S8x256 : Shape := ⟨2, ![8, 256]⟩
abbrev S256 : Shape := ⟨1, ![256]⟩
abbrev S256x1 : Shape := ⟨2, ![256, 1]⟩
abbrev S64x128 : Shape := ⟨2, ![64, 128]⟩
abbrev S64x1 : Shape := ⟨2, ![64, 1]⟩
abbrev S1x64x128 : Shape := ⟨3, ![1, 64, 128]⟩
abbrev S32x64x128 : Shape := ⟨3, ![32, 64, 128]⟩
abbrev S1x64x1 : Shape := ⟨3, ![1, 64, 1]⟩
abbrev S32x64x1 : Shape := ⟨3, ![32, 64, 1]⟩
abbrev S1x64 : Shape := ⟨2, ![1, 64]⟩
abbrev S1x1x64 : Shape := ⟨3, ![1, 1, 64]⟩
abbrev S32x1x64 : Shape := ⟨3, ![32, 1, 64]⟩
abbrev S64x64 : Shape := ⟨2, ![64, 64]⟩
abbrev S32x64x64 : Shape := ⟨3, ![32, 64, 64]⟩
abbrev S1x64x64 : Shape := ⟨3, ![1, 64, 64]⟩
abbrev S32x128x128 : Shape := ⟨3, ![32, 128, 128]⟩
abbrev S32x128x64 : Shape := ⟨3, ![32, 128, 64]⟩
abbrev S32x64x256 : Shape := ⟨3, ![32, 64, 256]⟩
abbrev S32x1x1 : Shape := ⟨3, ![32, 1, 1]⟩
abbrev S128x64 : Shape := ⟨2, ![128, 64]⟩
abbrev S1x128x64 : Shape := ⟨3, ![1, 128, 64]⟩
abbrev S8x64x128 : Shape := ⟨3, ![8, 64, 128]⟩
abbrev S8x64x64 : Shape := ⟨3, ![8, 64, 64]⟩
abbrev S8x1x1 : Shape := ⟨3, ![8, 1, 1]⟩
abbrev S8x128x64 : Shape := ⟨3, ![8, 128, 64]⟩
abbrev S64 : Shape := ⟨1, ![64]⟩

abbrev nBuf : Space → Nat
  | .hbm => 16
  | .vmem => 25
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S2x4x6144, .f32⟩
  | .hbm, ⟨3, _⟩ => ⟨S16, .f32⟩
  | .hbm, ⟨4, _⟩ => ⟨S16, .f32⟩
  | .hbm, ⟨5, _⟩ => ⟨S128, .f32⟩
  | .hbm, ⟨6, _⟩ => ⟨S2x1x8, .f32⟩
  | .hbm, ⟨7, _⟩ => ⟨S_, .i32⟩
  | .hbm, ⟨8, _⟩ => ⟨S_, .f32⟩
  | .hbm, ⟨9, _⟩ => ⟨S2x1x128, .f32⟩
  | .hbm, ⟨10, _⟩ => ⟨S2x1x8, .f32⟩
  | .hbm, ⟨11, _⟩ => ⟨S_, .i32⟩
  | .hbm, ⟨12, _⟩ => ⟨S_, .f32⟩
  | .hbm, ⟨13, _⟩ => ⟨S2x1x128, .f32⟩
  | .hbm, ⟨14, _⟩ => ⟨S1x128, .f32⟩
  | .hbm, ⟨15, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S1x4x1024, .f32⟩
  | .local _ .vmem, ⟨11, _⟩ => ⟨S1x4x1024, .f32⟩
  | .local _ .vmem, ⟨12, _⟩ => ⟨S1x4x1024, .f32⟩
  | .local _ .vmem, ⟨13, _⟩ => ⟨S1x4x1024, .f32⟩
  | .local _ .vmem, ⟨14, _⟩ => ⟨S1x4x1024, .f32⟩
  | .local _ .vmem, ⟨15, _⟩ => ⟨S1x4x1024, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x128, .f32⟩
  | .local _ .vmem, ⟨21, _⟩ => ⟨S256x1024, .bf16⟩
  | .local _ .vmem, ⟨22, _⟩ => ⟨S256x1024, .bf16⟩
  | .local _ .vmem, ⟨23, _⟩ => ⟨S8x128x128, .f32⟩
  | .local _ .vmem, ⟨24, _⟩ => ⟨S3x8x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x8192 : Shape := ⟨2, ![8192, 8192]⟩
abbrev S8192x128 : Shape := ⟨2, ![8192, 128]⟩
abbrev S2x4x6144 : Shape := ⟨3, ![2, 4, 6144]⟩
abbrev S16 : Shape := ⟨1, ![16]⟩
abbrev S128 : Shape := ⟨1, ![128]⟩
abbrev S1x4x6144 : Shape := ⟨3, ![1, 4, 6144]⟩
abbrev S4x6144 : Shape := ⟨2, ![4, 6144]⟩
abbrev S8192x6144 : Shape := ⟨2, ![8192, 6144]⟩
abbrev S_ : Shape := ⟨0, ![]⟩
abbrev S8195x6144 : Shape := ⟨2, ![8195, 6144]⟩
abbrev S1x6144 : Shape := ⟨2, ![1, 6144]⟩
abbrev S6144 : Shape := ⟨1, ![6144]⟩
abbrev S8192x2048 : Shape := ⟨2, ![8192, 2048]⟩
abbrev S8192x16x128 : Shape := ⟨3, ![8192, 16, 128]⟩
abbrev S8192x16 : Shape := ⟨2, ![8192, 16]⟩
abbrev S8192x16x1 : Shape := ⟨3, ![8192, 16, 1]⟩
abbrev S1x16 : Shape := ⟨2, ![1, 16]⟩
abbrev S16x128x128 : Shape := ⟨3, ![16, 128, 128]⟩
abbrev S1x16x128 : Shape := ⟨3, ![1, 16, 128]⟩
abbrev S16x128 : Shape := ⟨2, ![16, 128]⟩
abbrev S16x1x1 : Shape := ⟨3, ![16, 1, 1]⟩
abbrev S16x1 : Shape := ⟨2, ![16, 1]⟩
abbrev S16x128x1 : Shape := ⟨3, ![16, 128, 1]⟩
abbrev S16x1x128 : Shape := ⟨3, ![16, 1, 128]⟩
abbrev S1x1x128 : Shape := ⟨3, ![1, 1, 128]⟩

abbrev nBuf : Space → Nat
  | .hbm => 194
  | .vmem => 0
  | .smem => 0
  | _ => 0

abbrev hbmTy0_0 (i : Nat) : BufTy := match i % 128 with
  | 0 => ⟨S8192x8192, .f32⟩
  | 1 => ⟨S8192x128, .f32⟩
  | 2 => ⟨S2x4x6144, .f32⟩
  | 3 => ⟨S16, .f32⟩
  | 4 => ⟨S16, .f32⟩
  | 5 => ⟨S128, .f32⟩
  | 6 => ⟨S1x4x6144, .f32⟩
  | 7 => ⟨S4x6144, .f32⟩
  | 8 => ⟨S8192x6144, .f32⟩
  | 9 => ⟨S_, .i32⟩
  | 10 => ⟨S_, .f32⟩
  | 11 => ⟨S8195x6144, .f32⟩
  | 12 => ⟨S1x6144, .f32⟩
  | 13 => ⟨S6144, .f32⟩
  | 14 => ⟨S8192x6144, .f32⟩
  | 15 => ⟨S1x6144, .f32⟩
  | 16 => ⟨S8192x6144, .f32⟩
  | 17 => ⟨S8192x6144, .f32⟩
  | 18 => ⟨S1x6144, .f32⟩
  | 19 => ⟨S6144, .f32⟩
  | 20 => ⟨S8192x6144, .f32⟩
  | 21 => ⟨S1x6144, .f32⟩
  | 22 => ⟨S8192x6144, .f32⟩
  | 23 => ⟨S8192x6144, .f32⟩
  | 24 => ⟨S8192x6144, .f32⟩
  | 25 => ⟨S1x6144, .f32⟩
  | 26 => ⟨S6144, .f32⟩
  | 27 => ⟨S8192x6144, .f32⟩
  | 28 => ⟨S1x6144, .f32⟩
  | 29 => ⟨S8192x6144, .f32⟩
  | 30 => ⟨S8192x6144, .f32⟩
  | 31 => ⟨S8192x6144, .f32⟩
  | 32 => ⟨S1x6144, .f32⟩
  | 33 => ⟨S6144, .f32⟩
  | 34 => ⟨S8192x6144, .f32⟩
  | 35 => ⟨S1x6144, .f32⟩
  | 36 => ⟨S8192x6144, .f32⟩
  | 37 => ⟨S8192x6144, .f32⟩
  | 38 => ⟨S8192x6144, .f32⟩
  | 39 => ⟨S8192x6144, .f32⟩
  | 40 => ⟨S8192x6144, .f32⟩
  | 41 => ⟨S_, .f32⟩
  | 42 => ⟨S8192x6144, .f32⟩
  | 43 => ⟨S8192x6144, .f32⟩
  | 44 => ⟨S_, .f32⟩
  | 45 => ⟨S8192x6144, .f32⟩
  | 46 => ⟨S8192x6144, .f32⟩
  | 47 => ⟨S8192x6144, .f32⟩
  | 48 => ⟨S8192x2048, .f32⟩
  | 49 => ⟨S8192x16x128, .f32⟩
  | 50 => ⟨S8192x16x128, .f32⟩
  | 51 => ⟨S_, .f32⟩
  | 52 => ⟨S8192x16, .f32⟩
  | 53 => ⟨S8192x16x1, .f32⟩
  | 54 => ⟨S_, .f32⟩
  | 55 => ⟨S8192x16x1, .f32⟩
  | 56 => ⟨S8192x16x1, .f32⟩
  | 57 => ⟨S8192x16x1, .f32⟩
  | 58 => ⟨S8192x16x128, .f32⟩
  | 59 => ⟨S8192x16x128, .f32⟩
  | 60 => ⟨S_, .f32⟩
  | 61 => ⟨S8192x16x128, .f32⟩
  | 62 => ⟨S8192x16x128, .f32⟩
  | 63 => ⟨S8192x2048, .f32⟩
  | 64 => ⟨S8192x16x128, .f32⟩
  | 65 => ⟨S8192x16x128, .f32⟩
  | 66 => ⟨S_, .f32⟩
  | 67 => ⟨S8192x16, .f32⟩
  | 68 => ⟨S8192x16x1, .f32⟩
  | 69 => ⟨S_, .f32⟩
  | 70 => ⟨S8192x16x1, .f32⟩
  | 71 => ⟨S8192x16x1, .f32⟩
  | 72 => ⟨S8192x16x1, .f32⟩
  | 73 => ⟨S8192x16x128, .f32⟩
  | 74 => ⟨S8192x16x128, .f32⟩
  | 75 => ⟨S8192x2048, .f32⟩
  | 76 => ⟨S8192x16x128, .f32⟩
  | 77 => ⟨S8192x16, .f32⟩
  | 78 => ⟨S8192x16, .f32⟩
  | 79 => ⟨S8192x16, .f32⟩
  | 80 => ⟨S_, .f32⟩
  | 81 => ⟨S8192x16, .f32⟩
  | 82 => ⟨S8192x16, .f32⟩
  | 83 => ⟨S_, .f32⟩
  | 84 => ⟨S8192x16, .f32⟩
  | 85 => ⟨S8192x16, .f32⟩
  | 86 => ⟨S16, .f32⟩
  | 87 => ⟨S16, .f32⟩
  | 88 => ⟨S8192x16, .f32⟩
  | 89 => ⟨S1x16, .f32⟩
  | 90 => ⟨S8192x16, .f32⟩
  | 91 => ⟨S8192x16, .f32⟩
  | 92 => ⟨S_, .f32⟩
  | 93 => ⟨S8192x16, .f32⟩
  | 94 => ⟨S8192x16, .f32⟩
  | 95 => ⟨S8192x16, .f32⟩
  | 96 => ⟨S8192x16, .f32⟩
  | 97 => ⟨S8192x16, .i1⟩
  | 98 => ⟨S8192x16, .f32⟩
  | 99 => ⟨S8192x16, .f32⟩
  | 100 => ⟨S8192x16, .f32⟩
  | 101 => ⟨S8192x16, .f32⟩
  | 102 => ⟨S8192x16, .f32⟩
  | 103 => ⟨S8192x16, .f32⟩
  | 104 => ⟨S8192x16, .f32⟩
  | 105 => ⟨S8192x16, .f32⟩
  | 106 => ⟨S1x16, .f32⟩
  | 107 => ⟨S8192x16, .f32⟩
  | 108 => ⟨S8192x16, .f32⟩
  | 109 => ⟨S8192x16, .f32⟩
  | 110 => ⟨S_, .f32⟩
  | 111 => ⟨S16x128x128, .f32⟩
  | 112 => ⟨S_, .f32⟩
  | 113 => ⟨S8192x16x128, .f32⟩
  | 114 => ⟨S_, .i32⟩
  | 115 => ⟨S8192x16x128, .f32⟩
  | 116 => ⟨S8192x16x128, .f32⟩
  | 117 => ⟨S8192x16x128, .f32⟩
  | 118 => ⟨S8192x16, .f32⟩
  | 119 => ⟨S8192x16, .f32⟩
  | 120 => ⟨S_, .i32⟩
  | 121 => ⟨S16x128x128, .f32⟩
  | 122 => ⟨S8192x16x128, .f32⟩
  | 123 => ⟨S_, .i32⟩
  | 124 => ⟨S_, .i1⟩
  | 125 => ⟨S_, .i32⟩
  | 126 => ⟨S_, .i32⟩
  | 127 => ⟨S1x16x128, .f32⟩
  | _ => ⟨S8192x8192, .f32⟩

abbrev hbmTy0_1 (i : Nat) : BufTy := match i % 128 with
  | 0 => ⟨S16x128, .f32⟩
  | 1 => ⟨S_, .i32⟩
  | 2 => ⟨S_, .i32⟩
  | 3 => ⟨S1x16x128, .f32⟩
  | 4 => ⟨S16x128, .f32⟩
  | 5 => ⟨S_, .i32⟩
  | 6 => ⟨S_, .i32⟩
  | 7 => ⟨S1x16x128, .f32⟩
  | 8 => ⟨S16x128, .f32⟩
  | 9 => ⟨S_, .i32⟩
  | 10 => ⟨S1x16, .f32⟩
  | 11 => ⟨S16, .f32⟩
  | 12 => ⟨S_, .i32⟩
  | 13 => ⟨S1x16, .f32⟩
  | 14 => ⟨S16, .f32⟩
  | 15 => ⟨S16x1x1, .f32⟩
  | 16 => ⟨S16x128x128, .f32⟩
  | 17 => ⟨S16x128x128, .f32⟩
  | 18 => ⟨S16x128, .f32⟩
  | 19 => ⟨S16x128, .f32⟩
  | 20 => ⟨S16x1, .f32⟩
  | 21 => ⟨S16x128, .f32⟩
  | 22 => ⟨S16x128, .f32⟩
  | 23 => ⟨S16x128x1, .f32⟩
  | 24 => ⟨S16x1x128, .f32⟩
  | 25 => ⟨S16x128x128, .f32⟩
  | 26 => ⟨S16x128x128, .f32⟩
  | 27 => ⟨S16x128x128, .f32⟩
  | 28 => ⟨S16x128x128, .f32⟩
  | 29 => ⟨S16x128, .f32⟩
  | 30 => ⟨S1x16x128, .f32⟩
  | 31 => ⟨S_, .i32⟩
  | 32 => ⟨S_, .i32⟩
  | 33 => ⟨S8192x16x128, .f32⟩
  | 34 => ⟨S_, .i32⟩
  | 35 => ⟨S_, .i32⟩
  | 36 => ⟨S8192x16x128, .f32⟩
  | 37 => ⟨S_, .f32⟩
  | 38 => ⟨S8192x16, .f32⟩
  | 39 => ⟨S8192x16x1, .f32⟩
  | 40 => ⟨S_, .f32⟩
  | 41 => ⟨S8192x16x1, .f32⟩
  | 42 => ⟨S8192x16x1, .f32⟩
  | 43 => ⟨S_, .f32⟩
  | 44 => ⟨S8192x16x1, .f32⟩
  | 45 => ⟨S8192x16x1, .f32⟩
  | 46 => ⟨S8192x16x1, .f32⟩
  | 47 => ⟨S8192x16x128, .f32⟩
  | 48 => ⟨S8192x16x128, .f32⟩
  | 49 => ⟨S1x1x128, .f32⟩
  | 50 => ⟨S8192x16x128, .f32⟩
  | 51 => ⟨S8192x16x128, .f32⟩
  | 52 => ⟨S8192x2048, .f32⟩
  | 53 => ⟨S8192x16x128, .f32⟩
  | 54 => ⟨S8192x16x128, .f32⟩
  | 55 => ⟨S8192x16x128, .f32⟩
  | 56 => ⟨S_, .f32⟩
  | 57 => ⟨S8192x16x128, .f32⟩
  | 58 => ⟨S8192x16x128, .f32⟩
  | 59 => ⟨S_, .f32⟩
  | 60 => ⟨S8192x16x128, .f32⟩
  | 61 => ⟨S8192x16x128, .f32⟩
  | 62 => ⟨S8192x16x128, .f32⟩
  | 63 => ⟨S8192x16x128, .f32⟩
  | 64 => ⟨S8192x2048, .f32⟩
  | 65 => ⟨S8192x2048, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_2 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_6 : Ref sig .tc := ⟨.hbm, 110, rfl⟩
abbrev main_v74 : Ref sig .tc := ⟨.hbm, 111, rfl⟩
abbrev main_cst_7 : Ref sig .tc := ⟨.hbm, 112, rfl⟩
abbrev main_v75 : Ref sig .tc := ⟨.hbm, 113, rfl⟩
abbrev main_c_8 : Ref sig .tc := ⟨.hbm, 114, rfl⟩
abbrev main_v76_0 : Ref sig .tc := ⟨.hbm, 115, rfl⟩
abbrev main_v76_1 : Ref sig .tc := ⟨.hbm, 116, rfl⟩
abbrev main_v76_2 : Ref sig .tc := ⟨.hbm, 117, rfl⟩
abbrev main_v76_3 : Ref sig .tc := ⟨.hbm, 118, rfl⟩
abbrev main_v76_4 : Ref sig .tc := ⟨.hbm, 119, rfl⟩
abbrev main_v76_5 : Ref sig .tc := ⟨.hbm, 120, rfl⟩
abbrev main_v76_6 : Ref sig .tc := ⟨.hbm, 121, rfl⟩
abbrev main_v76_7 : Ref sig .tc := ⟨.hbm, 122, rfl⟩
abbrev main_while0c_c_19 : Ref sig .tc := ⟨.hbm, 123, rfl⟩
abbrev main_while0c_v96 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_v0 : Ref sig .tc := ⟨.hbm, 127, rfl⟩
abbrev main_while0b_v96 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_v0 : Ref sig .tc := ⟨.hbm, 131, rfl⟩
abbrev main_while0b_v97 : Ref sig .tc := ⟨.hbm, 132, rfl⟩
abbrev main_while0b_call5_c : Ref sig .tc := ⟨.hbm, 133, rfl⟩
abbrev main_while0b_call5_c_0 : Ref sig .tc := ⟨.hbm, 134, rfl⟩
abbrev main_while0b_call5_v0 : Ref sig .tc := ⟨.hbm, 135, rfl⟩
abbrev main_while0b_v98 : Ref sig .tc := ⟨.hbm, 136, rfl⟩
abbrev main_while0b_call6_c : Ref sig .tc := ⟨.hbm, 137, rfl⟩
abbrev main_while0b_call6_v0 : Ref sig .tc := ⟨.hbm, 138, rfl⟩
abbrev main_while0b_v99 : Ref sig .tc := ⟨.hbm, 139, rfl⟩
abbrev main_while0b_call7_c : Ref sig .tc := ⟨.hbm, 140, rfl⟩
abbrev main_while0b_call7_v0 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_v115 : Ref sig .tc := ⟨.hbm, 157, rfl⟩
abbrev main_while0b_call8_v0 : Ref sig .tc := ⟨.hbm, 158, rfl⟩
abbrev main_while0b_call8_c : Ref sig .tc := ⟨.hbm, 159, rfl⟩
abbrev main_while0b_call8_c_0 : Ref sig .tc := ⟨.hbm, 160, rfl⟩
abbrev main_while0b_v116 : Ref sig .tc := ⟨.hbm, 161, rfl⟩
abbrev main_while0b_c_19 : Ref sig .tc := ⟨.hbm, 162, rfl⟩
abbrev main_while0b_v117 : Ref sig .tc := ⟨.hbm, 163, rfl⟩
abbrev main_v77 : Ref sig .tc := ⟨.hbm, 164, rfl⟩
abbrev main_cst_9 : Ref sig .tc := ⟨.hbm, 165, rfl⟩
abbrev main_v78 : Ref sig .tc := ⟨.hbm, 166, rfl⟩
abbrev main_v79 : Ref sig .tc := ⟨.hbm, 167, rfl⟩
abbrev main_cst_10 : Ref sig .tc := ⟨.hbm, 168, rfl⟩
abbrev main_v80 : Ref sig .tc := ⟨.hbm, 169, rfl⟩
abbrev main_v81 : Ref sig .tc := ⟨.hbm, 170, rfl⟩
abbrev main_cst_11 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_call9_v0 : Ref sig .tc := ⟨.hbm, 182, rfl⟩
abbrev main_call9_v1 : Ref sig .tc := ⟨.hbm, 183, rfl⟩
abbrev main_call9_cst : Ref sig .tc := ⟨.hbm, 184, rfl⟩
abbrev main_call9_v2 : Ref sig .tc := ⟨.hbm, 185, rfl⟩
abbrev main_call9_v3 : Ref sig .tc := ⟨.hbm, 186, rfl⟩
abbrev main_call9_cst_0 : Ref sig .tc := ⟨.hbm, 187, rfl⟩
abbrev main_call9_v4 : Ref sig .tc := ⟨.hbm, 188, rfl⟩
abbrev main_call9_v5 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x4096 : Shape := ⟨2, ![8192, 4096]⟩
abbrev S2x4096x22016 : Shape := ⟨3, ![2, 4096, 22016]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S4096x512 : Shape := ⟨2, ![4096, 512]⟩
abbrev S2048x512 : Shape := ⟨2, ![2048, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8192x22016 : Shape := ⟨2, ![8192, 22016]⟩
abbrev S8192x11008 : Shape := ⟨2, ![8192, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S8192x4096, .f32⟩
  | .hbm, ⟨3, _⟩ => ⟨S1x4096x22016, .f32⟩
  | .hbm, ⟨4, _⟩ => ⟨S4096x22016, .f32⟩
  | .hbm, ⟨5, _⟩ => ⟨S8192x22016, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel3.lean ====
abbrev S8192x11008 : Shape := ⟨2, ![8192, 11008]⟩
abbrev S2x11008x4096 : Shape := ⟨3, ![2, 11008, 4096]⟩
abbrev S8192x4096 : Shape := ⟨2, ![8192, 4096]⟩
abbrev S1024x11008 : Shape := ⟨2, ![1024, 11008]⟩
abbrev S1x11008x256 : Shape := ⟨3, ![1, 11008, 256]⟩
abbrev S1024x256 : Shape := ⟨2, ![1024, 256]⟩
abbrev S1024x5504 : Shape := ⟨2, ![1024, 5504]⟩
abbrev S1x5504x256 : Shape := ⟨3, ![1, 5504, 256]⟩
abbrev S5504x256 : Shape := ⟨2, ![5504, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x4096, .f32⟩
  | .local _ .vmem, ⟨0, _⟩ => ⟨S1024x11008, .bf16⟩
  | .local _ .vmem, ⟨1, _⟩ => ⟨S1x11008x256, .f32⟩
  | .local _ .vmem, ⟨2, _⟩ => ⟨S1x11008x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x11008, .f32⟩
  | .hbm, ⟨4, _⟩ => ⟨S1x11008x4096, .f32⟩
  | .hbm, ⟨5, _⟩ => ⟨S11008x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x4096 : Shape := ⟨2, ![8192, 4096]⟩
abbrev S2x4096x27696 : Shape := ⟨3, ![2, 4096, 27696]⟩
abbrev S2x27696x4096 : Shape := ⟨3, ![2, 27696, 4096]⟩
abbrev S8192x8192 : Shape := ⟨2, ![8192, 8192]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S2x27696x4096, .f32⟩
  | .hbm, ⟨3, _⟩ => ⟨S8192x8192, .f32⟩
  | .local _ .vmem, ⟨0, _⟩ => ⟨S2048x4096, .bf16⟩
  | .local _ .vmem, ⟨1, _⟩ => ⟨S2048x4096, .bf16⟩
  | .local _ .vmem, ⟨2, _⟩ => ⟨S1x512x4096, .f32⟩
  | .local _ .vmem, ⟨3, _⟩ => ⟨S1x512x4096, .f32⟩
  | .local _ .vmem, ⟨4, _⟩ => ⟨S2048x512, .f32⟩
  | .local _ .vmem, ⟨5, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x27696 : Shape := ⟨3, ![2, 4096, 27696]⟩
abbrev S1x4096x8192 : Shape := ⟨3, ![1, 4096, 8192]⟩
abbrev S4096x8192 : Shape := ⟨2, ![4096, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S8192x4096, .f32⟩
  | .hbm, ⟨3, _⟩ => ⟨S1x4096x8192, .f32⟩
  | .hbm, ⟨4, _⟩ => ⟨S4096x8192, .f32⟩
  | .hbm, ⟨5, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S2x4096x27696 : Shape := ⟨3, ![2, 4096, 27696]⟩
abbrev S2x27696x4096 : Shape := ⟨3, ![2, 27696, 4096]⟩
abbrev S8192x7168 : Shape := ⟨2, ![8192, 7168]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S2x27696x4096, .f32⟩
  | .hbm, ⟨3, _⟩ => ⟨S8192x7168, .f32⟩
  | .local _ .vmem, ⟨0, _⟩ => ⟨S2048x4096, .bf16⟩
  | .local _ .vmem, ⟨1, _⟩ => ⟨S2048x4096, .bf16⟩
  | .local _ .vmem, ⟨2, _⟩ => ⟨S1x512x4096, .f32⟩
  | .local _ .vmem, ⟨3, _⟩ => ⟨S1x512x4096, .f32⟩
  | .local _ .vmem, ⟨4, _⟩ => ⟨S2048x512, .f32⟩
  | .local _ .vmem, ⟨5, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 14], ![false, false]⟩

def k0_mult1 (i : grid0.Coords) : BitVec 32 :=
  let c8224_i32 : BitVec 32 := 8224#32
  let arg1 : BitVec 32 := BitVec.ofNat 32 (i 1).val
  let c512_i32 : BitVec 32 := 512#32
  let v0 : BitVec 32 := Scalar.muli arg1 c512_i32
  let v1 : BitVec 32 := Scalar.addi c8224_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8224_i32 : BitVec 32 := 8224#32
  let v1 : BitVec 32 := Scalar.addi c8224_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S2x4096x27696 : Shape := ⟨3, ![2, 4096, 27696]⟩
abbrev S1x4096x7168 : Shape := ⟨3, ![1, 4096, 7168]⟩
abbrev S4096x7168 : Shape := ⟨2, ![4096, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S8192x4096, .f32⟩
  | .hbm, ⟨3, _⟩ => ⟨S1x4096x7168, .f32⟩
  | .hbm, ⟨4, _⟩ => ⟨S4096x7168, .f32⟩
  | .hbm, ⟨5, _⟩ => ⟨S8192x7168, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x4096 : Shape := ⟨2, ![8192, 4096]⟩
abbrev S2x4096x27696 : Shape := ⟨3, ![2, 4096, 27696]⟩
abbrev S2x27696x4096 : Shape := ⟨3, ![2, 27696, 4096]⟩
abbrev S8192x12288 : Shape := ⟨2, ![8192, 12288]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S2x27696x4096, .f32⟩
  | .hbm, ⟨3, _⟩ => ⟨S8192x12288, .bf16⟩
  | .local _ .vmem, ⟨0, _⟩ => ⟨S2048x4096, .bf16⟩
  | .local _ .vmem, ⟨1, _⟩ => ⟨S2048x4096, .bf16⟩
  | .local _ .vmem, ⟨2, _⟩ => ⟨S1x512x4096, .f32⟩
  | .local _ .vmem, ⟨3, _⟩ => ⟨S1x512x4096, .f32⟩
  | .local _ .vmem, ⟨4, _⟩ => ⟨S2048x512, .bf16⟩
  | .local _ .vmem, ⟨5, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let c15408_i32 : BitVec 32 := 15408#32
  let arg1 : BitVec 32 := BitVec.ofNat 32 (i 1).val
  let c512_i32 : BitVec 32 := 512#32
  let v0 : BitVec 32 := Scalar.muli arg1 c512_i32
  let v1 : BitVec 32 := Scalar.addi c15408_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c15408_i32 : BitVec 32 := 15408#32
  let v1 : BitVec 32 := Scalar.addi c15408_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S2x4096x27696 : Shape := ⟨3, ![2, 4096, 27696]⟩
abbrev S1x4096x12288 : Shape := ⟨3, ![1, 4096, 12288]⟩
abbrev S4096x12288 : Shape := ⟨2, ![4096, 12288]⟩
abbrev S8192x12288 : Shape := ⟨2, ![8192, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S8192x4096, .f32⟩
  | .hbm, ⟨3, _⟩ => ⟨S1x4096x12288, .f32⟩
  | .hbm, ⟨4, _⟩ => ⟨S4096x12288, .f32⟩
  | .hbm, ⟨5, _⟩ => ⟨S8192x12288, .f32⟩
  | .hbm, ⟨6, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S8192x1024 : Shape := ⟨2, ![8192, 1024]⟩
abbrev S2x4096x4096 : Shape := ⟨3, ![2, 4096, 4096]⟩
abbrev S8192x12288 : Shape := ⟨2, ![8192, 12288]⟩
abbrev S8192x4096 : Shape := ⟨2, ![8192, 4096]⟩
abbrev S2048x2048 : Shape := ⟨2, ![2048, 2048]⟩
abbrev S2048x1024 : Shape := ⟨2, ![2048, 1024]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 6
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x4096x4096, .f32⟩
  | .hbm, ⟨4, _⟩ => ⟨S8192x12288, .bf16⟩
  | .hbm, ⟨5, _⟩ => ⟨S8192x4096, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1x2048x256, .f32⟩
  | .local _ .vmem, ⟨4, _⟩ => ⟨S1x2048x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S8192x2048 : Shape := ⟨2, ![8192, 2048]⟩
abbrev S8192x1024 : Shape := ⟨2, ![8192, 1024]⟩
abbrev S2x4096x4096 : Shape := ⟨3, ![2, 4096, 4096]⟩
abbrev S8192x12288 : Shape := ⟨2, ![8192, 12288]⟩
abbrev S8192x3x4096 : Shape := ⟨3, ![8192, 3, 4096]⟩
abbrev S_ : Shape := ⟨0, ![]⟩
abbrev S1x4096x4096 : Shape := ⟨3, ![1, 4096, 4096]⟩
abbrev S4096x4096 : Shape := ⟨2, ![4096, 4096]⟩
abbrev S2048x4096 : Shape := ⟨2, ![2048, 4096]⟩
abbrev S1024x4096 : Shape := ⟨2, ![1024, 4096]⟩
abbrev S8192x1x4096 : Shape := ⟨3, ![8192, 1, 4096]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x4096x4096, .f32⟩
  | .hbm, ⟨4, _⟩ => ⟨S8192x12288, .bf16⟩
  | .hbm, ⟨5, _⟩ => ⟨S8192x12288, .f32⟩
  | .hbm, ⟨6, _⟩ => ⟨S8192x3x4096, .f32⟩
  | .hbm, ⟨7, _⟩ => ⟨S8192x3x4096, .f32⟩
  | .hbm, ⟨8, _⟩ => ⟨S8192x3x4096, .f32⟩
  | .hbm, ⟨9, _⟩ => ⟨S_, .f32⟩
  | .hbm, ⟨10, _⟩ => ⟨S8192x3x4096, .f32⟩
  | .hbm, ⟨11, _⟩ => ⟨S8192x3x4096, .f32⟩
  | .hbm, ⟨12, _⟩ => ⟨S_, .f32⟩
  | .hbm, ⟨13, _⟩ => ⟨S8192x3x4096, .f32⟩
  | .hbm, ⟨14, _⟩ => ⟨S8192x3x4096, .f32⟩
  | .hbm, ⟨15, _⟩ => ⟨S1x4096x4096, .f32⟩
  | .hbm, ⟨16, _⟩ => ⟨S4096x4096, .f32⟩
  | .hbm, ⟨17, _⟩ => ⟨S2048x4096, .f32⟩
  | .hbm, ⟨18, _⟩ => ⟨S1024x4096, .f32⟩
  | .hbm, ⟨19, _⟩ => ⟨S1024x4096, .f32⟩
  | .hbm, ⟨20, _⟩ => ⟨S8192x1x4096, .f32⟩
  | .hbm, ⟨21, _⟩ => ⟨S8192x4096, .f32⟩
  | .hbm, ⟨22, _⟩ => ⟨S8192x2048, .f32⟩
  | .hbm, ⟨23, _⟩ => ⟨S8192x4096, .f32⟩
  | .hbm, ⟨24, _⟩ => ⟨S8192x4096, .f32⟩
  | .hbm, ⟨25, _⟩ => ⟨S8192x1x4096, .f32⟩
  | .hbm, ⟨26, _⟩ => ⟨S8192x4096, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x1x4096, .f32⟩
  | .hbm, ⟨32, _⟩ => ⟨S8192x4096, .f32⟩
  | .hbm, ⟨33, _⟩ => ⟨S8192x1024, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel8.lean ====
abbrev S8192x4096 : Shape := ⟨2, ![8192, 4096]⟩
abbrev S2x4096x4096 : Shape := ⟨3, ![2, 4096, 4096]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S8192x4096 : Shape := ⟨2, ![8192, 4096]⟩
abbrev S2x4096x27696 : Shape := ⟨3, ![2, 4096, 27696]⟩
abbrev S2x27696x4096 : Shape := ⟨3, ![2, 27696, 4096]⟩
abbrev S8192x128 : Shape := ⟨2, ![8192, 128]⟩
abbrev S1024x4096 : Shape := ⟨2, ![1024, 4096]⟩
abbrev S1x32x4096 : Shape := ⟨3, ![1, 32, 4096]⟩
abbrev S1x16x4096 : Shape := ⟨3, ![1, 16, 4096]⟩
abbrev S1024x128 : Shape := ⟨2, ![1024, 128]⟩
abbrev S80x4096 : Shape := ⟨2, ![80, 4096]⟩
abbrev S32x4096 : Shape := ⟨2, ![32, 4096]⟩
abbrev S16x4096 : Shape := ⟨2, ![16, 4096]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S2x27696x4096, .f32⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x32x4096, .f32⟩
  | .local _ .vmem, ⟨3, _⟩ => ⟨S1x16x4096, .f32⟩
  | .local _ .vmem, ⟨4, _⟩ => ⟨S1024x128, .f32⟩
  | .local _ .vmem, ⟨5, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c8192_i32 : BitVec 32 := 8192#32
  let arg1 : BitVec 32 := BitVec.ofNat 32 (i 1).val
  let c32_i32 : BitVec 32 := 32#32
  let v0 : BitVec 32 := Scalar.muli arg1 c32_i32
  let v1 : BitVec 32 := Scalar.addi c8192_i32 v0
  v1
def k0_mult2 (i : grid0.Coords) : BitVec 32 :=
  let c15392_i32 : BitVec 32 := 15392#32
  let arg1 : BitVec 32 := BitVec.ofNat 32 (i 1).val
  let c16_i32 : BitVec 32 := 16#32
  let v0 : BitVec 32 := Scalar.muli arg1 c16_i32
  let v1 : BitVec 32 := Scalar.addi c15392_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c8192_i32 : BitVec 32 := 8192#32
  let v1 : BitVec 32 := Scalar.addi c8192_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15392_i32 : BitVec 32 := 15392#32
  let v1 : BitVec 32 := Scalar.addi c15392_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference10Ideal.lean ====
abbrev S8192x4096 : Shape := ⟨2, ![8192, 4096]⟩
abbrev S2x4096x27696 : Shape := ⟨3, ![2, 4096, 27696]⟩
abbrev S1x4096x32 : Shape := ⟨3, ![1, 4096, 32]⟩
abbrev S4096x32 : Shape := ⟨2, ![4096, 32]⟩
abbrev S8192x32 : Shape := ⟨2, ![8192, 32]⟩
abbrev S1x4096x16 : Shape := ⟨3, ![1, 4096, 16]⟩
abbrev S4096x16 : Shape := ⟨2, ![4096, 16]⟩
abbrev S8192x16 : Shape := ⟨2, ![8192, 16]⟩
abbrev S_ : Shape := ⟨0, ![]⟩
abbrev S8192x80 : Shape := ⟨2, ![8192, 80]⟩
abbrev S8192x128 : Shape := ⟨2, ![8192, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x27696, .f32⟩
  | .hbm, ⟨2, _⟩ => ⟨S1x4096x32, .f32⟩
  | .hbm, ⟨3, _⟩ => ⟨S4096x32, .f32⟩
  | .hbm, ⟨4, _⟩ => ⟨S8192x4096, .f32⟩
  | .hbm, ⟨5, _⟩ => ⟨S8192x32, .f32⟩
  | .hbm, ⟨6, _⟩ => ⟨S1x4096x16, .f32⟩
  | .hbm, ⟨7, _⟩ => ⟨S4096x16, .f32⟩
  | .hbm, ⟨8, _⟩ => ⟨S8192x4096, .f32⟩
  | .hbm, ⟨9, _⟩ => ⟨S8192x16, .f32⟩
  | .hbm, ⟨10, _⟩ => ⟨S_, .f32⟩
  | .hbm, ⟨11, _⟩ => ⟨S8192x80, .f32⟩
  | .hbm, ⟨12, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel11.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8192x7168 : Shape := ⟨2, ![8192, 7168]⟩
abbrev S8192x128 : Shape := ⟨2, ![8192, 128]⟩
abbrev S2x16x512 : Shape := ⟨3, ![2, 16, 512]⟩
abbrev S2x512 : Shape := ⟨2, ![2, 512]⟩
abbrev S256 : Shape := ⟨1, ![256]⟩
abbrev S1x16x512 : Shape := ⟨3, ![1, 16, 512]⟩
abbrev S16x512 : Shape := ⟨2, ![16, 512]⟩
abbrev S_ : Shape := ⟨0, ![]⟩
abbrev S128x512 : Shape := ⟨2, ![128, 512]⟩
abbrev S1x512 : Shape := ⟨2, ![1, 512]⟩
abbrev S512 : Shape := ⟨1, ![512]⟩
abbrev S1x256 : Shape := ⟨2, ![1, 256]⟩
abbrev S8192x1024 : Shape := ⟨2, ![8192, 1024]⟩
abbrev S256x512 : Shape := ⟨2, ![256, 512]⟩
abbrev S256x1024 : Shape := ⟨2, ![256, 1024]⟩
abbrev S256x128 : Shape := ⟨2, ![256, 128]⟩
abbrev S4x128x256 : Shape := ⟨3, ![4, 128, 256]⟩
abbrev S256x256 : Shape := ⟨2, ![256, 256]⟩
abbrev S32x8x512 : Shape := ⟨3, ![32, 8, 512]⟩
abbrev S32x1x512 : Shape := ⟨3, ![32, 1, 512]⟩
abbrev S1x1x512 : Shape := ⟨3, ![1, 1, 512]⟩
abbrev S31x1x512 : Shape := ⟨3, ![31, 1, 512]⟩
abbrev S256x64 : Shape := ⟨2, ![256, 64]⟩
abbrev S256x1 : Shape := ⟨2, ![256, 1]⟩
abbrev S64x128 : Shape := ⟨2, ![64, 128]⟩
abbrev S1x128 : Shape := ⟨2, ![1, 128]⟩
abbrev S8x128 : Shape := ⟨2, ![8, 128]⟩
abbrev S56x128 : Shape := ⟨2, ![56, 128]⟩
abbrev S48x128 : Shape := ⟨2, ![48, 128]⟩
abbrev S16x128 : Shape := ⟨2, ![16, 128]⟩
abbrev S40x128 : Shape := ⟨2, ![40, 128]⟩
abbrev S24x128 : Shape := ⟨2, ![24, 128]⟩
abbrev S32x128 : Shape := ⟨2, ![32, 128]⟩
abbrev S64x896 : Shape := ⟨2, ![64, 896]⟩
abbrev S128x128 : Shape := ⟨2, ![128, 128]⟩
abbrev S64x256 : Shape := ⟨2, ![64, 256]⟩
abbrev S64x64 : Shape := ⟨2, ![64, 64]⟩
abbrev S1x64x896 : Shape := ⟨3, ![1, 64, 896]⟩
abbrev S16x64x896 : Shape := ⟨3, ![16, 64, 896]⟩
abbrev S16x64x64 : Shape := ⟨3, ![16, 64, 64]⟩
abbrev S1x64x64 : Shape := ⟨3, ![1, 64, 64]⟩
abbrev S1x128x128 : Shape := ⟨3, ![1, 128, 128]⟩
abbrev S16x128x128 : Shape := ⟨3, ![16, 128, 128]⟩
abbrev S1x64x256 : Shape := ⟨3, ![1, 64, 256]⟩
abbrev S16x64x256 : Shape := ⟨3, ![16, 64, 256]⟩
abbrev S16x128x64 : Shape := ⟨3, ![16, 128, 64]⟩
abbrev S16x128x256 : Shape := ⟨3, ![16, 128, 256]⟩
abbrev S4x128x1 : Shape := ⟨3, ![4, 128, 1]⟩
abbrev S1x64x128 : Shape := ⟨3, ![1, 64, 128]⟩
abbrev S16x64x128 : Shape := ⟨3, ![16, 64, 128]⟩
abbrev S16x64x192 : Shape := ⟨3, ![16, 64, 192]⟩
abbrev S16x192x256 : Shape := ⟨3, ![16, 192, 256]⟩
abbrev S64 : Shape := ⟨1, ![64]⟩
abbrev S64x1 : Shape := ⟨2, ![64, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x7168, .f32⟩
  | .hbm, ⟨1, _⟩ => ⟨S8192x128, .f32⟩
  | .hbm, ⟨2, _⟩ => ⟨S2x16x512, .f32⟩
  | .hbm, ⟨3, _⟩ => ⟨S2x512, .f32⟩
  | .hbm, ⟨4, _⟩ => ⟨S256, .f32⟩
  | .hbm, ⟨5, _⟩ => ⟨S1x16x512, .f32⟩
  | .hbm, ⟨6, _⟩ => ⟨S16x512, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S1x256, .f32⟩
  | .hbm, ⟨14, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S128x512, .f32⟩
  | .local _ .vmem, ⟨11, _⟩ => ⟨S1x512, .f32⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S4x128x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8192x7168 : Shape := ⟨2, ![8192, 7168]⟩
abbrev S8192x128 : Shape := ⟨2, ![8192, 128]⟩
abbrev S2x16x512 : Shape := ⟨3, ![2, 16, 512]⟩
abbrev S2x512 : Shape := ⟨2, ![2, 512]⟩
abbrev S256 : Shape := ⟨1, ![256]⟩
abbrev S8192x512 : Shape := ⟨2, ![8192, 512]⟩
abbrev S8192x4x128 : Shape := ⟨3, ![8192, 4, 128]⟩
abbrev S_ : Shape := ⟨0, ![]⟩
abbrev S8192x1024 : Shape := ⟨2, ![8192, 1024]⟩
abbrev S8192x4x256 : Shape := ⟨3, ![8192, 4, 256]⟩
abbrev S8192x16 : Shape := ⟨2, ![8192, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S4x128x256 : Shape := ⟨3, ![4, 128, 256]⟩
abbrev S1x4x128 : Shape := ⟨3, ![1, 4, 128]⟩
abbrev S4x128 : Shape := ⟨2, ![4, 128]⟩
abbrev S1x4x256 : Shape := ⟨3, ![1, 4, 256]⟩
abbrev S4x256 : Shape := ⟨2, ![4, 256]⟩
abbrev S4x128x1 : Shape := ⟨3, ![4, 128, 1]⟩
abbrev S4x1x256 : Shape := ⟨3, ![4, 1, 256]⟩
abbrev S8192x4 : Shape := ⟨2, ![8192, 4]⟩
abbrev S8192x4x1 : Shape := ⟨3, ![8192, 4, 1]⟩
abbrev S1x1x256 : Shape := ⟨3, ![1, 1, 256]⟩

abbrev nBuf : Space → Nat
  | .hbm => 120
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x128, .f32⟩
  | .hbm, ⟨2, _⟩ => ⟨S2x16x512, .f32⟩
  | .hbm, ⟨3, _⟩ => ⟨S2x512, .f32⟩
  | .hbm, ⟨4, _⟩ => ⟨S256, .f32⟩
  | .hbm, ⟨5, _⟩ => ⟨S8192x512, .f32⟩
  | .hbm, ⟨6, _⟩ => ⟨S8192x4x128, .f32⟩
  | .hbm, ⟨7, _⟩ => ⟨S_, .f32⟩
  | .hbm, ⟨8, _⟩ => ⟨S8192x4x128, .f32⟩
  | .hbm, ⟨9, _⟩ => ⟨S8192x4x128, .f32⟩
  | .hbm, ⟨10, _⟩ => ⟨S8192x512, .f32⟩
  | .hbm, ⟨11, _⟩ => ⟨S8192x4x128, .f32⟩
  | .hbm, ⟨12, _⟩ => ⟨S8192x1024, .f32⟩
  | .hbm, ⟨13, _⟩ => ⟨S8192x4x256, .f32⟩
  | .hbm, ⟨14, _⟩ => ⟨S8192x16, .f32⟩
  | .hbm, ⟨15, _⟩ => ⟨S1x16x512, .f32⟩
  | .hbm, ⟨16, _⟩ => ⟨S16x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .i1⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x4x128, .f32⟩
  | .hbm, ⟨44, _⟩ => ⟨S_, .f32⟩
  | .hbm, ⟨45, _⟩ => ⟨S4x128x256, .f32⟩
  | .hbm, ⟨46, _⟩ => ⟨S_, .f32⟩
  | .hbm, ⟨47, _⟩ => ⟨S8192x4x256, .f32⟩
  | .hbm, ⟨48, _⟩ => ⟨S_, .i32⟩
  | .hbm, ⟨49, _⟩ => ⟨S8192x4x128, .f32⟩
  | .hbm, ⟨50, _⟩ => ⟨S8192x4x128, .f32⟩
  | .hbm, ⟨51, _⟩ => ⟨S8192x4x256, .f32⟩
  | .hbm, ⟨52, _⟩ => ⟨S8192x4x128, .f32⟩
  | .hbm, ⟨53, _⟩ => ⟨S_, .i32⟩
  | .hbm, ⟨54, _⟩ => ⟨S4x128x256, .f32⟩
  | .hbm, ⟨55, _⟩ => ⟨S8192x4x256, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S1x4x128, .f32⟩
  | .hbm, ⟨61, _⟩ => ⟨S4x128, .f32⟩
  | .hbm, ⟨62, _⟩ => ⟨S_, .i32⟩
  | .hbm, ⟨63, _⟩ => ⟨S_, .i32⟩
  | .hbm, ⟨64, _⟩ => ⟨S1x4x128, .f32⟩
  | .hbm, ⟨65, _⟩ => ⟨S4x128, .f32⟩
  | .hbm, ⟨66, _⟩ => ⟨S_, .i32⟩
  | .hbm, ⟨67, _⟩ => ⟨S_, .i32⟩
  | .hbm, ⟨68, _⟩ => ⟨S1x4x256, .f32⟩
  | .hbm, ⟨69, _⟩ => ⟨S4x256, .f32⟩
  | .hbm, ⟨70, _⟩ => ⟨S_, .i32⟩
  | .hbm, ⟨71, _⟩ => ⟨S_, .i32⟩
  | .hbm, ⟨72, _⟩ => ⟨S1x4x128, .f32⟩
  | .hbm, ⟨73, _⟩ => ⟨S4x128, .f32⟩
  | .hbm, ⟨74, _⟩ => ⟨S4x128x1, .f32⟩
  | .hbm, ⟨75, _⟩ => ⟨S4x128x256, .f32⟩
  | .hbm, ⟨76, _⟩ => ⟨S4x128x256, .f32⟩
  | .hbm, ⟨77, _⟩ => ⟨S4x128x1, .f32⟩
  | .hbm, ⟨78, _⟩ => ⟨S4x1x256, .f32⟩
  | .hbm, ⟨79, _⟩ => ⟨S4x128x256, .f32⟩
  | .hbm, ⟨80, _⟩ => ⟨S4x128x256, .f32⟩
  | .hbm, ⟨81, _⟩ => ⟨S4x128x256, .f32⟩
  | .hbm, ⟨82, _⟩ => ⟨S4x128x256, .f32⟩
  | .hbm, ⟨83, _⟩ => ⟨S4x256, .f32⟩
  | .hbm, ⟨84, _⟩ => ⟨S1x4x256, .f32⟩
  | .hbm, ⟨85, _⟩ => ⟨S_, .i32⟩
  | .hbm, ⟨86, _⟩ => ⟨S_, .i32⟩
  | .hbm, ⟨87, _⟩ => ⟨S8192x4x256, .f32⟩
  | .hbm, ⟨88, _⟩ => ⟨S_, .i32⟩
  | .hbm, ⟨89, _⟩ => ⟨S_, .i32⟩
  | .hbm, ⟨90, _⟩ => ⟨S8192x4x256, .f32⟩
  | .hbm, ⟨91, _⟩ => ⟨S_, .f32⟩
  | .hbm, ⟨92, _⟩ => ⟨S8192x4, .f32⟩
  | .hbm, ⟨93, _⟩ => ⟨S8192x4x1, .f32⟩
  | .hbm, ⟨94, _⟩ => ⟨S_, .f32⟩
  | .hbm, ⟨95, _⟩ => ⟨S8192x4x1, .f32⟩
  | .hbm, ⟨96, _⟩ => ⟨S8192x4x1, .f32⟩
  | .hbm, ⟨97, _⟩ => ⟨S_, .f32⟩
  | .hbm, ⟨98, _⟩ => ⟨S8192x4x1, .f32⟩
  | .hbm, ⟨99, _⟩ => ⟨S8192x4x1, .f32⟩
  | .hbm, ⟨100, _⟩ => ⟨S8192x4x1, .f32⟩
  | .hbm, ⟨101, _⟩ => ⟨S8192x4x256, .f32⟩
  | .hbm, ⟨102, _⟩ => ⟨S8192x4x256, .f32⟩
  | .hbm, ⟨103, _⟩ => ⟨S1x1x256, .f32⟩
  | .hbm, ⟨104, _⟩ => ⟨S8192x4x256, .f32⟩
  | .hbm, ⟨105, _⟩ => ⟨S8192x4x256, .f32⟩
  | .hbm, ⟨106, _⟩ => ⟨S8192x1024, .f32⟩
  | .hbm, ⟨107, _⟩ => ⟨S8192x4x256, .f32⟩
  | .hbm, ⟨108, _⟩ => ⟨S8192x4x256, .f32⟩
  | .hbm, ⟨109, _⟩ => ⟨S8192x4x256, .f32⟩
  | .hbm, ⟨110, _⟩ => ⟨S_, .f32⟩
  | .hbm, ⟨111, _⟩ => ⟨S8192x4x256, .f32⟩
  | .hbm, ⟨112, _⟩ => ⟨S8192x4x256, .f32⟩
  | .hbm, ⟨113, _⟩ => ⟨S_, .f32⟩
  | .hbm, ⟨114, _⟩ => ⟨S8192x4x256, .f32⟩
  | .hbm, ⟨115, _⟩ => ⟨S8192x4x256, .f32⟩
  | .hbm, ⟨116, _⟩ => ⟨S8192x4x256, .f32⟩
  | .hbm, ⟨117, _⟩ => ⟨S8192x4x256, .f32⟩
  | .hbm, ⟨118, _⟩ => ⟨S8192x1024, .f32⟩
  | .hbm, ⟨119, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_c : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev main_v24_3 : Ref sig .tc := ⟨.hbm, 52, rfl⟩
abbrev main_v24_4 : Ref sig .tc := ⟨.hbm, 53, rfl⟩
abbrev main_v24_5 : Ref sig .tc := ⟨.hbm, 54, rfl⟩
abbrev main_v24_6 : Ref sig .tc := ⟨.hbm, 55, rfl⟩
abbrev main_while0c_c_12 : Ref sig .tc := ⟨.hbm, 56, rfl⟩
abbrev main_while0c_v44 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_v0 : Ref sig .tc := ⟨.hbm, 60, rfl⟩
abbrev main_while0b_v44 : Ref sig .tc := ⟨.hbm, 61, rfl⟩
abbrev main_while0b_call2_c : Ref sig .tc := ⟨.hbm, 62, rfl⟩
abbrev main_while0b_call2_c_0 : Ref sig .tc := ⟨.hbm, 63, rfl⟩
abbrev main_while0b_call2_v0 : Ref sig .tc := ⟨.hbm, 64, rfl⟩
abbrev main_while0b_v45 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_v0 : Ref sig .tc := ⟨.hbm, 68, rfl⟩
abbrev main_while0b_v46 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_v0 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_call5_v0 : Ref sig .tc := ⟨.hbm, 84, rfl⟩
abbrev main_while0b_call5_c : Ref sig .tc := ⟨.hbm, 85, rfl⟩
abbrev main_while0b_call5_c_0 : Ref sig .tc := ⟨.hbm, 86, rfl⟩
abbrev main_while0b_v58 : Ref sig .tc := ⟨.hbm, 87, rfl⟩
abbrev main_while0b_c_12 : Ref sig .tc := ⟨.hbm, 88, rfl⟩
abbrev main_while0b_v59 : Ref sig .tc := ⟨.hbm, 89, rfl⟩
abbrev main_v25 : Ref sig .tc := ⟨.hbm, 90, rfl⟩
abbrev main_cst_3 : Ref sig .tc := ⟨.hbm, 91, rfl⟩
abbrev main_v26 : Ref sig .tc := ⟨.hbm, 92, rfl⟩
abbrev main_v27 : Ref sig .tc := ⟨.hbm, 93, rfl⟩
abbrev main_cst_4 : Ref sig .tc := ⟨.hbm, 94, rfl⟩
abbrev main_v28 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_call6_v0 : Ref sig .tc := ⟨.hbm, 108, rfl⟩
abbrev main_call6_v1 : Ref sig .tc := ⟨.hbm, 109, rfl⟩
abbrev main_call6_cst : Ref sig .tc := ⟨.hbm, 110, rfl⟩
abbrev main_call6_v2 : Ref sig .tc := ⟨.hbm, 111, rfl⟩
abbrev main_call6_v3 : Ref sig .tc := ⟨.hbm, 112, rfl⟩
abbrev main_call6_cst_0 : Ref sig .tc := ⟨.hbm, 113, rfl⟩
abbrev main_call6_v4 : Ref sig .tc := ⟨.hbm, 114, rfl⟩
abbrev main_call6_v5 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩

abbrev nD : Nat := 1
abbrev τ : Topo := Topo.v7x

variable {F : FTy → Type} [FloatOps F]

abbrev main_while0_count : Scf.Loop 32 := ⟨0#32, 8192#32, 1#32⟩
-- ==== Proof.Lift.lean ====
module

public import Idealize.ShloMosaic.Lib.Pointwise
public import Mathlib.Analysis.SpecialFunctions.Exp
public import Mathlib.Tactic.Positivity

/-!
The operations on finite values are those on the reals.
-/

@[expose] public section

noncomputable section

open Idealize.ShloMosaic
open scoped BigOperators

namespace Cert.Delta

theorem coe_sum {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem coe_ite (p : Prop) [Decidable p] (a b : ℝ) :
    (if p then (a : EReal) else (b : EReal)) = ((if p then a else b : ℝ) : EReal) := by
  split_ifs <;> rfl

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem log_pos {x : ℝ} (h : 0 < x) : Ideal.log (x : EReal) = ((Real.log x : ℝ) : EReal) := by
  rw [Ideal.log_coe, if_neg (not_le.mpr h)]

theorem div_coe {x y : ℝ} (h : y ≠ 0) : Ideal.div (x : EReal) (y : EReal) = ((x / y : ℝ) : EReal) := by
  unfold Ideal.div
  have h' : (y : EReal) ≠ 0 := by exact_mod_cast h
  simp only [h', if_false]
  rw [← EReal.coe_inv, ← EReal.coe_mul, div_eq_mul_inv]

/-- The logistic function. -/
def sigm (x : ℝ) : ℝ := 1 / (1 + Real.exp (-x))

theorem logistic_coe (x : ℝ) : Ideal.logistic (x : EReal) = ((sigm x : ℝ) : EReal) := by
  unfold Ideal.logistic sigm
  rw [← EReal.coe_neg, Ideal.exp_coe, ← EReal.coe_one, ← EReal.coe_add, div_coe]
  positivity

theorem eps_eq : ∃ ε : ℝ, 0 < ε ∧ Ideal.ofBits .f32 0x358637BD#32 = (ε : EReal) := by
  refine ⟨_, ?_, rfl⟩
  simp

end Cert.Delta
-- ==== Proof.Inverse.lean ====
module

public import Mathlib.LinearAlgebra.Matrix.NonsingularInverse
public import Mathlib.Tactic.NoncommRing
public import Mathlib.Tactic.Linarith
public import Mathlib.Tactic.Ring
public import Mathlib.Tactic.Abel
public import Mathlib.Analysis.SpecialFunctions.Exp

/-!
The inverse of a unit lower triangular matrix of 64 rows, as a product of two polynomials: the blocks of 16 on the
diagonal are inverted by repeated squaring, the rest by the first four terms of a Neumann series.
-/

@[expose] public section

namespace Cert.Delta

/-- A matrix of 64 rows and 64 columns. -/
abbrev M64 := Matrix (Fin 64) (Fin 64) ℝ

/-- The entry (i, j) vanishes unless the level of `j` plus `k` is at most the level of `i`. -/
def Drops (f : Fin 64 → ℕ) (k : ℕ) (m : M64) : Prop := ∀ i j, m i j ≠ 0 → f j + k ≤ f i

theorem Drops.mul {f : Fin 64 → ℕ} {k l : ℕ} {m n : M64} (hm : Drops f k m) (hn : Drops f l n) :
    Drops f (k + l) (m * n) := by
  intro i j h
  rw [Matrix.mul_apply] at h
  obtain ⟨x, -, hx⟩ := Finset.exists_ne_zero_of_sum_ne_zero h
  have h1 := hm i x (left_ne_zero_of_mul hx)
  have h2 := hn x j (right_ne_zero_of_mul hx)
  omega

theorem Drops.add {f : Fin 64 → ℕ} {k : ℕ} {m n : M64} (hm : Drops f k m) (hn : Drops f k n) :
    Drops f k (m + n) := by
  intro i j h
  by_cases h1 : m i j = 0
  · by_cases h2 : n i j = 0
    · exact absurd (by simp [h1, h2]) h
    · exact hn i j h2
  · exact hm i j h1

theorem Drops.sub {f : Fin 64 → ℕ} {k : ℕ} {m n : M64} (hm : Drops f k m) (hn : Drops f k n) :
    Drops f k (m - n) := by
  intro i j h
  by_cases h1 : m i j = 0
  · by_cases h2 : n i j = 0
    · exact absurd (by simp [h1, h2]) h
    · exact hn i j h2
  · exact hm i j h1

theorem Drops.one (f : Fin 64 → ℕ) : Drops f 0 (1 : M64) := by
  intro i j h
  by_cases e : i = j
  · subst e; simp
  · exact absurd (Matrix.one_apply_ne e) h

theorem Drops.mono {f : Fin 64 → ℕ} {k l : ℕ} {m : M64} (h : l ≤ k) (hm : Drops f k m) : Drops f l m :=
  fun i j e => le_trans (by omega) (hm i j e)

theorem Drops.eq_zero {f : Fin 64 → ℕ} {k : ℕ} {m : M64} (hf : ∀ i, f i < k) (hm : Drops f k m) : m = 0 := by
  ext i j
  by_contra h
  have := hm i j h
  have := hf i
  omega

/-- The part of a matrix inside the diagonal blocks of 16. -/
def dPart (A : M64) : M64 := fun i j => if i.val / 16 = j.val / 16 then A i j else 0

/-- The inverse of one plus the diagonal blocks. -/
def pMat (A : M64) : M64 :=
  let d := dPart A
  let d2 := d * d
  let d4 := d2 * d2
  let d8 := d4 * d4
  let p := 1 - d
  let p := p + p * d2
  let p := p + p * d4
  p + p * d8

/-- What remains after the diagonal blocks are inverted. -/
def nMat (A : M64) : M64 := pMat A * (A - dPart A)

/-- The inverse of one plus what remains. -/
def qMat (A : M64) : M64 :=
  1 - nMat A + nMat A * nMat A - nMat A * (nMat A * nMat A)

variable {A : M64} (hA : ∀ i j, A i j ≠ 0 → j < i)

include hA in
theorem dPart_pow : dPart A ^ 16 = 0 := by
  have h1 : Drops (fun i => i.val % 16) 1 (dPart A) := by
    intro i j h
    unfold dPart at h
    split_ifs at h with e
    · have := hA i j h
      have : j.val < i.val := this
      show j.val % 16 + 1 ≤ i.val % 16
      omega
    · exact absurd rfl h
  have h2 := h1.mul h1
  have h4 := h2.mul h2
  have h8 := h4.mul h4
  have h16 := h8.mul h8
  have e : dPart A ^ 16 = ((dPart A * dPart A) * (dPart A * dPart A)) * ((dPart A * dPart A) * (dPart A * dPart A))
      * (((dPart A * dPart A) * (dPart A * dPart A)) * ((dPart A * dPart A) * (dPart A * dPart A))) := by
    noncomm_ring
  rw [e]
  exact h16.eq_zero (fun i => Nat.mod_lt _ (by norm_num))

include hA in
theorem pMat_mul : pMat A * (1 + dPart A) = 1 := by
  have h : pMat A * (1 + dPart A) = 1 - dPart A ^ 16 := by
    unfold pMat
    noncomm_ring
  rw [h, dPart_pow hA, sub_zero]

theorem drops_dPart : Drops (fun i => i.val / 16) 0 (dPart A) := by
  intro i j h
  unfold dPart at h
  split_ifs at h with e
  · simp [e]
  · exact absurd rfl h

theorem drops_pMat : Drops (fun i => i.val / 16) 0 (pMat A) := by
  have hd := drops_dPart (A := A)
  have h2 := hd.mul hd
  have h4 := h2.mul h2
  have h8 := h4.mul h4
  have p0 := (Drops.one _).sub hd
  have p1 := p0.add (p0.mul h2)
  have p2 := p1.add (p1.mul h4)
  exact p2.add (p2.mul h8)

include hA in
theorem drops_nMat : Drops (fun i => i.val / 16) 1 (nMat A) := by
  have he : Drops (fun i => i.val / 16) 1 (A - dPart A) := by
    intro i j h
    rw [Matrix.sub_apply] at h
    unfold dPart at h
    split_ifs at h with e
    · exact absurd (sub_self _) h
    · rw [sub_zero] at h
      have : j.val < i.val := hA i j h
      show j.val / 16 + 1 ≤ i.val / 16
      omega
  have := (drops_pMat (A := A)).mul he
  simpa [nMat] using this

include hA in
theorem nMat_pow : nMat A * (nMat A * (nMat A * nMat A)) = 0 := by
  have h := drops_nMat hA
  exact (h.mul (h.mul (h.mul h))).eq_zero (fun i => by show i.val / 16 < 4; omega)

include hA in
/-- The product of the two polynomials is the inverse, from the left. -/
theorem inv_left : qMat A * pMat A * (1 + A) = 1 := by
  have e : pMat A * (1 + A) = 1 + nMat A := by
    have : (1 + A) = (1 + dPart A) + (A - dPart A) := by abel
    rw [this, mul_add, pMat_mul hA, nMat]
  rw [mul_assoc, e]
  have : qMat A * (1 + nMat A) = 1 - nMat A * (nMat A * (nMat A * nMat A)) := by
    unfold qMat
    noncomm_ring
  rw [this, nMat_pow hA, sub_zero]

include hA in
/-- And from the right. -/
theorem inv_right : (1 + A) * (qMat A * pMat A) = 1 :=
  mul_eq_one_comm.mp (inv_left hA)

end Cert.Delta
-- ==== Proof.Chunk.lean ====
module

public import proofs.«01_k».proof.Proof.Inverse

/-!
The gated delta rule of one head, token by token, and the same rule over a chunk of 64 tokens at once.
-/

@[expose] public section

namespace Cert.Delta

/-- A state of one head: 128 keys by 128 values. -/
abbrev State := Fin 128 → Fin 128 → ℝ

/-- One token: the state decays, and its prediction of the value is corrected along the key. -/
noncomputable def stepS (a β : ℝ) (k v : Fin 128 → ℝ) (S : State) : State :=
  fun i j => S i j * a + k i * ((v j - ∑ d, k d * (S d j * a)) * β)

/-- The states before each token, from the empty one. -/
noncomputable def states (a β : ℕ → ℝ) (k v : ℕ → Fin 128 → ℝ) : ℕ → State
  | 0 => fun _ _ => 0
  | t + 1 => stepS (a t) (β t) (k t) (v t) (states a β k v t)

/-- The decay between two tokens of a chunk, from the running sums of the log decays. -/
noncomputable def decay (b : Fin 64 → ℝ) (r s : Fin 64) : ℝ := if s ≤ r then Real.exp (b r - b s) else 0

/-- The couplings of a chunk: how much of an earlier correction a later one sees. -/
noncomputable def coupling (k : Fin 64 → Fin 128 → ℝ) (β b : Fin 64 → ℝ) : M64 :=
  fun r s => if s < r then (∑ d, k r d * β r * k s d) * decay b r s else 0

theorem coupling_lower (k : Fin 64 → Fin 128 → ℝ) (β b : Fin 64 → ℝ) (r s : Fin 64)
    (h : coupling k β b r s ≠ 0) : s < r := by
  unfold coupling at h
  split_ifs at h with e
  · exact e
  · exact absurd rfl h

/-- The product of the two inverse factors, applied to one column. -/
noncomputable def solve (A : M64) (x : Fin 64 → ℝ) (r : Fin 64) : ℝ := ∑ i, qMat A r i * ∑ j, pMat A i j * x j

theorem solve_eq (A : M64) (x : Fin 64 → ℝ) : solve A x = (qMat A * pMat A).mulVec x := by
  rw [← Matrix.mulVec_mulVec]; rfl

/-- The corrections of a chunk that starts in the state `S`. -/
noncomputable def vnew (k v : Fin 64 → Fin 128 → ℝ) (β b : Fin 64 → ℝ) (S : State) (r : Fin 64) (j : Fin 128) : ℝ :=
  solve (coupling k β b) (fun y => v y j * β y) r
    - ∑ d, solve (coupling k β b) (fun y => k y d * β y * Real.exp (b y)) r * S d j

/-- The corrections satisfy the triangular system. -/
theorem vnew_rec (k v : Fin 64 → Fin 128 → ℝ) (β b : Fin 64 → ℝ) (S : State) (r : Fin 64) (j : Fin 128) :
    vnew k v β b S r j = v r j * β r - ∑ d, k r d * β r * Real.exp (b r) * S d j
      - ∑ s, coupling k β b r s * vnew k v β b S s j := by
  set A := coupling k β b with hAdef
  have key : (1 + A).mulVec (fun s => vnew k v β b S s j)
      = fun y => v y j * β y - ∑ d, k y d * β y * Real.exp (b y) * S d j := by
    have e : (fun s => vnew k v β b S s j) = (qMat A * pMat A).mulVec
        (fun y => v y j * β y - ∑ d, k y d * β y * Real.exp (b y) * S d j) := by
      funext s
      unfold vnew
      rw [← hAdef]
      simp only [solve_eq]
      simp only [Matrix.mulVec, dotProduct, mul_sub, Finset.sum_sub_distrib, Finset.mul_sum, Finset.sum_mul]
      congr 1
      rw [Finset.sum_comm]
      refine Finset.sum_congr rfl fun x _ => Finset.sum_congr rfl fun y _ => ?_
      ring
    rw [e, Matrix.mulVec_mulVec, inv_right (coupling_lower k β b), Matrix.one_mulVec]
  have h := congrFun key r
  rw [Matrix.add_mulVec, Matrix.one_mulVec] at h
  have h2 : (A.mulVec fun s => vnew k v β b S s j) r = ∑ s, A r s * vnew k v β b S s j := rfl
  rw [Pi.add_apply, h2] at h
  linarith

section
variable (g β : ℕ → ℝ) (k v : ℕ → Fin 128 → ℝ)

/-- The running sums of the log decays of the chunk that starts at token `T`. -/
noncomputable def run (T : ℕ) (r : ℕ) : ℝ := ∑ s ∈ Finset.range (r + 1), g (T + s)

theorem run_succ (T r : ℕ) : run g T (r + 1) = run g T r + g (T + (r + 1)) := by
  unfold run; rw [Finset.sum_range_succ]

/-- The corrections of the chunk of the sequence that starts at token `T`. -/
noncomputable def fix (T : ℕ) (S : State) (r : Fin 64) (j : Fin 128) : ℝ :=
  vnew (fun r => k (T + r)) (fun r => v (T + r)) (fun r => β (T + r)) (fun r => run g T r) S r j

/-- The state after `n` tokens of a chunk. -/
noncomputable def inside (T : ℕ) (S : State) (n : ℕ) : State := fun i j =>
  S i j * Real.exp (∑ s ∈ Finset.range n, g (T + s))
    + ∑ s : Fin 64, if s.val < n then
        k (T + s) i * Real.exp ((∑ s ∈ Finset.range n, g (T + s)) - run g T s) * fix g β k v T S s j else 0

theorem sum_lt_succ (f : Fin 64 → ℝ) (n : ℕ) (hn : n < 64) :
    (∑ s : Fin 64, if s.val < n + 1 then f s else 0) = (∑ s : Fin 64, if s.val < n then f s else 0) + f ⟨n, hn⟩ := by
  have : f ⟨n, hn⟩ = ∑ s : Fin 64, if s = ⟨n, hn⟩ then f s else 0 := by simp
  rw [this, ← Finset.sum_add_distrib]
  refine Finset.sum_congr rfl fun s _ => ?_
  rcases lt_trichotomy s.val n with h | h | h
  · have h1 : s.val < n + 1 := by omega
    have h2 : s ≠ ⟨n, hn⟩ := fun e => by simp [e] at h
    simp [h, h1, h2]
  · have h2 : s = ⟨n, hn⟩ := Fin.ext h
    simp [h2]
  · have h1 : ¬ s.val < n + 1 := by omega
    have h3 : ¬ s.val < n := by omega
    have h2 : s ≠ ⟨n, hn⟩ := fun e => by simp [e] at h
    simp [h3, h1, h2]

/-- One more token inside a chunk is one step of the rule. -/
theorem inside_succ (T : ℕ) (S : State) (n : ℕ) (hn : n < 64) :
    inside g β k v T S (n + 1)
      = stepS (Real.exp (g (T + n))) (β (T + n)) (k (T + n)) (v (T + n)) (inside g β k v T S n) := by
  set G := ∑ s ∈ Finset.range n, g (T + s) with hG
  have hrun : run g T n = G + g (T + n) := by unfold run; rw [Finset.sum_range_succ]
  have hdec : ∀ i j, inside g β k v T S n i j * Real.exp (g (T + n))
      = S i j * Real.exp (run g T n) + ∑ s : Fin 64, if s.val < n then
          k (T + s) i * Real.exp (run g T n - run g T s) * fix g β k v T S s j else 0 := by
    intro i j
    unfold inside
    rw [← hG, hrun, add_mul, Finset.sum_mul, mul_assoc, ← Real.exp_add]
    congr 1
    refine Finset.sum_congr rfl fun s _ => ?_
    split_ifs with h
    · rw [show G + g (T + n) - run g T s = (G - run g T s) + g (T + n) by ring, Real.exp_add]; ring
    · simp
  -- the correction of token `n`
  have hfix : ∀ j, fix g β k v T S ⟨n, hn⟩ j
      = (v (T + n) j - ∑ d, k (T + n) d * (inside g β k v T S n d j * Real.exp (g (T + n)))) * β (T + n) := by
    intro j
    have h := vnew_rec (fun r : Fin 64 => k (T + r)) (fun r => v (T + r)) (fun r => β (T + r)) (fun r => run g T r)
      S ⟨n, hn⟩ j
    have hf : fix g β k v T S ⟨n, hn⟩ j = v (T + n) j * β (T + n)
        - ∑ d, k (T + n) d * β (T + n) * Real.exp (run g T n) * S d j
        - ∑ s : Fin 64, coupling (fun r : Fin 64 => k (T + r)) (fun r => β (T + r)) (fun r => run g T r) ⟨n, hn⟩ s
            * fix g β k v T S s j := h
    rw [hf]
    simp only [hdec, mul_add, Finset.sum_add_distrib, sub_mul, add_mul, Finset.sum_mul, Finset.mul_sum]
    rw [sub_sub]
    congr 2
    · refine Finset.sum_congr rfl fun d _ => ?_
      ring
    · rw [Finset.sum_comm]
      refine Finset.sum_congr rfl fun s _ => ?_
      unfold coupling decay
      by_cases h : s.val < n
      · have h1 : s < (⟨n, hn⟩ : Fin 64) := h
        have h2 : s ≤ (⟨n, hn⟩ : Fin 64) := le_of_lt h1
        simp only [h1, h2, h, if_true, Finset.sum_mul]
        refine Finset.sum_congr rfl fun d _ => ?_
        ring
      · have h1 : ¬ s < (⟨n, hn⟩ : Fin 64) := h
        simp [h1, h]
  funext i j
  unfold stepS
  rw [hdec, ← hfix]
  show S i j * Real.exp (run g T n) + (∑ s : Fin 64, if s.val < n + 1 then _ else 0) = _
  rw [sum_lt_succ _ n hn, add_assoc]
  congr 2
  show k (T + n) i * Real.exp (run g T n - run g T n) * _ = _
  rw [sub_self, Real.exp_zero, mul_one]

/-- The states of the sequence inside a chunk. -/
theorem states_inside (T n : ℕ) (hn : n ≤ 64) :
    states (fun t => Real.exp (g t)) β k v (T + n)
      = inside g β k v T (states (fun t => Real.exp (g t)) β k v T) n := by
  induction n with
  | zero => funext i j; simp [inside]
  | succ n ih =>
    rw [inside_succ _ _ _ _ _ _ _ (by omega), ← ih (by omega)]; rfl

/-- The state at the end of a chunk. -/
theorem states_chunk (T : ℕ) (i j : Fin 128) :
    states (fun t => Real.exp (g t)) β k v (T + 64) i j
      = states (fun t => Real.exp (g t)) β k v T i j * Real.exp (run g T 63)
        + ∑ s : Fin 64, k (T + s) i * Real.exp (run g T 63 - run g T s)
            * fix g β k v T (states (fun t => Real.exp (g t)) β k v T) s j := by
  rw [states_inside g β k v T 64 le_rfl]
  unfold inside
  simp [run]

/-- The output of a token of a chunk. -/
theorem output_chunk (q : Fin 128 → ℝ) (T : ℕ) (r : Fin 64) (j : Fin 128) :
    ∑ i, q i * states (fun t => Real.exp (g t)) β k v (T + r + 1) i j
      = ∑ i, q i * Real.exp (run g T r) * states (fun t => Real.exp (g t)) β k v T i j
        + ∑ s : Fin 64, (∑ d, q d * k (T + s) d) * decay (fun r : Fin 64 => run g T r) r s
            * fix g β k v T (states (fun t => Real.exp (g t)) β k v T) s j := by
  rw [add_assoc, states_inside g β k v T (r + 1) (by omega)]
  unfold inside
  simp only [mul_add, Finset.sum_add_distrib, Finset.mul_sum]
  congr 1
  · refine Finset.sum_congr rfl fun i _ => ?_
    unfold run; ring
  · rw [Finset.sum_comm]
    refine Finset.sum_congr rfl fun s _ => ?_
    unfold decay
    by_cases h : s ≤ r
    · have h1 : s.val < r.val + 1 := Nat.lt_succ_of_le h
      simp only [h1, h, if_true, Finset.sum_mul]
      refine Finset.sum_congr rfl fun d _ => ?_
      unfold run; ring
    · have h1 : ¬ s.val < r.val + 1 := fun e => h (Nat.le_of_lt_succ e)
      simp [h1, h]

end

end Cert.Delta
-- ==== Proof.Head.lean ====
module

public import proofs.«01_k».proof.Proof.Lift
public import proofs.«01_k».proof.Proof.Chunk

/-!
One head of the layer: what its queries, keys, values, step sizes and decays are, from the projections, and that they
are real numbers when the projections are.
-/

@[expose] public section

noncomputable section

open Idealize.ShloMosaic
open scoped BigOperators

namespace Cert.Delta

/-- An exact value that is a real number. -/
def IsReal (x : EReal) : Prop := ∃ r : ℝ, x = (r : EReal)

theorem IsReal.eq {x : EReal} (h : IsReal x) : x = ((x.toReal : ℝ) : EReal) := by
  obtain ⟨r, rfl⟩ := h; rfl

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.logistic {x : EReal} (hx : IsReal x) : IsReal (Ideal.logistic x) := by
  obtain ⟨a, rfl⟩ := hx; exact ⟨_, logistic_coe a⟩

theorem IsReal.exp {x : EReal} (hx : IsReal x) : IsReal (Ideal.exp x) := by
  obtain ⟨a, rfl⟩ := hx; exact ⟨_, Ideal.exp_coe a⟩

/-- The value of a token `s` before token `t`, zero before the first. -/
def back (raw : ℕ → EReal) (t s : ℕ) : EReal := if t < s then 0 else raw (t - s)

/-- The causal convolution with four weights. -/
def conv (w : Fin 4 → EReal) (raw : ℕ → EReal) (t : ℕ) : EReal :=
  raw t * w 3 + back raw t 1 * w 2 + back raw t 2 * w 1 + back raw t 3 * w 0

def silu (y : EReal) : EReal := y * Ideal.logistic y

/-- A vector divided by its length. -/
def unit (y : Fin 128 → EReal) (d : Fin 128) : EReal :=
  y d * Ideal.rsqrt ((∑ e, y e * y e) + Ideal.ofBits .f32 0x358637BD#32)

/-- The softplus. -/
def soft (x : EReal) : EReal := max x 0 + Ideal.log (1 + Ideal.exp (0 - max x (-x)))

theorem IsReal.back {raw : ℕ → EReal} (h : ∀ t, IsReal (raw t)) (t s : ℕ) : IsReal (back raw t s) := by
  unfold Delta.back; split_ifs; exacts [isReal_zero, h _]

theorem IsReal.conv {w : Fin 4 → EReal} {raw : ℕ → EReal} (hw : ∀ i, IsReal (w i)) (h : ∀ t, IsReal (raw t)) (t : ℕ) :
    IsReal (conv w raw t) :=
  ((((h t).mul (hw 3)).add ((IsReal.back h t 1).mul (hw 2))).add ((IsReal.back h t 2).mul (hw 1))).add
    ((IsReal.back h t 3).mul (hw 0))

theorem IsReal.silu {y : EReal} (h : IsReal y) : IsReal (silu y) := h.mul h.logistic

theorem IsReal.unit {y : Fin 128 → EReal} (h : ∀ d, IsReal (y d)) (d : Fin 128) : IsReal (unit y d) := by
  refine (h d).mul ?_
  obtain ⟨ε, hε, e⟩ := eps_eq
  have : (∑ e, y e * y e) = ((∑ e, (y e).toReal * (y e).toReal : ℝ) : EReal) := by
    rw [← coe_sum]
    refine Finset.sum_congr rfl fun i _ => ?_
    rw [EReal.coe_mul, ← (h i).eq]
  rw [this, e, ← EReal.coe_add, rsqrt_pos]
  · exact isReal_coe _
  · have : 0 ≤ ∑ e, (y e).toReal * (y e).toReal := Finset.sum_nonneg fun i _ => mul_self_nonneg _
    linarith

theorem IsReal.soft {x : EReal} (h : IsReal x) : IsReal (soft x) := by
  obtain ⟨a, rfl⟩ := h
  unfold Delta.soft
  refine IsReal.add ?_ ?_
  · exact ⟨max a 0, (EReal.coe_strictMono.monotone.map_max (a := a) (b := 0)).symm⟩
  · have : max (a : EReal) (-(a : EReal)) = ((|a| : ℝ) : EReal) := by
      rw [← EReal.coe_neg]
      exact (EReal.coe_strictMono.monotone.map_max (a := a) (b := -a)).symm
    rw [this, ← EReal.coe_zero, ← EReal.coe_sub, Ideal.exp_coe, ← EReal.coe_one, ← EReal.coe_add, log_pos]
    · exact isReal_coe _
    · positivity

/-- What one head is given: its columns of the projections and of the weights. -/
structure Head where
  q : ℕ → Fin 128 → EReal
  k : ℕ → Fin 128 → EReal
  v : ℕ → Fin 128 → EReal
  wq : Fin 4 → Fin 128 → EReal
  wk : Fin 4 → Fin 128 → EReal
  wv : Fin 4 → Fin 128 → EReal
  b : ℕ → EReal
  a : ℕ → EReal
  al : EReal
  dt : EReal

namespace Head
variable (H : Head)

/-- One of the three projections after its convolution and its silu. -/
def mixed (w : Fin 4 → Fin 128 → EReal) (raw : ℕ → Fin 128 → EReal) (t : ℕ) (d : Fin 128) : EReal :=
  silu (conv (fun i => w i d) (fun t => raw t d) t)

def query (t : ℕ) (d : Fin 128) : EReal := unit (mixed H.wq H.q t) d * Ideal.ofBits .f32 0x3DB504F3#32
def key (t : ℕ) (d : Fin 128) : EReal := unit (mixed H.wk H.k t) d
def value (t : ℕ) (d : Fin 128) : EReal := mixed H.wv H.v t d
def beta (t : ℕ) : EReal := Ideal.logistic (H.b t)
def logDecay (t : ℕ) : EReal := (0 - Ideal.exp H.al) * soft (H.a t + H.dt)

/-- Everything the head is given is a real number. -/
structure Real : Prop where
  q : ∀ t d, IsReal (H.q t d)
  k : ∀ t d, IsReal (H.k t d)
  v : ∀ t d, IsReal (H.v t d)
  wq : ∀ i d, IsReal (H.wq i d)
  wk : ∀ i d, IsReal (H.wk i d)
  wv : ∀ i d, IsReal (H.wv i d)
  b : ∀ t, IsReal (H.b t)
  a : ∀ t, IsReal (H.a t)
  al : IsReal H.al
  dt : IsReal H.dt

variable {H}

theorem mixed_real {w : Fin 4 → Fin 128 → EReal} {raw : ℕ → Fin 128 → EReal} (hw : ∀ i d, IsReal (w i d))
    (h : ∀ t d, IsReal (raw t d)) (t : ℕ) (d : Fin 128) : IsReal (mixed w raw t d) :=
  (IsReal.conv (fun i => hw i d) (fun t => h t d) t).silu

variable (R : H.Real)
include R

theorem Real.query (t : ℕ) (d : Fin 128) : IsReal (H.query t d) :=
  (IsReal.unit (mixed_real R.wq R.q t) d).mul ⟨_, rfl⟩
theorem Real.key (t : ℕ) (d : Fin 128) : IsReal (H.key t d) := IsReal.unit (mixed_real R.wk R.k t) d
theorem Real.value (t : ℕ) (d : Fin 128) : IsReal (H.value t d) := mixed_real R.wv R.v t d
theorem Real.beta (t : ℕ) : IsReal (H.beta t) := (R.b t).logistic
theorem Real.logDecay (t : ℕ) : IsReal (H.logDecay t) :=
  (isReal_zero.sub R.al.exp).mul ((R.a t).add R.dt).soft

omit R
variable (H)

/-- The state of the head before token `t`. -/
def state (t : ℕ) : State :=
  states (fun t => Real.exp (H.logDecay t).toReal) (fun t => (H.beta t).toReal) (fun t d => (H.key t d).toReal)
    (fun t d => (H.value t d).toReal) t

/-- What the query of token `t` reads from the state after it. -/
def read (t : ℕ) (j : Fin 128) : ℝ := ∑ i, (H.query t i).toReal * H.state (t + 1) i j

/-- The normalised and gated output. -/
def gated (o : Fin 128 → EReal) (nw z : EReal) (j : Fin 128) : EReal :=
  o j * Ideal.rsqrt (Ideal.div (∑ e, o e * o e) (Ideal.ofBits .f32 0x43000000#32) + Ideal.ofBits .f32 0x358637BD#32) * nw
    * silu z

end Head

end Cert.Delta
-- ==== Proof.Layer.lean ====
module

public import proofs.«01_k».proof.Proof.Head

/-!
The heads of the layer, read from the layer's arrays, and the layer's result.
-/

@[expose] public section

noncomputable section

open Idealize.ShloMosaic
open scoped BigOperators

namespace Cert.Delta

/-- A token's row. -/
def tok (t : ℕ) : Fin 8192 := ⟨t % 8192, Nat.mod_lt _ (by decide)⟩

theorem tok_val (t : Fin 8192) : tok t = t := Fin.ext (Nat.mod_eq_of_lt t.isLt)

section
variable (pa : Fin 8192 → Fin 8192 → EReal) (sm : Fin 8192 → Fin 128 → EReal) (cv : Fin 4 → Fin 6144 → EReal)
  (al dt : Fin 16 → EReal) (nw : Fin 128 → EReal)

/-- Head `h` of the layer. -/
def layerHead (h : Fin 16) : Head where
  q t d := pa (tok t) ⟨128 * h + d, by omega⟩
  k t d := pa (tok t) ⟨2048 + (128 * h + d), by omega⟩
  v t d := pa (tok t) ⟨4096 + (128 * h + d), by omega⟩
  wq i d := cv i ⟨128 * h + d, by omega⟩
  wk i d := cv i ⟨2048 + (128 * h + d), by omega⟩
  wv i d := cv i ⟨4096 + (128 * h + d), by omega⟩
  b t := sm (tok t) ⟨h, by omega⟩
  a t := sm (tok t) ⟨16 + h, by omega⟩
  al := al h
  dt := dt h

/-- The result of the layer for token `t` at coordinate `j` of head `h`. -/
def layerOut (t : Fin 8192) (h : Fin 16) (j : Fin 128) : EReal :=
  Head.gated (fun e => (((layerHead pa sm cv al dt h).read t e : ℝ) : EReal)) (nw j) (pa t ⟨6144 + (128 * h + j), by omega⟩) j

/-- What the arrays must satisfy: everything that enters the recurrence is a real number. -/
structure Finite : Prop where
  pa : ∀ (t : Fin 8192) (j : Fin 6144), IsReal (pa t ⟨j, by omega⟩)
  sm : ∀ (t : Fin 8192) (j : Fin 32), IsReal (sm t ⟨j, by omega⟩)
  cv : ∀ i j, IsReal (cv i j)
  al : ∀ h, IsReal (al h)
  dt : ∀ h, IsReal (dt h)

variable {pa sm cv al dt}

theorem Finite.head (F : Finite pa sm cv al dt) (h : Fin 16) : (layerHead pa sm cv al dt h).Real where
  q t d := F.pa _ ⟨128 * h + d, by omega⟩
  k t d := F.pa _ ⟨2048 + (128 * h + d), by omega⟩
  v t d := F.pa _ ⟨4096 + (128 * h + d), by omega⟩
  wq i d := F.cv i _
  wk i d := F.cv i _
  wv i d := F.cv i _
  b t := F.sm _ ⟨h, by omega⟩
  a t := F.sm _ ⟨16 + h, by omega⟩
  al := F.al h
  dt := F.dt h

end

end Cert.Delta
-- ==== Proof.Finite.lean ====
module

public import Idealize.ShloMosaic.Lib.Pointwise
public import Idealize.ShloMosaic.Lib.ReduceAll
public import proofs.«01_k».proof.Proof.Layer
public import proofs.«01_k».proof.Proof.Gen.Pre_finite

/-!
The precondition read back: every entry that enters the recurrence is a real number.
-/

@[expose] public section

noncomputable section

open Idealize.ShloMosaic

namespace Cert.Delta

/-- A number whose absolute value is below the infinity is real. -/
theorem isReal_of_abs {x : EReal} (h : max x (-x) < ⊤) : IsReal x := by
  induction x with
  | bot => simp at h
  | coe r => exact ⟨r, rfl⟩
  | top => simp at h

/-- The comparison with the infinity, read back. -/
theorem isReal_of_cmp {x : Ideal .f32}
    (h : FloatOps.cmpf (F := Ideal) .olt (FloatOps.hostAbsf x) (FloatOps.ofBits (F := Ideal) .f32 0x7F800000#32) = 1#1) :
    IsReal (x : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine isReal_of_abs ?_
  by_contra hn
  simp [Ideal.cmp, hn] at h'

open Cert.Pre_finite Cert.Pre_finite.Gen

/-- An array of which every absolute value is below the infinity has only real entries. -/
theorem isReal_of_all {S : Shape} {axes : List (Fin S.rank)} (y : FVec Ideal S .f32) (hb : S_.BroadcastsInDim S ![])
    (hr : S.ReducesTo axes S_) (h0 : 0 < S_.numel) (z : IVec S_ 1) (j : S_.Idx)
    (e : Host.reduce IntOp.andi (cmpf .olt (Host.absf y) (broadcastInDim S ![] hb (constant (F := Ideal) S_ .f32 0x7F800000#32))) z hr h0 j = 1#1)
    (i : S.Idx) : IsReal (y i : EReal) := by
  haveI : Subsingleton S_.Idx := ⟨fun a b => funext fun d => d.elim0⟩
  exact isReal_of_cmp (Host.reduce_andi_all _ _ hr h0 j e i)

/-- The precondition says that everything that enters the recurrence is a real number. -/
theorem finite_of_pre (a0 : FVec Ideal Pre_finite.S8192x8192 .f32) (a1 : FVec Ideal Pre_finite.S8192x128 .f32)
    (a2 : FVec Ideal Pre_finite.S2x4x6144 .f32) (a3 a4 : FVec Ideal Pre_finite.S16 .f32) (a5 : FVec Ideal Pre_finite.S128 .f32)
    (h : Cert.Pre_finite.fn (F := Ideal) a0 a1 a2 a3 a4 a5 = fun _ => 1#1) :
    Finite (fun t j => a0 (ix2 t j)) (fun t j => a1 (ix2 t j)) (fun i j => a2 (ix3 (0 : Fin 2) i j)) (fun h => a3 (ix1 h)) (fun h => a4 (ix1 h)) := by
  have e := congrFun h (fun d => d.elim0)
  unfold Cert.Pre_finite.fn Cert.Pre_finite.fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun t j => ?_, fun t j => ?_, fun i j => ?_, fun h => isReal_of_all _ _ _ _ _ _ e3 _, fun h => isReal_of_all _ _ _ _ _ _ e4 _⟩
  · have r := isReal_of_all _ _ _ _ _ _ e0 (ix2 t j)
    have q : extractStridedSlice S8192x6144 ![0, 0] a0 slices_S8192x8192_S8192x6144_0_0 (ix2 t j) = a0 (ix2 t (⟨j, by omega⟩ : Fin 8192)) := by
      pointwise
    rwa [q] at r
  · have r := isReal_of_all _ _ _ _ _ _ e1 (ix2 t j)
    have q : extractStridedSlice S8192x32 ![0, 0] a1 slices_S8192x128_S8192x32_0_0 (ix2 t j) = a1 (ix2 t (⟨j, by omega⟩ : Fin 128)) := by
      pointwise
    rwa [q] at r
  · have r := isReal_of_all _ _ _ _ _ _ e2 (ix2 i j)
    have q : shapeCast S4x6144 (extractStridedSlice S1x4x6144 ![0, 0, 0] a2 slices_S2x4x6144_S1x4x6144_0_0_0)
        shapeCasts_S1x4x6144_S4x6144 (ix2 i j) = a2 (ix3 (0 : Fin 2) i j) := by
      pointwise
    rwa [q] at r

end Cert.Delta
-- ==== Proof.Stacks.lean ====
module

public import proofs.«01_k».proof.Proof.Gen.KernelIdeal.Skeleton
public import Idealize.ShloMosaic.Lib.Pointwise
public import Idealize.ShloMosaic.Lib.ValueIdx

/-!
The stacks of the kernel: 32 members, one for each of the four chunks of 64 tokens of a block and each of its eight
heads, cut from the block's slabs.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen

/-- The row of the block that row `r` of stack member `b` is. -/
def row (b : Fin 32) (r : Fin 64) : Fin 256 := ⟨b / 8 * 64 + r, by omega⟩
/-- The column of the block that column `d` of stack member `b` is. -/
def col (b : Fin 32) (d : Fin 128) : Fin 1024 := ⟨b % 8 * 128 + d, by omega⟩
/-- The head of stack member `b`. -/
def head (b : Fin 32) : Fin 8 := ⟨b % 8, by omega⟩
/-- The lane of the decay of stack member `b`. -/
def lane (b : Fin 32) : Fin 128 := ⟨16 + b % 8, by omega⟩
/-- The lane of the step size of stack member `b`. -/
def lane0 (b : Fin 32) : Fin 128 := ⟨b % 8, by omega⟩

/-- The queries, normalised and scaled. -/
def qStack (v35 : FVec Ideal S256x1024 .f32) : FVec Ideal S32x64x128 .f32 :=
  let v252 : FVec Ideal S256x128 .f32 := k0_pay25 v35
  let v256 : FVec Ideal S256x1 .f32 := k0_pay27 v35
  let cst_84 : Ideal .f32 := Scalar.ofBits .f32 0x358637BD#32
  let v272 : FVec Ideal S64x128 .f32 := k0_pay30 v252 v256 cst_84
  let v273 : FVec Ideal S64x128 .f32 := k0_pay31 v252 v256 cst_84
  let v274 : FVec Ideal S64x128 .f32 := k0_pay32 v252 v256 cst_84
  let v275 : FVec Ideal S64x128 .f32 := k0_pay33 v252 v256 cst_84
  let v306 : FVec Ideal S256x128 .f32 := k0_pay54 v35
  let v315 : FVec Ideal S64x128 .f32 := k0_pay57 v306
  let v316 : FVec Ideal S64x128 .f32 := k0_pay58 v306
  let v317 : FVec Ideal S64x128 .f32 := k0_pay59 v306
  let v318 : FVec Ideal S64x128 .f32 := k0_pay60 v306
  let v358 : FVec Ideal S64x128 .f32 := k0_pay82 v35
  let v359 : FVec Ideal S64x128 .f32 := k0_pay83 v35
  let v360 : FVec Ideal S64x128 .f32 := k0_pay84 v35
  let v361 : FVec Ideal S64x128 .f32 := k0_pay85 v35
  let v401 : FVec Ideal S64x128 .f32 := k0_pay107 v35
  let v402 : FVec Ideal S64x128 .f32 := k0_pay108 v35
  let v403 : FVec Ideal S64x128 .f32 := k0_pay109 v35
  let v404 : FVec Ideal S64x128 .f32 := k0_pay110 v35
  let v444 : FVec Ideal S64x128 .f32 := k0_pay132 v35
  let v445 : FVec Ideal S64x128 .f32 := k0_pay133 v35
  let v446 : FVec Ideal S64x128 .f32 := k0_pay134 v35
  let v447 : FVec Ideal S64x128 .f32 := k0_pay135 v35
  let v467 : FVec Ideal S256x128 .f32 := k0_pay155 v35
  let v471 : FVec Ideal S256x1 .f32 := k0_pay157 v35
  let cst_109 : Ideal .f32 := Scalar.ofBits .f32 0x358637BD#32
  let v487 : FVec Ideal S64x128 .f32 := k0_pay160 v467 v471 cst_109
  let v488 : FVec Ideal S64x128 .f32 := k0_pay161 v467 v471 cst_109
  let v489 : FVec Ideal S64x128 .f32 := k0_pay162 v467 v471 cst_109
  let v490 : FVec Ideal S64x128 .f32 := k0_pay163 v467 v471 cst_109
  let v521 : FVec Ideal S256x128 .f32 := k0_pay184 v35
  let v530 : FVec Ideal S64x128 .f32 := k0_pay187 v521
  let v531 : FVec Ideal S64x128 .f32 := k0_pay188 v521
  let v532 : FVec Ideal S64x128 .f32 := k0_pay189 v521
  let v533 : FVec Ideal S64x128 .f32 := k0_pay190 v521
  let v573 : FVec Ideal S64x128 .f32 := k0_pay212 v35
  let v574 : FVec Ideal S64x128 .f32 := k0_pay213 v35
  let v575 : FVec Ideal S64x128 .f32 := k0_pay214 v35
  let v576 : FVec Ideal S64x128 .f32 := k0_pay215 v35
  k0_pay235 v272 v273 v274 v275 v315 v316 v317 v318 v358 v359 v360 v361 v401 v402 v403 v404 v444 v445 v446 v447 v487 v488 v489 v490 v530 v531 v532 v533 v573 v574 v575 v576

set_option maxHeartbeats 4000000 in
theorem qStack_apply (y : FVec Ideal S256x1024 .f32) (b : Fin 32) (r : Fin 64) (d : Fin 128) :
    qStack y (ix3 b r d)
      = y (ix2 (row b r) (col b d))
          * Ideal.rsqrt ((∑ e, y (ix2 (row b r) (col b e)) * y (ix2 (row b r) (col b e)))
              + Ideal.ofBits .f32 0x358637BD#32)
          * Ideal.ofBits .f32 0x3DB504F3#32 := by
  unfold qStack
  simp only [k0_pay25, k0_pay27, k0_pay30, k0_pay31, k0_pay32, k0_pay33, k0_pay54, k0_pay57, k0_pay58, k0_pay59, k0_pay60, k0_pay82, k0_pay83, k0_pay84, k0_pay85, k0_pay107, k0_pay108, k0_pay109, k0_pay110, k0_pay132, k0_pay133, k0_pay134, k0_pay135, k0_pay155, k0_pay157, k0_pay160, k0_pay161, k0_pay162, k0_pay163, k0_pay184, k0_pay187, k0_pay188, k0_pay189, k0_pay190, k0_pay212, k0_pay213, k0_pay214, k0_pay215, k0_pay235, k0_pay210, k0_pay158, k0_pay130, k0_pay105, k0_pay80, k0_pay28]
  fin_cases b <;> dsimp only <;> pointwise <;> simp [row, col, lane, lane0]

/-- The keys, normalised. -/
def kStack (v68 : FVec Ideal S256x1024 .f32) : FVec Ideal S32x64x128 .f32 :=
  let v253 : FVec Ideal S256x128 .f32 := k0_pay26 v68
  let v278 : FVec Ideal S64x128 .f32 := k0_pay36 v253
  let v279 : FVec Ideal S64x128 .f32 := k0_pay37 v253
  let v296 : FVec Ideal S256x128 .f32 := k0_pay53 v68
  let v309 : FVec Ideal S256x1 .f32 := k0_pay55 v68
  let v321 : FVec Ideal S64x128 .f32 := k0_pay63 v296 v309
  let v322 : FVec Ideal S64x128 .f32 := k0_pay64 v296 v309
  let v363 : FVec Ideal S64x128 .f32 := k0_pay87 v68
  let v357 : FVec Ideal S256x128 .f32 := k0_pay81 v68
  let v364 : FVec Ideal S64x128 .f32 := k0_pay88 v357
  let v365 : FVec Ideal S64x128 .f32 := k0_pay89 v357
  let v406 : FVec Ideal S64x128 .f32 := k0_pay112 v68
  let v407 : FVec Ideal S64x128 .f32 := k0_pay113 v68
  let v408 : FVec Ideal S64x128 .f32 := k0_pay114 v68
  let v449 : FVec Ideal S64x128 .f32 := k0_pay137 v68
  let v450 : FVec Ideal S64x128 .f32 := k0_pay138 v68
  let v451 : FVec Ideal S64x128 .f32 := k0_pay139 v68
  let v468 : FVec Ideal S256x128 .f32 := k0_pay156 v68
  let v492 : FVec Ideal S64x128 .f32 := k0_pay165 v468
  let v493 : FVec Ideal S64x128 .f32 := k0_pay166 v468
  let v494 : FVec Ideal S64x128 .f32 := k0_pay167 v468
  let v511 : FVec Ideal S256x128 .f32 := k0_pay183 v68
  let v524 : FVec Ideal S256x1 .f32 := k0_pay185 v68
  let v535 : FVec Ideal S64x128 .f32 := k0_pay192 v511 v524
  let v536 : FVec Ideal S64x128 .f32 := k0_pay193 v511 v524
  let v537 : FVec Ideal S64x128 .f32 := k0_pay194 v511 v524
  let v578 : FVec Ideal S64x128 .f32 := k0_pay217 v68
  let v572 : FVec Ideal S256x128 .f32 := k0_pay211 v68
  let v579 : FVec Ideal S64x128 .f32 := k0_pay218 v572
  let v580 : FVec Ideal S64x128 .f32 := k0_pay219 v572
  let v276 : FVec Ideal S64x128 .f32 := k0_pay34 v253
  let v629 : FVec Ideal S1x64x128 .f32 := k0_pay236 v276
  let v319 : FVec Ideal S64x128 .f32 := k0_pay61 v296 v309
  let v630 : FVec Ideal S1x64x128 .f32 := k0_pay237 v319
  let v362 : FVec Ideal S64x128 .f32 := k0_pay86 v68
  let v631 : FVec Ideal S1x64x128 .f32 := k0_pay238 v362
  let v405 : FVec Ideal S64x128 .f32 := k0_pay111 v68
  let v632 : FVec Ideal S1x64x128 .f32 := k0_pay239 v405
  let v448 : FVec Ideal S64x128 .f32 := k0_pay136 v68
  let v633 : FVec Ideal S1x64x128 .f32 := k0_pay240 v448
  let v491 : FVec Ideal S64x128 .f32 := k0_pay164 v468
  let v634 : FVec Ideal S1x64x128 .f32 := k0_pay241 v491
  let v534 : FVec Ideal S64x128 .f32 := k0_pay191 v511 v524
  let v635 : FVec Ideal S1x64x128 .f32 := k0_pay242 v534
  let v577 : FVec Ideal S64x128 .f32 := k0_pay216 v68
  let v636 : FVec Ideal S1x64x128 .f32 := k0_pay243 v577
  let v277 : FVec Ideal S64x128 .f32 := k0_pay35 v253
  let v637 : FVec Ideal S1x64x128 .f32 := k0_pay244 v277
  let v320 : FVec Ideal S64x128 .f32 := k0_pay62 v296 v309
  let v638 : FVec Ideal S1x64x128 .f32 := k0_pay245 v320
  k0_pay246 v278 v279 v321 v322 v363 v364 v365 v406 v407 v408 v449 v450 v451 v492 v493 v494 v535 v536 v537 v578 v579 v580 v629 v630 v631 v632 v633 v634 v635 v636 v637 v638

set_option maxHeartbeats 4000000 in
theorem kStack_apply (y : FVec Ideal S256x1024 .f32) (b : Fin 32) (r : Fin 64) (d : Fin 128) :
    kStack y (ix3 b r d)
      = y (ix2 (row b r) (col b d))
          * Ideal.rsqrt ((∑ e, y (ix2 (row b r) (col b e)) * y (ix2 (row b r) (col b e)))
              + Ideal.ofBits .f32 0x358637BD#32) := by
  unfold kStack
  simp only [k0_pay26, k0_pay36, k0_pay37, k0_pay53, k0_pay55, k0_pay63, k0_pay64, k0_pay87, k0_pay81, k0_pay88, k0_pay89, k0_pay112, k0_pay113, k0_pay114, k0_pay137, k0_pay138, k0_pay139, k0_pay156, k0_pay165, k0_pay166, k0_pay167, k0_pay183, k0_pay185, k0_pay192, k0_pay193, k0_pay194, k0_pay217, k0_pay211, k0_pay218, k0_pay219, k0_pay34, k0_pay236, k0_pay61, k0_pay237, k0_pay86, k0_pay238, k0_pay111, k0_pay239, k0_pay136, k0_pay240, k0_pay164, k0_pay241, k0_pay191, k0_pay242, k0_pay216, k0_pay243, k0_pay35, k0_pay244, k0_pay62, k0_pay245, k0_pay246, k0_pay56, k0_pay29, k0_pay186, k0_pay159, k0_pay131, k0_pay106]
  fin_cases b <;> dsimp only <;> pointwise <;> simp [row, col, lane, lane0]

/-- The values. -/
def vStack (v101 : FVec Ideal S256x1024 .f32) : FVec Ideal S32x64x128 .f32 :=
  let v281 : FVec Ideal S64x128 .f32 := k0_pay39 v101
  let v282 : FVec Ideal S64x128 .f32 := k0_pay40 v101
  let v283 : FVec Ideal S64x128 .f32 := k0_pay41 v101
  let v284 : FVec Ideal S64x128 .f32 := k0_pay42 v101
  let v324 : FVec Ideal S64x128 .f32 := k0_pay66 v101
  let v325 : FVec Ideal S64x128 .f32 := k0_pay67 v101
  let v326 : FVec Ideal S64x128 .f32 := k0_pay68 v101
  let v327 : FVec Ideal S64x128 .f32 := k0_pay69 v101
  let v367 : FVec Ideal S64x128 .f32 := k0_pay91 v101
  let v368 : FVec Ideal S64x128 .f32 := k0_pay92 v101
  let v369 : FVec Ideal S64x128 .f32 := k0_pay93 v101
  let v370 : FVec Ideal S64x128 .f32 := k0_pay94 v101
  let v410 : FVec Ideal S64x128 .f32 := k0_pay116 v101
  let v411 : FVec Ideal S64x128 .f32 := k0_pay117 v101
  let v412 : FVec Ideal S64x128 .f32 := k0_pay118 v101
  let v413 : FVec Ideal S64x128 .f32 := k0_pay119 v101
  let v453 : FVec Ideal S64x128 .f32 := k0_pay141 v101
  let v454 : FVec Ideal S64x128 .f32 := k0_pay142 v101
  let v455 : FVec Ideal S64x128 .f32 := k0_pay143 v101
  let v456 : FVec Ideal S64x128 .f32 := k0_pay144 v101
  let v496 : FVec Ideal S64x128 .f32 := k0_pay169 v101
  let v497 : FVec Ideal S64x128 .f32 := k0_pay170 v101
  let v498 : FVec Ideal S64x128 .f32 := k0_pay171 v101
  let v499 : FVec Ideal S64x128 .f32 := k0_pay172 v101
  let v539 : FVec Ideal S64x128 .f32 := k0_pay196 v101
  let v540 : FVec Ideal S64x128 .f32 := k0_pay197 v101
  let v541 : FVec Ideal S64x128 .f32 := k0_pay198 v101
  let v542 : FVec Ideal S64x128 .f32 := k0_pay199 v101
  let v582 : FVec Ideal S64x128 .f32 := k0_pay221 v101
  let v583 : FVec Ideal S64x128 .f32 := k0_pay222 v101
  let v584 : FVec Ideal S64x128 .f32 := k0_pay223 v101
  let v585 : FVec Ideal S64x128 .f32 := k0_pay224 v101
  k0_pay247 v281 v282 v283 v284 v324 v325 v326 v327 v367 v368 v369 v370 v410 v411 v412 v413 v453 v454 v455 v456 v496 v497 v498 v499 v539 v540 v541 v542 v582 v583 v584 v585

set_option maxHeartbeats 4000000 in
theorem vStack_apply (y : FVec Ideal S256x1024 .f32) (b : Fin 32) (r : Fin 64) (d : Fin 128) :
    vStack y (ix3 b r d) = y (ix2 (row b r) (col b d)) := by
  unfold vStack
  simp only [k0_pay39, k0_pay40, k0_pay41, k0_pay42, k0_pay66, k0_pay67, k0_pay68, k0_pay69, k0_pay91, k0_pay92, k0_pay93, k0_pay94, k0_pay116, k0_pay117, k0_pay118, k0_pay119, k0_pay141, k0_pay142, k0_pay143, k0_pay144, k0_pay169, k0_pay170, k0_pay171, k0_pay172, k0_pay196, k0_pay197, k0_pay198, k0_pay199, k0_pay221, k0_pay222, k0_pay223, k0_pay224, k0_pay247, k0_pay220, k0_pay195, k0_pay168, k0_pay140, k0_pay115, k0_pay90, k0_pay65, k0_pay38]
  fin_cases b <;> dsimp only <;> pointwise <;> simp [row, col, lane, lane0]

/-- The step sizes. -/
def betaStack (v117 : FVec Ideal S256x128 .f32) : FVec Ideal S32x64x1 .f32 :=
  let v287 : FVec Ideal S64x1 .f32 := k0_pay45 v117
  let v288 : FVec Ideal S64x1 .f32 := k0_pay46 v117
  let v289 : FVec Ideal S64x1 .f32 := k0_pay47 v117
  let v330 : FVec Ideal S64x1 .f32 := k0_pay72 v117
  let v331 : FVec Ideal S64x1 .f32 := k0_pay73 v117
  let v332 : FVec Ideal S64x1 .f32 := k0_pay74 v117
  let v373 : FVec Ideal S64x1 .f32 := k0_pay97 v117
  let v374 : FVec Ideal S64x1 .f32 := k0_pay98 v117
  let v375 : FVec Ideal S64x1 .f32 := k0_pay99 v117
  let v416 : FVec Ideal S64x1 .f32 := k0_pay122 v117
  let v417 : FVec Ideal S64x1 .f32 := k0_pay123 v117
  let v418 : FVec Ideal S64x1 .f32 := k0_pay124 v117
  let v458 : FVec Ideal S64x1 .f32 := k0_pay146 v117
  let v459 : FVec Ideal S64x1 .f32 := k0_pay147 v117
  let v460 : FVec Ideal S64x1 .f32 := k0_pay148 v117
  let v461 : FVec Ideal S64x1 .f32 := k0_pay149 v117
  let v501 : FVec Ideal S64x1 .f32 := k0_pay174 v117
  let v502 : FVec Ideal S64x1 .f32 := k0_pay175 v117
  let v503 : FVec Ideal S64x1 .f32 := k0_pay176 v117
  let v504 : FVec Ideal S64x1 .f32 := k0_pay177 v117
  let v544 : FVec Ideal S64x1 .f32 := k0_pay201 v117
  let v545 : FVec Ideal S64x1 .f32 := k0_pay202 v117
  let v546 : FVec Ideal S64x1 .f32 := k0_pay203 v117
  let v547 : FVec Ideal S64x1 .f32 := k0_pay204 v117
  let v587 : FVec Ideal S64x1 .f32 := k0_pay226 v117
  let v588 : FVec Ideal S64x1 .f32 := k0_pay227 v117
  let v589 : FVec Ideal S64x1 .f32 := k0_pay228 v117
  let v590 : FVec Ideal S64x1 .f32 := k0_pay229 v117
  let v286 : FVec Ideal S64x1 .f32 := k0_pay44 v117
  let v695 : FVec Ideal S1x64x1 .f32 := k0_pay248 v286
  let v329 : FVec Ideal S64x1 .f32 := k0_pay71 v117
  let v696 : FVec Ideal S1x64x1 .f32 := k0_pay249 v329
  let v372 : FVec Ideal S64x1 .f32 := k0_pay96 v117
  let v697 : FVec Ideal S1x64x1 .f32 := k0_pay250 v372
  let v415 : FVec Ideal S64x1 .f32 := k0_pay121 v117
  let v698 : FVec Ideal S1x64x1 .f32 := k0_pay251 v415
  k0_pay252 v287 v288 v289 v330 v331 v332 v373 v374 v375 v416 v417 v418 v458 v459 v460 v461 v501 v502 v503 v504 v544 v545 v546 v547 v587 v588 v589 v590 v695 v696 v697 v698

set_option maxHeartbeats 4000000 in
theorem betaStack_apply (y : FVec Ideal S256x128 .f32) (b : Fin 32) (r : Fin 64) :
    betaStack y (ix3 b r 0) = y (ix2 (row b r) (lane0 b)) := by
  unfold betaStack
  simp only [k0_pay45, k0_pay46, k0_pay47, k0_pay72, k0_pay73, k0_pay74, k0_pay97, k0_pay98, k0_pay99, k0_pay122, k0_pay123, k0_pay124, k0_pay146, k0_pay147, k0_pay148, k0_pay149, k0_pay174, k0_pay175, k0_pay176, k0_pay177, k0_pay201, k0_pay202, k0_pay203, k0_pay204, k0_pay226, k0_pay227, k0_pay228, k0_pay229, k0_pay44, k0_pay248, k0_pay71, k0_pay249, k0_pay96, k0_pay250, k0_pay121, k0_pay251, k0_pay252, k0_pay120, k0_pay95, k0_pay70, k0_pay43, k0_pay225, k0_pay200, k0_pay173, k0_pay145]
  fin_cases b <;> dsimp only <;> pointwise <;> simp [row, col, lane, lane0]

/-- The running sums of the log decays. -/
def bcStack (v192 : FVec Ideal S256x128 .f32) : FVec Ideal S32x64x1 .f32 :=
  let v595 : FVec Ideal S64x1 .f32 := k0_pay234 v192
  let v291 : FVec Ideal S64x1 .f32 := k0_pay49 v192
  let v728 : FVec Ideal S1x64x1 .f32 := k0_pay253 v291
  let v334 : FVec Ideal S64x1 .f32 := k0_pay76 v192
  let v729 : FVec Ideal S1x64x1 .f32 := k0_pay254 v334
  let v377 : FVec Ideal S64x1 .f32 := k0_pay101 v192
  let v730 : FVec Ideal S1x64x1 .f32 := k0_pay255 v377
  let v420 : FVec Ideal S64x1 .f32 := k0_pay126 v192
  let v731 : FVec Ideal S1x64x1 .f32 := k0_pay256 v420
  let v463 : FVec Ideal S64x1 .f32 := k0_pay151 v192
  let v732 : FVec Ideal S1x64x1 .f32 := k0_pay257 v463
  let v506 : FVec Ideal S64x1 .f32 := k0_pay179 v192
  let v733 : FVec Ideal S1x64x1 .f32 := k0_pay258 v506
  let v549 : FVec Ideal S64x1 .f32 := k0_pay206 v192
  let v734 : FVec Ideal S1x64x1 .f32 := k0_pay259 v549
  let v592 : FVec Ideal S64x1 .f32 := k0_pay231 v192
  let v735 : FVec Ideal S1x64x1 .f32 := k0_pay260 v592
  let v292 : FVec Ideal S64x1 .f32 := k0_pay50 v192
  let v736 : FVec Ideal S1x64x1 .f32 := k0_pay261 v292
  let v335 : FVec Ideal S64x1 .f32 := k0_pay77 v192
  let v737 : FVec Ideal S1x64x1 .f32 := k0_pay262 v335
  let v378 : FVec Ideal S64x1 .f32 := k0_pay102 v192
  let v738 : FVec Ideal S1x64x1 .f32 := k0_pay263 v378
  let v421 : FVec Ideal S64x1 .f32 := k0_pay127 v192
  let v739 : FVec Ideal S1x64x1 .f32 := k0_pay264 v421
  let v464 : FVec Ideal S64x1 .f32 := k0_pay152 v192
  let v740 : FVec Ideal S1x64x1 .f32 := k0_pay265 v464
  let v507 : FVec Ideal S64x1 .f32 := k0_pay180 v192
  let v741 : FVec Ideal S1x64x1 .f32 := k0_pay266 v507
  let v550 : FVec Ideal S64x1 .f32 := k0_pay207 v192
  let v742 : FVec Ideal S1x64x1 .f32 := k0_pay267 v550
  let v593 : FVec Ideal S64x1 .f32 := k0_pay232 v192
  let v743 : FVec Ideal S1x64x1 .f32 := k0_pay268 v593
  let v293 : FVec Ideal S64x1 .f32 := k0_pay51 v192
  let v744 : FVec Ideal S1x64x1 .f32 := k0_pay269 v293
  let v336 : FVec Ideal S64x1 .f32 := k0_pay78 v192
  let v745 : FVec Ideal S1x64x1 .f32 := k0_pay270 v336
  let v379 : FVec Ideal S64x1 .f32 := k0_pay103 v192
  let v746 : FVec Ideal S1x64x1 .f32 := k0_pay271 v379
  let v422 : FVec Ideal S64x1 .f32 := k0_pay128 v192
  let v747 : FVec Ideal S1x64x1 .f32 := k0_pay272 v422
  let v465 : FVec Ideal S64x1 .f32 := k0_pay153 v192
  let v748 : FVec Ideal S1x64x1 .f32 := k0_pay273 v465
  let v508 : FVec Ideal S64x1 .f32 := k0_pay181 v192
  let v749 : FVec Ideal S1x64x1 .f32 := k0_pay274 v508
  let v551 : FVec Ideal S64x1 .f32 := k0_pay208 v192
  let v750 : FVec Ideal S1x64x1 .f32 := k0_pay275 v551
  let v594 : FVec Ideal S64x1 .f32 := k0_pay233 v192
  let v751 : FVec Ideal S1x64x1 .f32 := k0_pay276 v594
  let v294 : FVec Ideal S64x1 .f32 := k0_pay52 v192
  let v752 : FVec Ideal S1x64x1 .f32 := k0_pay277 v294
  let v337 : FVec Ideal S64x1 .f32 := k0_pay79 v192
  let v753 : FVec Ideal S1x64x1 .f32 := k0_pay278 v337
  let v380 : FVec Ideal S64x1 .f32 := k0_pay104 v192
  let v754 : FVec Ideal S1x64x1 .f32 := k0_pay279 v380
  let v423 : FVec Ideal S64x1 .f32 := k0_pay129 v192
  let v755 : FVec Ideal S1x64x1 .f32 := k0_pay280 v423
  let v466 : FVec Ideal S64x1 .f32 := k0_pay154 v192
  let v756 : FVec Ideal S1x64x1 .f32 := k0_pay281 v466
  let v509 : FVec Ideal S64x1 .f32 := k0_pay182 v192
  let v757 : FVec Ideal S1x64x1 .f32 := k0_pay282 v509
  let v552 : FVec Ideal S64x1 .f32 := k0_pay209 v192
  let v758 : FVec Ideal S1x64x1 .f32 := k0_pay283 v552
  k0_pay284 v595 v728 v729 v730 v731 v732 v733 v734 v735 v736 v737 v738 v739 v740 v741 v742 v743 v744 v745 v746 v747 v748 v749 v750 v751 v752 v753 v754 v755 v756 v757 v758

set_option maxHeartbeats 4000000 in
theorem bcStack_apply (y : FVec Ideal S256x128 .f32) (b : Fin 32) (r : Fin 64) :
    bcStack y (ix3 b r 0) = y (ix2 (row b r) (lane b)) := by
  unfold bcStack
  simp only [k0_pay234, k0_pay49, k0_pay253, k0_pay76, k0_pay254, k0_pay101, k0_pay255, k0_pay126, k0_pay256, k0_pay151, k0_pay257, k0_pay179, k0_pay258, k0_pay206, k0_pay259, k0_pay231, k0_pay260, k0_pay50, k0_pay261, k0_pay77, k0_pay262, k0_pay102, k0_pay263, k0_pay127, k0_pay264, k0_pay152, k0_pay265, k0_pay180, k0_pay266, k0_pay207, k0_pay267, k0_pay232, k0_pay268, k0_pay51, k0_pay269, k0_pay78, k0_pay270, k0_pay103, k0_pay271, k0_pay128, k0_pay272, k0_pay153, k0_pay273, k0_pay181, k0_pay274, k0_pay208, k0_pay275, k0_pay233, k0_pay276, k0_pay52, k0_pay277, k0_pay79, k0_pay278, k0_pay104, k0_pay279, k0_pay129, k0_pay280, k0_pay154, k0_pay281, k0_pay182, k0_pay282, k0_pay209, k0_pay283, k0_pay284, k0_pay205, k0_pay178, k0_pay150, k0_pay125, k0_pay100, k0_pay75, k0_pay48, k0_pay230]
  fin_cases b <;> dsimp only <;> pointwise <;> simp [row, col, lane, lane0]

end Cert.KernelIdeal.Delta
-- ==== Proof.Words.lean ====
module

public import Idealize.ShloMosaic.Lib.Pointwise
public import Idealize.ShloMosaic.Lib.ValueIdx

/-!
Comparisons of small natural numbers as words, and the quotient of a small number by 64 or 16 as the kernel computes it:
the truncated quotient, less one where the signs differ and there is a remainder.
-/

@[expose] public section

set_option maxRecDepth 65536

open Idealize.ShloMosaic

namespace Cert.Delta

theorem sel_ofBool {α : Type} (p : Prop) [Decidable p] (a b : α) :
    Scalar.select (BitVec.ofBool (decide p)) a b = if p then a else b := by
  unfold Scalar.select
  by_cases h : p <;> simp [h]

theorem toInt_small {a : ℕ} (h : a < 2 ^ 31) : (BitVec.ofNat 32 a).toInt = a := by
  rw [BitVec.toInt_ofNat']
  have h1 : a % 2 ^ 32 = a := Nat.mod_eq_of_lt (by omega)
  simp only [Int.bmod]
  omega

theorem cmpi_sle {a b : ℕ} (ha : a < 2 ^ 31) (hb : b < 2 ^ 31) :
    IntOp.cmpi .sle (BitVec.ofNat 32 a) (BitVec.ofNat 32 b) = BitVec.ofBool (decide (a ≤ b)) := by
  unfold IntOp.cmpi
  simp only [BitVec.sle, toInt_small ha, toInt_small hb, Nat.cast_le]

theorem cmpi_slt {a b : ℕ} (ha : a < 2 ^ 31) (hb : b < 2 ^ 31) :
    IntOp.cmpi .slt (BitVec.ofNat 32 a) (BitVec.ofNat 32 b) = BitVec.ofBool (decide (a < b)) := by
  unfold IntOp.cmpi
  simp only [BitVec.slt, toInt_small ha, toInt_small hb, Nat.cast_lt]

theorem cmpi_eq {a b : ℕ} (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toInt h
    rw [toInt_small ha, toInt_small hb] at this
    exact_mod_cast this
  · rintro rfl; rfl

/-- The quotient of a number below 256 by 64, as the kernel computes it. -/
theorem quot64 (x : Fin 256) :
    Scalar.select
      (IntOp.andi
        (IntOp.cmpi .ne
          (IntOp.subi (BitVec.setWidth 32 (IntOp.cmpi .sgt (BitVec.ofNat 32 x) 0#32))
            (BitVec.setWidth 32 (IntOp.cmpi .slt (BitVec.ofNat 32 x) 0#32)))
          (Scalar.subi (Scalar.extui (Scalar.cmpi .sgt 64#32 0#32)) (Scalar.extui (Scalar.cmpi .slt 64#32 0#32))))
        (IntOp.cmpi .ne (IntOp.remsi .vector (BitVec.ofNat 32 x) 64#32) 0#32))
      (IntOp.subi (IntOp.divsi .vector (BitVec.ofNat 32 x) 64#32) 1#32)
      (IntOp.divsi .vector (BitVec.ofNat 32 x) 64#32) = BitVec.ofNat 32 (x / 64) := by
  revert x; decide

/-- The quotient of a number below 64 by 16, as the kernel computes it. -/
theorem quot16 (x : Fin 64) :
    Scalar.select
      (IntOp.andi
        (IntOp.cmpi .ne
          (IntOp.subi (BitVec.setWidth 32 (IntOp.cmpi .sgt (BitVec.ofNat 32 x) 0#32))
            (BitVec.setWidth 32 (IntOp.cmpi .slt (BitVec.ofNat 32 x) 0#32)))
          (Scalar.subi (Scalar.extui (Scalar.cmpi .sgt 16#32 0#32)) (Scalar.extui (Scalar.cmpi .slt 16#32 0#32))))
        (IntOp.cmpi .ne (IntOp.remsi .vector (BitVec.ofNat 32 x) 16#32) 0#32))
      (IntOp.subi (IntOp.divsi .vector (BitVec.ofNat 32 x) 16#32) 1#32)
      (IntOp.divsi .vector (BitVec.ofNat 32 x) 16#32) = BitVec.ofNat 32 (x / 16) := by
  revert x; decide

theorem and_ofBool (p q : Prop) [Decidable p] [Decidable q] :
    IntOp.andi (BitVec.ofBool (decide p)) (BitVec.ofBool (decide q)) = BitVec.ofBool (decide (p ∧ q)) := by
  unfold IntOp.andi
  by_cases h : p <;> by_cases h' : q <;> simp [h, h']

end Cert.Delta
-- ==== Proof.Slabs.lean ====
module

public import proofs.«01_k».proof.Proof.Stacks
public import proofs.«01_k».proof.Proof.Words
public import proofs.«01_k».proof.Proof.Head
public import Idealize.ShloMosaic.Lib.Pointwise
public import Idealize.ShloMosaic.Lib.ValueIdx

/-!
The slabs of a block: the convolved projections, the step sizes, the log decays and their running sums.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- One of the three projections after its convolution and its silu. -/
def mix (x : Vec Ideal S256x1024 .f32) (cr : Vec Ideal S1x8x1024 .f32) (w : Vec Ideal S1x4x1024 .f32) :
    FVec Ideal S256x1024 .f32 := k0_pay5 x cr w

theorem mix_key (x : Vec Ideal S256x1024 .f32) (cr : Vec Ideal S1x8x1024 .f32) (w : Vec Ideal S1x4x1024 .f32) :
    k0_pay7 x cr w = mix x cr w := rfl

theorem mix_value (x : Vec Ideal S256x1024 .f32) (cr : Vec Ideal S1x8x1024 .f32) (w : Vec Ideal S1x4x1024 .f32) :
    k0_pay12 x (k0_pay8 x cr) (k0_pay9 w) (k0_pay10 w) = mix x cr w := rfl

section
variable {x : Vec Ideal S256x1024 .f32} {cr : Vec Ideal S1x8x1024 .f32} {raw : ℕ → EReal} {T : ℕ} {c : Fin 1024}
  (hx : ∀ r : Fin 256, x (ix2 r c) = raw (T + r))
  (hc : ∀ r : Fin 8, cr (ix3 0 r c) = if T + r < 8 then 0 else raw (T + r - 8))
include hx hc

theorem back_apply (r : Fin 256) (s : ℕ) (hs : s ≤ 3) :
    (if h : (8 + r.val + 264 - s) % 264 < 8 then cr (ix3 0 ⟨(8 + r.val + 264 - s) % 264, h⟩ c)
      else x (ix2 ⟨(8 + r.val + 264 - s) % 264 - 8, by omega⟩ c)) = back raw (T + r) s := by
  have e : (8 + r.val + 264 - s) % 264 = 8 + r.val - s := by omega
  unfold back
  split_ifs with h1 h2 h2
  · rw [hc, if_pos (by dsimp only; omega)]
  · rw [hc, if_neg (by dsimp only; omega)]
    congr 1; dsimp only; omega
  · omega
  · rw [hx]
    congr 1; dsimp only; omega

theorem mix_apply (w : Vec Ideal S1x4x1024 .f32) (r : Fin 256) :
    mix x cr w (ix2 r c) = silu (conv (fun i => w (ix3 0 i c)) raw (T + r)) := by
  have b1 := back_apply hx hc r 1 (by omega)
  have b2 := back_apply hx hc r 2 (by omega)
  have b3 := back_apply hx hc r 3 (by omega)
  unfold mix k0_pay5
  pointwise
  rw [b1, b2, b3, hx]
  rfl

end

theorem small_apply (g : Fin 2) (x : Vec Ideal S256x128 .f32) (r : Fin 256) (l : ℕ) (hl : l < 120) :
    k0_pay13 (BitVec.ofNat 32 g) x (ix2 r ⟨l, by omega⟩) = x (ix2 r ⟨8 * g + l, by omega⟩) := by
  unfold k0_pay13
  pointwise
  fin_cases g
  · simp [Scalar.select, Scalar.cmpi, IntOp.cmpi]
  · simp [Scalar.select, Scalar.cmpi, IntOp.cmpi]
    congr 2; apply Fin.ext; dsimp only; omega

theorem beta_apply (g : Fin 2) (x : Vec Ideal S256x128 .f32) (r : Fin 256) (l : ℕ) (hl : l < 120) :
    k0_pay15 (BitVec.ofNat 32 g) x (ix2 r ⟨l, by omega⟩) = Ideal.logistic (x (ix2 r ⟨8 * g + l, by omega⟩)) := by
  rw [← small_apply g x r l hl]
  rfl

/-- The log decays. -/
def laSlab (x : Vec Ideal S256x128 .f32) (al dt : Vec Ideal S1x1x128 .f32) : FVec Ideal S256x128 .f32 :=
  k0_pay17 x (k0_pay14 al) k0_pay16 dt

theorem laSlab_apply (x : Vec Ideal S256x128 .f32) (al dt : Vec Ideal S1x1x128 .f32) (r : Fin 256) (l : Fin 128)
    (h1 : 16 ≤ l.val) (h2 : l.val < 24) :
    laSlab x al dt (ix2 r l)
      = (0 - Ideal.exp (al (ix3 0 0 l))) * soft (x (ix2 r l) + dt (ix3 0 0 l)) := by
  unfold laSlab k0_pay17 k0_pay14 k0_pay16
  pointwise
  have : IntOp.cmpi .sge (BitVec.ofNat 32 l.val) 16#32 = BitVec.ofBool (decide (16 ≤ l.val)) :=
    cmpi_sle (a := 16) (b := l.val) (by omega) (by omega)
  rw [this, cmpi_slt (a := l.val) (b := 24) (by omega) (by omega), and_ofBool, sel_ofBool, if_pos ⟨h1, h2⟩]
  rfl

/-- The running sums of the log decays over each chunk. -/
def bcum (v135 : FVec Ideal S256x128 .f32) : FVec Ideal S256x128 .f32 :=
  let v136 : IVec S256x256 32 := iota .tc S256x256 32 [0] iota_S256x256_d0_w32
  let v137 : IVec S256x256 32 := iota .tc S256x256 32 [1] iota_S256x256_d1_w32
  let v161 : IVec S256x256 32 := k0_pay18
  let c64_i32_56 : BitVec 32 := 64#32
  let v163 : IVec S256x256 32 := k0_pay19
  let c0_i32_57 : BitVec 32 := 0#32
  k0_pay20 v135 v136 v137 v161 c64_i32_56 v163 c0_i32_57
/-- The running sums, by head and token. -/
def bcumT (v135 : FVec Ideal S256x128 .f32) : FVec Ideal S8x256 .f32 :=
  let v194 : FVec Ideal S8x256 .f32 := k0_pay21 v135
  let v195 : IVec S256x256 32 := iota .tc S256x256 32 [0] iota_S256x256_d0_w32
  let v196 : IVec S256x256 32 := iota .tc S256x256 32 [1] iota_S256x256_d1_w32
  let c64_i32_66 : BitVec 32 := 64#32
  let v198 : IVec S256x256 32 := k0_pay22
  let v205 : IVec S256x256 32 := k0_pay23
  let v206 : BitVec 1 := Scalar.cmpi .sgt 64#32 0#32
  let v207 : BitVec 32 := Scalar.extui v206
  let v208 : BitVec 1 := Scalar.cmpi .slt 64#32 0#32
  let v209 : BitVec 32 := Scalar.extui v208
  let v210 : BitVec 32 := Scalar.subi v207 v209
  k0_pay24 v194 v195 v196 c64_i32_66 v198 v205 v210

theorem bcum_apply (y : FVec Ideal S256x128 .f32) (r : Fin 256) (l : Fin 128) :
    bcum y (ix2 r l) = ∑ x : Fin 256, if r.val / 64 = x.val / 64 ∧ x ≤ r then y (ix2 x l) else 0 := by
  unfold bcum
  simp only [k0_pay18, k0_pay19, k0_pay20]
  pointwise
  refine Finset.sum_congr rfl fun x _ => ?_
  rw [quot64, quot64, cmpi_eq (by omega) (by omega), cmpi_sle (by omega) (by omega), and_ofBool, sel_ofBool]
  rfl

theorem bcumT_apply (y : FVec Ideal S256x128 .f32) (h : Fin 8) (r : Fin 256) :
    bcumT y (ix2 h r)
      = ∑ x : Fin 256, if r.val / 64 = x.val / 64 ∧ x ≤ r then y (ix2 x ⟨16 + h, by omega⟩) else 0 := by
  unfold bcumT
  simp only [k0_pay21, k0_pay22, k0_pay23, k0_pay24]
  pointwise
  refine Finset.sum_congr rfl fun x _ => ?_
  rw [quot64, quot64, cmpi_eq (by omega) (by omega), cmpi_sle (by omega) (by omega), and_ofBool, sel_ofBool]
  simp only [eq_comm]
  rfl

theorem run_sum (g : ℕ → ℝ) (T : ℕ) (y : Fin 256 → EReal) (hy : ∀ x : Fin 256, y x = ((g (T + x) : ℝ) : EReal))
    (r : Fin 256) :
    (∑ x : Fin 256, if r.val / 64 = x.val / 64 ∧ x ≤ r then y x else 0)
      = ((run g (T + 64 * (r / 64)) (r % 64) : ℝ) : EReal) := by
  have e : ∀ x : Fin 256, (if r.val / 64 = x.val / 64 ∧ x ≤ r then y x else 0)
      = (((fun n : ℕ => if r.val / 64 = n / 64 ∧ n ≤ r.val then g (T + n) else 0) x : ℝ) : EReal) := by
    intro x
    rw [hy]
    by_cases h : r.val / 64 = x.val / 64 ∧ x ≤ r
    · have h' : r.val / 64 = x.val / 64 ∧ x.val ≤ r.val := h
      simp only [if_pos h, if_pos h']
    · have h' : ¬(r.val / 64 = x.val / 64 ∧ x.val ≤ r.val) := h
      simp only [if_neg h, if_neg h', EReal.coe_zero]
  simp only [e]
  rw [coe_sum]
  congr 1
  rw [Fin.sum_univ_eq_sum_range (fun n : ℕ => if r.val / 64 = n / 64 ∧ n ≤ r.val then g (T + n) else 0) 256,
    ← Finset.sum_filter]
  unfold run
  refine (Finset.sum_bij (fun s _ => 64 * (r.val / 64) + s) ?_ ?_ ?_ ?_).symm
  · intro s hs
    simp only [Finset.mem_range] at hs
    simp only [Finset.mem_filter, Finset.mem_range]
    omega
  · intro a _ b _ hab
    omega
  · intro n hn
    simp only [Finset.mem_filter, Finset.mem_range] at hn
    exact ⟨n - 64 * (r.val / 64), by simp only [Finset.mem_range]; omega, by omega⟩
  · intro s _
    rw [add_assoc]

end Cert.KernelIdeal.Delta
-- ==== Proof.Solve.lean ====
module

public import proofs.«01_k».proof.Proof.Stacks
public import proofs.«01_k».proof.Proof.Words
public import proofs.«01_k».proof.Proof.Lift
public import proofs.«01_k».proof.Proof.Chunk
public import Idealize.ShloMosaic.Lib.Pointwise
public import Idealize.ShloMosaic.Lib.ValueIdx

/-!
The solution of the triangular systems of the chunks: on finite values it is that of the real systems.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- The couplings inside the blocks of 16 on the diagonal. -/
def dBlk (v856 : FVec Ideal S32x64x64 .f32) : FVec Ideal S32x64x64 .f32 :=
  let v857 : IVec S64x64 32 := iota .tc S64x64 32 [0] iota_S64x64_d0_w32
  let v858 : IVec S64x64 32 := iota .tc S64x64 32 [1] iota_S64x64_d1_w32
  let c16_i32_129 : BitVec 32 := 16#32
  let v864 : IVec S64x64 32 := k0_pay324
  let v867 : IVec S64x64 32 := k0_pay325
  let v869 : IVec S64x64 1 := k0_pay326
  k0_pay327 v856 v857 v858 c16_i32_129 v864 v867 v869

theorem dBlk_apply (A : FVec Ideal S32x64x64 .f32) (b : Fin 32) (r s : Fin 64) :
    dBlk A (ix3 b r s) = if r.val / 16 = s.val / 16 then A (ix3 b r s) else 0 := by
  unfold dBlk
  simp only [k0_pay324, k0_pay325, k0_pay326, k0_pay327]
  pointwise
  simp only [quot16, cmpi_eq (a := r.val / 16) (b := s.val / 16) (by omega) (by omega), sel_ofBool]

/-- The product of two stacks of matrices, member by member. -/
def mm (x y : FVec Ideal S32x64x64 .f32) : FVec Ideal S32x64x64 .f32 :=
  matmul dot_S32x64x64_S32x64x64_S32x64x64_2_1_1_2_0_0 none (truncf .bf16 x bitsLt_bf16_f32)
    (truncf .bf16 y bitsLt_bf16_f32) (constant S32x64x64 .f32 0x00000000#32)

/-- The product of a stack of matrices and a stack of right hand sides. -/
def mw (x : FVec Ideal S32x64x64 .f32) (y : FVec Ideal S32x64x256 .f32) : FVec Ideal S32x64x256 .f32 :=
  matmul dot_S32x64x64_S32x64x256_S32x64x256_2_1_1_2_0_0 none (truncf .bf16 x bitsLt_bf16_f32)
    (truncf .bf16 y bitsLt_bf16_f32) (constant S32x64x256 .f32 0x00000000#32)

theorem mm_apply (x y : FVec Ideal S32x64x64 .f32) (b : Fin 32) (r s : Fin 64) :
    mm x y (ix3 b r s) = ∑ i, x (ix3 b r i) * y (ix3 b i s) := by
  unfold mm
  pointwise

theorem mw_apply (x : FVec Ideal S32x64x64 .f32) (y : FVec Ideal S32x64x256 .f32) (b : Fin 32) (r : Fin 64)
    (j : Fin 256) : mw x y (ix3 b r j) = ∑ i, x (ix3 b r i) * y (ix3 b i j) := by
  unfold mw
  pointwise

/-- The identity matrices. -/
def eyes : FVec Ideal S32x64x64 .f32 :=
  broadcastTo S32x64x64 (shapeCast S1x64x64 (k0_pay323 (F := Ideal)) shapeCasts_S64x64_S1x64x64)
    broadcasts_S1x64x64_S32x64x64

theorem eyes_apply (b : Fin 32) (r s : Fin 64) : eyes (ix3 b r s) = if r = s then 1 else 0 := by
  unfold eyes k0_pay323
  pointwise
  simp only [cmpi_eq (a := r.val) (b := s.val) (by omega) (by omega), sel_ofBool, Fin.val_inj]

/-- The inverse of the diagonal blocks. -/
def pOf (d : FVec Ideal S32x64x64 .f32) : FVec Ideal S32x64x64 .f32 :=
  let d2 := mm d d
  let d4 := mm d2 d2
  let d8 := mm d4 d4
  let p := subf eyes d
  let p := addf p (mm p d2)
  let p := addf p (mm p d4)
  addf p (mm p d8)

/-- The Neumann series of what remains. -/
def qOf (n : FVec Ideal S32x64x64 .f32) : FVec Ideal S32x64x64 .f32 :=
  subf (addf (subf eyes n) (mm n n)) (mm n (mm n n))

/-- The right hand sides. -/
def rhs (v : FVec Ideal S32x64x128 .f32) (β e : FVec Ideal S32x64x1 .f32) (kb : FVec Ideal S32x64x128 .f32) :
    FVec Ideal S32x64x256 .f32 :=
  concatenate S32x64x256 2
    [⟨S32x64x128, mulf v (broadcastTo S32x64x128 β broadcasts_S32x64x1_S32x64x128)⟩,
     ⟨S32x64x128, mulf kb (broadcastTo S32x64x128 e broadcasts_S32x64x1_S32x64x128)⟩]
    concatenates_S32x64x128_S32x64x128_S32x64x256_d2

/-- The solutions: in the first 128 columns those of the values, in the last those of the keys. -/
def sol (v694 : FVec Ideal S32x64x128 .f32) (v727 : FVec Ideal S32x64x1 .f32) (v830 : FVec Ideal S32x64x1 .f32) (v832 : FVec Ideal S32x64x128 .f32) (v856 : FVec Ideal S32x64x64 .f32) : FVec Ideal S32x64x256 .f32 :=
  let v862 : FVec Ideal S64x64 .f32 := k0_pay323 (F := Ideal)
  let v857 : IVec S64x64 32 := iota .tc S64x64 32 [0] iota_S64x64_d0_w32
  let v858 : IVec S64x64 32 := iota .tc S64x64 32 [1] iota_S64x64_d1_w32
  let c16_i32_129 : BitVec 32 := 16#32
  let v864 : IVec S64x64 32 := k0_pay324
  let v867 : IVec S64x64 32 := k0_pay325
  let v869 : IVec S64x64 1 := k0_pay326
  let v915 : FVec Ideal S32x64x64 .f32 := k0_pay327 v856 v857 v858 c16_i32_129 v864 v867 v869
  let v916 : FVec Ideal S32x64x64 .f32 := k0_pay328 v856 v857 v858 c16_i32_129 v864 v867 v869
  let v917 : FVec Ideal S32x64x64 .bf16 := k0_pay329 v856 v857 v858 c16_i32_129 v864 v867 v869
  k0_pay330 v694 v727 v830 v832 v862 v915 v916 v917

theorem sol_eq (v : FVec Ideal S32x64x128 .f32) (β e : FVec Ideal S32x64x1 .f32) (kb : FVec Ideal S32x64x128 .f32)
    (A : FVec Ideal S32x64x64 .f32) :
    sol v β e kb A = mw (qOf (mm (pOf (dBlk A)) (subf A (dBlk A)))) (mw (pOf (dBlk A)) (rhs v β e kb)) := rfl

/-- Member `b` of the stack is the real matrix `M`. -/
def IsMat (x : FVec Ideal S32x64x64 .f32) (b : Fin 32) (M : M64) : Prop := ∀ r s, x (ix3 b r s) = ((M r s : ℝ) : EReal)

section
variable {x y : FVec Ideal S32x64x64 .f32} {b : Fin 32} {M N : M64}

theorem IsMat.mm (hx : IsMat x b M) (hy : IsMat y b N) : IsMat (mm x y) b (M * N) := by
  intro r s
  rw [mm_apply, Matrix.mul_apply, ← coe_sum]
  refine Finset.sum_congr rfl fun i _ => ?_
  rw [hx, hy, EReal.coe_mul]

theorem IsMat.addf (hx : IsMat x b M) (hy : IsMat y b N) : IsMat (addf x y) b (M + N) := by
  intro r s
  show x _ + y _ = _
  rw [hx, hy, Matrix.add_apply, EReal.coe_add]

theorem IsMat.subf (hx : IsMat x b M) (hy : IsMat y b N) : IsMat (subf x y) b (M - N) := by
  intro r s
  show x _ - y _ = _
  rw [hx, hy, Matrix.sub_apply, EReal.coe_sub]

theorem IsMat.eyes : IsMat eyes b 1 := by
  intro r s
  rw [eyes_apply, Matrix.one_apply]
  split_ifs <;> simp

theorem IsMat.dBlk (hx : IsMat x b M) : IsMat (dBlk x) b (dPart M) := by
  intro r s
  rw [dBlk_apply, hx, dPart, ← coe_ite]
  simp

theorem IsMat.pOf (hx : IsMat x b M) : IsMat (pOf (Delta.dBlk x)) b (pMat M) := by
  have d := hx.dBlk
  have d2 := d.mm d
  have d4 := d2.mm d2
  have d8 := d4.mm d4
  have p0 := IsMat.eyes.subf d
  have p1 := p0.addf (p0.mm d2)
  have p2 := p1.addf (p1.mm d4)
  exact p2.addf (p2.mm d8)

theorem IsMat.qOf (hx : IsMat x b M) :
    IsMat (qOf (Delta.mm (Delta.pOf (Delta.dBlk x)) (Idealize.ShloMosaic.subf x (Delta.dBlk x)))) b (qMat M) := by
  have n := hx.pOf.mm (hx.subf hx.dBlk)
  exact ((IsMat.eyes.subf n).addf (n.mm n)).subf (n.mm (n.mm n))

end

theorem sol_column {v : FVec Ideal S32x64x128 .f32} {β e : FVec Ideal S32x64x1 .f32} {kb : FVec Ideal S32x64x128 .f32}
    {A : FVec Ideal S32x64x64 .f32} {b : Fin 32} {M : M64} (hA : IsMat A b M) (j : Fin 256) (f : Fin 64 → ℝ)
    (hf : ∀ i, rhs v β e kb (ix3 b i j) = ((f i : ℝ) : EReal)) (r : Fin 64) :
    sol v β e kb A (ix3 b r j) = ((solve M f r : ℝ) : EReal) := by
  rw [sol_eq, mw_apply, solve, ← coe_sum]
  refine Finset.sum_congr rfl fun i _ => ?_
  rw [hA.qOf, mw_apply, EReal.coe_mul, ← coe_sum]
  congr 1
  refine Finset.sum_congr rfl fun l _ => ?_
  rw [hA.pOf, hf, EReal.coe_mul]

theorem rhs_left (v : FVec Ideal S32x64x128 .f32) (β e : FVec Ideal S32x64x1 .f32) (kb : FVec Ideal S32x64x128 .f32)
    (b : Fin 32) (r : Fin 64) (j : Fin 128) :
    rhs v β e kb (ix3 b r ⟨j, by omega⟩) = v (ix3 b r j) * β (ix3 b r 0) := by
  unfold rhs
  pointwise

theorem rhs_right (v : FVec Ideal S32x64x128 .f32) (β e : FVec Ideal S32x64x1 .f32) (kb : FVec Ideal S32x64x128 .f32)
    (b : Fin 32) (r : Fin 64) (j : Fin 128) :
    rhs v β e kb (ix3 b r ⟨128 + j, by omega⟩) = kb (ix3 b r j) * e (ix3 b r 0) := by
  unfold rhs
  pointwise

end Cert.KernelIdeal.Delta
-- ==== Proof.ChunkRead.lean ====
module

public import proofs.«01_k».proof.Proof.Stacks
public import proofs.«01_k».proof.Proof.Solve
public import Idealize.ShloMosaic.Lib.Pointwise
public import Idealize.ShloMosaic.Lib.ValueIdx

/-!
One chunk of the recurrence: the corrections, the outputs and the next state, read from the stacks.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- The keys decayed to the end of their chunk, transposed. -/
def kdStack (v661 : FVec Ideal S32x64x128 .f32) (v760 : FVec Ideal S32x64x1 .f32) : FVec Ideal S32x128x64 .f32 :=
  let v1021 : FVec Ideal S128x64 .f32 := k0_pay349 v661 v760
  let v1024 : FVec Ideal S128x64 .f32 := k0_pay350 v661 v760
  let v1026 : FVec Ideal S64x128 .f32 := k0_pay351 v661 v760
  let v1027 : FVec Ideal S128x64 .f32 := k0_pay352 v1026
  let v976 : FVec Ideal S32x64x128 .f32 := k0_pay334 v661 v760
  let v1030 : FVec Ideal S128x64 .f32 := k0_pay353 v976
  let v1033 : FVec Ideal S128x64 .f32 := k0_pay354 v976
  let v1036 : FVec Ideal S128x64 .f32 := k0_pay355 v976
  let v1039 : FVec Ideal S128x64 .f32 := k0_pay356 v976
  let v1042 : FVec Ideal S128x64 .f32 := k0_pay357 v976
  let v1045 : FVec Ideal S128x64 .f32 := k0_pay358 v976
  let v1048 : FVec Ideal S128x64 .f32 := k0_pay359 v976
  let v1051 : FVec Ideal S128x64 .f32 := k0_pay360 v976
  let v1054 : FVec Ideal S128x64 .f32 := k0_pay361 v976
  let v1057 : FVec Ideal S128x64 .f32 := k0_pay362 v976
  let v1060 : FVec Ideal S128x64 .f32 := k0_pay363 v976
  let v1063 : FVec Ideal S128x64 .f32 := k0_pay364 v976
  let v1066 : FVec Ideal S128x64 .f32 := k0_pay365 v976
  let v1069 : FVec Ideal S128x64 .f32 := k0_pay366 v976
  let v1072 : FVec Ideal S128x64 .f32 := k0_pay367 v976
  let v979 : FVec Ideal S128x64 .f32 := k0_pay335 v661 v760
  let v1073 : FVec Ideal S1x128x64 .f32 := k0_pay368 v979
  let v982 : FVec Ideal S128x64 .f32 := k0_pay336 v661 v760
  let v1074 : FVec Ideal S1x128x64 .f32 := k0_pay369 v982
  let v985 : FVec Ideal S128x64 .f32 := k0_pay337 v661 v760
  let v1075 : FVec Ideal S1x128x64 .f32 := k0_pay370 v985
  let v988 : FVec Ideal S128x64 .f32 := k0_pay338 v661 v760
  let v1076 : FVec Ideal S1x128x64 .f32 := k0_pay371 v988
  let v991 : FVec Ideal S128x64 .f32 := k0_pay339 v661 v760
  let v1077 : FVec Ideal S1x128x64 .f32 := k0_pay372 v991
  let v994 : FVec Ideal S128x64 .f32 := k0_pay340 v661 v760
  let v1078 : FVec Ideal S1x128x64 .f32 := k0_pay373 v994
  let v997 : FVec Ideal S128x64 .f32 := k0_pay341 v661 v760
  let v1079 : FVec Ideal S1x128x64 .f32 := k0_pay374 v997
  let v1000 : FVec Ideal S128x64 .f32 := k0_pay342 v661 v760
  let v1080 : FVec Ideal S1x128x64 .f32 := k0_pay375 v1000
  let v1003 : FVec Ideal S128x64 .f32 := k0_pay343 v661 v760
  let v1081 : FVec Ideal S1x128x64 .f32 := k0_pay376 v1003
  let v1006 : FVec Ideal S128x64 .f32 := k0_pay344 v661 v760
  let v1082 : FVec Ideal S1x128x64 .f32 := k0_pay377 v1006
  let v1009 : FVec Ideal S128x64 .f32 := k0_pay345 v661 v760
  let v1083 : FVec Ideal S1x128x64 .f32 := k0_pay378 v1009
  let v1012 : FVec Ideal S128x64 .f32 := k0_pay346 v661 v760
  let v1084 : FVec Ideal S1x128x64 .f32 := k0_pay379 v1012
  let v1015 : FVec Ideal S128x64 .f32 := k0_pay347 v661 v760
  let v1085 : FVec Ideal S1x128x64 .f32 := k0_pay380 v1015
  let v1018 : FVec Ideal S128x64 .f32 := k0_pay348 v661 v760
  let v1086 : FVec Ideal S1x128x64 .f32 := k0_pay381 v1018
  k0_pay382 v1021 v1024 v1027 v1030 v1033 v1036 v1039 v1042 v1045 v1048 v1051 v1054 v1057 v1060 v1063 v1066 v1069 v1072 v1073 v1074 v1075 v1076 v1077 v1078 v1079 v1080 v1081 v1082 v1083 v1084 v1085 v1086

set_option maxHeartbeats 4000000 in
theorem kdStack_apply (k : FVec Ideal S32x64x128 .f32) (x : FVec Ideal S32x64x1 .f32) (b : Fin 32) (i : Fin 128)
    (s : Fin 64) :
    kdStack k x (ix3 b i s) = k (ix3 b s i) * Ideal.exp (x (ix3 b 63 0) - x (ix3 b s 0)) := by
  unfold kdStack
  simp only [k0_pay349, k0_pay350, k0_pay351, k0_pay352, k0_pay334, k0_pay353, k0_pay354, k0_pay355, k0_pay356, k0_pay357, k0_pay358, k0_pay359, k0_pay360, k0_pay361, k0_pay362, k0_pay363, k0_pay364, k0_pay365, k0_pay366, k0_pay367, k0_pay335, k0_pay368, k0_pay336, k0_pay369, k0_pay337, k0_pay370, k0_pay338, k0_pay371, k0_pay339, k0_pay372, k0_pay340, k0_pay373, k0_pay341, k0_pay374, k0_pay342, k0_pay375, k0_pay343, k0_pay376, k0_pay344, k0_pay377, k0_pay345, k0_pay378, k0_pay346, k0_pay379, k0_pay347, k0_pay380, k0_pay348, k0_pay381, k0_pay382, k0_pay333]
  fin_cases b <;> dsimp only <;> pointwise <;> rfl

/-- The decay over a whole chunk. -/
def lastStack (v760 : FVec Ideal S32x64x1 .f32) : FVec Ideal S32x1x1 .f32 :=
  let v971 : FVec Ideal S32x1x1 .f32 := k0_pay333 v760
  k0_pay383 v971

theorem lastStack_apply (x : FVec Ideal S32x64x1 .f32) (b : Fin 32) :
    lastStack x (ix3 b 0 0) = Ideal.exp (x (ix3 b 63 0)) := by
  unfold lastStack
  simp only [k0_pay333, k0_pay383]
  pointwise

/-- The solutions of the keys, and below them the decayed queries. -/
def wqStack (v628 : FVec Ideal S32x64x128 .f32) (v830 : FVec Ideal S32x64x1 .f32) (v965 : FVec Ideal S32x64x256 .f32) : FVec Ideal S32x128x128 .f32 :=
  k0_pay332 v628 v830 v965

theorem wqStack_top (q : FVec Ideal S32x64x128 .f32) (e : FVec Ideal S32x64x1 .f32) (x : FVec Ideal S32x64x256 .f32)
    (b : Fin 32) (r : Fin 64) (d : Fin 128) :
    wqStack q e x (ix3 b ⟨r, by omega⟩ d) = x (ix3 b r ⟨128 + d, by omega⟩) := by
  unfold wqStack k0_pay332
  pointwise

theorem wqStack_bottom (q : FVec Ideal S32x64x128 .f32) (e : FVec Ideal S32x64x1 .f32) (x : FVec Ideal S32x64x256 .f32)
    (b : Fin 32) (r : Fin 64) (d : Fin 128) :
    wqStack q e x (ix3 b ⟨64 + r, by omega⟩ d) = q (ix3 b r d) * e (ix3 b r 0) := by
  unfold wqStack k0_pay332
  pointwise

section
variable (qk : FVec Ideal S32x64x64 .f32) (u : FVec Ideal S32x64x128 .f32) (wq : FVec Ideal S32x128x128 .f32)
  (kd : FVec Ideal S32x128x64 .f32) (al : FVec Ideal S32x1x1 .f32) (S : FVec Ideal S8x128x128 .f32)

/-- A correction of member `b`, from the state of head `h`. -/
def vnAt (b : Fin 32) (h : Fin 8) (r : Fin 64) (j : Fin 128) : EReal :=
  u (ix3 b r j) - ∑ d, wq (ix3 b ⟨r, by omega⟩ d) * S (ix3 h d j)

/-- An output of member `b`, from the state of head `h`. -/
def outAt (b : Fin 32) (h : Fin 8) (r : Fin 64) (j : Fin 128) : EReal :=
  (∑ d, wq (ix3 b ⟨64 + r, by omega⟩ d) * S (ix3 h d j)) + ∑ s, qk (ix3 b r s) * vnAt u wq S b h s j

/-- The next state of head `h`. -/
def nextAt (b : Fin 32) (h : Fin 8) (i j : Fin 128) : EReal :=
  S (ix3 h i j) * al (ix3 b 0 0) + ∑ s, kd (ix3 b i s) * vnAt u wq S b h s j

theorem out0_apply (h : Fin 8) (r : Fin 64) (j : Fin 128) :
    k0_pay387 qk u wq S (ix3 h r j) = outAt qk u wq S ⟨0 + h, by omega⟩ h r j := by
  simp only [outAt, vnAt, k0_pay387, k0_pay385, k0_pay386]
  pointwise

theorem out1_apply (h : Fin 8) (r : Fin 64) (j : Fin 128) :
    k0_pay408 qk u wq S (ix3 h r j) = outAt qk u wq S ⟨8 + h, by omega⟩ h r j := by
  simp only [outAt, vnAt, k0_pay408, k0_pay406, k0_pay407]
  pointwise

theorem next1_apply (h : Fin 8) (i j : Fin 128) :
    k0_pay409 u wq kd al S (ix3 h i j) = nextAt u wq kd al S ⟨8 + h, by omega⟩ h i j := by
  simp only [nextAt, vnAt, k0_pay409, k0_pay407, k0_pay406]
  pointwise

theorem out2_apply (h : Fin 8) (r : Fin 64) (j : Fin 128) :
    k0_pay429 qk u wq S (ix3 h r j) = outAt qk u wq S ⟨16 + h, by omega⟩ h r j := by
  simp only [outAt, vnAt, k0_pay429, k0_pay427, k0_pay428]
  pointwise

theorem next2_apply (h : Fin 8) (i j : Fin 128) :
    k0_pay430 u wq kd al S (ix3 h i j) = nextAt u wq kd al S ⟨16 + h, by omega⟩ h i j := by
  simp only [nextAt, vnAt, k0_pay430, k0_pay428, k0_pay427]
  pointwise

theorem out3_apply (h : Fin 8) (r : Fin 64) (j : Fin 128) :
    k0_pay450 qk u wq S (ix3 h r j) = outAt qk u wq S ⟨24 + h, by omega⟩ h r j := by
  simp only [outAt, vnAt, k0_pay450, k0_pay448, k0_pay449]
  pointwise

theorem next3_apply (h : Fin 8) (i j : Fin 128) :
    k0_pay451 u wq kd al S (ix3 h i j) = nextAt u wq kd al S ⟨24 + h, by omega⟩ h i j := by
  simp only [nextAt, vnAt, k0_pay451, k0_pay449, k0_pay448]
  pointwise

end

/-- The state after the first chunk. -/
def next0 (v966 : FVec Ideal S32x64x128 .f32) (v970 : FVec Ideal S32x128x128 .f32) (v661 : FVec Ideal S32x64x128 .f32) (v760 : FVec Ideal S32x64x1 .f32) (v1110 : Vec Ideal S8x128x128 .f32) : FVec Ideal S8x128x128 .f32 :=
  let v971 : FVec Ideal S32x1x1 .f32 := k0_pay333 v760
  let v1021 : FVec Ideal S128x64 .f32 := k0_pay349 v661 v760
  let v1024 : FVec Ideal S128x64 .f32 := k0_pay350 v661 v760
  let v1026 : FVec Ideal S64x128 .f32 := k0_pay351 v661 v760
  let v1027 : FVec Ideal S128x64 .f32 := k0_pay352 v1026
  let v976 : FVec Ideal S32x64x128 .f32 := k0_pay334 v661 v760
  let v1030 : FVec Ideal S128x64 .f32 := k0_pay353 v976
  let v1033 : FVec Ideal S128x64 .f32 := k0_pay354 v976
  let v1036 : FVec Ideal S128x64 .f32 := k0_pay355 v976
  let v1039 : FVec Ideal S128x64 .f32 := k0_pay356 v976
  let v1042 : FVec Ideal S128x64 .f32 := k0_pay357 v976
  let v1045 : FVec Ideal S128x64 .f32 := k0_pay358 v976
  let v1048 : FVec Ideal S128x64 .f32 := k0_pay359 v976
  let v1051 : FVec Ideal S128x64 .f32 := k0_pay360 v976
  let v1054 : FVec Ideal S128x64 .f32 := k0_pay361 v976
  let v1057 : FVec Ideal S128x64 .f32 := k0_pay362 v976
  let v1060 : FVec Ideal S128x64 .f32 := k0_pay363 v976
  let v1063 : FVec Ideal S128x64 .f32 := k0_pay364 v976
  let v1066 : FVec Ideal S128x64 .f32 := k0_pay365 v976
  let v1069 : FVec Ideal S128x64 .f32 := k0_pay366 v976
  let v1072 : FVec Ideal S128x64 .f32 := k0_pay367 v976
  let v979 : FVec Ideal S128x64 .f32 := k0_pay335 v661 v760
  let v1073 : FVec Ideal S1x128x64 .f32 := k0_pay368 v979
  let v982 : FVec Ideal S128x64 .f32 := k0_pay336 v661 v760
  let v1074 : FVec Ideal S1x128x64 .f32 := k0_pay369 v982
  let v985 : FVec Ideal S128x64 .f32 := k0_pay337 v661 v760
  let v1075 : FVec Ideal S1x128x64 .f32 := k0_pay370 v985
  let v988 : FVec Ideal S128x64 .f32 := k0_pay338 v661 v760
  let v1076 : FVec Ideal S1x128x64 .f32 := k0_pay371 v988
  let v991 : FVec Ideal S128x64 .f32 := k0_pay339 v661 v760
  let v1077 : FVec Ideal S1x128x64 .f32 := k0_pay372 v991
  let v994 : FVec Ideal S128x64 .f32 := k0_pay340 v661 v760
  let v1078 : FVec Ideal S1x128x64 .f32 := k0_pay373 v994
  let v997 : FVec Ideal S128x64 .f32 := k0_pay341 v661 v760
  let v1079 : FVec Ideal S1x128x64 .f32 := k0_pay374 v997
  let v1000 : FVec Ideal S128x64 .f32 := k0_pay342 v661 v760
  let v1080 : FVec Ideal S1x128x64 .f32 := k0_pay375 v1000
  let v1003 : FVec Ideal S128x64 .f32 := k0_pay343 v661 v760
  let v1081 : FVec Ideal S1x128x64 .f32 := k0_pay376 v1003
  let v1006 : FVec Ideal S128x64 .f32 := k0_pay344 v661 v760
  let v1082 : FVec Ideal S1x128x64 .f32 := k0_pay377 v1006
  let v1009 : FVec Ideal S128x64 .f32 := k0_pay345 v661 v760
  let v1083 : FVec Ideal S1x128x64 .f32 := k0_pay378 v1009
  let v1012 : FVec Ideal S128x64 .f32 := k0_pay346 v661 v760
  let v1084 : FVec Ideal S1x128x64 .f32 := k0_pay379 v1012
  let v1015 : FVec Ideal S128x64 .f32 := k0_pay347 v661 v760
  let v1085 : FVec Ideal S1x128x64 .f32 := k0_pay380 v1015
  let v1018 : FVec Ideal S128x64 .f32 := k0_pay348 v661 v760
  let v1086 : FVec Ideal S1x128x64 .f32 := k0_pay381 v1018
  k0_pay388 v966 v970 v971 v1021 v1024 v1027 v1030 v1033 v1036 v1039 v1042 v1045 v1048 v1051 v1054 v1057 v1060 v1063 v1066 v1069 v1072 v1073 v1074 v1075 v1076 v1077 v1078 v1079 v1080 v1081 v1082 v1083 v1084 v1085 v1086 v1110

theorem next0_apply (u : FVec Ideal S32x64x128 .f32) (wq : FVec Ideal S32x128x128 .f32) (k : FVec Ideal S32x64x128 .f32)
    (x : FVec Ideal S32x64x1 .f32) (S : FVec Ideal S8x128x128 .f32) (h : Fin 8) (i j : Fin 128) :
    next0 u wq k x S (ix3 h i j) = nextAt u wq (kdStack k x) (lastStack x) S ⟨h, by omega⟩ h i j := by
  unfold next0 kdStack lastStack
  simp only [nextAt, vnAt, k0_pay388, k0_pay386, k0_pay385]
  pointwise

end Cert.KernelIdeal.Delta
-- ==== Proof.Couple.lean ====
module

public import proofs.«01_k».proof.Proof.Stacks
public import proofs.«01_k».proof.Proof.Words
public import Idealize.ShloMosaic.Lib.Pointwise
public import Idealize.ShloMosaic.Lib.ValueIdx

/-!
The decays inside a chunk, and the two matrices of couplings: of queries with keys, and of keys with keys.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- The decay from one token of a chunk to another. -/
def decayStack (v760 : FVec Ideal S32x64x1 .f32) (v251 : FVec Ideal S8x256 .f32) : FVec Ideal S32x64x64 .f32 :=
  let v787 : FVec Ideal S1x64 .f32 := k0_pay285 v251
  let v788 : FVec Ideal S1x64 .f32 := k0_pay286 v251
  let v789 : FVec Ideal S1x64 .f32 := k0_pay287 v251
  let v790 : FVec Ideal S1x64 .f32 := k0_pay288 v251
  let v791 : FVec Ideal S1x64 .f32 := k0_pay289 v251
  let v792 : FVec Ideal S1x64 .f32 := k0_pay290 v251
  let v793 : FVec Ideal S1x1x64 .f32 := k0_pay291 v251
  let v794 : FVec Ideal S1x1x64 .f32 := k0_pay292 v251
  let v795 : FVec Ideal S1x1x64 .f32 := k0_pay293 v251
  let v796 : FVec Ideal S1x1x64 .f32 := k0_pay294 v251
  let v797 : FVec Ideal S1x1x64 .f32 := k0_pay295 v251
  let v798 : FVec Ideal S1x1x64 .f32 := k0_pay296 v251
  let v799 : FVec Ideal S1x1x64 .f32 := k0_pay297 v251
  let v800 : FVec Ideal S1x1x64 .f32 := k0_pay298 v251
  let v801 : FVec Ideal S1x1x64 .f32 := k0_pay299 v251
  let v802 : FVec Ideal S1x1x64 .f32 := k0_pay300 v251
  let v803 : FVec Ideal S1x1x64 .f32 := k0_pay301 v251
  let v804 : FVec Ideal S1x1x64 .f32 := k0_pay302 v251
  let v805 : FVec Ideal S1x1x64 .f32 := k0_pay303 v251
  let v806 : FVec Ideal S1x1x64 .f32 := k0_pay304 v251
  let v807 : FVec Ideal S1x1x64 .f32 := k0_pay305 v251
  let v808 : FVec Ideal S1x1x64 .f32 := k0_pay306 v251
  let v809 : FVec Ideal S1x1x64 .f32 := k0_pay307 v251
  let v810 : FVec Ideal S1x1x64 .f32 := k0_pay308 v251
  let v811 : FVec Ideal S1x1x64 .f32 := k0_pay309 v251
  let v812 : FVec Ideal S1x1x64 .f32 := k0_pay310 v251
  let v813 : FVec Ideal S1x1x64 .f32 := k0_pay311 v251
  let v814 : FVec Ideal S1x1x64 .f32 := k0_pay312 v251
  let v815 : FVec Ideal S1x1x64 .f32 := k0_pay313 v251
  let v816 : FVec Ideal S1x1x64 .f32 := k0_pay314 v251
  let v817 : FVec Ideal S1x1x64 .f32 := k0_pay315 v251
  let v818 : FVec Ideal S1x1x64 .f32 := k0_pay316 v251
  k0_pay319 v760 v787 v788 v789 v790 v791 v792 v793 v794 v795 v796 v797 v798 v799 v800 v801 v802 v803 v804 v805 v806 v807 v808 v809 v810 v811 v812 v813 v814 v815 v816 v817 v818

set_option maxHeartbeats 4000000 in
theorem decayStack_apply (x : FVec Ideal S32x64x1 .f32) (y : FVec Ideal S8x256 .f32) (b : Fin 32) (r s : Fin 64) :
    decayStack x y (ix3 b r s) = if s ≤ r then Ideal.exp (x (ix3 b r 0) - y (ix2 (head b) (row b s))) else 0 := by
  have e : ∀ u v : EReal, (if s ≤ r then Ideal.exp (if s ≤ r then u else v) else 0)
      = if s ≤ r then Ideal.exp u else 0 := by
    intro u v; split_ifs <;> rfl
  unfold decayStack
  simp only [k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay319]
  fin_cases b <;> dsimp only <;> pointwise <;>
    simp only [cmpi_sle (a := s.val) (b := r.val) (by omega) (by omega), sel_ofBool, Fin.val_fin_le, e] <;>
    simp [row, head]

/-- The couplings of queries with keys. -/
def qkStack (v628 : FVec Ideal S32x64x128 .f32) (v661 : FVec Ideal S32x64x128 .f32) (v727 : FVec Ideal S32x64x1 .f32) (v760 : FVec Ideal S32x64x1 .f32) (v251 : FVec Ideal S8x256 .f32) : FVec Ideal S32x64x64 .f32 :=
  let v787 : FVec Ideal S1x64 .f32 := k0_pay285 v251
  let v788 : FVec Ideal S1x64 .f32 := k0_pay286 v251
  let v789 : FVec Ideal S1x64 .f32 := k0_pay287 v251
  let v790 : FVec Ideal S1x64 .f32 := k0_pay288 v251
  let v791 : FVec Ideal S1x64 .f32 := k0_pay289 v251
  let v792 : FVec Ideal S1x64 .f32 := k0_pay290 v251
  let v793 : FVec Ideal S1x1x64 .f32 := k0_pay291 v251
  let v794 : FVec Ideal S1x1x64 .f32 := k0_pay292 v251
  let v795 : FVec Ideal S1x1x64 .f32 := k0_pay293 v251
  let v796 : FVec Ideal S1x1x64 .f32 := k0_pay294 v251
  let v797 : FVec Ideal S1x1x64 .f32 := k0_pay295 v251
  let v798 : FVec Ideal S1x1x64 .f32 := k0_pay296 v251
  let v799 : FVec Ideal S1x1x64 .f32 := k0_pay297 v251
  let v800 : FVec Ideal S1x1x64 .f32 := k0_pay298 v251
  let v801 : FVec Ideal S1x1x64 .f32 := k0_pay299 v251
  let v802 : FVec Ideal S1x1x64 .f32 := k0_pay300 v251
  let v803 : FVec Ideal S1x1x64 .f32 := k0_pay301 v251
  let v804 : FVec Ideal S1x1x64 .f32 := k0_pay302 v251
  let v805 : FVec Ideal S1x1x64 .f32 := k0_pay303 v251
  let v806 : FVec Ideal S1x1x64 .f32 := k0_pay304 v251
  let v807 : FVec Ideal S1x1x64 .f32 := k0_pay305 v251
  let v808 : FVec Ideal S1x1x64 .f32 := k0_pay306 v251
  let v809 : FVec Ideal S1x1x64 .f32 := k0_pay307 v251
  let v810 : FVec Ideal S1x1x64 .f32 := k0_pay308 v251
  let v811 : FVec Ideal S1x1x64 .f32 := k0_pay309 v251
  let v812 : FVec Ideal S1x1x64 .f32 := k0_pay310 v251
  let v813 : FVec Ideal S1x1x64 .f32 := k0_pay311 v251
  let v814 : FVec Ideal S1x1x64 .f32 := k0_pay312 v251
  let v815 : FVec Ideal S1x1x64 .f32 := k0_pay313 v251
  let v816 : FVec Ideal S1x1x64 .f32 := k0_pay314 v251
  let v817 : FVec Ideal S1x1x64 .f32 := k0_pay315 v251
  let v818 : FVec Ideal S1x1x64 .f32 := k0_pay316 v251
  k0_pay321 v628 v661 v727 v760 v787 v788 v789 v790 v791 v792 v793 v794 v795 v796 v797 v798 v799 v800 v801 v802 v803 v804 v805 v806 v807 v808 v809 v810 v811 v812 v813 v814 v815 v816 v817 v818

theorem qkStack_apply (q k : FVec Ideal S32x64x128 .f32) (β x : FVec Ideal S32x64x1 .f32) (y : FVec Ideal S8x256 .f32)
    (b : Fin 32) (r s : Fin 64) :
    qkStack q k β x y (ix3 b r s) = (∑ d, q (ix3 b r d) * k (ix3 b s d)) * decayStack x y (ix3 b r s) := by
  unfold qkStack decayStack
  simp only [k0_pay321, k0_pay320, k0_pay318]
  pointwise

/-- The couplings of keys with keys, below the diagonal. -/
def aStack (v628 : FVec Ideal S32x64x128 .f32) (v661 : FVec Ideal S32x64x128 .f32) (v727 : FVec Ideal S32x64x1 .f32) (v760 : FVec Ideal S32x64x1 .f32) (v251 : FVec Ideal S8x256 .f32) : FVec Ideal S32x64x64 .f32 :=
  let v787 : FVec Ideal S1x64 .f32 := k0_pay285 v251
  let v788 : FVec Ideal S1x64 .f32 := k0_pay286 v251
  let v789 : FVec Ideal S1x64 .f32 := k0_pay287 v251
  let v790 : FVec Ideal S1x64 .f32 := k0_pay288 v251
  let v791 : FVec Ideal S1x64 .f32 := k0_pay289 v251
  let v792 : FVec Ideal S1x64 .f32 := k0_pay290 v251
  let v793 : FVec Ideal S1x1x64 .f32 := k0_pay291 v251
  let v794 : FVec Ideal S1x1x64 .f32 := k0_pay292 v251
  let v795 : FVec Ideal S1x1x64 .f32 := k0_pay293 v251
  let v796 : FVec Ideal S1x1x64 .f32 := k0_pay294 v251
  let v797 : FVec Ideal S1x1x64 .f32 := k0_pay295 v251
  let v798 : FVec Ideal S1x1x64 .f32 := k0_pay296 v251
  let v799 : FVec Ideal S1x1x64 .f32 := k0_pay297 v251
  let v800 : FVec Ideal S1x1x64 .f32 := k0_pay298 v251
  let v801 : FVec Ideal S1x1x64 .f32 := k0_pay299 v251
  let v802 : FVec Ideal S1x1x64 .f32 := k0_pay300 v251
  let v803 : FVec Ideal S1x1x64 .f32 := k0_pay301 v251
  let v804 : FVec Ideal S1x1x64 .f32 := k0_pay302 v251
  let v805 : FVec Ideal S1x1x64 .f32 := k0_pay303 v251
  let v806 : FVec Ideal S1x1x64 .f32 := k0_pay304 v251
  let v807 : FVec Ideal S1x1x64 .f32 := k0_pay305 v251
  let v808 : FVec Ideal S1x1x64 .f32 := k0_pay306 v251
  let v809 : FVec Ideal S1x1x64 .f32 := k0_pay307 v251
  let v810 : FVec Ideal S1x1x64 .f32 := k0_pay308 v251
  let v811 : FVec Ideal S1x1x64 .f32 := k0_pay309 v251
  let v812 : FVec Ideal S1x1x64 .f32 := k0_pay310 v251
  let v813 : FVec Ideal S1x1x64 .f32 := k0_pay311 v251
  let v814 : FVec Ideal S1x1x64 .f32 := k0_pay312 v251
  let v815 : FVec Ideal S1x1x64 .f32 := k0_pay313 v251
  let v816 : FVec Ideal S1x1x64 .f32 := k0_pay314 v251
  let v817 : FVec Ideal S1x1x64 .f32 := k0_pay315 v251
  let v818 : FVec Ideal S1x1x64 .f32 := k0_pay316 v251
  k0_pay322 v628 v661 v727 v760 v787 v788 v789 v790 v791 v792 v793 v794 v795 v796 v797 v798 v799 v800 v801 v802 v803 v804 v805 v806 v807 v808 v809 v810 v811 v812 v813 v814 v815 v816 v817 v818

theorem aStack_apply (q k : FVec Ideal S32x64x128 .f32) (β x : FVec Ideal S32x64x1 .f32) (y : FVec Ideal S8x256 .f32)
    (b : Fin 32) (r s : Fin 64) :
    aStack q k β x y (ix3 b r s)
      = if s < r then (∑ d, k (ix3 b r d) * β (ix3 b r 0) * k (ix3 b s d)) * decayStack x y (ix3 b r s) else 0 := by
  unfold aStack decayStack
  simp only [k0_pay322, k0_pay320, k0_pay318]
  pointwise
  simp only [cmpi_slt (a := s.val) (b := r.val) (by omega) (by omega), sel_ofBool, Fin.val_fin_lt]

end Cert.KernelIdeal.Delta
-- ==== Proof.Body.lean ====
module

public import proofs.«01_k».proof.Proof.Stacks
public import proofs.«01_k».proof.Proof.ChunkRead
public import proofs.«01_k».proof.Proof.Couple
public import Idealize.ShloMosaic.Lib.Pointwise
public import Idealize.ShloMosaic.Lib.ValueIdx

/-!
One chunk of the kernel is 64 steps of the recurrence.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- The solutions of the values. -/
def uStack (v694 : FVec Ideal S32x64x128 .f32) (v727 : FVec Ideal S32x64x1 .f32) (v830 : FVec Ideal S32x64x1 .f32) (v832 : FVec Ideal S32x64x128 .f32) (v856 : FVec Ideal S32x64x64 .f32) : FVec Ideal S32x64x128 .f32 :=
  let v862 : FVec Ideal S64x64 .f32 := k0_pay323 (F := Ideal)
  let v857 : IVec S64x64 32 := iota .tc S64x64 32 [0] iota_S64x64_d0_w32
  let v858 : IVec S64x64 32 := iota .tc S64x64 32 [1] iota_S64x64_d1_w32
  let c16_i32_129 : BitVec 32 := 16#32
  let v864 : IVec S64x64 32 := k0_pay324
  let v867 : IVec S64x64 32 := k0_pay325
  let v869 : IVec S64x64 1 := k0_pay326
  let v915 : FVec Ideal S32x64x64 .f32 := k0_pay327 v856 v857 v858 c16_i32_129 v864 v867 v869
  let v916 : FVec Ideal S32x64x64 .f32 := k0_pay328 v856 v857 v858 c16_i32_129 v864 v867 v869
  let v917 : FVec Ideal S32x64x64 .bf16 := k0_pay329 v856 v857 v858 c16_i32_129 v864 v867 v869
  k0_pay331 v694 v727 v830 v832 v862 v915 v916 v917

theorem uStack_apply (v : FVec Ideal S32x64x128 .f32) (β e : FVec Ideal S32x64x1 .f32) (kb : FVec Ideal S32x64x128 .f32)
    (A : FVec Ideal S32x64x64 .f32) (b : Fin 32) (r : Fin 64) (j : Fin 128) :
    uStack v β e kb A (ix3 b r j) = sol v β e kb A (ix3 b r ⟨j, by omega⟩) := by
  have : uStack v β e kb A = extractStridedSlice S32x64x128 ![0, 0, 0] (sol v β e kb A)
      slices_S32x64x256_o0_0_0_S32x64x128 := rfl
  rw [this]
  generalize sol v β e kb A = x
  pointwise

section
variable (q k : ℕ → Fin 128 → ℝ) (v : ℕ → Fin 128 → ℝ) (β g : ℕ → ℝ)

/-- Member `b` of the stacks holds the 64 tokens from token `T`. -/
structure Holds (Q K V : FVec Ideal S32x64x128 .f32) (B C : FVec Ideal S32x64x1 .f32) (Ct : FVec Ideal S8x256 .f32)
    (b : Fin 32) (T : ℕ) : Prop where
  hq : ∀ (r : Fin 64) (d : Fin 128), Q (ix3 b r d) = ((q (T + r) d : ℝ) : EReal)
  hk : ∀ (r : Fin 64) (d : Fin 128), K (ix3 b r d) = ((k (T + r) d : ℝ) : EReal)
  hv : ∀ (r : Fin 64) (d : Fin 128), V (ix3 b r d) = ((v (T + r) d : ℝ) : EReal)
  hβ : ∀ r : Fin 64, B (ix3 b r 0) = ((β (T + r) : ℝ) : EReal)
  hc : ∀ r : Fin 64, C (ix3 b r 0) = ((run g T r : ℝ) : EReal)
  ht : ∀ r : Fin 64, Ct (ix2 (head b) (row b r)) = ((run g T r : ℝ) : EReal)

section
variable {q k v β g} {Q K V : FVec Ideal S32x64x128 .f32} {B C : FVec Ideal S32x64x1 .f32} {Ct : FVec Ideal S8x256 .f32}
  {b : Fin 32} {T : ℕ} (H : Holds q k v β g Q K V B C Ct b T)
include H

theorem Holds.decay (r s : Fin 64) :
    decayStack C Ct (ix3 b r s) = ((decay (fun r : Fin 64 => run g T r) r s : ℝ) : EReal) := by
  rw [decayStack_apply, H.hc, H.ht, ← EReal.coe_sub, Ideal.exp_coe, Delta.decay, ← coe_ite]
  simp

theorem Holds.qk (r s : Fin 64) :
    qkStack Q K B C Ct (ix3 b r s)
      = (((∑ d, q (T + r) d * k (T + s) d) * Delta.decay (fun r : Fin 64 => run g T r) r s : ℝ) : EReal) := by
  rw [qkStack_apply, H.decay, EReal.coe_mul, ← coe_sum]
  simp only [H.hq, H.hk, EReal.coe_mul]

theorem Holds.coupling :
    IsMat (aStack Q K B C Ct) b
      (coupling (fun r : Fin 64 => k (T + r)) (fun r : Fin 64 => β (T + r)) (fun r : Fin 64 => run g T r)) := by
  intro r s
  rw [aStack_apply, H.decay, Delta.coupling, ← coe_ite, EReal.coe_mul, ← coe_sum]
  simp only [H.hk, H.hβ, EReal.coe_mul, EReal.coe_zero]

theorem Holds.exp (r : Fin 64) : k0_pay317 C (ix3 b r 0) = ((Real.exp (run g T r) : ℝ) : EReal) := by
  rw [← Ideal.exp_coe, ← H.hc]; rfl

theorem Holds.kb (r : Fin 64) (d : Fin 128) :
    k0_pay318 K B (ix3 b r d) = ((k (T + r) d * β (T + r) : ℝ) : EReal) := by
  rw [EReal.coe_mul, ← H.hk, ← H.hβ]
  unfold k0_pay318
  pointwise

theorem Holds.u (r : Fin 64) (j : Fin 128) :
    uStack V B (k0_pay317 C) (k0_pay318 K B) (aStack Q K B C Ct) (ix3 b r j)
      = ((solve (Delta.coupling (fun r : Fin 64 => k (T + r)) (fun r : Fin 64 => β (T + r))
          (fun r : Fin 64 => run g T r)) (fun y => v (T + y) j * β (T + y)) r : ℝ) : EReal) := by
  rw [uStack_apply]
  refine sol_column H.coupling _ _ (fun i => ?_) r
  rw [rhs_left, H.hv, H.hβ, EReal.coe_mul]

theorem Holds.w (r : Fin 64) (d : Fin 128) :
    wqStack Q (k0_pay317 C) (sol V B (k0_pay317 C) (k0_pay318 K B) (aStack Q K B C Ct)) (ix3 b ⟨r, by omega⟩ d)
      = ((solve (Delta.coupling (fun r : Fin 64 => k (T + r)) (fun r : Fin 64 => β (T + r))
          (fun r : Fin 64 => run g T r)) (fun y => k (T + y) d * β (T + y) * Real.exp (run g T y)) r : ℝ) : EReal) := by
  rw [wqStack_top]
  refine sol_column H.coupling _ _ (fun i => ?_) r
  rw [rhs_right, H.kb, H.exp, ← EReal.coe_mul]

theorem Holds.qe (r : Fin 64) (d : Fin 128) (X : FVec Ideal S32x64x256 .f32) :
    wqStack Q (k0_pay317 C) X (ix3 b ⟨64 + r, by omega⟩ d)
      = ((q (T + r) d * Real.exp (run g T r) : ℝ) : EReal) := by
  rw [wqStack_bottom, H.hq, H.exp, EReal.coe_mul]

variable {S : FVec Ideal S8x128x128 .f32} {h : Fin 8}
  (hS : ∀ i j, S (ix3 h i j) = ((states (fun t => Real.exp (g t)) β k v T i j : ℝ) : EReal))
include hS

theorem Holds.vn (r : Fin 64) (j : Fin 128) :
    vnAt (uStack V B (k0_pay317 C) (k0_pay318 K B) (aStack Q K B C Ct))
        (wqStack Q (k0_pay317 C) (sol V B (k0_pay317 C) (k0_pay318 K B) (aStack Q K B C Ct))) S b h r j
      = ((fix g β k v T (states (fun t => Real.exp (g t)) β k v T) r j : ℝ) : EReal) := by
  unfold vnAt fix vnew
  rw [H.u, EReal.coe_sub, ← coe_sum]
  simp only [H.w, hS, EReal.coe_mul]

/-- The outputs of the chunk are the queries applied to the states after each token. -/
theorem Holds.out (r : Fin 64) (j : Fin 128) :
    outAt (qkStack Q K B C Ct) (uStack V B (k0_pay317 C) (k0_pay318 K B) (aStack Q K B C Ct))
        (wqStack Q (k0_pay317 C) (sol V B (k0_pay317 C) (k0_pay318 K B) (aStack Q K B C Ct))) S b h r j
      = ((∑ i, q (T + r) i * states (fun t => Real.exp (g t)) β k v (T + r + 1) i j : ℝ) : EReal) := by
  rw [output_chunk, EReal.coe_add, ← coe_sum, ← coe_sum]
  unfold outAt
  simp only [H.vn hS, H.qe, H.qk, hS, EReal.coe_mul]

/-- The next state of the chunk is the state after its 64 tokens. -/
theorem Holds.next (i j : Fin 128) :
    nextAt (uStack V B (k0_pay317 C) (k0_pay318 K B) (aStack Q K B C Ct))
        (wqStack Q (k0_pay317 C) (sol V B (k0_pay317 C) (k0_pay318 K B) (aStack Q K B C Ct))) (kdStack K C)
        (lastStack C) S b h i j
      = ((states (fun t => Real.exp (g t)) β k v (T + 64) i j : ℝ) : EReal) := by
  rw [states_chunk, EReal.coe_add, ← coe_sum]
  unfold nextAt
  simp only [H.vn hS, lastStack_apply, kdStack_apply, H.hc, H.hk, hS, EReal.coe_mul, ← EReal.coe_sub, Ideal.exp_coe]
  rfl

end
end

end Cert.KernelIdeal.Delta
-- ==== Proof.Block.lean ====
module

public import proofs.«01_k».proof.Proof.Stacks
public import proofs.«01_k».proof.Proof.Slabs
public import proofs.«01_k».proof.Proof.Body
public import Idealize.ShloMosaic.Lib.Pointwise
public import Idealize.ShloMosaic.Lib.ValueIdx

/-!
One block of the kernel is 256 steps of the recurrence.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- What the body is given for one block. -/
structure Blk where
  x : Fin 3 → Vec Ideal S256x1024 .f32
  w : Fin 3 → Vec Ideal S1x4x1024 .f32
  past : Fin 3 → Vec Ideal S1x8x1024 .f32
  small : Vec Ideal S256x128 .f32
  al : Vec Ideal S1x1x128 .f32
  dt : Vec Ideal S1x1x128 .f32
  state : Vec Ideal S8x128x128 .f32
  group : BitVec 32

namespace Blk
variable (D : Blk)

def mixed (i : Fin 3) : FVec Ideal S256x1024 .f32 := mix (D.x i) (D.past i) (D.w i)
def la : FVec Ideal S256x128 .f32 := laSlab (k0_pay13 D.group D.small) D.al D.dt
def Q : FVec Ideal S32x64x128 .f32 := qStack (D.mixed 0)
def K : FVec Ideal S32x64x128 .f32 := kStack (D.mixed 1)
def V : FVec Ideal S32x64x128 .f32 := vStack (D.mixed 2)
def B : FVec Ideal S32x64x1 .f32 := betaStack (k0_pay15 D.group D.small)
def C : FVec Ideal S32x64x1 .f32 := bcStack (bcum D.la)
def Ct : FVec Ideal S8x256 .f32 := bcumT D.la
def qk : FVec Ideal S32x64x64 .f32 := qkStack D.Q D.K D.B D.C D.Ct
def solved : FVec Ideal S32x64x256 .f32 :=
  sol D.V D.B (k0_pay317 D.C) (k0_pay318 D.K D.B) (aStack D.Q D.K D.B D.C D.Ct)
def u : FVec Ideal S32x64x128 .f32 :=
  uStack D.V D.B (k0_pay317 D.C) (k0_pay318 D.K D.B) (aStack D.Q D.K D.B D.C D.Ct)
def wq : FVec Ideal S32x128x128 .f32 := wqStack D.Q (k0_pay317 D.C) D.solved
def kd : FVec Ideal S32x128x64 .f32 := kdStack D.K D.C
def last : FVec Ideal S32x1x1 .f32 := lastStack D.C

/-- The state before each chunk, and after the last. -/
def st1 : FVec Ideal S8x128x128 .f32 := next0 D.u D.wq D.K D.C D.state
def st2 : FVec Ideal S8x128x128 .f32 := k0_pay409 D.u D.wq D.kd D.last D.st1
def st3 : FVec Ideal S8x128x128 .f32 := k0_pay430 D.u D.wq D.kd D.last D.st2
def st4 : FVec Ideal S8x128x128 .f32 := k0_pay451 D.u D.wq D.kd D.last D.st3

/-- The outputs of each chunk. -/
def out (c : Fin 4) : FVec Ideal S8x64x128 .f32 :=
  match c with
  | 0 => k0_pay387 D.qk D.u D.wq D.state
  | 1 => k0_pay408 D.qk D.u D.wq D.st1
  | 2 => k0_pay429 D.qk D.u D.wq D.st2
  | 3 => k0_pay450 D.qk D.u D.wq D.st3

end Blk

/-- Column `d` of head `h` of a block. -/
def hcol (h : Fin 8) (d : Fin 128) : Fin 1024 := ⟨h * 128 + d, by omega⟩

theorem col_eq {b : Fin 32} {h : Fin 8} (hb : b.val % 8 = h) (d : Fin 128) : col b d = hcol h d := by
  unfold col hcol
  congr 3

/-- The block holds head `G` of the layer at its head `h`, from token `T`. -/
structure Fed (D : Blk) (G : Head) (g : Fin 2) (h : Fin 8) (T : ℕ) : Prop where
  group : D.group = BitVec.ofNat 32 g
  q : ∀ (r : Fin 256) d, D.x 0 (ix2 r (hcol h d)) = G.q (T + r) d
  k : ∀ (r : Fin 256) d, D.x 1 (ix2 r (hcol h d)) = G.k (T + r) d
  v : ∀ (r : Fin 256) d, D.x 2 (ix2 r (hcol h d)) = G.v (T + r) d
  pq : ∀ (r : Fin 8) d, D.past 0 (ix3 0 r (hcol h d)) = if T + r < 8 then 0 else G.q (T + r - 8) d
  pk : ∀ (r : Fin 8) d, D.past 1 (ix3 0 r (hcol h d)) = if T + r < 8 then 0 else G.k (T + r - 8) d
  pv : ∀ (r : Fin 8) d, D.past 2 (ix3 0 r (hcol h d)) = if T + r < 8 then 0 else G.v (T + r - 8) d
  wq : ∀ i d, D.w 0 (ix3 0 i (hcol h d)) = G.wq i d
  wk : ∀ i d, D.w 1 (ix3 0 i (hcol h d)) = G.wk i d
  wv : ∀ i d, D.w 2 (ix3 0 i (hcol h d)) = G.wv i d
  b : ∀ r : Fin 256, D.small (ix2 r ⟨8 * g + h, by omega⟩) = G.b (T + r)
  a : ∀ r : Fin 256, D.small (ix2 r ⟨8 * g + (16 + h), by omega⟩) = G.a (T + r)
  al : D.al (ix3 0 0 ⟨16 + h, by omega⟩) = G.al
  dt : D.dt (ix3 0 0 ⟨16 + h, by omega⟩) = G.dt

section
variable {D : Blk} {G : Head} {g : Fin 2} {h : Fin 8} {T : ℕ} (F : Fed D G g h T) (R : G.Real)
include F

theorem Fed.mixq (r : Fin 256) (d : Fin 128) : D.mixed 0 (ix2 r (hcol h d)) = Head.mixed G.wq G.q (T + r) d := by
  unfold Blk.mixed Head.mixed
  rw [mix_apply (raw := fun t => G.q t d) (T := T) (fun r => F.q r d) (fun r => F.pq r d)]
  simp only [F.wq]

theorem Fed.mixk (r : Fin 256) (d : Fin 128) : D.mixed 1 (ix2 r (hcol h d)) = Head.mixed G.wk G.k (T + r) d := by
  unfold Blk.mixed Head.mixed
  rw [mix_apply (raw := fun t => G.k t d) (T := T) (fun r => F.k r d) (fun r => F.pk r d)]
  simp only [F.wk]

theorem Fed.mixv (r : Fin 256) (d : Fin 128) : D.mixed 2 (ix2 r (hcol h d)) = Head.mixed G.wv G.v (T + r) d := by
  unfold Blk.mixed Head.mixed
  rw [mix_apply (raw := fun t => G.v t d) (T := T) (fun r => F.v r d) (fun r => F.pv r d)]
  simp only [F.wv]

theorem Fed.la (r : Fin 256) : D.la (ix2 r ⟨16 + h, by omega⟩) = G.logDecay (T + r) := by
  unfold Blk.la
  rw [laSlab_apply _ _ _ _ _ (by dsimp only; omega) (by dsimp only; omega), F.group,
    small_apply g D.small r (16 + h) (by omega), F.a, F.al, F.dt]
  rfl

include R

/-- Each member of the stacks holds the 64 tokens of its chunk. -/
theorem Fed.holds (b : Fin 32) (hb : b.val % 8 = h) :
    Holds (fun t d => (G.query t d).toReal) (fun t d => (G.key t d).toReal) (fun t d => (G.value t d).toReal)
      (fun t => (G.beta t).toReal) (fun t => (G.logDecay t).toReal) D.Q D.K D.V D.B D.C D.Ct b
      (T + 64 * (b / 8)) := by
  have hrow : ∀ r : Fin 64, T + (row b r).val = T + 64 * (b / 8) + r := by intro r; dsimp only [row]; omega
  have hl : lane b = ⟨16 + h, by omega⟩ := by unfold lane; congr 2
  have hl0 : lane0 b = ⟨h, by omega⟩ := by unfold lane0; congr 2
  have hh : head b = h := by unfold head; exact Fin.ext hb
  have hla : ∀ x : Fin 256, D.la (ix2 x ⟨16 + h, by omega⟩) = (((G.logDecay (T + x)).toReal : ℝ) : EReal) := fun x => by
    rw [F.la, ← (R.logDecay _).eq]
  have hrun : ∀ r : Fin 64, ((run (fun t => (G.logDecay t).toReal) (T + 64 * ((row b r).val / 64)) ((row b r).val % 64) : ℝ) : EReal)
      = ((run (fun t => (G.logDecay t).toReal) (T + 64 * (b / 8)) r : ℝ) : EReal) := by
    intro r
    have e1 : (row b r).val / 64 = b / 8 := by dsimp only [row]; omega
    have e2 : (row b r).val % 64 = r := by dsimp only [row]; omega
    rw [e1, e2]
  refine ⟨?_, ?_, ?_, ?_, ?_, ?_⟩
  · intro r d
    unfold Blk.Q
    rw [qStack_apply]
    simp only [col_eq hb, F.mixq, hrow]
    exact (R.query _ _).eq
  · intro r d
    unfold Blk.K
    rw [kStack_apply]
    simp only [col_eq hb, F.mixk, hrow]
    exact (R.key _ _).eq
  · intro r d
    unfold Blk.V
    rw [vStack_apply, col_eq hb, F.mixv, hrow]
    exact (R.value _ _).eq
  · intro r
    unfold Blk.B
    rw [betaStack_apply, hl0, F.group, beta_apply g D.small _ h (by omega), F.b, hrow]
    exact (R.beta _).eq
  · intro r
    unfold Blk.C
    rw [bcStack_apply, hl, bcum_apply, run_sum (fun t => (G.logDecay t).toReal) T _ hla, hrun]
  · intro r
    unfold Blk.Ct
    rw [hh, bcumT_apply, run_sum (fun t => (G.logDecay t).toReal) T _ hla, hrun]

variable (hS : ∀ i j, D.state (ix3 h i j) = ((G.state T i j : ℝ) : EReal))
include hS

theorem Fed.st1 (i j : Fin 128) : D.st1 (ix3 h i j) = ((G.state (T + 64) i j : ℝ) : EReal) := by
  have H := F.holds R ⟨h, by omega⟩ (by dsimp only; omega)
  have e : T + 64 * (h.val / 8) = T := by omega
  dsimp only at H
  rw [e] at H
  unfold Blk.st1
  rw [next0_apply]
  exact H.next hS i j

theorem Fed.st2 (i j : Fin 128) : D.st2 (ix3 h i j) = ((G.state (T + 128) i j : ℝ) : EReal) := by
  have H := F.holds R ⟨8 + h, by omega⟩ (by dsimp only; omega)
  have e : T + 64 * ((8 + h.val) / 8) = T + 64 := by omega
  dsimp only at H
  rw [e] at H
  unfold Blk.st2
  rw [next1_apply]
  exact H.next (F.st1 R hS) i j

theorem Fed.st3 (i j : Fin 128) : D.st3 (ix3 h i j) = ((G.state (T + 192) i j : ℝ) : EReal) := by
  have H := F.holds R ⟨16 + h, by omega⟩ (by dsimp only; omega)
  have e : T + 64 * ((16 + h.val) / 8) = T + 128 := by omega
  dsimp only at H
  rw [e] at H
  unfold Blk.st3
  rw [next2_apply]
  exact H.next (F.st2 R hS) i j

/-- The state after the block is the state after its 256 tokens. -/
theorem Fed.st4 (i j : Fin 128) : D.st4 (ix3 h i j) = ((G.state (T + 256) i j : ℝ) : EReal) := by
  have H := F.holds R ⟨24 + h, by omega⟩ (by dsimp only; omega)
  have e : T + 64 * ((24 + h.val) / 8) = T + 192 := by omega
  dsimp only at H
  rw [e] at H
  unfold Blk.st4
  rw [next3_apply]
  exact H.next (F.st3 R hS) i j

/-- The outputs of each chunk are what the queries read from the states. -/
theorem Fed.out (c : Fin 4) (r : Fin 64) (j : Fin 128) :
    D.out c (ix3 h r j) = ((G.read (T + 64 * c + r) j : ℝ) : EReal) := by
  have H := F.holds R ⟨8 * c + h, by omega⟩ (by dsimp only; omega)
  have e : T + 64 * ((8 * c.val + h.val) / 8) = T + 64 * c := by omega
  dsimp only at H
  rw [e] at H
  fin_cases c
  · exact (out0_apply _ _ _ _ h r j).trans (H.out hS r j)
  · exact (out1_apply _ _ _ _ h r j).trans (H.out (F.st1 R hS) r j)
  · exact (out2_apply _ _ _ _ h r j).trans (H.out (F.st2 R hS) r j)
  · exact (out3_apply _ _ _ _ h r j).trans (H.out (F.st3 R hS) r j)

end

end Cert.KernelIdeal.Delta
-- ==== Proof.Tiles.lean ====
module

public import proofs.«01_k».proof.Proof.Stacks
public import proofs.«01_k».proof.Proof.Block
public import Idealize.ShloMosaic.Lib.Pointwise
public import Idealize.ShloMosaic.Lib.ValueIdx

/-!
The 32 tiles a block stores: each the outputs of one head in one chunk, normalised and gated.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

/-- The tiles, the last one first. -/
def tiles (v852 : FVec Ideal S32x64x64 .f32) (v966 : FVec Ideal S32x64x128 .f32) (v970 : FVec Ideal S32x128x128 .f32) (v1110 : Vec Ideal S8x128x128 .f32) (v1131 : FVec Ideal S8x128x128 .f32) (v1312 : FVec Ideal S8x128x128 .f32) (v1493 : FVec Ideal S8x128x128 .f32) (v1107 : Vec Ideal S1x128 .f32) (v1109 : Vec Ideal S256x1024 .f32) :
    List (View.Piece (Elt Ideal) S256x1024 .bf16) :=
  let v1108 : FVec Ideal S1x128 .f32 := k0_pay384 v1107
  let v1666 : FVec Ideal S8x64x128 .f32 := k0_pay450 v852 v966 v970 v1493
  let v1777 : FVec Ideal S64x128 .f32 := k0_pay462 v1109
  let v1789 : FVec Ideal S64x128 .f32 := k0_pay463 v1108 v1666
  let v1790 : FVec Ideal S64x128 .f32 := k0_pay464 v1109
  let v1736 : FVec Ideal S64x128 .f32 := k0_pay457 v1666
  let v1737 : FVec Ideal S64x128 .f32 := k0_pay458 v1109
  let v1742 : FVec Ideal S64x1 .f32 := k0_pay459 v1666
  let v1696 : FVec Ideal S64x128 .f32 := k0_pay453 v852 v966 v970 v1493
  let v1697 : FVec Ideal S64x128 .f32 := k0_pay454 v1109
  let v1636 : FVec Ideal S64x128 .f32 := k0_pay444 v1109
  let v1485 : FVec Ideal S8x64x128 .f32 := k0_pay429 v852 v966 v970 v1312
  let v1648 : FVec Ideal S64x128 .f32 := k0_pay445 v1108 v1485
  let v1649 : FVec Ideal S64x128 .f32 := k0_pay446 v1109
  let v1595 : FVec Ideal S64x128 .f32 := k0_pay439 v1485
  let v1596 : FVec Ideal S64x128 .f32 := k0_pay440 v1109
  let v1601 : FVec Ideal S64x1 .f32 := k0_pay441 v1485
  let v1555 : FVec Ideal S64x128 .f32 := k0_pay435 v1485
  let v1556 : FVec Ideal S64x128 .f32 := k0_pay436 v1109
  let v1511 : FVec Ideal S64x128 .f32 := k0_pay431 v852 v966 v970 v1108 v1109 v1312
  let v1304 : FVec Ideal S8x64x128 .f32 := k0_pay408 v852 v966 v970 v1131
  let v1454 : FVec Ideal S64x128 .f32 := k0_pay423 v1304
  let v1455 : FVec Ideal S64x128 .f32 := k0_pay424 v1109
  let v1460 : FVec Ideal S64x1 .f32 := k0_pay425 v1304
  let v1414 : FVec Ideal S64x128 .f32 := k0_pay419 v1304
  let v1415 : FVec Ideal S64x128 .f32 := k0_pay420 v1109
  let v1370 : FVec Ideal S64x128 .f32 := (k0_pay415 v1108 v1109 v1304)
  let v1314 : FVec Ideal S64x128 .f32 := k0_pay410 v852 v966 v970 v1131
  let v1315 : FVec Ideal S64x128 .f32 := k0_pay411 v1109
  let v1322 : FVec Ideal S64x1 .f32 := k0_pay412 v852 v966 v970 v1131
  let v1123 : FVec Ideal S8x64x128 .f32 := k0_pay387 v852 v966 v970 v1110
  let v1273 : FVec Ideal S64x128 .f32 := k0_pay403 v1123
  let v1274 : FVec Ideal S64x128 .f32 := k0_pay404 v1109
  let v1229 : FVec Ideal S64x128 .f32 := (k0_pay399 v1108 v1109 v1123)
  let v1173 : FVec Ideal S64x128 .f32 := k0_pay394 v1123
  let v1174 : FVec Ideal S64x128 .f32 := k0_pay395 v1109
  let v1181 : FVec Ideal S64x1 .f32 := k0_pay396 v1123
  let v1133 : FVec Ideal S64x128 .f32 := k0_pay389 v852 v966 v970 v1110
  let v1134 : FVec Ideal S64x128 .f32 := k0_pay390 v1109
  let v1135 : FVec Ideal S64x128 .f32 := k0_pay391 v852 v966 v970 v1110
  [⟨Rect.unit ![192, 896] S64x128.size inb_S256x1024_S64x128_192_896, k0_pay467 v1108 v1109 v1666⟩,
    ⟨Rect.unit ![192, 768] S64x128.size inb_S256x1024_S64x128_192_768, k0_pay466 v1108 v1109 v1666⟩,
    ⟨Rect.unit ![192, 640] S64x128.size inb_S256x1024_S64x128_192_640, k0_pay465 v1777 v1789 v1790⟩,
    ⟨Rect.unit ![192, 512] S64x128.size inb_S256x1024_S64x128_192_512, k0_pay461 v1108 v1109 v1666⟩,
    ⟨Rect.unit ![192, 384] S64x128.size inb_S256x1024_S64x128_192_384, k0_pay460 v1108 v1736 v1737 v1742 (Scalar.ofBits .f32 0x358637BD#32 : Ideal .f32)⟩,
    ⟨Rect.unit ![192, 256] S64x128.size inb_S256x1024_S64x128_192_256, k0_pay456 v1108 v1109 v1666⟩,
    ⟨Rect.unit ![192, 128] S64x128.size inb_S256x1024_S64x128_192_128, k0_pay455 v1108 v1696 v1697⟩,
    ⟨Rect.unit ![192, 0] S64x128.size inb_S256x1024_S64x128_192_0, k0_pay452 v852 v966 v970 v1108 v1109 v1493⟩,
    ⟨Rect.unit ![128, 896] S64x128.size inb_S256x1024_S64x128_128_896, k0_pay447 v1636 v1648 v1649⟩,
    ⟨Rect.unit ![128, 768] S64x128.size inb_S256x1024_S64x128_128_768, k0_pay443 v1108 v1109 v1485⟩,
    ⟨Rect.unit ![128, 640] S64x128.size inb_S256x1024_S64x128_128_640, k0_pay442 v1108 v1595 v1596 v1601 (Scalar.ofBits .f32 0x358637BD#32 : Ideal .f32)⟩,
    ⟨Rect.unit ![128, 512] S64x128.size inb_S256x1024_S64x128_128_512, k0_pay438 v1108 v1109 v1485⟩,
    ⟨Rect.unit ![128, 384] S64x128.size inb_S256x1024_S64x128_128_384, k0_pay437 v1108 v1555 v1556⟩,
    ⟨Rect.unit ![128, 256] S64x128.size inb_S256x1024_S64x128_128_256, k0_pay434 v1108 v1109 v1485⟩,
    ⟨Rect.unit ![128, 128] S64x128.size inb_S256x1024_S64x128_128_128, k0_pay433 v1108 v1109 v1485⟩,
    ⟨Rect.unit ![128, 0] S64x128.size inb_S256x1024_S64x128_128_0, k0_pay432 v1511⟩,
    ⟨Rect.unit ![64, 896] S64x128.size inb_S256x1024_S64x128_64_896, k0_pay426 v1108 v1454 v1455 v1460 (Scalar.ofBits .f32 0x358637BD#32 : Ideal .f32)⟩,
    ⟨Rect.unit ![64, 768] S64x128.size inb_S256x1024_S64x128_64_768, k0_pay422 v1108 v1109 v1304⟩,
    ⟨Rect.unit ![64, 640] S64x128.size inb_S256x1024_S64x128_64_640, k0_pay421 v1108 v1414 v1415⟩,
    ⟨Rect.unit ![64, 512] S64x128.size inb_S256x1024_S64x128_64_512, k0_pay418 v1108 v1109 v1304⟩,
    ⟨Rect.unit ![64, 384] S64x128.size inb_S256x1024_S64x128_64_384, k0_pay417 v1108 v1109 v1304⟩,
    ⟨Rect.unit ![64, 256] S64x128.size inb_S256x1024_S64x128_64_256, k0_pay416 v1370⟩,
    ⟨Rect.unit ![64, 128] S64x128.size inb_S256x1024_S64x128_64_128, k0_pay414 v1108 v1109 v1304⟩,
    ⟨Rect.unit ![64, 0] S64x128.size inb_S256x1024_S64x128_64_0, k0_pay413 v1108 v1314 v1315 v1322⟩,
    ⟨Rect.unit ![0, 896] S64x128.size inb_S256x1024_S64x128_0_896, k0_pay405 v1108 v1273 v1274⟩,
    ⟨Rect.unit ![0, 768] S64x128.size inb_S256x1024_S64x128_0_768, k0_pay402 v1108 v1109 v1123⟩,
    ⟨Rect.unit ![0, 640] S64x128.size inb_S256x1024_S64x128_0_640, k0_pay401 v1108 v1109 v1123⟩,
    ⟨Rect.unit ![0, 512] S64x128.size inb_S256x1024_S64x128_0_512, k0_pay400 v1229⟩,
    ⟨Rect.unit ![0, 384] S64x128.size inb_S256x1024_S64x128_0_384, k0_pay398 v1108 v1109 v1123⟩,
    ⟨Rect.unit ![0, 256] S64x128.size inb_S256x1024_S64x128_0_256, k0_pay397 v1108 v1173 v1174 v1181⟩,
    ⟨Rect.unit ![0, 128] S64x128.size inb_S256x1024_S64x128_0_128, k0_pay393 v1108 v1109 v1123⟩,
    ⟨Rect.unit ![0, 0] S64x128.size inb_S256x1024_S64x128_0_0, k0_pay392 v1108 v1133 v1134 v1135⟩]

/-- The outputs of each chunk, from the states before the chunks. -/
def outOf (v852 : FVec Ideal S32x64x64 .f32) (v966 : FVec Ideal S32x64x128 .f32) (v970 : FVec Ideal S32x128x128 .f32)
    (v1110 v1131 v1312 v1493 : FVec Ideal S8x128x128 .f32) (c : Fin 4) : FVec Ideal S8x64x128 .f32 :=
  match c with
  | 0 => k0_pay387 v852 v966 v970 v1110
  | 1 => k0_pay408 v852 v966 v970 v1131
  | 2 => k0_pay429 v852 v966 v970 v1312
  | 3 => k0_pay450 v852 v966 v970 v1493

section
variable (o : Fin 4 → FVec Ideal S8x64x128 .f32) (nw : Vec Ideal S1x128 .f32) (z : Vec Ideal S256x1024 .f32)

/-- The block of results at an index. -/
def blockAt (y : S256x1024.Idx) : EReal :=
  Head.gated (fun e => o ⟨(y 0).val / 64, by have := (y 0).isLt; change _ < 256 at this; omega⟩
      (ix3 ⟨(y 1).val / 128, by have := (y 1).isLt; change _ < 1024 at this; omega⟩
        ⟨(y 0).val % 64, by omega⟩ e))
    (nw (ix2 0 ⟨(y 1).val % 128, by omega⟩)) (z y) ⟨(y 1).val % 128, by omega⟩

theorem blockAt_tile (c : Fin 4) (h : Fin 8) (r : Fin 64) (j : Fin 128) :
    blockAt o nw z (ix2 ⟨64 * c + r, by omega⟩ ⟨128 * h + j, by omega⟩)
      = Head.gated (fun e => o c (ix3 h r e)) (nw (ix2 0 j)) (z (ix2 ⟨64 * c + r, by omega⟩ ⟨128 * h + j, by omega⟩)) j := by
  have e1 : (⟨(64 * c.val + r.val) / 64, by omega⟩ : Fin 4) = c := Fin.ext (by dsimp only; omega)
  have e2 : (⟨(128 * h.val + j.val) / 128, by omega⟩ : Fin 8) = h := Fin.ext (by dsimp only; omega)
  have e3 : (⟨(64 * c.val + r.val) % 64, by omega⟩ : Fin 64) = r := Fin.ext (by dsimp only; omega)
  have e4 : (⟨(128 * h.val + j.val) % 128, by omega⟩ : Fin 128) = j := Fin.ext (by dsimp only; omega)
  show Head.gated (fun e => o ⟨(64 * c.val + r.val) / 64, _⟩ (ix3 ⟨(128 * h.val + j.val) / 128, _⟩ ⟨(64 * c.val + r.val) % 64, _⟩ e))
    (nw (ix2 0 ⟨(128 * h.val + j.val) % 128, _⟩)) (z (ix2 ⟨64 * c + r, by omega⟩ ⟨128 * h + j, by omega⟩))
    ⟨(128 * h.val + j.val) % 128, _⟩ = _
  rw [e1, e2, e3, e4]

theorem tile_ok (c : Fin 4) (h : Fin 8) (w : S64x128.Idx → EReal) (off : Fin 2 → ℕ) (inb : ∀ a, off a + S64x128.size a ≤ S256x1024.size a)
    (h0 : off 0 = 64 * c) (h1 : off 1 = 128 * h)
    (hw : ∀ (r : Fin 64) (j : Fin 128), w (ix2 r j)
      = Head.gated (fun e => o c (ix3 h r e)) (nw (ix2 0 j)) (z (ix2 ⟨64 * c + r, by omega⟩ ⟨128 * h + j, by omega⟩)) j)
    (x : S64x128.Idx) :
    w x = blockAt o nw z ((Rect.unit (s := S256x1024) off S64x128.size inb).emb x) := by
  obtain ⟨r, j, rfl⟩ : ∃ r j, x = ix2 r j := ⟨x 0, x 1, by funext a; fin_cases a <;> rfl⟩
  rw [hw, ← blockAt_tile]
  congr 1
  funext a
  fin_cases a
  · apply Fin.ext
    rw [Rect.emb_apply]
    simp [h0]
  · apply Fin.ext
    rw [Rect.emb_apply]
    simp [h1]

end

set_option maxHeartbeats 4000000 in
theorem tiles_ok (v852 : FVec Ideal S32x64x64 .f32) (v966 : FVec Ideal S32x64x128 .f32) (v970 : FVec Ideal S32x128x128 .f32) (v1110 : Vec Ideal S8x128x128 .f32) (v1131 : FVec Ideal S8x128x128 .f32) (v1312 : FVec Ideal S8x128x128 .f32) (v1493 : FVec Ideal S8x128x128 .f32) (v1107 : Vec Ideal S1x128 .f32) (v1109 : Vec Ideal S256x1024 .f32) :
    ∀ p ∈ tiles v852 v966 v970 v1110 v1131 v1312 v1493 v1107 v1109, ∀ x,
      p.2 x = blockAt (outOf v852 v966 v970 v1110 v1131 v1312 v1493) v1107 v1109 (p.1.emb x) := by
  unfold tiles
  simp only [List.forall_mem_cons]
  refine ⟨tile_ok _ _ _ 3 7 _ _ _ rfl rfl ?_, tile_ok _ _ _ 3 6 _ _ _ rfl rfl ?_, tile_ok _ _ _ 3 5 _ _ _ rfl rfl ?_, tile_ok _ _ _ 3 4 _ _ _ rfl rfl ?_, tile_ok _ _ _ 3 3 _ _ _ rfl rfl ?_, tile_ok _ _ _ 3 2 _ _ _ rfl rfl ?_, tile_ok _ _ _ 3 1 _ _ _ rfl rfl ?_, tile_ok _ _ _ 3 0 _ _ _ rfl rfl ?_, tile_ok _ _ _ 2 7 _ _ _ rfl rfl ?_, tile_ok _ _ _ 2 6 _ _ _ rfl rfl ?_, tile_ok _ _ _ 2 5 _ _ _ rfl rfl ?_, tile_ok _ _ _ 2 4 _ _ _ rfl rfl ?_, tile_ok _ _ _ 2 3 _ _ _ rfl rfl ?_, tile_ok _ _ _ 2 2 _ _ _ rfl rfl ?_, tile_ok _ _ _ 2 1 _ _ _ rfl rfl ?_, tile_ok _ _ _ 2 0 _ _ _ rfl rfl ?_, tile_ok _ _ _ 1 7 _ _ _ rfl rfl ?_, tile_ok _ _ _ 1 6 _ _ _ rfl rfl ?_, tile_ok _ _ _ 1 5 _ _ _ rfl rfl ?_, tile_ok _ _ _ 1 4 _ _ _ rfl rfl ?_, tile_ok _ _ _ 1 3 _ _ _ rfl rfl ?_, tile_ok _ _ _ 1 2 _ _ _ rfl rfl ?_, tile_ok _ _ _ 1 1 _ _ _ rfl rfl ?_, tile_ok _ _ _ 1 0 _ _ _ rfl rfl ?_, tile_ok _ _ _ 0 7 _ _ _ rfl rfl ?_, tile_ok _ _ _ 0 6 _ _ _ rfl rfl ?_, tile_ok _ _ _ 0 5 _ _ _ rfl rfl ?_, tile_ok _ _ _ 0 4 _ _ _ rfl rfl ?_, tile_ok _ _ _ 0 3 _ _ _ rfl rfl ?_, tile_ok _ _ _ 0 2 _ _ _ rfl rfl ?_, tile_ok _ _ _ 0 1 _ _ _ rfl rfl ?_, tile_ok _ _ _ 0 0 _ _ _ rfl rfl ?_, fun p hp => absurd hp (List.not_mem_nil)⟩
  all_goals
    intro r j
    simp only [k0_pay384, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay452, k0_pay453, k0_pay454, k0_pay455, k0_pay456, k0_pay457, k0_pay458, k0_pay459, k0_pay460, k0_pay461, k0_pay462, k0_pay463, k0_pay464, k0_pay465, k0_pay466, k0_pay467, outOf, Head.gated, silu]
    pointwise
    try simp

end Cert.KernelIdeal.Delta
-- ==== Proof.Load.lean ====
module

public import proofs.«01_k».proof.Proof.Gen.KernelIdeal.Frame
public import proofs.«01_k».proof.Proof.Tiles

public import Idealize.ShloMosaic.Lib.Pipeline.ValueKit.Tiles
public import Idealize.ShloMosaic.Lib.Pointwise
public import Idealize.ShloMosaic.Lib.ValueIdx

/-!
The loads and stores of one block.
-/

@[expose] public section

set_option maxRecDepth 65536

noncomputable section

open Idealize.ShloMosaic Idealize.ShloMosaic.TcCoe Idealize.SL.Sem
open scoped BigOperators

namespace Cert.KernelIdeal.Delta

open Cert.KernelIdeal Cert.KernelIdeal.Gen Cert.Delta

/-- The block of the kernel's inputs, the state and the carried rows. -/
def blk (i : grid0.Coords) (x0 x1 x2 : Vec Ideal S256x1024 .f32) (x4 : Vec Ideal S256x128 .f32)
    (x5 x6 x7 : Vec Ideal S1x4x1024 .f32) (x8 x9 : Vec Ideal S1x1x128 .f32) (s : Vec Ideal S8x128x128 .f32)
    (p : Fin 3 → Vec Ideal S1x8x1024 .f32) : Blk where
  x := ![x0, x1, x2]
  w := ![x5, x6, x7]
  past := p
  small := x4
  al := x8
  dt := x9
  state := s
  group := BitVec.ofNat 32 (i 0).val

/-- The carried rows of one projection. -/
def slab (xs1 : Vec Ideal S3x8x1024 .f32) (i : Fin 3) : Vec Ideal S1x8x1024 .f32 := fun y => xs1 (ix3 i (y 1) (y 2))

/-- The last eight rows of each projection. -/
def lastRows (x : Fin 3 → Vec Ideal S256x1024 .f32) : Vec Ideal S3x8x1024 .f32 := fun y =>
  x (y 0) (ix2 ⟨248 + (y 1).val, by have := (y 1).isLt; change _ < 8 at this; omega⟩ (y 2))

theorem hz2 : (![0, 0] : Fin 2 → ℕ) = fun _ => 0 := by decide
theorem hz3 : (![0, 0, 0] : Fin 3 → ℕ) = fun _ => 0 := by decide

/-- A load of a whole buffer gives what it holds. -/
theorem load_whole {S : Shape} {t : EltTy} (arg : Memref sig .tc .vmem S t) (h : arg.IsWhole) {off : Fin S.rank → ℕ}
    (hz : off = fun _ => 0) (inb : ∀ a, off a + S.size a ≤ S.size a) (x : Vec Ideal S t) :
    View.readAt (Elt Ideal) arg.view (Rect.unit off S.size inb).toLoadRect (h.unread x) = x := by
  rw [View.readAt_eq_ld, h.read_unread, View.ld_unit_zero (S := S) hz]

theorem load_slab (arg : Memref sig .tc .vmem S3x8x1024 .f32) (h : arg.IsWhole) (k : Fin 3)
    (inb : ∀ a, (![k.val, 0, 0] : Fin 3 → ℕ) a + S1x8x1024.size a ≤ S3x8x1024.size a) (x : Vec Ideal S3x8x1024 .f32) :
    View.readAt (s := S3x8x1024) (Elt Ideal) arg.view (Rect.unit (s := S3x8x1024) ![k.val, 0, 0] S1x8x1024.size inb).toLoadRect (h.unread x)
      = slab x k := by
  rw [View.readAt_eq_ld, h.read_unread]
  funext y
  have : (y 0).val = 0 := by have := (y 0).isLt; change _ < 1 at this; omega
  refine congrArg x ?_
  funext a
  apply Fin.ext
  rw [Rect.idx_unit_val]
  fin_cases a
  · show k.val + (y 0).val = k.val
    rw [this, Nat.add_zero]
  · exact Nat.zero_add _
  · exact Nat.zero_add _

theorem canon_at {s : Shape} {t : EltTy} (R : Rect s) (w : R.shape.Idx → Elt Ideal t) (L : List (View.Piece (Elt Ideal) s t)) (x : R.shape.Idx)
    (y : s.Idx) (e : R.emb x = y) : View.canon (⟨R, w⟩ :: L) y = w x := e ▸ View.canon_cons_emb R w L x

/-- A store of one slab, read at an index. -/
theorem canon_slab (k : Fin 3) (inb : ∀ a, (![k.val, 0, 0] : Fin 3 → ℕ) a + S1x8x1024.size a ≤ S3x8x1024.size a)
    (w : S1x8x1024.Idx → EReal) (L : List (View.Piece (Elt Ideal) S3x8x1024 .f32)) (i : Fin 3) (r : Fin 8) (j : Fin 1024) :
    View.canon (⟨Rect.unit (s := S3x8x1024) ![k.val, 0, 0] S1x8x1024.size inb, w⟩ :: L) (ix3 i r j)
      = if i = k then w (ix3 0 r j) else View.canon L (ix3 i r j) := by
  split_ifs with h
  · subst h
    have e : (Rect.unit (s := S3x8x1024) ![i.val, 0, 0] S1x8x1024.size inb).emb (ix3 0 r j : S1x8x1024.Idx) = ix3 i r j := by
      funext a
      apply Fin.ext
      rw [Rect.emb_apply]
      fin_cases a <;> simp
    exact canon_at _ _ _ _ _ e
  · apply View.canon_cons_of_not_mem
    intro hm
    obtain ⟨h0, h1⟩ := (Rect.mem_set_unit (inb := inb)).mp hm 0
    change k.val ≤ i.val at h0
    change i.val < k.val + 1 at h1
    exact h (Fin.ext (by omega))

/-- The rows stored for the next block. -/
theorem pay_rows (x : Vec Ideal S256x1024 .f32) (r : Fin 8) (j : Fin 1024) :
    k0_pay4 (F := Ideal) x (ix3 0 r j) = x (ix2 ⟨248 + r, by omega⟩ j) := by
  simp only [k0_pay4]
  pointwise

/-- The stores of the carried rows, read back. -/
theorem carry_eq (x0 x1 x2 : Vec Ideal S256x1024 .f32) (L : List (View.Piece (Elt Ideal) S3x8x1024 .f32)) :
    View.canon ((⟨Rect.unit ![2, 0, 0] S1x8x1024.size inb_S3x8x1024_S1x8x1024_2_0_0, k0_pay11 (F := Ideal) x2⟩ : View.Piece (Elt Ideal) S3x8x1024 .f32)
      :: (⟨Rect.unit ![1, 0, 0] S1x8x1024.size inb_S3x8x1024_S1x8x1024_1_0_0, k0_pay6 (F := Ideal) x1⟩ : View.Piece (Elt Ideal) S3x8x1024 .f32)
      :: (⟨Rect.unit ![0, 0, 0] S1x8x1024.size inb_S3x8x1024_S1x8x1024_0_0_0, k0_pay4 (F := Ideal) x0⟩ : View.Piece (Elt Ideal) S3x8x1024 .f32) :: L) = lastRows ![x0, x1, x2] := by
  funext y
  obtain ⟨i, r, j, rfl⟩ : ∃ i r j, y = ix3 i r j := ⟨y 0, y 1, y 2, by funext a; fin_cases a <;> rfl⟩
  refine (canon_slab 2 _ _ _ i r j).trans ?_
  split_ifs with h
  · subst h; exact pay_rows x2 r j
  refine (canon_slab 1 _ _ _ i r j).trans ?_
  split_ifs with h
  · subst h; exact pay_rows x1 r j
  refine (canon_slab 0 _ _ _ i r j).trans ?_
  split_ifs with h
  · subst h; exact pay_rows x0 r j
  · fin_cases i <;> simp_all

theorem zeros3_eq : (k0_pay3 (F := Ideal)) = fun _ => 0 := by
  funext y
  simp only [k0_pay3]
  pointwise

theorem zeros_eq : (k0_pay2 (F := Ideal)) = fun _ => 0 := by
  funext y
  simp only [k0_pay2]
  pointwise

/-- A slab read back through writes that left zeros in it. -/
theorem readCov_zero (arg : Memref sig .tc .vmem S3x8x1024 .f32) (L : List (View.Piece (Elt Ideal) S3x8x1024 .f32)) (k : Fin 3)
    (inb : ∀ a, (![k.val, 0, 0] : Fin 3 → ℕ) a + S1x8x1024.size a ≤ S3x8x1024.size a)
    (h : ∀ r j, View.canon L (ix3 k r j) = (0 : EReal)) :
    arg.view.readCov L (Rect.unit (s := S3x8x1024) ![k.val, 0, 0] S1x8x1024.size inb).toLoadRect = fun _ => (0 : EReal) := by
  rw [View.readCov_eq_canon']
  funext y
  refine Eq.trans (congrArg _ ?_) (h (y 1) (y 2))
  funext a
  apply Fin.ext
  have : (y 0).val = 0 := by have := (y 0).isLt; change _ < 1 at this; omega
  rw [Rect.idx_unit_val]
  fin_cases a
  · show k.val + (y 0).val = k.val
    rw [this, Nat.add_zero]
  · exact Nat.zero_add _
  · exact Nat.zero_add _

end Cert.KernelIdeal.Delta
-- ==== Proof.RunA.lean ====
module

public import proofs.«01_k».proof.Proof.Gen.KernelIdeal.Frame
public import proofs.«01_k».proof.Proof.Load

/-!
The first block of a group of heads: the state and the carried rows start at zero.
-/

@[expose] public section

set_option maxRecDepth 65536

noncomputable section

open Idealize.ShloMosaic Idealize.ShloMosaic.TcCoe Idealize.SL.Sem
open scoped BigOperators

namespace Cert.KernelIdeal.Delta

open Cert.KernelIdeal Cert.KernelIdeal.Gen Cert.Delta

namespace CaseA

section
variable (c : Dev nD) (i : grid0.Coords)
  (arg2 : Memref sig .tc .vmem S256x1024 .f32) (harg2 : arg2.IsWhole) (arg3 : Memref sig .tc .vmem S256x1024 .f32)
  (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S256x128 .f32)
  (harg6 : arg6.IsWhole) (arg7 : Memref sig .tc .vmem S1x4x1024 .f32) (harg7 : arg7.IsWhole)
  (arg8 : Memref sig .tc .vmem S1x4x1024 .f32) (harg8 : arg8.IsWhole) (arg9 : Memref sig .tc .vmem S1x4x1024 .f32)
  (harg9 : arg9.IsWhole) (arg10 : Memref sig .tc .vmem S1x1x128 .f32) (harg10 : arg10.IsWhole)
  (arg11 : Memref sig .tc .vmem S1x1x128 .f32) (harg11 : arg11.IsWhole) (arg12 : Memref sig .tc .vmem S1x128 .f32)
  (harg12 : arg12.IsWhole) (arg13 : Memref sig .tc .vmem S256x1024 .bf16) (harg13 : arg13.IsWhole)
  (arg14 : Memref sig .tc .vmem S8x128x128 .f32) (harg14 : arg14.IsWhole)
  (arg15 : Memref sig .tc .vmem S3x8x1024 .f32) (harg15 : arg15.IsWhole)
  (x0 x1 x2 x3 : Vec Ideal S256x1024 .f32) (x4 : Vec Ideal S256x128 .f32) (x5 x6 x7 : Vec Ideal S1x4x1024 .f32)
  (x8 x9 : Vec Ideal S1x1x128 .f32) (x10 : Vec Ideal S1x128 .f32) (xs0 : Vec Ideal S8x128x128 .f32)
  (xs1 : Vec Ideal S3x8x1024 .f32)

/-- The block. -/
def dA : Blk := blk i x0 x1 x2 x4 x5 x6 x7 x8 x9 (fun _ => (0 : EReal)) (fun _ _ => (0 : EReal))

/-! The words of the run, one by one. -/

theorem z1 (k : Fin 3) (r : Fin 8) (j : Fin 1024) : View.canon (kernelRun0_A.sl.HS1_1 (F := Ideal)) (ix3 k r j) = (0 : EReal) := by
  unfold kernelRun0_A.sl.HS1_1
  rw [View.canon_unit_zero (S := S3x8x1024) hz3, zeros3_eq]

theorem past0 : (kernelRun0_A.sl.v4 (F := Ideal) c arg15) = fun _ => (0 : EReal) :=
  readCov_zero arg15 _ 0 _ fun r j => z1 0 r j

theorem past1 : (kernelRun0_A.sl.v37 (F := Ideal) c arg2 harg2 arg15 x0) = fun _ => (0 : EReal) :=
  readCov_zero arg15 _ 1 _ fun r j => (canon_slab 0 _ _ _ 1 r j).trans ((if_neg (by decide)).trans (z1 1 r j))

theorem past2 : (kernelRun0_A.sl.v70 (F := Ideal) c arg2 harg2 arg3 harg3 arg15 x0 x1) = fun _ => (0 : EReal) :=
  readCov_zero arg15 _ 2 _ fun r j => (canon_slab 1 _ _ _ 2 r j).trans ((if_neg (by decide)).trans
    ((canon_slab 0 _ _ _ 2 r j).trans ((if_neg (by decide)).trans (z1 2 r j))))

theorem state0 : (kernelRun0_A.sl.v1110 (F := Ideal) c arg14) = fun _ => (0 : EReal) := by
  unfold kernelRun0_A.sl.v1110 kernelRun0_A.sl.HS0_1
  rw [View.readCov_unit_zero (S := S8x128x128) _ hz3, zeros_eq]
  rfl

theorem mixed0 : (kernelRun0_A.sl.r (F := Ideal) c arg2 harg2 arg7 harg7 arg15 x0 x5) = (dA i x0 x1 x2 x4 x5 x6 x7 x8 x9).mixed 0 := by
  show k0_pay5 _ (kernelRun0_A.sl.v4 (F := Ideal) c arg15) _ = _
  rw [load_whole (S := S256x1024) arg2 harg2 hz2 _ x0, load_whole (S := S1x4x1024) arg7 harg7 hz3 _ x5, past0]
  rfl

theorem mixed1 : (kernelRun0_A.sl.r_2 (F := Ideal) c arg2 harg2 arg3 harg3 arg8 harg8 arg15 x0 x1 x6) = (dA i x0 x1 x2 x4 x5 x6 x7 x8 x9).mixed 1 :=
  (show (kernelRun0_A.sl.r_2 (F := Ideal) c arg2 harg2 arg3 harg3 arg8 harg8 arg15 x0 x1 x6) = mix (kernelRun0_A.sl.r_1 (F := Ideal) c arg3 harg3 x1) (kernelRun0_A.sl.v37 (F := Ideal) c arg2 harg2 arg15 x0) (View.readAt (Elt Ideal) arg8.view (Rect.unit ![0, 0, 0] S1x4x1024.size inb_S1x4x1024_S1x4x1024_0_0_0).toLoadRect (harg8.unread x6)) from rfl).trans (by
    rw [(show (kernelRun0_A.sl.r_1 (F := Ideal) c arg3 harg3 x1) = x1 from load_whole (S := S256x1024) arg3 harg3 hz2 _ x1), past1, load_whole (S := S1x4x1024) arg8 harg8 hz3 _ x6]
    rfl)

theorem mixed2 : (kernelRun0_A.sl.r_7 (F := Ideal) c arg2 harg2 arg3 harg3 arg4 harg4 arg9 harg9 arg15 x0 x1 x2 x7) = (dA i x0 x1 x2 x4 x5 x6 x7 x8 x9).mixed 2 :=
  (show (kernelRun0_A.sl.r_7 (F := Ideal) c arg2 harg2 arg3 harg3 arg4 harg4 arg9 harg9 arg15 x0 x1 x2 x7) = mix (kernelRun0_A.sl.r_3 (F := Ideal) c arg4 harg4 x2) (kernelRun0_A.sl.v70 (F := Ideal) c arg2 harg2 arg3 harg3 arg15 x0 x1) (View.readAt (Elt Ideal) arg9.view (Rect.unit ![0, 0, 0] S1x4x1024.size inb_S1x4x1024_S1x4x1024_0_0_0).toLoadRect (harg9.unread x7)) from rfl).trans (by
    rw [(show (kernelRun0_A.sl.r_3 (F := Ideal) c arg4 harg4 x2) = x2 from load_whole (S := S256x1024) arg4 harg4 hz2 _ x2), past2, load_whole (S := S1x4x1024) arg9 harg9 hz3 _ x7]
    rfl)

theorem la : (kernelRun0_A.sl.r_11 (F := Ideal) c i arg6 harg6 arg10 harg10 arg11 harg11 x4 x8 x9) = (dA i x0 x1 x2 x4 x5 x6 x7 x8 x9).la := by
  show laSlab (k0_pay13 _ _) _ _ = _
  rw [load_whole (S := S256x128) arg6 harg6 hz2 _ x4, load_whole (S := S1x1x128) arg10 harg10 hz3 _ x8, load_whole (S := S1x1x128) arg11 harg11 hz3 _ x9]
  rfl

theorem small : (kernelRun0_A.sl.r_10 (F := Ideal) c i arg6 harg6 x4) = k0_pay15 (dA i x0 x1 x2 x4 x5 x6 x7 x8 x9).group (dA i x0 x1 x2 x4 x5 x6 x7 x8 x9).small := by
  show k0_pay15 _ _ = _
  rw [load_whole (S := S256x128) arg6 harg6 hz2 _ x4]
  rfl

theorem q_eq : (kernelRun0_A.sl.r_189 (F := Ideal) c arg2 harg2 arg7 harg7 arg15 x0 x5) = (dA i x0 x1 x2 x4 x5 x6 x7 x8 x9).Q :=
  (show (kernelRun0_A.sl.r_189 (F := Ideal) c arg2 harg2 arg7 harg7 arg15 x0 x5) = qStack (kernelRun0_A.sl.r (F := Ideal) c arg2 harg2 arg7 harg7 arg15 x0 x5) from rfl).trans (by rw [mixed0]; rfl)

theorem k_eq : (kernelRun0_A.sl.r_200 (F := Ideal) c arg2 harg2 arg3 harg3 arg8 harg8 arg15 x0 x1 x6) = (dA i x0 x1 x2 x4 x5 x6 x7 x8 x9).K :=
  (show (kernelRun0_A.sl.r_200 (F := Ideal) c arg2 harg2 arg3 harg3 arg8 harg8 arg15 x0 x1 x6) = kStack (kernelRun0_A.sl.r_2 (F := Ideal) c arg2 harg2 arg3 harg3 arg8 harg8 arg15 x0 x1 x6) from rfl).trans (by rw [mixed1]; rfl)

theorem v_eq : (kernelRun0_A.sl.r_201 (F := Ideal) c arg2 harg2 arg3 harg3 arg4 harg4 arg9 harg9 arg15 x0 x1 x2 x7) = (dA i x0 x1 x2 x4 x5 x6 x7 x8 x9).V :=
  (show (kernelRun0_A.sl.r_201 (F := Ideal) c arg2 harg2 arg3 harg3 arg4 harg4 arg9 harg9 arg15 x0 x1 x2 x7) = vStack (kernelRun0_A.sl.r_7 (F := Ideal) c arg2 harg2 arg3 harg3 arg4 harg4 arg9 harg9 arg15 x0 x1 x2 x7) from rfl).trans (by rw [mixed2]; rfl)

theorem beta_eq : (kernelRun0_A.sl.r_206 (F := Ideal) c i arg6 harg6 x4) = (dA i x0 x1 x2 x4 x5 x6 x7 x8 x9).B :=
  (show (kernelRun0_A.sl.r_206 (F := Ideal) c i arg6 harg6 x4) = betaStack (kernelRun0_A.sl.r_10 (F := Ideal) c i arg6 harg6 x4) from rfl).trans (by rw [small]; rfl)

theorem bcum_eq : (kernelRun0_A.sl.r_12 (F := Ideal) c i arg6 harg6 arg10 harg10 arg11 harg11 x4 x8 x9) = bcum (dA i x0 x1 x2 x4 x5 x6 x7 x8 x9).la :=
  (show (kernelRun0_A.sl.r_12 (F := Ideal) c i arg6 harg6 arg10 harg10 arg11 harg11 x4 x8 x9) = bcum (kernelRun0_A.sl.r_11 (F := Ideal) c i arg6 harg6 arg10 harg10 arg11 harg11 x4 x8 x9) from rfl).trans (by rw [la])

theorem bc_eq : (kernelRun0_A.sl.r_238 (F := Ideal) c i arg6 harg6 arg10 harg10 arg11 harg11 x4 x8 x9) = (dA i x0 x1 x2 x4 x5 x6 x7 x8 x9).C :=
  (show (kernelRun0_A.sl.r_238 (F := Ideal) c i arg6 harg6 arg10 harg10 arg11 harg11 x4 x8 x9) = bcStack (kernelRun0_A.sl.r_12 (F := Ideal) c i arg6 harg6 arg10 harg10 arg11 harg11 x4 x8 x9) from rfl).trans (by rw [bcum_eq]; rfl)

theorem bcumT_eq : (kernelRun0_A.sl.r_14 (F := Ideal) c i arg6 harg6 arg10 harg10 arg11 harg11 x4 x8 x9) = (dA i x0 x1 x2 x4 x5 x6 x7 x8 x9).Ct :=
  (show (kernelRun0_A.sl.r_14 (F := Ideal) c i arg6 harg6 arg10 harg10 arg11 harg11 x4 x8 x9) = bcumT (kernelRun0_A.sl.r_11 (F := Ideal) c i arg6 harg6 arg10 harg10 arg11 harg11 x4 x8 x9) from rfl).trans (by rw [la]; rfl)

theorem qk_eq : (kernelRun0_A.sl.r_273 (F := Ideal) c i arg2 harg2 arg3 harg3 arg6 harg6 arg7 harg7 arg8 harg8 arg10 harg10 arg11 harg11 arg15 x0 x1 x4 x5 x6 x8 x9) = (dA i x0 x1 x2 x4 x5 x6 x7 x8 x9).qk :=
  (show (kernelRun0_A.sl.r_273 (F := Ideal) c i arg2 harg2 arg3 harg3 arg6 harg6 arg7 harg7 arg8 harg8 arg10 harg10 arg11 harg11 arg15 x0 x1 x4 x5 x6 x8 x9) = qkStack (kernelRun0_A.sl.r_189 (F := Ideal) c arg2 harg2 arg7 harg7 arg15 x0 x5) (kernelRun0_A.sl.r_200 (F := Ideal) c arg2 harg2 arg3 harg3 arg8 harg8 arg15 x0 x1 x6) (kernelRun0_A.sl.r_206 (F := Ideal) c i arg6 harg6 x4) (kernelRun0_A.sl.r_238 (F := Ideal) c i arg6 harg6 arg10 harg10 arg11 harg11 x4 x8 x9) (kernelRun0_A.sl.r_14 (F := Ideal) c i arg6 harg6 arg10 harg10 arg11 harg11 x4 x8 x9) from rfl).trans (by rw [q_eq, k_eq, beta_eq, bc_eq, bcumT_eq]; rfl)

theorem a_eq : (kernelRun0_A.sl.r_274 (F := Ideal) c i arg2 harg2 arg3 harg3 arg6 harg6 arg7 harg7 arg8 harg8 arg10 harg10 arg11 harg11 arg15 x0 x1 x4 x5 x6 x8 x9) = aStack (dA i x0 x1 x2 x4 x5 x6 x7 x8 x9).Q (dA i x0 x1 x2 x4 x5 x6 x7 x8 x9).K (dA i x0 x1 x2 x4 x5 x6 x7 x8 x9).B (dA i x0 x1 x2 x4 x5 x6 x7 x8 x9).C (dA i x0 x1 x2 x4 x5 x6 x7 x8 x9).Ct :=
  (show (kernelRun0_A.sl.r_274 (F := Ideal) c i arg2 harg2 arg3 harg3 arg6 harg6 arg7 harg7 arg8 harg8 arg10 harg10 arg11 harg11 arg15 x0 x1 x4 x5 x6 x8 x9) = aStack (kernelRun0_A.sl.r_189 (F := Ideal) c arg2 harg2 arg7 harg7 arg15 x0 x5) (kernelRun0_A.sl.r_200 (F := Ideal) c arg2 harg2 arg3 harg3 arg8 harg8 arg15 x0 x1 x6) (kernelRun0_A.sl.r_206 (F := Ideal) c i arg6 harg6 x4) (kernelRun0_A.sl.r_238 (F := Ideal) c i arg6 harg6 arg10 harg10 arg11 harg11 x4 x8 x9) (kernelRun0_A.sl.r_14 (F := Ideal) c i arg6 harg6 arg10 harg10 arg11 harg11 x4 x8 x9) from rfl).trans (by rw [q_eq, k_eq, beta_eq, bc_eq, bcumT_eq])

theorem u_eq : (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) = (dA i x0 x1 x2 x4 x5 x6 x7 x8 x9).u :=
  (show (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) = uStack (kernelRun0_A.sl.r_201 (F := Ideal) c arg2 harg2 arg3 harg3 arg4 harg4 arg9 harg9 arg15 x0 x1 x2 x7) (kernelRun0_A.sl.r_206 (F := Ideal) c i arg6 harg6 x4) (k0_pay317 (kernelRun0_A.sl.r_238 (F := Ideal) c i arg6 harg6 arg10 harg10 arg11 harg11 x4 x8 x9)) (k0_pay318 (kernelRun0_A.sl.r_200 (F := Ideal) c arg2 harg2 arg3 harg3 arg8 harg8 arg15 x0 x1 x6) (kernelRun0_A.sl.r_206 (F := Ideal) c i arg6 harg6 x4)) (kernelRun0_A.sl.r_274 (F := Ideal) c i arg2 harg2 arg3 harg3 arg6 harg6 arg7 harg7 arg8 harg8 arg10 harg10 arg11 harg11 arg15 x0 x1 x4 x5 x6 x8 x9) from rfl).trans (by rw [v_eq, beta_eq, bc_eq, k_eq, a_eq]; rfl)

theorem wq_eq : (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) = (dA i x0 x1 x2 x4 x5 x6 x7 x8 x9).wq :=
  (show (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) = wqStack (kernelRun0_A.sl.r_189 (F := Ideal) c arg2 harg2 arg7 harg7 arg15 x0 x5) (k0_pay317 (kernelRun0_A.sl.r_238 (F := Ideal) c i arg6 harg6 arg10 harg10 arg11 harg11 x4 x8 x9)) (sol (kernelRun0_A.sl.r_201 (F := Ideal) c arg2 harg2 arg3 harg3 arg4 harg4 arg9 harg9 arg15 x0 x1 x2 x7) (kernelRun0_A.sl.r_206 (F := Ideal) c i arg6 harg6 x4) (k0_pay317 (kernelRun0_A.sl.r_238 (F := Ideal) c i arg6 harg6 arg10 harg10 arg11 harg11 x4 x8 x9)) (k0_pay318 (kernelRun0_A.sl.r_200 (F := Ideal) c arg2 harg2 arg3 harg3 arg8 harg8 arg15 x0 x1 x6) (kernelRun0_A.sl.r_206 (F := Ideal) c i arg6 harg6 x4)) (kernelRun0_A.sl.r_274 (F := Ideal) c i arg2 harg2 arg3 harg3 arg6 harg6 arg7 harg7 arg8 harg8 arg10 harg10 arg11 harg11 arg15 x0 x1 x4 x5 x6 x8 x9)) from rfl).trans (by rw [q_eq, v_eq, beta_eq, bc_eq, k_eq, a_eq]; rfl)

theorem kd_eq : (kernelRun0_A.sl.r_330 (F := Ideal) c i arg2 harg2 arg3 harg3 arg6 harg6 arg8 harg8 arg10 harg10 arg11 harg11 arg15 x0 x1 x4 x6 x8 x9) = (dA i x0 x1 x2 x4 x5 x6 x7 x8 x9).kd :=
  (show (kernelRun0_A.sl.r_330 (F := Ideal) c i arg2 harg2 arg3 harg3 arg6 harg6 arg8 harg8 arg10 harg10 arg11 harg11 arg15 x0 x1 x4 x6 x8 x9) = kdStack (kernelRun0_A.sl.r_200 (F := Ideal) c arg2 harg2 arg3 harg3 arg8 harg8 arg15 x0 x1 x6) (kernelRun0_A.sl.r_238 (F := Ideal) c i arg6 harg6 arg10 harg10 arg11 harg11 x4 x8 x9) from rfl).trans (by rw [k_eq, bc_eq]; rfl)

theorem last_eq : (kernelRun0_A.sl.r_331 (F := Ideal) c i arg6 harg6 arg10 harg10 arg11 harg11 x4 x8 x9) = (dA i x0 x1 x2 x4 x5 x6 x7 x8 x9).last :=
  (show (kernelRun0_A.sl.r_331 (F := Ideal) c i arg6 harg6 arg10 harg10 arg11 harg11 x4 x8 x9) = lastStack (kernelRun0_A.sl.r_238 (F := Ideal) c i arg6 harg6 arg10 harg10 arg11 harg11 x4 x8 x9) from rfl).trans (by rw [bc_eq]; rfl)

theorem st1_eq : (kernelRun0_A.sl.r_335 (F := Ideal) c i arg2 harg2 arg3 harg3 arg4 harg4 arg6 harg6 arg7 harg7 arg8 harg8 arg9 harg9 arg10 harg10 arg11 harg11 arg14 arg15 x0 x1 x2 x4 x5 x6 x7 x8 x9) = (dA i x0 x1 x2 x4 x5 x6 x7 x8 x9).st1 :=
  (show (kernelRun0_A.sl.r_335 (F := Ideal) c i arg2 harg2 arg3 harg3 arg4 harg4 arg6 harg6 arg7 harg7 arg8 harg8 arg9 harg9 arg10 harg10 arg11 harg11 arg14 arg15 x0 x1 x2 x4 x5 x6 x7 x8 x9) = next0 (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_200 (F := Ideal) c arg2 harg2 arg3 harg3 arg8 harg8 arg15 x0 x1 x6) (kernelRun0_A.sl.r_238 (F := Ideal) c i arg6 harg6 arg10 harg10 arg11 harg11 x4 x8 x9) (kernelRun0_A.sl.v1110 (F := Ideal) c arg14) from rfl).trans (by rw [u_eq, wq_eq, k_eq, bc_eq, state0]; rfl)

theorem st2_eq : (kernelRun0_A.sl.r_346 (F := Ideal) c i arg2 harg2 arg3 harg3 arg4 harg4 arg6 harg6 arg7 harg7 arg8 harg8 arg9 harg9 arg10 harg10 arg11 harg11 arg14 arg15 x0 x1 x2 x4 x5 x6 x7 x8 x9) = (dA i x0 x1 x2 x4 x5 x6 x7 x8 x9).st2 :=
  (show (kernelRun0_A.sl.r_346 (F := Ideal) c i arg2 harg2 arg3 harg3 arg4 harg4 arg6 harg6 arg7 harg7 arg8 harg8 arg9 harg9 arg10 harg10 arg11 harg11 arg14 arg15 x0 x1 x2 x4 x5 x6 x7 x8 x9) = k0_pay409 (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_330 (F := Ideal) c i arg2 harg2 arg3 harg3 arg6 harg6 arg8 harg8 arg10 harg10 arg11 harg11 arg15 x0 x1 x4 x6 x8 x9) (kernelRun0_A.sl.r_331 (F := Ideal) c i arg6 harg6 arg10 harg10 arg11 harg11 x4 x8 x9) (kernelRun0_A.sl.r_335 (F := Ideal) c i arg2 harg2 arg3 harg3 arg4 harg4 arg6 harg6 arg7 harg7 arg8 harg8 arg9 harg9 arg10 harg10 arg11 harg11 arg14 arg15 x0 x1 x2 x4 x5 x6 x7 x8 x9) from rfl).trans (by rw [u_eq, wq_eq, kd_eq, last_eq, st1_eq]; rfl)

theorem st3_eq : (kernelRun0_A.sl.r_357 (F := Ideal) c i arg2 harg2 arg3 harg3 arg4 harg4 arg6 harg6 arg7 harg7 arg8 harg8 arg9 harg9 arg10 harg10 arg11 harg11 arg14 arg15 x0 x1 x2 x4 x5 x6 x7 x8 x9) = (dA i x0 x1 x2 x4 x5 x6 x7 x8 x9).st3 :=
  (show (kernelRun0_A.sl.r_357 (F := Ideal) c i arg2 harg2 arg3 harg3 arg4 harg4 arg6 harg6 arg7 harg7 arg8 harg8 arg9 harg9 arg10 harg10 arg11 harg11 arg14 arg15 x0 x1 x2 x4 x5 x6 x7 x8 x9) = k0_pay430 (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_330 (F := Ideal) c i arg2 harg2 arg3 harg3 arg6 harg6 arg8 harg8 arg10 harg10 arg11 harg11 arg15 x0 x1 x4 x6 x8 x9) (kernelRun0_A.sl.r_331 (F := Ideal) c i arg6 harg6 arg10 harg10 arg11 harg11 x4 x8 x9) (kernelRun0_A.sl.r_346 (F := Ideal) c i arg2 harg2 arg3 harg3 arg4 harg4 arg6 harg6 arg7 harg7 arg8 harg8 arg9 harg9 arg10 harg10 arg11 harg11 arg14 arg15 x0 x1 x2 x4 x5 x6 x7 x8 x9) from rfl).trans (by rw [u_eq, wq_eq, kd_eq, last_eq, st2_eq]; rfl)

theorem st4_eq : (kernelRun0_A.sl.r_368 (F := Ideal) c i arg2 harg2 arg3 harg3 arg4 harg4 arg6 harg6 arg7 harg7 arg8 harg8 arg9 harg9 arg10 harg10 arg11 harg11 arg14 arg15 x0 x1 x2 x4 x5 x6 x7 x8 x9) = (dA i x0 x1 x2 x4 x5 x6 x7 x8 x9).st4 :=
  (show (kernelRun0_A.sl.r_368 (F := Ideal) c i arg2 harg2 arg3 harg3 arg4 harg4 arg6 harg6 arg7 harg7 arg8 harg8 arg9 harg9 arg10 harg10 arg11 harg11 arg14 arg15 x0 x1 x2 x4 x5 x6 x7 x8 x9) = k0_pay451 (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_330 (F := Ideal) c i arg2 harg2 arg3 harg3 arg6 harg6 arg8 harg8 arg10 harg10 arg11 harg11 arg15 x0 x1 x4 x6 x8 x9) (kernelRun0_A.sl.r_331 (F := Ideal) c i arg6 harg6 arg10 harg10 arg11 harg11 x4 x8 x9) (kernelRun0_A.sl.r_357 (F := Ideal) c i arg2 harg2 arg3 harg3 arg4 harg4 arg6 harg6 arg7 harg7 arg8 harg8 arg9 harg9 arg10 harg10 arg11 harg11 arg14 arg15 x0 x1 x2 x4 x5 x6 x7 x8 x9) from rfl).trans (by rw [u_eq, wq_eq, kd_eq, last_eq, st3_eq]; rfl)

variable (hc0 : cond0_0 i)

theorem state : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = (dA i x0 x1 x2 x4 x5 x6 x7 x8 x9).st4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  rw [View.canon_cons_unit_zero (S := S8x128x128) hz3]
  unfold k0_pay1
  dsimp only
  rw [shapeCast_self, st4_eq]

theorem carry : sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = lastRows ![x0, x1, x2] := by
  have e0 : (View.readAt (Elt Ideal) arg2.view (Rect.unit ![0, 0] S256x1024.size inb_S256x1024_S256x1024_0_0).toLoadRect (harg2.unread x0)) = x0 := load_whole (S := S256x1024) arg2 harg2 hz2 _ x0
  have e1 : (kernelRun0_A.sl.r_1 (F := Ideal) c arg3 harg3 x1) = x1 := load_whole (S := S256x1024) arg3 harg3 hz2 _ x1
  have e2 : (kernelRun0_A.sl.r_3 (F := Ideal) c arg4 harg4 x2) = x2 := load_whole (S := S256x1024) arg4 harg4 hz2 _ x2
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  show View.canon ((⟨Rect.unit ![2, 0, 0] S1x8x1024.size inb_S3x8x1024_S1x8x1024_2_0_0, k0_pay11 (F := Ideal) (kernelRun0_A.sl.r_3 (F := Ideal) c arg4 harg4 x2)⟩ : View.Piece (Elt Ideal) S3x8x1024 .f32)
    :: (⟨Rect.unit ![1, 0, 0] S1x8x1024.size inb_S3x8x1024_S1x8x1024_1_0_0, k0_pay6 (F := Ideal) (kernelRun0_A.sl.r_1 (F := Ideal) c arg3 harg3 x1)⟩ : View.Piece (Elt Ideal) S3x8x1024 .f32)
    :: (⟨Rect.unit ![0, 0, 0] S1x8x1024.size inb_S3x8x1024_S1x8x1024_0_0_0, k0_pay4 (F := Ideal) (View.readAt (Elt Ideal) arg2.view (Rect.unit ![0, 0] S256x1024.size inb_S256x1024_S256x1024_0_0).toLoadRect (harg2.unread x0))⟩ : View.Piece (Elt Ideal) S3x8x1024 .f32) :: kernelRun0_A.sl.HS1_1 (F := Ideal)) = _
  rw [e0, e1, e2]
  exact carry_eq x0 x1 x2 _

theorem tiles_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1
    = tiles (dA i x0 x1 x2 x4 x5 x6 x7 x8 x9).qk (dA i x0 x1 x2 x4 x5 x6 x7 x8 x9).u (dA i x0 x1 x2 x4 x5 x6 x7 x8 x9).wq (dA i x0 x1 x2 x4 x5 x6 x7 x8 x9).state (dA i x0 x1 x2 x4 x5 x6 x7 x8 x9).st1 (dA i x0 x1 x2 x4 x5 x6 x7 x8 x9).st2 (dA i x0 x1 x2 x4 x5 x6 x7 x8 x9).st3 x10 x3 :=
  (show (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1 = tiles (kernelRun0_A.sl.r_273 (F := Ideal) c i arg2 harg2 arg3 harg3 arg6 harg6 arg7 harg7 arg8 harg8 arg10 harg10 arg11 harg11 arg15 x0 x1 x4 x5 x6 x8 x9) (kernelRun0_A.sl.r_279 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.r_280 (F := Ideal) c i arg2 harg2 arg3 harg3 arg4 harg4 arg6 harg6 arg7 harg7 arg8 harg8 arg9 harg9 arg10 harg10 arg11 harg11 arg15 x0 x1 x2 x4 x5 x6 x7 x8 x9) (kernelRun0_A.sl.v1110 (F := Ideal) c arg14) (kernelRun0_A.sl.r_335 (F := Ideal) c i arg2 harg2 arg3 harg3 arg4 harg4 arg6 harg6 arg7 harg7 arg8 harg8 arg9 harg9 arg10 harg10 arg11 harg11 arg14 arg15 x0 x1 x2 x4 x5 x6 x7 x8 x9) (kernelRun0_A.sl.r_346 (F := Ideal) c i arg2 harg2 arg3 harg3 arg4 harg4 arg6 harg6 arg7 harg7 arg8 harg8 arg9 harg9 arg10 harg10 arg11 harg11 arg14 arg15 x0 x1 x2 x4 x5 x6 x7 x8 x9) (kernelRun0_A.sl.r_357 (F := Ideal) c i arg2 harg2 arg3 harg3 arg4 harg4 arg6 harg6 arg7 harg7 arg8 harg8 arg9 harg9 arg10 harg10 arg11 harg11 arg14 arg15 x0 x1 x2 x4 x5 x6 x7 x8 x9) (View.readAt (Elt Ideal) arg12.view (Rect.unit ![0, 0] S1x128.size inb_S1x128_S1x128_0_0).toLoadRect (harg12.unread x10)) (kernelRun0_A.sl.r_333 (F := Ideal) c arg5 harg5 x3) from rfl).trans
    (by rw [qk_eq, u_eq, wq_eq, st1_eq, st2_eq, st3_eq, state0, load_whole (S := S1x128) arg12 harg12 hz2 _ x10, show (kernelRun0_A.sl.r_333 (F := Ideal) c arg5 harg5 x3) = x3 from load_whole (S := S256x1024) arg5 harg5 hz2 _ x3]; rfl)

theorem out (y : S256x1024.Idx) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 y = blockAt (dA i x0 x1 x2 x4 x5 x6 x7 x8 x9).out x10 x3 y := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10), tiles_eq]
  refine (View.canon_apply_of_pieces _ _ (tiles_ok _ _ _ _ _ _ _ _ _) y ?_).trans ?_
  · have h := cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 y
    rwa [tiles_eq] at h
  · rfl

end

end CaseA

end Cert.KernelIdeal.Delta
-- ==== Proof.RunB.lean ====
module

public import proofs.«01_k».proof.Proof.Gen.KernelIdeal.Frame
public import proofs.«01_k».proof.Proof.Load

/-!
A later block of a group of heads: the state and the carried rows are those the block before left.
-/

@[expose] public section

set_option maxRecDepth 65536

noncomputable section

open Idealize.ShloMosaic Idealize.ShloMosaic.TcCoe Idealize.SL.Sem
open scoped BigOperators

namespace Cert.KernelIdeal.Delta

open Cert.KernelIdeal Cert.KernelIdeal.Gen Cert.Delta

namespace CaseB

section
variable (c : Dev nD) (i : grid0.Coords)
  (arg2 : Memref sig .tc .vmem S256x1024 .f32) (harg2 : arg2.IsWhole) (arg3 : Memref sig .tc .vmem S256x1024 .f32)
  (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S256x128 .f32)
  (harg6 : arg6.IsWhole) (arg7 : Memref sig .tc .vmem S1x4x1024 .f32) (harg7 : arg7.IsWhole)
  (arg8 : Memref sig .tc .vmem S1x4x1024 .f32) (harg8 : arg8.IsWhole) (arg9 : Memref sig .tc .vmem S1x4x1024 .f32)
  (harg9 : arg9.IsWhole) (arg10 : Memref sig .tc .vmem S1x1x128 .f32) (harg10 : arg10.IsWhole)
  (arg11 : Memref sig .tc .vmem S1x1x128 .f32) (harg11 : arg11.IsWhole) (arg12 : Memref sig .tc .vmem S1x128 .f32)
  (harg12 : arg12.IsWhole) (arg13 : Memref sig .tc .vmem S256x1024 .bf16) (harg13 : arg13.IsWhole)
  (arg14 : Memref sig .tc .vmem S8x128x128 .f32) (harg14 : arg14.IsWhole)
  (arg15 : Memref sig .tc .vmem S3x8x1024 .f32) (harg15 : arg15.IsWhole)
  (x0 x1 x2 x3 : Vec Ideal S256x1024 .f32) (x4 : Vec Ideal S256x128 .f32) (x5 x6 x7 : Vec Ideal S1x4x1024 .f32)
  (x8 x9 : Vec Ideal S1x1x128 .f32) (x10 : Vec Ideal S1x128 .f32) (xs0 : Vec Ideal S8x128x128 .f32)
  (xs1 : Vec Ideal S3x8x1024 .f32)

/-- The block. -/
def dB : Blk := blk i x0 x1 x2 x4 x5 x6 x7 x8 x9 xs0 (slab xs1)

/-! The words of the run, one by one. -/

theorem past1 : (kernelRun0_B.sl.v37 (F := Ideal) c arg15 harg15 xs1) = slab xs1 1 :=
  load_slab arg15 harg15 1 _ xs1

theorem past2 : (kernelRun0_B.sl.v70 (F := Ideal) c arg15 harg15 xs1) = slab xs1 2 :=
  load_slab arg15 harg15 2 _ xs1

theorem mixed0 : (kernelRun0_B.sl.r (F := Ideal) c arg2 harg2 arg7 harg7 arg15 harg15 x0 x5 xs1) = (dB i x0 x1 x2 x4 x5 x6 x7 x8 x9 xs0 xs1).mixed 0 := by
  show k0_pay5 _ _ _ = _
  rw [load_whole (S := S256x1024) arg2 harg2 hz2 _ x0, load_whole (S := S1x4x1024) arg7 harg7 hz3 _ x5]
  exact congrArg (fun p => mix x0 p x5) (load_slab arg15 harg15 0 _ xs1)

theorem mixed1 : (kernelRun0_B.sl.r_2 (F := Ideal) c arg3 harg3 arg8 harg8 arg15 harg15 x1 x6 xs1) = (dB i x0 x1 x2 x4 x5 x6 x7 x8 x9 xs0 xs1).mixed 1 :=
  (show (kernelRun0_B.sl.r_2 (F := Ideal) c arg3 harg3 arg8 harg8 arg15 harg15 x1 x6 xs1) = mix (kernelRun0_B.sl.r_1 (F := Ideal) c arg3 harg3 x1) (kernelRun0_B.sl.v37 (F := Ideal) c arg15 harg15 xs1) (View.readAt (Elt Ideal) arg8.view (Rect.unit ![0, 0, 0] S1x4x1024.size inb_S1x4x1024_S1x4x1024_0_0_0).toLoadRect (harg8.unread x6)) from rfl).trans (by
    rw [(show (kernelRun0_B.sl.r_1 (F := Ideal) c arg3 harg3 x1) = x1 from load_whole (S := S256x1024) arg3 harg3 hz2 _ x1), past1, load_whole (S := S1x4x1024) arg8 harg8 hz3 _ x6]
    rfl)

theorem mixed2 : (kernelRun0_B.sl.r_7 (F := Ideal) c arg4 harg4 arg9 harg9 arg15 harg15 x2 x7 xs1) = (dB i x0 x1 x2 x4 x5 x6 x7 x8 x9 xs0 xs1).mixed 2 :=
  (show (kernelRun0_B.sl.r_7 (F := Ideal) c arg4 harg4 arg9 harg9 arg15 harg15 x2 x7 xs1) = mix (kernelRun0_B.sl.r_3 (F := Ideal) c arg4 harg4 x2) (kernelRun0_B.sl.v70 (F := Ideal) c arg15 harg15 xs1) (View.readAt (Elt Ideal) arg9.view (Rect.unit ![0, 0, 0] S1x4x1024.size inb_S1x4x1024_S1x4x1024_0_0_0).toLoadRect (harg9.unread x7)) from rfl).trans (by
    rw [(show (kernelRun0_B.sl.r_3 (F := Ideal) c arg4 harg4 x2) = x2 from load_whole (S := S256x1024) arg4 harg4 hz2 _ x2), past2, load_whole (S := S1x4x1024) arg9 harg9 hz3 _ x7]
    rfl)

theorem la : (kernelRun0_B.sl.r_11 (F := Ideal) c i arg6 harg6 arg10 harg10 arg11 harg11 x4 x8 x9) = (dB i x0 x1 x2 x4 x5 x6 x7 x8 x9 xs0 xs1).la := by
  show laSlab (k0_pay13 _ _) _ _ = _
  rw [load_whole (S := S256x128) arg6 harg6 hz2 _ x4, load_whole (S := S1x1x128) arg10 harg10 hz3 _ x8, load_whole (S := S1x1x128) arg11 harg11 hz3 _ x9]
  rfl

theorem small : (kernelRun0_B.sl.r_10 (F := Ideal) c i arg6 harg6 x4) = k0_pay15 (dB i x0 x1 x2 x4 x5 x6 x7 x8 x9 xs0 xs1).group (dB i x0 x1 x2 x4 x5 x6 x7 x8 x9 xs0 xs1).small := by
  show k0_pay15 _ _ = _
  rw [load_whole (S := S256x128) arg6 harg6 hz2 _ x4]
  rfl

theorem q_eq : (kernelRun0_B.sl.r_189 (F := Ideal) c arg2 harg2 arg7 harg7 arg15 harg15 x0 x5 xs1) = (dB i x0 x1 x2 x4 x5 x6 x7 x8 x9 xs0 xs1).Q :=
  (show (kernelRun0_B.sl.r_189 (F := Ideal) c arg2 harg2 arg7 harg7 arg15 harg15 x0 x5 xs1) = qStack (kernelRun0_B.sl.r (F := Ideal) c arg2 harg2 arg7 harg7 arg15 harg15 x0 x5 xs1) from rfl).trans (by rw [mixed0]; rfl)

theorem k_eq : (kernelRun0_B.sl.r_200 (F := Ideal) c arg3 harg3 arg8 harg8 arg15 harg15 x1 x6 xs1) = (dB i x0 x1 x2 x4 x5 x6 x7 x8 x9 xs0 xs1).K :=
  (show (kernelRun0_B.sl.r_200 (F := Ideal) c arg3 harg3 arg8 harg8 arg15 harg15 x1 x6 xs1) = kStack (kernelRun0_B.sl.r_2 (F := Ideal) c arg3 harg3 arg8 harg8 arg15 harg15 x1 x6 xs1) from rfl).trans (by rw [mixed1]; rfl)

theorem v_eq : (kernelRun0_B.sl.r_201 (F := Ideal) c arg4 harg4 arg9 harg9 arg15 harg15 x2 x7 xs1) = (dB i x0 x1 x2 x4 x5 x6 x7 x8 x9 xs0 xs1).V :=
  (show (kernelRun0_B.sl.r_201 (F := Ideal) c arg4 harg4 arg9 harg9 arg15 harg15 x2 x7 xs1) = vStack (kernelRun0_B.sl.r_7 (F := Ideal) c arg4 harg4 arg9 harg9 arg15 harg15 x2 x7 xs1) from rfl).trans (by rw [mixed2]; rfl)

theorem beta_eq : (kernelRun0_B.sl.r_206 (F := Ideal) c i arg6 harg6 x4) = (dB i x0 x1 x2 x4 x5 x6 x7 x8 x9 xs0 xs1).B :=
  (show (kernelRun0_B.sl.r_206 (F := Ideal) c i arg6 harg6 x4) = betaStack (kernelRun0_B.sl.r_10 (F := Ideal) c i arg6 harg6 x4) from rfl).trans (by rw [small]; rfl)

theorem bcum_eq : (kernelRun0_B.sl.r_12 (F := Ideal) c i arg6 harg6 arg10 harg10 arg11 harg11 x4 x8 x9) = bcum (dB i x0 x1 x2 x4 x5 x6 x7 x8 x9 xs0 xs1).la :=
  (show (kernelRun0_B.sl.r_12 (F := Ideal) c i arg6 harg6 arg10 harg10 arg11 harg11 x4 x8 x9) = bcum (kernelRun0_B.sl.r_11 (F := Ideal) c i arg6 harg6 arg10 harg10 arg11 harg11 x4 x8 x9) from rfl).trans (by rw [la])

theorem bc_eq : (kernelRun0_B.sl.r_238 (F := Ideal) c i arg6 harg6 arg10 harg10 arg11 harg11 x4 x8 x9) = (dB i x0 x1 x2 x4 x5 x6 x7 x8 x9 xs0 xs1).C :=
  (show (kernelRun0_B.sl.r_238 (F := Ideal) c i arg6 harg6 arg10 harg10 arg11 harg11 x4 x8 x9) = bcStack (kernelRun0_B.sl.r_12 (F := Ideal) c i arg6 harg6 arg10 harg10 arg11 harg11 x4 x8 x9) from rfl).trans (by rw [bcum_eq]; rfl)

theorem bcumT_eq : (kernelRun0_B.sl.r_14 (F := Ideal) c i arg6 harg6 arg10 harg10 arg11 harg11 x4 x8 x9) = (dB i x0 x1 x2 x4 x5 x6 x7 x8 x9 xs0 xs1).Ct :=
  (show (kernelRun0_B.sl.r_14 (F := Ideal) c i arg6 harg6 arg10 harg10 arg11 harg11 x4 x8 x9) = bcumT (kernelRun0_B.sl.r_11 (F := Ideal) c i arg6 harg6 arg10 harg10 arg11 harg11 x4 x8 x9) from rfl).trans (by rw [la]; rfl)

theorem qk_eq : (kernelRun0_B.sl.r_273 (F := Ideal) c i arg2 harg2 arg3 harg3 arg6 harg6 arg7 harg7 arg8 harg8 arg10 harg10 arg11 harg11 arg15 harg15 x0 x1 x4 x5 x6 x8 x9 xs1) = (dB i x0 x1 x2 x4 x5 x6 x7 x8 x9 xs0 xs1).qk :=
  (show (kernelRun0_B.sl.r_273 (F := Ideal) c i arg2 harg2 arg3 harg3 arg6 harg6 arg7 harg7 arg8 harg8 arg10 harg10 arg11 harg11 arg15 harg15 x0 x1 x4 x5 x6 x8 x9 xs1) = qkStack (kernelRun0_B.sl.r_189 (F := Ideal) c arg2 harg2 arg7 harg7 arg15 harg15 x0 x5 xs1) (kernelRun0_B.sl.r_200 (F := Ideal) c arg3 harg3 arg8 harg8 arg15 harg15 x1 x6 xs1) (kernelRun0_B.sl.r_206 (F := Ideal) c i arg6 harg6 x4) (kernelRun0_B.sl.r_238 (F := Ideal) c i arg6 harg6 arg10 harg10 arg11 harg11 x4 x8 x9) (kernelRun0_B.sl.r_14 (F := Ideal) c i arg6 harg6 arg10 harg10 arg11 harg11 x4 x8 x9) from rfl).trans (by rw [q_eq, k_eq, beta_eq, bc_eq, bcumT_eq]; rfl)

theorem a_eq : (kernelRun0_B.sl.r_274 (F := Ideal) c i arg2 harg2 arg3 harg3 arg6 harg6 arg7 harg7 arg8 harg8 arg10 harg10 arg11 harg11 arg15 harg15 x0 x1 x4 x5 x6 x8 x9 xs1) = aStack (dB i x0 x1 x2 x4 x5 x6 x7 x8 x9 xs0 xs1).Q (dB i x0 x1 x2 x4 x5 x6 x7 x8 x9 xs0 xs1).K (dB i x0 x1 x2 x4 x5 x6 x7 x8 x9 xs0 xs1).B (dB i x0 x1 x2 x4 x5 x6 x7 x8 x9 xs0 xs1).C (dB i x0 x1 x2 x4 x5 x6 x7 x8 x9 xs0 xs1).Ct :=
  (show (kernelRun0_B.sl.r_274 (F := Ideal) c i arg2 harg2 arg3 harg3 arg6 harg6 arg7 harg7 arg8 harg8 arg10 harg10 arg11 harg11 arg15 harg15 x0 x1 x4 x5 x6 x8 x9 xs1) = aStack (kernelRun0_B.sl.r_189 (F := Ideal) c arg2 harg2 arg7 harg7 arg15 harg15 x0 x5 xs1) (kernelRun0_B.sl.r_200 (F := Ideal) c arg3 harg3 arg8 harg8 arg15 harg15 x1 x6 xs1) (kernelRun0_B.sl.r_206 (F := Ideal) c i arg6 harg6 x4) (kernelRun0_B.sl.r_238 (F := Ideal) c i arg6 harg6 arg10 harg10 arg11 harg11 x4 x8 x9) (kernelRun0_B.sl.r_14 (F := Ideal) c i arg6 harg6 arg10 harg10 arg11 harg11 x4 x8 x9) from rfl).trans (by rw [q_eq, k_eq, beta_eq, bc_eq, bcumT_eq])

theorem u_eq : (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) = (dB i x0 x1 x2 x4 x5 x6 x7 x8 x9 xs0 xs1).u :=
  (show (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) = uStack (kernelRun0_B.sl.r_201 (F := Ideal) c arg4 harg4 arg9 harg9 arg15 harg15 x2 x7 xs1) (kernelRun0_B.sl.r_206 (F := Ideal) c i arg6 harg6 x4) (k0_pay317 (kernelRun0_B.sl.r_238 (F := Ideal) c i arg6 harg6 arg10 harg10 arg11 harg11 x4 x8 x9)) (k0_pay318 (kernelRun0_B.sl.r_200 (F := Ideal) c arg3 harg3 arg8 harg8 arg15 harg15 x1 x6 xs1) (kernelRun0_B.sl.r_206 (F := Ideal) c i arg6 harg6 x4)) (kernelRun0_B.sl.r_274 (F := Ideal) c i arg2 harg2 arg3 harg3 arg6 harg6 arg7 harg7 arg8 harg8 arg10 harg10 arg11 harg11 arg15 harg15 x0 x1 x4 x5 x6 x8 x9 xs1) from rfl).trans (by rw [v_eq, beta_eq, bc_eq, k_eq, a_eq]; rfl)

theorem wq_eq : (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) = (dB i x0 x1 x2 x4 x5 x6 x7 x8 x9 xs0 xs1).wq :=
  (show (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) = wqStack (kernelRun0_B.sl.r_189 (F := Ideal) c arg2 harg2 arg7 harg7 arg15 harg15 x0 x5 xs1) (k0_pay317 (kernelRun0_B.sl.r_238 (F := Ideal) c i arg6 harg6 arg10 harg10 arg11 harg11 x4 x8 x9)) (sol (kernelRun0_B.sl.r_201 (F := Ideal) c arg4 harg4 arg9 harg9 arg15 harg15 x2 x7 xs1) (kernelRun0_B.sl.r_206 (F := Ideal) c i arg6 harg6 x4) (k0_pay317 (kernelRun0_B.sl.r_238 (F := Ideal) c i arg6 harg6 arg10 harg10 arg11 harg11 x4 x8 x9)) (k0_pay318 (kernelRun0_B.sl.r_200 (F := Ideal) c arg3 harg3 arg8 harg8 arg15 harg15 x1 x6 xs1) (kernelRun0_B.sl.r_206 (F := Ideal) c i arg6 harg6 x4)) (kernelRun0_B.sl.r_274 (F := Ideal) c i arg2 harg2 arg3 harg3 arg6 harg6 arg7 harg7 arg8 harg8 arg10 harg10 arg11 harg11 arg15 harg15 x0 x1 x4 x5 x6 x8 x9 xs1)) from rfl).trans (by rw [q_eq, v_eq, beta_eq, bc_eq, k_eq, a_eq]; rfl)

theorem kd_eq : (kernelRun0_B.sl.r_330 (F := Ideal) c i arg3 harg3 arg6 harg6 arg8 harg8 arg10 harg10 arg11 harg11 arg15 harg15 x1 x4 x6 x8 x9 xs1) = (dB i x0 x1 x2 x4 x5 x6 x7 x8 x9 xs0 xs1).kd :=
  (show (kernelRun0_B.sl.r_330 (F := Ideal) c i arg3 harg3 arg6 harg6 arg8 harg8 arg10 harg10 arg11 harg11 arg15 harg15 x1 x4 x6 x8 x9 xs1) = kdStack (kernelRun0_B.sl.r_200 (F := Ideal) c arg3 harg3 arg8 harg8 arg15 harg15 x1 x6 xs1) (kernelRun0_B.sl.r_238 (F := Ideal) c i arg6 harg6 arg10 harg10 arg11 harg11 x4 x8 x9) from rfl).trans (by rw [k_eq, bc_eq]; rfl)

theorem last_eq : (kernelRun0_B.sl.r_331 (F := Ideal) c i arg6 harg6 arg10 harg10 arg11 harg11 x4 x8 x9) = (dB i x0 x1 x2 x4 x5 x6 x7 x8 x9 xs0 xs1).last :=
  (show (kernelRun0_B.sl.r_331 (F := Ideal) c i arg6 harg6 arg10 harg10 arg11 harg11 x4 x8 x9) = lastStack (kernelRun0_B.sl.r_238 (F := Ideal) c i arg6 harg6 arg10 harg10 arg11 harg11 x4 x8 x9) from rfl).trans (by rw [bc_eq]; rfl)

theorem st1_eq : (kernelRun0_B.sl.r_335 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = (dB i x0 x1 x2 x4 x5 x6 x7 x8 x9 xs0 xs1).st1 :=
  (show (kernelRun0_B.sl.r_335 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = next0 (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_200 (F := Ideal) c arg3 harg3 arg8 harg8 arg15 harg15 x1 x6 xs1) (kernelRun0_B.sl.r_238 (F := Ideal) c i arg6 harg6 arg10 harg10 arg11 harg11 x4 x8 x9) (View.readAt (Elt Ideal) arg14.view (Rect.unit ![0, 0, 0] S8x128x128.size inb_S8x128x128_S8x128x128_0_0_0).toLoadRect (harg14.unread xs0)) from rfl).trans (by rw [u_eq, wq_eq, k_eq, bc_eq, load_whole (S := S8x128x128) arg14 harg14 hz3 _ xs0]; rfl)

theorem st2_eq : (kernelRun0_B.sl.r_346 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = (dB i x0 x1 x2 x4 x5 x6 x7 x8 x9 xs0 xs1).st2 :=
  (show (kernelRun0_B.sl.r_346 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = k0_pay409 (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_330 (F := Ideal) c i arg3 harg3 arg6 harg6 arg8 harg8 arg10 harg10 arg11 harg11 arg15 harg15 x1 x4 x6 x8 x9 xs1) (kernelRun0_B.sl.r_331 (F := Ideal) c i arg6 harg6 arg10 harg10 arg11 harg11 x4 x8 x9) (kernelRun0_B.sl.r_335 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) from rfl).trans (by rw [u_eq, wq_eq, kd_eq, last_eq, st1_eq]; rfl)

theorem st3_eq : (kernelRun0_B.sl.r_357 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = (dB i x0 x1 x2 x4 x5 x6 x7 x8 x9 xs0 xs1).st3 :=
  (show (kernelRun0_B.sl.r_357 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = k0_pay430 (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_330 (F := Ideal) c i arg3 harg3 arg6 harg6 arg8 harg8 arg10 harg10 arg11 harg11 arg15 harg15 x1 x4 x6 x8 x9 xs1) (kernelRun0_B.sl.r_331 (F := Ideal) c i arg6 harg6 arg10 harg10 arg11 harg11 x4 x8 x9) (kernelRun0_B.sl.r_346 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) from rfl).trans (by rw [u_eq, wq_eq, kd_eq, last_eq, st2_eq]; rfl)

theorem st4_eq : (kernelRun0_B.sl.r_368 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = (dB i x0 x1 x2 x4 x5 x6 x7 x8 x9 xs0 xs1).st4 :=
  (show (kernelRun0_B.sl.r_368 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) = k0_pay451 (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_330 (F := Ideal) c i arg3 harg3 arg6 harg6 arg8 harg8 arg10 harg10 arg11 harg11 arg15 harg15 x1 x4 x6 x8 x9 xs1) (kernelRun0_B.sl.r_331 (F := Ideal) c i arg6 harg6 arg10 harg10 arg11 harg11 x4 x8 x9) (kernelRun0_B.sl.r_357 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) from rfl).trans (by rw [u_eq, wq_eq, kd_eq, last_eq, st3_eq]; rfl)

variable (hc0 : ¬cond0_0 i)

theorem state : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = (dB i x0 x1 x2 x4 x5 x6 x7 x8 x9 xs0 xs1).st4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B
  dsimp only
  rw [View.canon_unit_zero (S := S8x128x128) hz3]
  unfold k0_pay1
  dsimp only
  rw [shapeCast_self, st4_eq]

theorem carry : sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = lastRows ![x0, x1, x2] := by
  have e0 : (View.readAt (Elt Ideal) arg2.view (Rect.unit ![0, 0] S256x1024.size inb_S256x1024_S256x1024_0_0).toLoadRect (harg2.unread x0)) = x0 := load_whole (S := S256x1024) arg2 harg2 hz2 _ x0
  have e1 : (kernelRun0_B.sl.r_1 (F := Ideal) c arg3 harg3 x1) = x1 := load_whole (S := S256x1024) arg3 harg3 hz2 _ x1
  have e2 : (kernelRun0_B.sl.r_3 (F := Ideal) c arg4 harg4 x2) = x2 := load_whole (S := S256x1024) arg4 harg4 hz2 _ x2
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  show View.canon ((⟨Rect.unit ![2, 0, 0] S1x8x1024.size inb_S3x8x1024_S1x8x1024_2_0_0, k0_pay11 (F := Ideal) (kernelRun0_B.sl.r_3 (F := Ideal) c arg4 harg4 x2)⟩ : View.Piece (Elt Ideal) S3x8x1024 .f32)
    :: (⟨Rect.unit ![1, 0, 0] S1x8x1024.size inb_S3x8x1024_S1x8x1024_1_0_0, k0_pay6 (F := Ideal) (kernelRun0_B.sl.r_1 (F := Ideal) c arg3 harg3 x1)⟩ : View.Piece (Elt Ideal) S3x8x1024 .f32)
    :: (⟨Rect.unit ![0, 0, 0] S1x8x1024.size inb_S3x8x1024_S1x8x1024_0_0_0, k0_pay4 (F := Ideal) (View.readAt (Elt Ideal) arg2.view (Rect.unit ![0, 0] S256x1024.size inb_S256x1024_S256x1024_0_0).toLoadRect (harg2.unread x0))⟩ : View.Piece (Elt Ideal) S3x8x1024 .f32) :: []) = _
  rw [e0, e1, e2]
  exact carry_eq x0 x1 x2 _

theorem tiles_eq : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1
    = tiles (dB i x0 x1 x2 x4 x5 x6 x7 x8 x9 xs0 xs1).qk (dB i x0 x1 x2 x4 x5 x6 x7 x8 x9 xs0 xs1).u (dB i x0 x1 x2 x4 x5 x6 x7 x8 x9 xs0 xs1).wq (dB i x0 x1 x2 x4 x5 x6 x7 x8 x9 xs0 xs1).state (dB i x0 x1 x2 x4 x5 x6 x7 x8 x9 xs0 xs1).st1 (dB i x0 x1 x2 x4 x5 x6 x7 x8 x9 xs0 xs1).st2 (dB i x0 x1 x2 x4 x5 x6 x7 x8 x9 xs0 xs1).st3 x10 x3 :=
  (show (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1 = tiles (kernelRun0_B.sl.r_273 (F := Ideal) c i arg2 harg2 arg3 harg3 arg6 harg6 arg7 harg7 arg8 harg8 arg10 harg10 arg11 harg11 arg15 harg15 x0 x1 x4 x5 x6 x8 x9 xs1) (kernelRun0_B.sl.r_279 (F := Ideal) c i arg2 harg2 arg3 harg3 arg4 harg4 arg6 harg6 arg7 harg7 arg8 harg8 arg9 harg9 arg10 harg10 arg11 harg11 arg15 harg15 x0 x1 x2 x4 x5 x6 x7 x8 x9 xs1) (kernelRun0_B.sl.r_280 (F := Ideal) c i arg2 harg2 arg3 harg3 arg4 harg4 arg6 harg6 arg7 harg7 arg8 harg8 arg9 harg9 arg10 harg10 arg11 harg11 arg15 harg15 x0 x1 x2 x4 x5 x6 x7 x8 x9 xs1) (View.readAt (Elt Ideal) arg14.view (Rect.unit ![0, 0, 0] S8x128x128.size inb_S8x128x128_S8x128x128_0_0_0).toLoadRect (harg14.unread xs0)) (kernelRun0_B.sl.r_335 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) (kernelRun0_B.sl.r_346 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) (kernelRun0_B.sl.r_357 (F := Ideal) c i arg2 harg2 arg3 harg3 arg4 harg4 arg6 harg6 arg7 harg7 arg8 harg8 arg9 harg9 arg10 harg10 arg11 harg11 arg14 harg14 arg15 harg15 x0 x1 x2 x4 x5 x6 x7 x8 x9 xs0 xs1) (View.readAt (Elt Ideal) arg12.view (Rect.unit ![0, 0] S1x128.size inb_S1x128_S1x128_0_0).toLoadRect (harg12.unread x10)) (kernelRun0_B.sl.r_333 (F := Ideal) c arg5 harg5 x3) from rfl).trans
    (by rw [qk_eq, u_eq, wq_eq, st1_eq, st2_eq, st3_eq, load_whole (S := S8x128x128) arg14 harg14 hz3 _ xs0, load_whole (S := S1x128) arg12 harg12 hz2 _ x10, show (kernelRun0_B.sl.r_333 (F := Ideal) c arg5 harg5 x3) = x3 from load_whole (S := S256x1024) arg5 harg5 hz2 _ x3]; rfl)

theorem out (y : S256x1024.Idx) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 y = blockAt (dB i x0 x1 x2 x4 x5 x6 x7 x8 x9 xs0 xs1).out x10 x3 y := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1), tiles_eq]
  refine (View.canon_apply_of_pieces _ _ (tiles_ok _ _ _ _ _ _ _ _ _) y ?_).trans ?_
  · have h := cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 y
    rwa [tiles_eq] at h
  · rfl

end

end CaseB

end Cert.KernelIdeal.Delta
-- ==== Proof.Windows.lean ====
module

public import proofs.«01_k».proof.Proof.Gen.KernelIdeal.Value
public import proofs.«01_k».proof.Proof.Layer
public import Idealize.ShloMosaic.Lib.Pointwise
public import Idealize.ShloMosaic.Lib.ValueIdx

/-!
What each window holds at a grid point, in terms of the arguments.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

variable (m : (ℓ : Loc nD τ sig) → Buf (Elt Ideal) ℓ)

abbrev argPa (c : Dev nD) (t j : Fin 8192) : EReal := m ((c : Thread nD τ).loc main_arg0) (ix2 t j)
abbrev argSm (c : Dev nD) (t : Fin 8192) (j : Fin 128) : EReal := m ((c : Thread nD τ).loc main_arg1) (ix2 t j)
abbrev argCv (c : Dev nD) (i : Fin 4) (j : Fin 6144) : EReal := m ((c : Thread nD τ).loc main_arg2) (ix3 (0 : Fin 2) i j)
abbrev argAl (c : Dev nD) (h : Fin 16) : EReal := m ((c : Thread nD τ).loc main_arg3) (ix1 h)
abbrev argDt (c : Dev nD) (h : Fin 16) : EReal := m ((c : Thread nD τ).loc main_arg4) (ix1 h)
abbrev argNw (c : Dev nD) (j : Fin 128) : EReal := m ((c : Thread nD τ).loc main_arg5) (ix1 j)

/-- The decay rates the launch reads are the argument's, padded by group. -/
theorem V_main_v1 (c : Dev nD) (g : Fin 2) (h : Fin 8) :
    V m c main_v1 (ix3 g (0 : Fin 1) (⟨16 + h, by omega⟩ : Fin 128)) = argAl m c ⟨8 * g + h, by omega⟩ := by
  have e : (pad S2x1x128 ![0, 0, 16] ![0, 0, 104] ![0, 0, 0]
      (shapeCast S2x1x8 (m ((c : Thread nD τ).loc main_arg3)) shapeCasts_S16_S2x1x8 : FVec Ideal S2x1x8 .f32)
      (sitofp .f32 (constantI S_ 32 0#32) : FVec Ideal S_ .f32) pads_S2x1x8_S2x1x128_000_000_161040 h_S_ : S2x1x128.Idx → EReal)
        (ix3 g (0 : Fin 1) (⟨16 + h, by omega⟩ : Fin 128))
      = argAl m c ⟨8 * g + h, by omega⟩ := by
    pointwise
    exact congrArg (argAl m c) (Fin.ext (by dsimp only; omega))
  exact e

/-- So are the offsets of the decay's gate. -/
theorem V_main_v3 (c : Dev nD) (g : Fin 2) (h : Fin 8) :
    V m c main_v3 (ix3 g (0 : Fin 1) (⟨16 + h, by omega⟩ : Fin 128)) = argDt m c ⟨8 * g + h, by omega⟩ := by
  have e : (pad S2x1x128 ![0, 0, 16] ![0, 0, 104] ![0, 0, 0]
      (shapeCast S2x1x8 (m ((c : Thread nD τ).loc main_arg4)) shapeCasts_S16_S2x1x8 : FVec Ideal S2x1x8 .f32)
      (sitofp .f32 (constantI S_ 32 0#32) : FVec Ideal S_ .f32) pads_S2x1x8_S2x1x128_000_000_161040 h_S_ : S2x1x128.Idx → EReal)
        (ix3 g (0 : Fin 1) (⟨16 + h, by omega⟩ : Fin 128))
      = argDt m c ⟨8 * g + h, by omega⟩ := by
    pointwise
    exact congrArg (argDt m c) (Fin.ext (by dsimp only; omega))
  exact e

theorem V_main_v4 (c : Dev nD) (j : Fin 128) : V m c main_v4 (ix2 (0 : Fin 1) j) = argNw m c j := by
  have e : (shapeCast S1x128 (m ((c : Thread nD τ).loc main_arg5)) shapeCasts_S128_S1x128 : FVec Ideal S1x128 .f32) (ix2 (0 : Fin 1) j)
      = argNw m c j := by
    pointwise
  exact e

/-- Where each window's block lies. -/
theorem idx_facts : ∀ t : Fin cfg0.N,
    (win0_0.index t 0 = t % 32 ∧ win0_0.index t 1 = t / 32) ∧ (win0_1.index t 0 = t % 32 ∧ win0_1.index t 1 = 2 + t / 32)
    ∧ (win0_2.index t 0 = t % 32 ∧ win0_2.index t 1 = 4 + t / 32) ∧ (win0_3.index t 0 = t % 32 ∧ win0_3.index t 1 = 6 + t / 32)
    ∧ (win0_4.index t 0 = t % 32 ∧ win0_4.index t 1 = 0)
    ∧ (win0_5.index t 0 = 0 ∧ win0_5.index t 1 = 0 ∧ win0_5.index t 2 = t / 32)
    ∧ (win0_6.index t 0 = 0 ∧ win0_6.index t 1 = 0 ∧ win0_6.index t 2 = 2 + t / 32)
    ∧ (win0_7.index t 0 = 0 ∧ win0_7.index t 1 = 0 ∧ win0_7.index t 2 = 4 + t / 32)
    ∧ (win0_8.index t 0 = t / 32 ∧ win0_8.index t 1 = 0 ∧ win0_8.index t 2 = 0)
    ∧ (win0_9.index t 0 = t / 32 ∧ win0_9.index t 1 = 0 ∧ win0_9.index t 2 = 0)
    ∧ (win0_10.index t 0 = 0 ∧ win0_10.index t 1 = 0) ∧ ((grid0.coords t 0).val = t / 32) :=
  (by decide +kernel : ∀ t : Fin grid0.N, _)

theorem N64 (t : Fin cfg0.N) : t.val < 64 := lt_of_lt_of_eq t.isLt (show cfg0.N = 64 from N_0)

/-! The windows of the projections, of the small columns, of the convolution, and of the parameters. -/

theorem blk0 (c : Dev nD) (t : Fin cfg0.N) (r : Fin 256) (j : Fin 1024) :
    iblk m c 0 t (ix2 r j) = argPa m c ⟨256 * (t.val % 32) + r.val, by omega⟩ ⟨1024 * (t.val / 32) + j.val, by have := N64 t; omega⟩ := by
  have hN := N64 t
  obtain ⟨⟨h0, h1⟩, -⟩ := idx_facts t
  unfold iblk
  rw [View.read_apply]
  refine Eq.trans (b := V m c main_arg0 (ix2 (⟨256 * (t.val % 32) + r.val, by omega⟩ : Fin 8192) (⟨1024 * (t.val / 32) + j.val, by omega⟩ : Fin 8192))) (congrArg (V m c main_arg0) ?_) (congrFun (V_main_arg0 m c) _)
  funext a
  apply Fin.ext
  match a with
  | ⟨0, _⟩ => show win0_0.index t 0 * 256 + 1 * (r.val) = 256 * (t.val % 32) + r.val; rw [h0]; omega
  | ⟨1, _⟩ => show win0_0.index t 1 * 1024 + 1 * (j.val) = 1024 * (t.val / 32) + j.val; rw [h1]; omega

theorem blk1 (c : Dev nD) (t : Fin cfg0.N) (r : Fin 256) (j : Fin 1024) :
    iblk m c 1 t (ix2 r j) = argPa m c ⟨256 * (t.val % 32) + r.val, by omega⟩ ⟨1024 * (2 + t.val / 32) + j.val, by have := N64 t; omega⟩ := by
  have hN := N64 t
  obtain ⟨-, ⟨h0, h1⟩, -⟩ := idx_facts t
  unfold iblk
  rw [View.read_apply]
  refine Eq.trans (b := V m c main_arg0 (ix2 (⟨256 * (t.val % 32) + r.val, by omega⟩ : Fin 8192) (⟨1024 * (2 + t.val / 32) + j.val, by omega⟩ : Fin 8192))) (congrArg (V m c main_arg0) ?_) (congrFun (V_main_arg0 m c) _)
  funext a
  apply Fin.ext
  match a with
  | ⟨0, _⟩ => show win0_1.index t 0 * 256 + 1 * (r.val) = 256 * (t.val % 32) + r.val; rw [h0]; omega
  | ⟨1, _⟩ => show win0_1.index t 1 * 1024 + 1 * (j.val) = 1024 * (2 + t.val / 32) + j.val; rw [h1]; omega

theorem blk2 (c : Dev nD) (t : Fin cfg0.N) (r : Fin 256) (j : Fin 1024) :
    iblk m c 2 t (ix2 r j) = argPa m c ⟨256 * (t.val % 32) + r.val, by omega⟩ ⟨1024 * (4 + t.val / 32) + j.val, by have := N64 t; omega⟩ := by
  have hN := N64 t
  obtain ⟨-, -, ⟨h0, h1⟩, -⟩ := idx_facts t
  unfold iblk
  rw [View.read_apply]
  refine Eq.trans (b := V m c main_arg0 (ix2 (⟨256 * (t.val % 32) + r.val, by omega⟩ : Fin 8192) (⟨1024 * (4 + t.val / 32) + j.val, by omega⟩ : Fin 8192))) (congrArg (V m c main_arg0) ?_) (congrFun (V_main_arg0 m c) _)
  funext a
  apply Fin.ext
  match a with
  | ⟨0, _⟩ => show win0_2.index t 0 * 256 + 1 * (r.val) = 256 * (t.val % 32) + r.val; rw [h0]; omega
  | ⟨1, _⟩ => show win0_2.index t 1 * 1024 + 1 * (j.val) = 1024 * (4 + t.val / 32) + j.val; rw [h1]; omega

theorem blk3 (c : Dev nD) (t : Fin cfg0.N) (r : Fin 256) (j : Fin 1024) :
    iblk m c 3 t (ix2 r j) = argPa m c ⟨256 * (t.val % 32) + r.val, by omega⟩ ⟨1024 * (6 + t.val / 32) + j.val, by have := N64 t; omega⟩ := by
  have hN := N64 t
  obtain ⟨-, -, -, ⟨h0, h1⟩, -⟩ := idx_facts t
  unfold iblk
  rw [View.read_apply]
  refine Eq.trans (b := V m c main_arg0 (ix2 (⟨256 * (t.val % 32) + r.val, by omega⟩ : Fin 8192) (⟨1024 * (6 + t.val / 32) + j.val, by omega⟩ : Fin 8192))) (congrArg (V m c main_arg0) ?_) (congrFun (V_main_arg0 m c) _)
  funext a
  apply Fin.ext
  match a with
  | ⟨0, _⟩ => show win0_3.index t 0 * 256 + 1 * (r.val) = 256 * (t.val % 32) + r.val; rw [h0]; omega
  | ⟨1, _⟩ => show win0_3.index t 1 * 1024 + 1 * (j.val) = 1024 * (6 + t.val / 32) + j.val; rw [h1]; omega

theorem blk4 (c : Dev nD) (t : Fin cfg0.N) (r : Fin 256) (j : Fin 128) :
    iblk m c 4 t (ix2 r j) = argSm m c ⟨256 * (t.val % 32) + r.val, by omega⟩ j := by
  have hN := N64 t
  obtain ⟨-, -, -, -, ⟨h0, h1⟩, -⟩ := idx_facts t
  unfold iblk
  rw [View.read_apply]
  refine Eq.trans (b := V m c main_arg1 (ix2 (⟨256 * (t.val % 32) + r.val, by omega⟩ : Fin 8192) j)) (congrArg (V m c main_arg1) ?_) (congrFun (V_main_arg1 m c) _)
  funext a
  apply Fin.ext
  match a with
  | ⟨0, _⟩ => show win0_4.index t 0 * 256 + 1 * (r.val) = 256 * (t.val % 32) + r.val; rw [h0]; omega
  | ⟨1, _⟩ => show win0_4.index t 1 * 128 + 1 * (j.val) = j.val; rw [h1]; omega

theorem blk5 (c : Dev nD) (t : Fin cfg0.N) (i : Fin 4) (j : Fin 1024) :
    iblk m c 5 t (ix3 (0 : Fin 1) i j) = argCv m c i ⟨1024 * (t.val / 32) + j.val, by have := N64 t; omega⟩ := by
  have hN := N64 t
  obtain ⟨-, -, -, -, -, ⟨h0, h1, h2⟩, -⟩ := idx_facts t
  unfold iblk
  rw [View.read_apply]
  refine Eq.trans (b := V m c main_arg2 (ix3 (0 : Fin 2) i (⟨1024 * (t.val / 32) + j.val, by omega⟩ : Fin 6144))) (congrArg (V m c main_arg2) ?_) (congrFun (V_main_arg2 m c) _)
  funext a
  apply Fin.ext
  match a with
  | ⟨0, _⟩ => show win0_5.index t 0 * 1 + 1 * (0) = 0; rw [h0]
  | ⟨1, _⟩ => show win0_5.index t 1 * 4 + 1 * (i.val) = i.val; rw [h1]; omega
  | ⟨2, _⟩ => show win0_5.index t 2 * 1024 + 1 * (j.val) = 1024 * (t.val / 32) + j.val; rw [h2]; omega

theorem blk6 (c : Dev nD) (t : Fin cfg0.N) (i : Fin 4) (j : Fin 1024) :
    iblk m c 6 t (ix3 (0 : Fin 1) i j) = argCv m c i ⟨1024 * (2 + t.val / 32) + j.val, by have := N64 t; omega⟩ := by
  have hN := N64 t
  obtain ⟨-, -, -, -, -, -, ⟨h0, h1, h2⟩, -⟩ := idx_facts t
  unfold iblk
  rw [View.read_apply]
  refine Eq.trans (b := V m c main_arg2 (ix3 (0 : Fin 2) i (⟨1024 * (2 + t.val / 32) + j.val, by omega⟩ : Fin 6144))) (congrArg (V m c main_arg2) ?_) (congrFun (V_main_arg2 m c) _)
  funext a
  apply Fin.ext
  match a with
  | ⟨0, _⟩ => show win0_6.index t 0 * 1 + 1 * (0) = 0; rw [h0]
  | ⟨1, _⟩ => show win0_6.index t 1 * 4 + 1 * (i.val) = i.val; rw [h1]; omega
  | ⟨2, _⟩ => show win0_6.index t 2 * 1024 + 1 * (j.val) = 1024 * (2 + t.val / 32) + j.val; rw [h2]; omega

theorem blk7 (c : Dev nD) (t : Fin cfg0.N) (i : Fin 4) (j : Fin 1024) :
    iblk m c 7 t (ix3 (0 : Fin 1) i j) = argCv m c i ⟨1024 * (4 + t.val / 32) + j.val, by have := N64 t; omega⟩ := by
  have hN := N64 t
  obtain ⟨-, -, -, -, -, -, -, ⟨h0, h1, h2⟩, -⟩ := idx_facts t
  unfold iblk
  rw [View.read_apply]
  refine Eq.trans (b := V m c main_arg2 (ix3 (0 : Fin 2) i (⟨1024 * (4 + t.val / 32) + j.val, by omega⟩ : Fin 6144))) (congrArg (V m c main_arg2) ?_) (congrFun (V_main_arg2 m c) _)
  funext a
  apply Fin.ext
  match a with
  | ⟨0, _⟩ => show win0_7.index t 0 * 1 + 1 * (0) = 0; rw [h0]
  | ⟨1, _⟩ => show win0_7.index t 1 * 4 + 1 * (i.val) = i.val; rw [h1]; omega
  | ⟨2, _⟩ => show win0_7.index t 2 * 1024 + 1 * (j.val) = 1024 * (4 + t.val / 32) + j.val; rw [h2]; omega

theorem blk8 (c : Dev nD) (t : Fin cfg0.N) (h : Fin 8) :
    iblk m c 8 t (ix3 (0 : Fin 1) (0 : Fin 1) (⟨16 + h, by omega⟩ : Fin 128)) = argAl m c ⟨8 * (t.val / 32) + h, by have := N64 t; omega⟩ := by
  have hN := N64 t
  obtain ⟨-, -, -, -, -, -, -, -, ⟨h0, h1, h2⟩, -⟩ := idx_facts t
  unfold iblk
  rw [View.read_apply]
  refine Eq.trans (b := V m c main_v1 (ix3 (⟨t.val / 32, by omega⟩ : Fin 2) (0 : Fin 1) (⟨16 + h, by omega⟩ : Fin 128))) (congrArg (V m c main_v1) ?_) (V_main_v1 m c ⟨t.val / 32, by omega⟩ h)
  funext a
  apply Fin.ext
  match a with
  | ⟨0, _⟩ => show win0_8.index t 0 * 1 + 1 * (0) = t.val / 32; rw [h0]; omega
  | ⟨1, _⟩ => show win0_8.index t 1 * 1 + 1 * (0) = 0; rw [h1]
  | ⟨2, _⟩ => show win0_8.index t 2 * 128 + 1 * (16 + h.val) = 16 + h.val; rw [h2]; omega

theorem blk9 (c : Dev nD) (t : Fin cfg0.N) (h : Fin 8) :
    iblk m c 9 t (ix3 (0 : Fin 1) (0 : Fin 1) (⟨16 + h, by omega⟩ : Fin 128)) = argDt m c ⟨8 * (t.val / 32) + h, by have := N64 t; omega⟩ := by
  have hN := N64 t
  obtain ⟨-, -, -, -, -, -, -, -, -, ⟨h0, h1, h2⟩, -⟩ := idx_facts t
  unfold iblk
  rw [View.read_apply]
  refine Eq.trans (b := V m c main_v3 (ix3 (⟨t.val / 32, by omega⟩ : Fin 2) (0 : Fin 1) (⟨16 + h, by omega⟩ : Fin 128))) (congrArg (V m c main_v3) ?_) (V_main_v3 m c ⟨t.val / 32, by omega⟩ h)
  funext a
  apply Fin.ext
  match a with
  | ⟨0, _⟩ => show win0_9.index t 0 * 1 + 1 * (0) = t.val / 32; rw [h0]; omega
  | ⟨1, _⟩ => show win0_9.index t 1 * 1 + 1 * (0) = 0; rw [h1]
  | ⟨2, _⟩ => show win0_9.index t 2 * 128 + 1 * (16 + h.val) = 16 + h.val; rw [h2]; omega

theorem blk10 (c : Dev nD) (t : Fin cfg0.N) (j : Fin 128) :
    iblk m c 10 t (ix2 (0 : Fin 1) j) = argNw m c j := by
  have hN := N64 t
  obtain ⟨-, -, -, -, -, -, -, -, -, -, ⟨h0, h1⟩, -⟩ := idx_facts t
  unfold iblk
  rw [View.read_apply]
  refine Eq.trans (b := V m c main_v4 (ix2 (0 : Fin 1) j)) (congrArg (V m c main_v4) ?_) (V_main_v4 m c j)
  funext a
  apply Fin.ext
  match a with
  | ⟨0, _⟩ => show win0_10.index t 0 * 1 + 1 * (0) = 0; rw [h0]
  | ⟨1, _⟩ => show win0_10.index t 1 * 128 + 1 * (j.val) = j.val; rw [h1]; omega

end Cert.KernelIdeal.Delta
-- ==== Proof.Grid.lean ====
module

public import proofs.«01_k».proof.Proof.RunA
public import proofs.«01_k».proof.Proof.RunB
public import proofs.«01_k».proof.Proof.Windows

/-!
The grid goes through the blocks of each group of heads in the order of the tokens, so by induction on the point the
kernel's state is the layer's, and its result array ends holding the layer's result.
-/

@[expose] public section

set_option maxRecDepth 16384

noncomputable section

open Idealize.ShloMosaic Idealize.ShloMosaic.TcCoe Idealize.SL.Sem
open scoped BigOperators

namespace Cert.KernelIdeal.Delta

open Cert.KernelIdeal Cert.KernelIdeal.Gen Cert.Delta

variable (m : (ℓ : Loc nD τ sig) → Buf (Elt Ideal) ℓ)

/-- Head `h` of the layer, from the arguments. -/
abbrev argHead (c : Dev nD) (h : Fin 16) : Head := layerHead (argPa m c) (argSm m c) (argCv m c) (argAl m c) (argDt m c) h

/-- The block at a grid point, given the state and the carried rows. -/
def blkAt (c : Dev nD) (t : Fin cfg0.N) (s : Vec Ideal S8x128x128 .f32) (p : Fin 3 → Vec Ideal S1x8x1024 .f32) : Blk :=
  blk (grid0.coords t) (iblk m c 0 t) (iblk m c 1 t) (iblk m c 2 t) (iblk m c 4 t) (iblk m c 5 t) (iblk m c 6 t)
    (iblk m c 7 t) (iblk m c 8 t) (iblk m c 9 t) s p

/-- Column `j` of projection `i` of group `g`. -/
def pcol (g : ℕ) (hg : g < 2) (i : Fin 3) (j : Fin 1024) : Fin 8192 := ⟨2048 * i + (1024 * g + j), by omega⟩

theorem tok_mk (t : ℕ) (h : t < 8192) : tok t = ⟨t, h⟩ := Fin.ext (Nat.mod_eq_of_lt h)

theorem fed (c : Dev nD) (t : Fin cfg0.N) (h : Fin 8) (s : Vec Ideal S8x128x128 .f32) (p : Fin 3 → Vec Ideal S1x8x1024 .f32)
    (hp : ∀ (i : Fin 3) (r : Fin 8) (j : Fin 1024), p i (ix3 0 r j)
      = if 256 * (t.val % 32) + r < 8 then 0
        else argPa m c (tok (256 * (t.val % 32) + r - 8)) (pcol (t.val / 32) (by have := N64 t; omega) i j)) :
    Fed (blkAt m c t s p) (argHead m c ⟨8 * (t.val / 32) + h, by have := N64 t; omega⟩)
      ⟨t.val / 32, by have := N64 t; omega⟩ h (256 * (t.val % 32)) := by
  have hN := N64 t
  have hT : ∀ r : Fin 256, tok (256 * (t.val % 32) + r) = ⟨256 * (t.val % 32) + r.val, by omega⟩ := fun r => tok_mk _ (by omega)
  constructor
  · show BitVec.ofNat 32 (grid0.coords t 0).val = _
    obtain ⟨-, -, -, -, -, -, -, -, -, -, -, hc⟩ := idx_facts t
    rw [hc]
  · intro r d
    refine (blk0 m c t r (hcol h d)).trans ?_
    show _ = argPa m c (tok _) _
    rw [hT]
    congr 2
    dsimp only [hcol]; omega
  · intro r d
    refine (blk1 m c t r (hcol h d)).trans ?_
    show _ = argPa m c (tok _) _
    rw [hT]
    congr 2
    dsimp only [hcol]; omega
  · intro r d
    refine (blk2 m c t r (hcol h d)).trans ?_
    show _ = argPa m c (tok _) _
    rw [hT]
    congr 2
    dsimp only [hcol]; omega
  · intro r d
    refine (hp 0 r (hcol h d)).trans ?_
    congr 2
    apply Fin.ext; dsimp only [hcol, pcol]; simp; omega
  · intro r d
    refine (hp 1 r (hcol h d)).trans ?_
    congr 2
    apply Fin.ext; dsimp only [hcol, pcol]; simp; omega
  · intro r d
    refine (hp 2 r (hcol h d)).trans ?_
    congr 2
    apply Fin.ext; dsimp only [hcol, pcol]; simp; omega
  · intro i d
    refine (blk5 m c t i (hcol h d)).trans ?_
    show _ = argCv m c i _
    congr 2
    dsimp only [hcol]; omega
  · intro i d
    refine (blk6 m c t i (hcol h d)).trans ?_
    show _ = argCv m c i _
    congr 2
    dsimp only [hcol]; omega
  · intro i d
    refine (blk7 m c t i (hcol h d)).trans ?_
    show _ = argCv m c i _
    congr 2
    dsimp only [hcol]; omega
  · intro r
    refine (blk4 m c t r _).trans ?_
    show _ = argSm m c (tok _) _
    rw [hT]
  · intro r
    refine (blk4 m c t r _).trans ?_
    show _ = argSm m c (tok _) _
    rw [hT]
    congr 2
    dsimp only; omega
  · exact blk8 m c t h
  · exact blk9 m c t h

/-- What the kernel carries after point `n` of the grid. -/
structure Carried (c : Dev nD) (n : ℕ) (hn : n < 64) (s : Vec Ideal S8x128x128 .f32) (p : Vec Ideal S3x8x1024 .f32) : Prop where
  state : ∀ (h : Fin 8) (i j : Fin 128), s (ix3 h i j)
    = (((argHead m c ⟨8 * (n / 32) + h, by omega⟩).state (256 * (n % 32) + 256) i j : ℝ) : EReal)
  rows : ∀ (i : Fin 3) (r : Fin 8) (j : Fin 1024), p (ix3 i r j)
    = argPa m c ⟨256 * (n % 32) + (248 + r), by omega⟩ (pcol (n / 32) (by omega) i j)

/-- What the kernel leaves in the result's block at point `t`. -/
def Block (c : Dev nD) (t : Fin cfg0.N) (y : Vec Ideal S256x1024 .bf16) : Prop :=
  ∀ (r : Fin 256) (j : Fin 1024), y (ix2 r j)
    = layerOut (argPa m c) (argSm m c) (argCv m c) (argAl m c) (argDt m c) (argNw m c) ⟨256 * (t.val % 32) + r, by omega⟩
        ⟨8 * (t.val / 32) + j.val / 128, by have := N64 t; omega⟩ ⟨j.val % 128, by omega⟩

variable {m} in
theorem rows_eq (c : Dev nD) (t : Fin cfg0.N) (i : Fin 3) (r : Fin 8) (j : Fin 1024) :
    lastRows ![iblk m c 0 t, iblk m c 1 t, iblk m c 2 t] (ix3 i r j)
      = argPa m c ⟨256 * (t.val % 32) + (248 + r), by omega⟩ (pcol (t.val / 32) (by have := N64 t; omega) i j) := by
  fin_cases i
  · refine (blk0 m c t ⟨248 + r, by omega⟩ j).trans (congrArg _ (Fin.ext ?_))
    simp [pcol]
  · refine (blk1 m c t ⟨248 + r, by omega⟩ j).trans (congrArg _ (Fin.ext ?_))
    simp [pcol]; omega
  · refine (blk2 m c t ⟨248 + r, by omega⟩ j).trans (congrArg _ (Fin.ext ?_))
    simp [pcol]; omega

section
variable {m} (c : Dev nD) (R : Finite (argPa m c) (argSm m c) (argCv m c) (argAl m c) (argDt m c))
include R

/-- The block's results, from its outputs. -/
theorem block_of (t : Fin cfg0.N) (D : Blk)
    (F : ∀ h : Fin 8, Fed D (argHead m c ⟨8 * (t.val / 32) + h, by have := N64 t; omega⟩)
      ⟨t.val / 32, by have := N64 t; omega⟩ h (256 * (t.val % 32)))
    (hS : ∀ (h : Fin 8) (i j : Fin 128), D.state (ix3 h i j)
      = (((argHead m c ⟨8 * (t.val / 32) + h, by have := N64 t; omega⟩).state (256 * (t.val % 32)) i j : ℝ) : EReal))
    (y : Vec Ideal S256x1024 .bf16) (hy : ∀ i, y i = blockAt D.out (iblk m c 10 t) (iblk m c 3 t) i) : Block m c t y := by
  have hN := N64 t
  intro r j
  rw [hy]
  have er : (ix2 r j : S256x1024.Idx) = ix2 (⟨64 * (⟨r.val / 64, by omega⟩ : Fin 4).val + (⟨r.val % 64, by omega⟩ : Fin 64).val, by dsimp only; omega⟩ : Fin 256)
      (⟨128 * (⟨j.val / 128, by omega⟩ : Fin 8).val + (⟨j.val % 128, by omega⟩ : Fin 128).val, by dsimp only; omega⟩ : Fin 1024) := by
    congr 1
    · apply Fin.ext; dsimp only; omega
    · apply Fin.ext; dsimp only; omega
  rw [er, blockAt_tile]
  unfold layerOut
  have eo : ∀ e, D.out ⟨r.val / 64, by omega⟩ (ix3 (⟨j.val / 128, by omega⟩ : Fin 8) (⟨r.val % 64, by omega⟩ : Fin 64) e)
      = (((argHead m c ⟨8 * (t.val / 32) + j.val / 128, by omega⟩).read (256 * (t.val % 32) + r) e : ℝ) : EReal) := by
    intro e
    rw [Fed.out (F ⟨j.val / 128, by omega⟩) (R.head _) (hS _)]
    congr 2
    dsimp only; omega
  simp only [eo]
  congr 1
  · exact blk10 m c t _
  · refine (blk3 m c t _ _).trans ?_
    congr 1
    · apply Fin.ext; dsimp only; omega
    · apply Fin.ext; dsimp only; omega

theorem first (t : Fin cfg0.N) (acc : Vec Ideal S256x1024 .bf16 × Vec Ideal S8x128x128 .f32 × Vec Ideal S3x8x1024 .f32) (h0 : t.val % 32 = 0) :
    Carried m c t.val (N64 t) (Value.stAt0 m c t.val t.isLt acc).2.1 (Value.stAt0 m c t.val t.isLt acc).2.2
      ∧ Block m c t (Value.stAt0 m c t.val t.isLt acc).1 := by
  have hN := N64 t
  have F : ∀ h : Fin 8, Fed (blkAt m c t (fun _ => (0 : EReal)) (fun _ _ => (0 : EReal)))
      (argHead m c ⟨8 * (t.val / 32) + h, by omega⟩) ⟨t.val / 32, by omega⟩ h (256 * (t.val % 32)) := fun h =>
    fed m c t h _ _ fun i r j => (if_pos (by omega)).symm
  have hS : ∀ (h : Fin 8) (i j : Fin 128), (blkAt m c t (fun _ => (0 : EReal)) (fun _ _ => (0 : EReal))).state (ix3 h i j)
      = (((argHead m c ⟨8 * (t.val / 32) + h, by omega⟩).state (256 * (t.val % 32)) i j : ℝ) : EReal) := by
    intro h i j
    rw [h0]
    rfl
  rw [Value.stAt0_A m c t acc h0]
  dsimp only
  refine ⟨⟨fun h i j => ?_, fun i r j => ?_⟩, ?_⟩
  · rw [CaseA.state]
    exact (F h).st4 (R.head _) (hS h) i j
  · rw [CaseA.carry]
    exact rows_eq c t i r j
  · exact block_of c R t _ F hS _ fun i => CaseA.out ..

theorem later (t : Fin cfg0.N) (acc : Vec Ideal S256x1024 .bf16 × Vec Ideal S8x128x128 .f32 × Vec Ideal S3x8x1024 .f32) (h0 : ¬t.val % 32 = 0)
    (C : Carried m c (t.val - 1) (by have := N64 t; omega) acc.2.1 acc.2.2) :
    Carried m c t.val (N64 t) (Value.stAt0 m c t.val t.isLt acc).2.1 (Value.stAt0 m c t.val t.isLt acc).2.2
      ∧ Block m c t (Value.stAt0 m c t.val t.isLt acc).1 := by
  have hN := N64 t
  have eg : (t.val - 1) / 32 = t.val / 32 := by omega
  have et : 256 * ((t.val - 1) % 32) + 256 = 256 * (t.val % 32) := by omega
  have F : ∀ h : Fin 8, Fed (blkAt m c t acc.2.1 (slab acc.2.2))
      (argHead m c ⟨8 * (t.val / 32) + h, by omega⟩) ⟨t.val / 32, by omega⟩ h (256 * (t.val % 32)) := fun h =>
    fed m c t h _ _ fun i r j => by
      rw [if_neg (by omega)]
      refine (C.rows i r j).trans ?_
      congr 1
      · apply Fin.ext
        rw [tok_mk _ (by omega)]
        dsimp only; omega
      · apply Fin.ext
        dsimp only [pcol]; omega
  have hS : ∀ (h : Fin 8) (i j : Fin 128), (blkAt m c t acc.2.1 (slab acc.2.2)).state (ix3 h i j)
      = (((argHead m c ⟨8 * (t.val / 32) + h, by omega⟩).state (256 * (t.val % 32)) i j : ℝ) : EReal) := by
    intro h i j
    refine (C.state h i j).trans ?_
    simp only [eg, et]
  rw [Value.stAt0_B m c t acc h0]
  dsimp only
  refine ⟨⟨fun h i j => ?_, fun i r j => ?_⟩, ?_⟩
  · rw [CaseB.state]
    exact (F h).st4 (R.head _) (hS h) i j
  · rw [CaseB.carry]
    exact rows_eq c t i r j
  · exact block_of c R t _ F hS _ fun i => CaseB.out ..

theorem at_point (n : ℕ) (hn : n < cfg0.N) :
    Carried m c n (N64 ⟨n, hn⟩) (outsAt0 m c n hn).2.1 (outsAt0 m c n hn).2.2 ∧ Block m c ⟨n, hn⟩ (outsAt0 m c n hn).1 := by
  induction n with
  | zero =>
    rw [Value.outsAt0_zero]
    exact first c R ⟨0, hn⟩ _ (Nat.zero_mod _)
  | succ n ih =>
    rw [Value.outsAt0_succ]
    by_cases h0 : (n + 1) % 32 = 0
    · exact first c R ⟨n + 1, hn⟩ _ h0
    · exact later c R ⟨n + 1, hn⟩ _ h0 (ih (Nat.lt_of_succ_lt hn)).1

/-- The kernel's result array ends holding the layer's result. -/
theorem result (t : Fin 8192) (h : Fin 16) (j : Fin 128) :
    Value.G11 m c (ix2 t (⟨128 * h + j, by omega⟩ : Fin 2048))
      = layerOut (argPa m c) (argSm m c) (argCv m c) (argAl m c) (argDt m c) (argNw m c) t h j := by
  have hp : Value.pt11Of (ix2 t (⟨128 * h + j, by omega⟩ : Fin 2048)) = t.val / 256 + 32 * (h.val / 8) := by
    show 1 * (t.val / 256 - 0) + 32 * ((128 * h.val + j.val) / 1024 - 0) = _
    omega
  have hlt : t.val / 256 + 32 * (h.val / 8) < cfg0.N := by
    rw [show cfg0.N = 64 from N_0]; omega
  have eN : (t.val / 256 + 32 * (h.val / 8)) % 32 = t.val / 256 := by omega
  have eD : (t.val / 256 + 32 * (h.val / 8)) / 32 = h.val / 8 := by omega
  have B := (at_point c R _ hlt).2 ⟨t.val % 256, by omega⟩ ⟨(128 * h + j) % 1024, by omega⟩
  rw [Value.outsAt0_sweep] at B
  unfold Value.G11
  rw [dif_pos (by rw [hp]; exact hlt)]
  have e : ∀ (n n' : ℕ) (hn : 0 + n < cfg0.N) (hn' : 0 + n' < cfg0.N) (y y' : S256x1024.Idx), n = n' → y = y' →
      (Pipeline.accAt (fun n h => Value.stAt0 m c n h Value.junk0) (Value.stAt0 m c) 0 n hn).1 y
        = (Pipeline.accAt (fun n h => Value.stAt0 m c n h Value.junk0) (Value.stAt0 m c) 0 n' hn').1 y' := by
    intro n n' hn hn' y y' e1 e2
    subst e1 e2
    rfl
  refine (e _ _ _ (by omega) _ (ix2 (⟨t.val % 256, by omega⟩ : Fin 256) (⟨(128 * h + j) % 1024, by omega⟩ : Fin 1024)) hp ?_).trans (B.trans ?_)
  · funext a
    match a with
    | ⟨0, _⟩ => rfl
    | ⟨1, _⟩ => rfl
  · congr 1 <;> apply Fin.ext <;> dsimp only <;> omega

end

end Cert.KernelIdeal.Delta
-- ==== Proof.RefEntry.lean ====
module

public import proofs.«01_k».proof.Proof.Gen.ReferenceIdeal.Run
public import proofs.«01_k».proof.Proof.Layer
public import Idealize.ShloMosaic.Lib.Pointwise
public import Idealize.ShloMosaic.Lib.ValueIdx

/-!
The operations the reference runs before its loop, stretch by stretch: the convolution, the gate of each channel, the
normalised queries and keys, the step sizes and the decays.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.ReferenceIdeal.Delta

open Cert.ReferenceIdeal Cert.ReferenceIdeal.Gen Cert.ReferenceIdeal.Value Cert.Delta

/-- The four taps, summed from the oldest. -/
def taps (w : FVec Ideal S4x6144 .f32) (x : FVec Ideal S8195x6144 .f32) : FVec Ideal S8192x6144 .f32 :=
  addf (addf (addf (mulf (broadcastInDim S8192x6144 ![0, 1] bcast_S1x6144_S8192x6144_0_1 (broadcastInDim S1x6144 ![1] bcast_S6144_S1x6144_1
      (shapeCast S6144 (extractStridedSlice S1x6144 ![0, 0] w slices_S4x6144_S1x6144_0_0) shapeCasts_S1x6144_S6144)))
      (extractStridedSlice S8192x6144 ![0, 0] x slices_S8195x6144_S8192x6144_0_0))
    (mulf (broadcastInDim S8192x6144 ![0, 1] bcast_S1x6144_S8192x6144_0_1 (broadcastInDim S1x6144 ![1] bcast_S6144_S1x6144_1
      (shapeCast S6144 (extractStridedSlice S1x6144 ![1, 0] w slices_S4x6144_S1x6144_1_0) shapeCasts_S1x6144_S6144)))
      (extractStridedSlice S8192x6144 ![1, 0] x slices_S8195x6144_S8192x6144_1_0)))
    (mulf (broadcastInDim S8192x6144 ![0, 1] bcast_S1x6144_S8192x6144_0_1 (broadcastInDim S1x6144 ![1] bcast_S6144_S1x6144_1
      (shapeCast S6144 (extractStridedSlice S1x6144 ![2, 0] w slices_S4x6144_S1x6144_2_0) shapeCasts_S1x6144_S6144)))
      (extractStridedSlice S8192x6144 ![2, 0] x slices_S8195x6144_S8192x6144_2_0)))
    (mulf (broadcastInDim S8192x6144 ![0, 1] bcast_S1x6144_S8192x6144_0_1 (broadcastInDim S1x6144 ![1] bcast_S6144_S1x6144_1
      (shapeCast S6144 (extractStridedSlice S1x6144 ![3, 0] w slices_S4x6144_S1x6144_3_0) shapeCasts_S1x6144_S6144)))
      (extractStridedSlice S8192x6144 ![3, 0] x slices_S8195x6144_S8192x6144_3_0))

theorem taps_apply (w : FVec Ideal S4x6144 .f32) (x : FVec Ideal S8195x6144 .f32) (t : Fin 8192) (j : Fin 6144) :
    taps w x (ix2 t j) = w (ix2 (0 : Fin 4) j) * x (ix2 (⟨t, by omega⟩ : Fin 8195) j)
      + w (ix2 (1 : Fin 4) j) * x (ix2 (⟨1 + t, by omega⟩ : Fin 8195) j)
      + w (ix2 (2 : Fin 4) j) * x (ix2 (⟨2 + t, by omega⟩ : Fin 8195) j)
      + w (ix2 (3 : Fin 4) j) * x (ix2 (⟨3 + t, by omega⟩ : Fin 8195) j) := by
  unfold taps
  pointwise

/-- The rows with three zero rows before them. -/
def shifted (x : FVec Ideal S8192x6144 .f32) : FVec Ideal S8195x6144 .f32 :=
  pad S8195x6144 ![3, 0] ![0, 0] ![0, 0] x (sitofp .f32 (constantI S_ 32 0#32)) pads_S8192x6144_S8195x6144_300_000 h_S_

theorem shifted_lo (x : FVec Ideal S8192x6144 .f32) (s : Fin 3) (j : Fin 6144) :
    shifted x (ix2 (⟨s, by omega⟩ : Fin 8195) j) = 0 := by
  unfold shifted
  pointwise
  rw [dif_neg fun h => h.1]
  show (((0#32 : BitVec 32).toInt : ℝ) : EReal) = 0
  simp

theorem shifted_hi (x : FVec Ideal S8192x6144 .f32) (t : Fin 8192) (j : Fin 6144) :
    shifted x (ix2 (⟨3 + t, by omega⟩ : Fin 8195) j) = x (ix2 t j) := by
  unfold shifted
  pointwise

/-- A channel times its logistic. -/
def gate (y : FVec Ideal S8192x6144 .f32) : FVec Ideal S8192x6144 .f32 :=
  mulf y (Host.divf (broadcastInDim S8192x6144 ![] bcast_S_S8192x6144 (constant S_ .f32 0x3F800000#32))
    (addf (broadcastInDim S8192x6144 ![] bcast_S_S8192x6144 (constant S_ .f32 0x3F800000#32)) (Host.exp (Host.negf y))))

theorem gate_apply (y : FVec Ideal S8192x6144 .f32) (t : Fin 8192) (j : Fin 6144) :
    gate y (ix2 t j) = silu (y (ix2 t j)) := by
  unfold gate silu Ideal.logistic
  pointwise

/-- A head's vectors divided by their lengths. -/
def units (x : FVec Ideal S8192x16x128 .f32) : FVec Ideal S8192x16x128 .f32 :=
  mulf x (broadcastInDim S8192x16x128 ![0, 1, 2] bcast_S8192x16x1_S8192x16x128_0_1_2 (Host.rsqrt (addf
    (broadcastInDim S8192x16x1 ![0, 1] bcast_S8192x16_S8192x16x1_0_1
      (Host.reduceAdd (mulf x x) (constant S_ .f32 0x00000000#32) reducesTo_S8192x16x128_S8192x16_d2 h_S_))
    (broadcastInDim S8192x16x1 ![] bcast_S_S8192x16x1 (constant S_ .f32 0x358637BD#32)))))

theorem units_apply (x : FVec Ideal S8192x16x128 .f32) (t : Fin 8192) (h : Fin 16) (d : Fin 128) :
    units x (ix3 t h d) = unit (fun d => x (ix3 t h d)) d := by
  unfold units unit
  pointwise

/-- A third of the channels, by heads. -/
def heads0 (y : FVec Ideal S8192x6144 .f32) : FVec Ideal S8192x16x128 .f32 :=
  shapeCast S8192x16x128 (extractStridedSlice S8192x2048 ![0, 0] y slices_S8192x6144_S8192x2048_0_0) shapeCasts_S8192x2048_S8192x16x128
def heads1 (y : FVec Ideal S8192x6144 .f32) : FVec Ideal S8192x16x128 .f32 :=
  shapeCast S8192x16x128 (extractStridedSlice S8192x2048 ![0, 2048] y slices_S8192x6144_S8192x2048_0_2048) shapeCasts_S8192x2048_S8192x16x128
def heads2 (y : FVec Ideal S8192x6144 .f32) : FVec Ideal S8192x16x128 .f32 :=
  shapeCast S8192x16x128 (extractStridedSlice S8192x2048 ![0, 4096] y slices_S8192x6144_S8192x2048_0_4096) shapeCasts_S8192x2048_S8192x16x128

theorem heads0_apply (y : FVec Ideal S8192x6144 .f32) (t : Fin 8192) (h : Fin 16) (d : Fin 128) :
    heads0 y (ix3 t h d) = y (ix2 t (⟨128 * h + d, by omega⟩ : Fin 6144)) := by
  unfold heads0
  pointwise
  exact congrArg (fun k => y (ix2 t k)) (Fin.ext (by dsimp only; omega))
theorem heads1_apply (y : FVec Ideal S8192x6144 .f32) (t : Fin 8192) (h : Fin 16) (d : Fin 128) :
    heads1 y (ix3 t h d) = y (ix2 t (⟨2048 + (128 * h + d), by omega⟩ : Fin 6144)) := by
  unfold heads1
  pointwise
  exact congrArg (fun k => y (ix2 t k)) (Fin.ext (by dsimp only; omega))
theorem heads2_apply (y : FVec Ideal S8192x6144 .f32) (t : Fin 8192) (h : Fin 16) (d : Fin 128) :
    heads2 y (ix3 t h d) = y (ix2 t (⟨4096 + (128 * h + d), by omega⟩ : Fin 6144)) := by
  unfold heads2
  pointwise
  exact congrArg (fun k => y (ix2 t k)) (Fin.ext (by dsimp only; omega))

/-- The queries' scale. -/
def scaled (x : FVec Ideal S8192x16x128 .f32) : FVec Ideal S8192x16x128 .f32 :=
  mulf x (broadcastInDim S8192x16x128 ![] bcast_S_S8192x16x128 (constant S_ .f32 0x3DB504F3#32))

theorem scaled_apply (x : FVec Ideal S8192x16x128 .f32) (t : Fin 8192) (h : Fin 16) (d : Fin 128) :
    scaled x (ix3 t h d) = x (ix3 t h d) * Ideal.ofBits .f32 0x3DB504F3#32 := by
  unfold scaled
  pointwise

/-- The step sizes. -/
def betas (x : FVec Ideal S8192x128 .f32) : FVec Ideal S8192x16 .f32 :=
  Host.divf (broadcastInDim S8192x16 ![] bcast_S_S8192x16 (constant S_ .f32 0x3F800000#32))
    (addf (broadcastInDim S8192x16 ![] bcast_S_S8192x16 (constant S_ .f32 0x3F800000#32))
      (Host.exp (Host.negf (extractStridedSlice S8192x16 ![0, 0] x slices_S8192x128_S8192x16_0_0))))

theorem betas_apply (x : FVec Ideal S8192x128 .f32) (t : Fin 8192) (h : Fin 16) :
    betas x (ix2 t h) = Ideal.logistic (x (ix2 t (⟨h, by omega⟩ : Fin 128))) := by
  unfold betas Ideal.logistic
  pointwise

/-- The decays' arguments. -/
def steps (x : FVec Ideal S8192x128 .f32) (dt : FVec Ideal S16 .f32) : FVec Ideal S8192x16 .f32 :=
  addf (extractStridedSlice S8192x16 ![0, 16] x slices_S8192x128_S8192x16_0_16)
    (broadcastInDim S8192x16 ![0, 1] bcast_S1x16_S8192x16_0_1 (broadcastInDim S1x16 ![1] bcast_S16_S1x16_1 dt))

theorem steps_apply (x : FVec Ideal S8192x128 .f32) (dt : FVec Ideal S16 .f32) (t : Fin 8192) (h : Fin 16) :
    steps x dt (ix2 t h) = x (ix2 t (⟨16 + h, by omega⟩ : Fin 128)) + dt (ix1 h) := by
  unfold steps
  pointwise

/-- The softplus, which leaves an argument that differs from itself as it is. -/
def softs (x : FVec Ideal S8192x16 .f32) : FVec Ideal S8192x16 .f32 :=
  let z : FVec Ideal S8192x16 .f32 := broadcastInDim S8192x16 ![] bcast_S_S8192x16 (constant S_ .f32 0x00000000#32)
  select (cmpf .une (subf x z) (subf x z)) (addf x z)
    (addf (maximumf x z) (Host.log1p (Host.exp (Host.negf (Host.absf (subf x z))))))

theorem softs_apply (x : FVec Ideal S8192x16 .f32) (t : Fin 8192) (h : Fin 16) :
    softs x (ix2 t h) = soft (x (ix2 t h)) := by
  unfold softs soft
  pointwise
  rw [if_neg fun h => h rfl, zero_sub]
  rfl

/-- The decays. -/
def decays (al : FVec Ideal S16 .f32) (s : FVec Ideal S8192x16 .f32) : FVec Ideal S8192x16 .f32 :=
  Host.exp (mulf (broadcastInDim S8192x16 ![0, 1] bcast_S1x16_S8192x16_0_1 (broadcastInDim S1x16 ![1] bcast_S16_S1x16_1
    (Host.negf (Host.exp al)))) s)

theorem decays_apply (al : FVec Ideal S16 .f32) (s : FVec Ideal S8192x16 .f32) (t : Fin 8192) (h : Fin 16) :
    decays al s (ix2 t h) = Ideal.exp ((-Ideal.exp (al (ix1 h))) * s (ix2 t h)) := by
  unfold decays
  pointwise

section stretches
variable (V : Valuation τ sig (Elt Ideal))

/-- The convolution's weights. -/
theorem at_v1 : after hostOps0 V (Proc.devRef .tc main_v1)
    = (shapeCast S4x6144 (extractStridedSlice S1x4x6144 ![0, 0, 0] (V (Proc.devRef .tc main_arg2)) slices_S2x4x6144_S1x4x6144_0_0_0)
        shapeCasts_S1x4x6144_S4x6144 : FVec Ideal S4x6144 .f32) := by
  after_reads_simp
  rfl
theorem at_v2 : after hostOps0 V (Proc.devRef .tc main_v2)
    = (extractStridedSlice S8192x6144 ![0, 0] (V (Proc.devRef .tc main_arg0)) slices_S8192x8192_S8192x6144_0_0 : FVec Ideal S8192x6144 .f32) := by
  after_reads_simp
theorem at_c : after hostOps0 V (Proc.devRef .tc main_c) = constantI S_ 32 0#32 := by
  after_reads_simp
theorem at_v3 (h : V (Proc.devRef .tc main_c) = constantI S_ 32 0#32) :
    after hostOps0_1 V (Proc.devRef .tc main_v3) = shifted (V (Proc.devRef .tc main_v2)) := by
  after_reads_simp
  rw [h]
  rfl
theorem at_v30 : after hostOps0_2 V (Proc.devRef .tc main_v30) = taps (V (Proc.devRef .tc main_v1)) (V (Proc.devRef .tc main_v3)) := by
  after_reads_simp
  rfl
theorem at_v31 : after hostOps0_3 V (Proc.devRef .tc main_v31) = gate (V (Proc.devRef .tc main_v30)) := by
  after_reads_simp
  rfl
theorem at_v43 : after hostOps0_4 V (Proc.devRef .tc main_v43) = scaled (units (heads0 (V (Proc.devRef .tc main_v31)))) := by
  after_reads_simp
  rfl
theorem at_v53 : after hostOps0_4 V (Proc.devRef .tc main_v53) = units (heads1 (V (Proc.devRef .tc main_v31))) := by
  after_reads_simp
  rfl
theorem at_v55 : after hostOps0_4 V (Proc.devRef .tc main_v55) = heads2 (V (Proc.devRef .tc main_v31)) := by
  after_reads_simp
  rfl
theorem at_v62 : after hostOps0_4 V (Proc.devRef .tc main_v62) = betas (V (Proc.devRef .tc main_arg1)) := by
  after_reads_simp
  rfl
theorem at_v64 : after hostOps0_4 V (Proc.devRef .tc main_v64)
    = (Host.negf (Host.exp (V (Proc.devRef .tc main_arg3))) : FVec Ideal S16 .f32) := by
  after_reads_simp
theorem at_v68 : after hostOps0_4 V (Proc.devRef .tc main_v68) = steps (V (Proc.devRef .tc main_arg1)) (V (Proc.devRef .tc main_arg4)) := by
  after_reads_simp
  rfl
theorem at_v69 : after hostOps0_5 V (Proc.devRef .tc main_v69) = softs (V (Proc.devRef .tc main_v68)) := by
  after_reads_simp
  rfl

theorem at_v76_0 : after hostOps0_6 V (Proc.devRef .tc main_v76_0) = V (Proc.devRef .tc main_v43) := by
  after_reads_simp
  rfl
theorem at_v76_1 : after hostOps0_6 V (Proc.devRef .tc main_v76_1) = V (Proc.devRef .tc main_v53) := by
  after_reads_simp
  rfl
theorem at_v76_2 : after hostOps0_6 V (Proc.devRef .tc main_v76_2) = V (Proc.devRef .tc main_v55) := by
  after_reads_simp
  rfl
theorem at_v76_3 : after hostOps0_6 V (Proc.devRef .tc main_v76_3) = V (Proc.devRef .tc main_v62) := by
  after_reads_simp
  rfl
theorem at_v76_4 (al : FVec Ideal S16 .f32) (h : V (Proc.devRef .tc main_v64) = (Host.negf (Host.exp al) : FVec Ideal S16 .f32)) :
    after hostOps0_6 V (Proc.devRef .tc main_v76_4) = decays al (V (Proc.devRef .tc main_v69)) := by
  after_reads_simp
  rw [h]
  rfl
theorem at_v76_6 : after hostOps0_6 V (Proc.devRef .tc main_v76_6)
    = (broadcastInDim S16x128x128 ![] bcast_S_S16x128x128 (constant S_ .f32 0x00000000#32) : FVec Ideal S16x128x128 .f32) := by
  after_reads_simp
  rfl

end stretches

end Cert.ReferenceIdeal.Delta
-- ==== Proof.RefStart.lean ====
module

public import proofs.«01_k».proof.Proof.RefEntry

/-!
What the reference holds on entering its loop, in terms of its arguments.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.ReferenceIdeal.Delta

open Cert.ReferenceIdeal Cert.ReferenceIdeal.Gen Cert.ReferenceIdeal.Value Cert.Delta

/-- A stretch leaves what it does not write. -/
theorem keep1 (V : Valuation τ sig (Elt Ideal)) (r : Ref sig .tc) (h : r ∉ hostOps0_1_W) :
    after hostOps0_1 V (Proc.devRef .tc r) = V (Proc.devRef .tc r) := after_of_writes_sub hostOps0_1 V hostOps0_1_writes h
theorem keep5 (V : Valuation τ sig (Elt Ideal)) (r : Ref sig .tc) (h : r ∉ hostOps0_5_W) :
    after hostOps0_5 V (Proc.devRef .tc r) = V (Proc.devRef .tc r) := after_of_writes_sub hostOps0_5 V hostOps0_5_writes h

variable (m : (ℓ : Loc nD τ sig) → Buf (Elt Ideal) ℓ)

abbrev argPa (c : Dev nD) (t j : Fin 8192) : EReal := m ((c : Thread nD τ).loc main_arg0) (ix2 t j)
abbrev argSm (c : Dev nD) (t : Fin 8192) (j : Fin 128) : EReal := m ((c : Thread nD τ).loc main_arg1) (ix2 t j)
abbrev argCv (c : Dev nD) (i : Fin 4) (j : Fin 6144) : EReal := m ((c : Thread nD τ).loc main_arg2) (ix3 (0 : Fin 2) i j)
abbrev argAl (c : Dev nD) (h : Fin 16) : EReal := m ((c : Thread nD τ).loc main_arg3) (ix1 h)
abbrev argDt (c : Dev nD) (h : Fin 16) : EReal := m ((c : Thread nD τ).loc main_arg4) (ix1 h)
abbrev argNw (c : Dev nD) (j : Fin 128) : EReal := m ((c : Thread nD τ).loc main_arg5) (ix1 j)

/-- The weights of the convolution, as the reference slices them. -/
def weights (x : FVec Ideal S2x4x6144 .f32) : FVec Ideal S4x6144 .f32 :=
  shapeCast S4x6144 (extractStridedSlice S1x4x6144 ![0, 0, 0] x slices_S2x4x6144_S1x4x6144_0_0_0) shapeCasts_S1x4x6144_S4x6144

theorem weights_apply (x : FVec Ideal S2x4x6144 .f32) (i : Fin 4) (j : Fin 6144) :
    weights x (ix2 i j) = x (ix3 (0 : Fin 2) i j) := by
  unfold weights
  pointwise

/-- The rows that are convolved. -/
def rows (x : FVec Ideal S8192x8192 .f32) : FVec Ideal S8192x6144 .f32 :=
  extractStridedSlice S8192x6144 ![0, 0] x slices_S8192x8192_S8192x6144_0_0

theorem rows_apply (x : FVec Ideal S8192x8192 .f32) (t : Fin 8192) (j : Fin 6144) :
    rows x (ix2 t j) = x (ix2 t (⟨j, by omega⟩ : Fin 8192)) := by
  unfold rows
  pointwise

/-- The rows with zeros before them, at a row `s` back from `t`. -/
theorem shifted_back (x : FVec Ideal S8192x6144 .f32) (t : Fin 8192) (j : Fin 6144) (s : ℕ) (n : Fin 8195)
    (hs : s ≤ 3) (hn : n.val + s = 3 + t.val) :
    shifted x (ix2 n j) = back (fun u => x (ix2 (tok u) j)) t s := by
  unfold back
  split_ifs with h
  · exact shifted_lo x ⟨n, by omega⟩ j
  · have e : n = (⟨3 + (⟨t - s, by omega⟩ : Fin 8192).val, by dsimp only; omega⟩ : Fin 8195) := Fin.ext (by dsimp only; omega)
    rw [e, shifted_hi]
    exact congrArg (fun u => x (ix2 u j)) (tok_val ⟨t - s, by omega⟩).symm

/-- The channels after the convolution and its gate. -/
def channels (pa : FVec Ideal S8192x8192 .f32) (cv : FVec Ideal S2x4x6144 .f32) : FVec Ideal S8192x6144 .f32 :=
  gate (taps (weights cv) (shifted (rows pa)))

theorem channels_apply (pa : FVec Ideal S8192x8192 .f32) (cv : FVec Ideal S2x4x6144 .f32) (t : Fin 8192) (j : Fin 6144) :
    channels pa cv (ix2 t j) = silu (conv (fun i => cv (ix3 (0 : Fin 2) i j))
      (fun s => pa (ix2 (tok s) (⟨j, by omega⟩ : Fin 8192))) t) := by
  unfold channels
  rw [gate_apply, taps_apply]
  refine congrArg silu ?_
  rw [shifted_back (rows pa) t j 3 _ (by omega) (by dsimp only; omega), shifted_back (rows pa) t j 2 _ (by omega) (by dsimp only; omega),
    shifted_back (rows pa) t j 1 _ (by omega) (by dsimp only; omega), shifted_hi]
  simp only [rows_apply, weights_apply]
  unfold conv
  dsimp only
  rw [tok_val, mul_comm (pa _), mul_comm (back _ _ 1), mul_comm (back _ _ 2), mul_comm (back _ _ 3)]
  abel

/-- The channels the launch's arguments give. -/
abbrev chan (c : Dev nD) : FVec Ideal S8192x6144 .f32 :=
  channels (m ((c : Thread nD τ).loc main_arg0)) (m ((c : Thread nD τ).loc main_arg2))

/-- The contents after the first four stretches. -/
abbrev mid (c : Dev nD) : Valuation τ sig (Elt Ideal) :=
  after hostOps0_3 (after hostOps0_2 (after hostOps0_1 (after hostOps0 (launchContents m c))))

theorem mid_v31 (c : Dev nD) : mid m c (Proc.devRef .tc main_v31) = chan m c := by
  unfold mid
  rw [at_v31, at_v30, at_v3 _ (at_c _), keep1 _ main_v1 (by decide), at_v1, at_v2]
  rfl

theorem mid_arg1 (c : Dev nD) : mid m c (Proc.devRef .tc main_arg1) = m ((c : Thread nD τ).loc main_arg1) := by
  unfold mid
  rw [keep_main_arg1_hostOps0_3, keep_main_arg1_hostOps0_2, keep_main_arg1_hostOps0_1, keep_main_arg1_hostOps0]
theorem mid_arg3 (c : Dev nD) : mid m c (Proc.devRef .tc main_arg3) = m ((c : Thread nD τ).loc main_arg3) := by
  unfold mid
  rw [keep_main_arg3_hostOps0_3, keep_main_arg3_hostOps0_2, keep_main_arg3_hostOps0_1, keep_main_arg3_hostOps0]
theorem mid_arg4 (c : Dev nD) : mid m c (Proc.devRef .tc main_arg4) = m ((c : Thread nD τ).loc main_arg4) := by
  unfold mid
  rw [keep_main_arg4_hostOps0_3, keep_main_arg4_hostOps0_2, keep_main_arg4_hostOps0_1, keep_main_arg4_hostOps0]

/-- The contents on entering the loop. -/
abbrev start (c : Dev nD) : Valuation τ sig (Elt Ideal) := entryContents preI m c

theorem start_eq (c : Dev nD) : start m c = after hostOps0_6 (after hostOps0_5 (after hostOps0_4 (mid m c))) := rfl

/-- A head of the layer, from the launch's arguments. -/
abbrev argHead (c : Dev nD) (h : Fin 16) : Head := layerHead (argPa m c) (argSm m c) (argCv m c) (argAl m c) (argDt m c) h

theorem start_query (c : Dev nD) (t : Fin 8192) (h : Fin 16) (d : Fin 128) :
    (start m c (Proc.devRef .tc main_v76_0) : S8192x16x128.Idx → EReal) (ix3 t h d) = (argHead m c h).query t d := by
  rw [start_eq, at_v76_0, keep5 _ main_v43 (by decide), at_v43, mid_v31, scaled_apply, units_apply]
  simp only [heads0_apply, channels_apply]
  rfl

theorem start_key (c : Dev nD) (t : Fin 8192) (h : Fin 16) (d : Fin 128) :
    (start m c (Proc.devRef .tc main_v76_1) : S8192x16x128.Idx → EReal) (ix3 t h d) = (argHead m c h).key t d := by
  rw [start_eq, at_v76_1, keep5 _ main_v53 (by decide), at_v53, mid_v31, units_apply]
  simp only [heads1_apply, channels_apply]
  rfl

theorem start_value (c : Dev nD) (t : Fin 8192) (h : Fin 16) (d : Fin 128) :
    (start m c (Proc.devRef .tc main_v76_2) : S8192x16x128.Idx → EReal) (ix3 t h d) = (argHead m c h).value t d := by
  rw [start_eq, at_v76_2, keep5 _ main_v55 (by decide), at_v55, mid_v31, heads2_apply]
  exact channels_apply _ _ _ _

theorem start_beta (c : Dev nD) (t : Fin 8192) (h : Fin 16) :
    (start m c (Proc.devRef .tc main_v76_3) : S8192x16.Idx → EReal) (ix2 t h) = (argHead m c h).beta t := by
  rw [start_eq, at_v76_3, keep5 _ main_v62 (by decide), at_v62, mid_arg1, betas_apply]
  show _ = Ideal.logistic (argSm m c (tok t) ⟨h, by omega⟩)
  rw [tok_val]

theorem start_decay (c : Dev nD) (t : Fin 8192) (h : Fin 16) :
    (start m c (Proc.devRef .tc main_v76_4) : S8192x16.Idx → EReal) (ix2 t h) = Ideal.exp ((argHead m c h).logDecay t) := by
  rw [start_eq, at_v76_4 _ (m ((c : Thread nD τ).loc main_arg3)) (by rw [keep5 _ main_v64 (by decide), at_v64, mid_arg3]), at_v69, at_v68,
    mid_arg1, mid_arg4, decays_apply, softs_apply, steps_apply]
  show _ = Ideal.exp ((0 - Ideal.exp (argAl m c h)) * soft (argSm m c (tok t) ⟨16 + h, by omega⟩ + argDt m c h))
  rw [tok_val, zero_sub]

theorem start_state (c : Dev nD) (h : Fin 16) (i j : Fin 128) :
    (start m c (Proc.devRef .tc main_v76_6) : S16x128x128.Idx → EReal) (ix3 h i j) = (0 : EReal) := by
  rw [start_eq, at_v76_6]
  pointwise

end Cert.ReferenceIdeal.Delta
-- ==== Proof.RefTrip.lean ====
module

public import proofs.«01_k».proof.Proof.Gen.ReferenceIdeal.Run
public import proofs.«01_k».proof.Proof.Layer
public import Idealize.ShloMosaic.Lib.Pointwise
public import Idealize.ShloMosaic.Lib.ValueIdx
public import Idealize.ShloMosaic.Lib.DynamicIndex

/-!
One trip of the reference's loop, entry by entry.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.ReferenceIdeal.Delta

open Cert.ReferenceIdeal Cert.ReferenceIdeal.Gen Cert.ReferenceIdeal.Value Cert.Delta

/-- The loop's counter at trip `k`. -/
def counter (k : ℕ) : IVec S_ 32 := fun _ => BitVec.ofNat 32 k

/-- Where a trip's row begins. -/
def from3 (n : IVec S_ 32) : Fin 3 → Int := fun k =>
  (((![n, constantI S_ 32 0#32, constantI S_ 32 0#32] : Fin 3 → (⟨S_, .i32⟩ : BufTy).Contents (Elt Ideal))) k (Shape.Idx.first h_S_)).toInt
def from2 (n : IVec S_ 32) : Fin 2 → Int := fun k =>
  (((![n, constantI S_ 32 0#32] : Fin 2 → (⟨S_, .i32⟩ : BufTy).Contents (Elt Ideal))) k (Shape.Idx.first h_S_)).toInt

theorem word (k : Fin 8192) : (BitVec.ofNat 32 k.val).toInt = (k.val : Int) := by
  have := k.isLt
  rw [BitVec.toInt_eq_toNat_bmod, BitVec.toNat_ofNat, Int.bmod_def]
  omega

theorem from3_0 (ht : S1x16x128.rank = S8192x16x128.rank) (k : Fin 8192) :
    Host.clampedStart S8192x16x128 S1x16x128 ht (from3 (counter k)) (0 : Fin 3) = k.val := by
  have := k.isLt
  exact Host.clampedStart_of_le ht _ (0 : Fin 3) k.val (word k) (by show k.val + 1 ≤ 8192; omega)
theorem from3_1 (ht : S1x16x128.rank = S8192x16x128.rank) (n : IVec S_ 32) :
    Host.clampedStart S8192x16x128 S1x16x128 ht (from3 n) (1 : Fin 3) = 0 :=
  Host.clampedStart_of_le ht _ (1 : Fin 3) 0 rfl (by show 0 + 16 ≤ 16; omega)
theorem from3_2 (ht : S1x16x128.rank = S8192x16x128.rank) (n : IVec S_ 32) :
    Host.clampedStart S8192x16x128 S1x16x128 ht (from3 n) (2 : Fin 3) = 0 :=
  Host.clampedStart_of_le ht _ (2 : Fin 3) 0 rfl (by show 0 + 128 ≤ 128; omega)
theorem from2_0 (ht : S1x16.rank = S8192x16.rank) (k : Fin 8192) :
    Host.clampedStart S8192x16 S1x16 ht (from2 (counter k)) (0 : Fin 2) = k.val := by
  have := k.isLt
  exact Host.clampedStart_of_le ht _ (0 : Fin 2) k.val (word k) (by show k.val + 1 ≤ 8192; omega)
theorem from2_1 (ht : S1x16.rank = S8192x16.rank) (n : IVec S_ 32) :
    Host.clampedStart S8192x16 S1x16 ht (from2 n) (1 : Fin 2) = 0 :=
  Host.clampedStart_of_le ht _ (1 : Fin 2) 0 rfl (by show 0 + 16 ≤ 16; omega)

/-- A trip's row of an array over tokens and heads. -/
def row3 (x : FVec Ideal S8192x16x128 .f32) (n : IVec S_ 32) : FVec Ideal S16x128 .f32 :=
  shapeCast S16x128 (Host.dynamicSlice S1x16x128 x (from3 n) sliceFits_S8192x16x128_S1x16x128) shapeCasts_S1x16x128_S16x128

theorem row3_apply (x : FVec Ideal S8192x16x128 .f32) (k : Fin 8192) (h : Fin 16) (d : Fin 128) :
    row3 x (counter k) (ix2 h d) = x (ix3 k h d) := by
  unfold row3
  pointwise
  simp only [from3_0, from3_1, from3_2, Nat.zero_add]

/-- A trip's entry of an array over tokens. -/
def row2 (x : FVec Ideal S8192x16 .f32) (n : IVec S_ 32) : FVec Ideal S16 .f32 :=
  shapeCast S16 (Host.dynamicSlice S1x16 x (from2 n) sliceFits_S8192x16_S1x16) shapeCasts_S1x16_S16

theorem row2_apply (x : FVec Ideal S8192x16 .f32) (k : Fin 8192) (h : Fin 16) :
    row2 x (counter k) (ix1 h) = x (ix2 k h) := by
  unfold row2
  pointwise
  simp only [from2_0, from2_1, Nat.zero_add]

/-- The state, decayed. -/
def faded (S : FVec Ideal S16x128x128 .f32) (a : FVec Ideal S16 .f32) : FVec Ideal S16x128x128 .f32 :=
  mulf S (broadcastInDim S16x128x128 ![0, 1, 2] bcast_S16x1x1_S16x128x128_0_1_2 (broadcastInDim S16x1x1 ![0] bcast_S16_S16x1x1_0 a))

theorem faded_apply (S : FVec Ideal S16x128x128 .f32) (a : FVec Ideal S16 .f32) (h : Fin 16) (i j : Fin 128) :
    faded S a (ix3 h i j) = S (ix3 h i j) * a (ix1 h) := by
  unfold faded
  pointwise

/-- What each head's vector reads from its state. -/
def reads (x : FVec Ideal S16x128 .f32) (S : FVec Ideal S16x128x128 .f32) : FVec Ideal S16x128 .f32 :=
  Host.dotGeneral dot_S16x128_S16x128x128_S16x128_1_1_n_2_0_0 none x S

theorem reads_apply (x : FVec Ideal S16x128 .f32) (S : FVec Ideal S16x128x128 .f32) (h : Fin 16) (j : Fin 128) :
    reads x S (ix2 h j) = ∑ d, x (ix2 h d) * S (ix3 h d j) := by
  unfold reads
  pointwise

/-- The state with a trip's correction added. -/
def added (S : FVec Ideal S16x128x128 .f32) (k v : FVec Ideal S16x128 .f32) (β : FVec Ideal S16 .f32) : FVec Ideal S16x128x128 .f32 :=
  addf S (mulf (broadcastInDim S16x128x128 ![0, 1, 2] bcast_S16x128x1_S16x128x128_0_1_2 (broadcastInDim S16x128x1 ![0, 1] bcast_S16x128_S16x128x1_0_1 k))
    (broadcastInDim S16x128x128 ![0, 1, 2] bcast_S16x1x128_S16x128x128_0_1_2 (broadcastInDim S16x1x128 ![0, 2] bcast_S16x128_S16x1x128_0_2
      (mulf (subf v (reads k S)) (broadcastInDim S16x128 ![0, 1] bcast_S16x1_S16x128_0_1 (broadcastInDim S16x1 ![0] bcast_S16_S16x1_0 β))))))

theorem added_apply (S : FVec Ideal S16x128x128 .f32) (k v : FVec Ideal S16x128 .f32) (β : FVec Ideal S16 .f32) (h : Fin 16) (i j : Fin 128) :
    added S k v β (ix3 h i j)
      = S (ix3 h i j) + k (ix2 h i) * ((v (ix2 h j) - ∑ d, k (ix2 h d) * S (ix3 h d j)) * β (ix1 h)) := by
  unfold added
  pointwise
  rw [reads_apply]

/-- The outputs with a trip's row written. -/
def written (o : FVec Ideal S8192x16x128 .f32) (r : FVec Ideal S16x128 .f32) (n : IVec S_ 32) : FVec Ideal S8192x16x128 .f32 :=
  Host.dynamicUpdateSlice o (broadcastInDim S1x16x128 ![1, 2] bcast_S16x128_S1x16x128_1_2 r) (from3 n) updateFits_S8192x16x128_S1x16x128

theorem written_same (o : FVec Ideal S8192x16x128 .f32) (r : FVec Ideal S16x128 .f32) (k : Fin 8192) (h : Fin 16) (j : Fin 128) :
    written o r (counter k) (ix3 k h j) = r (ix2 h j) := by
  unfold written
  pointwise
  simp only [from3_0, from3_1, from3_2, Nat.sub_zero]
  rw [dif_pos ⟨⟨le_refl _, Nat.lt_succ_self _⟩, Nat.zero_le _, Nat.zero_le _⟩]

theorem written_other (o : FVec Ideal S8192x16x128 .f32) (r : FVec Ideal S16x128 .f32) (k t : Fin 8192) (ht : t ≠ k) (h : Fin 16) (j : Fin 128) :
    written o r (counter k) (ix3 t h j) = o (ix3 t h j) := by
  unfold written
  pointwise
  simp only [from3_0, from3_1, from3_2, Nat.sub_zero]
  rw [dif_neg]
  rintro ⟨⟨h1, h2⟩, -⟩
  exact ht (Fin.ext (by omega))

section trip
variable (V : Valuation τ sig (Elt Ideal))

/-- The state after a trip. -/
def nextState : FVec Ideal S16x128x128 .f32 :=
  added (faded (V (Proc.devRef .tc main_v76_6)) (row2 (V (Proc.devRef .tc main_v76_4)) (V (Proc.devRef .tc main_v76_5))))
    (row3 (V (Proc.devRef .tc main_v76_1)) (V (Proc.devRef .tc main_v76_5))) (row3 (V (Proc.devRef .tc main_v76_2)) (V (Proc.devRef .tc main_v76_5)))
    (row2 (V (Proc.devRef .tc main_v76_3)) (V (Proc.devRef .tc main_v76_5)))

theorem step_state : STEP V (Proc.devRef .tc main_v76_6) = nextState V := by
  rw [STEP_main_v76_6]
  rfl

theorem step_out : STEP V (Proc.devRef .tc main_v76_7) = written (V (Proc.devRef .tc main_v76_7))
    (reads (row3 (V (Proc.devRef .tc main_v76_0)) (V (Proc.devRef .tc main_v76_5))) (nextState V)) (V (Proc.devRef .tc main_v76_5)) := by
  rw [STEP_main_v76_7]
  rfl

theorem step_count (k : ℕ) (h : V (Proc.devRef .tc main_v76_5) = (counter k : IVec S_ 32)) :
    STEP V (Proc.devRef .tc main_v76_5) = (counter (k + 1) : IVec S_ 32) := by
  rw [STEP_main_v76_5]
  unfold step_main_v76_5
  rw [h]
  funext i
  show BitVec.ofNat 32 k + 1#32 = _
  exact (BitVec.ofNat_add k 1).symm

end trip

end Cert.ReferenceIdeal.Delta
-- ==== Proof.RefLoop.lean ====
module

public import proofs.«01_k».proof.Proof.RefStart
public import proofs.«01_k».proof.Proof.RefTrip
public import proofs.«01_k».proof.Proof.Lift

/-!
The reference's loop computes the recurrence token by token, and what follows it is the layer's result.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.ReferenceIdeal.Delta

open Cert.ReferenceIdeal Cert.ReferenceIdeal.Gen Cert.ReferenceIdeal.Value Cert.Delta

variable (m : (ℓ : Loc nD τ sig) → Buf (Elt Ideal) ℓ)

/-- What the loop's buffers hold before trip `k`. -/
structure At (c : Dev nD) (k : ℕ) (V : Valuation τ sig (Elt Ideal)) : Prop where
  query : V (Proc.devRef .tc main_v76_0) = start m c (Proc.devRef .tc main_v76_0)
  key : V (Proc.devRef .tc main_v76_1) = start m c (Proc.devRef .tc main_v76_1)
  value : V (Proc.devRef .tc main_v76_2) = start m c (Proc.devRef .tc main_v76_2)
  beta : V (Proc.devRef .tc main_v76_3) = start m c (Proc.devRef .tc main_v76_3)
  decay : V (Proc.devRef .tc main_v76_4) = start m c (Proc.devRef .tc main_v76_4)
  count : V (Proc.devRef .tc main_v76_5) = (counter k : IVec S_ 32)
  state : ∀ (h : Fin 16) (i j : Fin 128), (V (Proc.devRef .tc main_v76_6) : S16x128x128.Idx → EReal) (ix3 h i j)
    = (((argHead m c h).state k i j : ℝ) : EReal)
  out : ∀ (t : Fin 8192), t.val < k → ∀ (h : Fin 16) (j : Fin 128), (V (Proc.devRef .tc main_v76_7) : S8192x16x128.Idx → EReal) (ix3 t h j)
    = (((argHead m c h).read t j : ℝ) : EReal)

variable {m} {c : Dev nD} {V : Valuation τ sig (Elt Ideal)}

section
variable (R : ∀ h, (argHead m c h).Real)
include R

theorem At.row_query {k : Fin 8192} (A : At m c k V) (h : Fin 16) (d : Fin 128) :
    row3 (V (Proc.devRef .tc main_v76_0)) (V (Proc.devRef .tc main_v76_5)) (ix2 h d) = ((((argHead m c h).query k d).toReal : ℝ) : EReal) := by
  rw [A.count, row3_apply, A.query, ← ((R h).query k d).eq]
  exact start_query m c k h d
theorem At.row_key {k : Fin 8192} (A : At m c k V) (h : Fin 16) (d : Fin 128) :
    row3 (V (Proc.devRef .tc main_v76_1)) (V (Proc.devRef .tc main_v76_5)) (ix2 h d) = ((((argHead m c h).key k d).toReal : ℝ) : EReal) := by
  rw [A.count, row3_apply, A.key, ← ((R h).key k d).eq]
  exact start_key m c k h d
theorem At.row_value {k : Fin 8192} (A : At m c k V) (h : Fin 16) (d : Fin 128) :
    row3 (V (Proc.devRef .tc main_v76_2)) (V (Proc.devRef .tc main_v76_5)) (ix2 h d) = ((((argHead m c h).value k d).toReal : ℝ) : EReal) := by
  rw [A.count, row3_apply, A.value, ← ((R h).value k d).eq]
  exact start_value m c k h d
theorem At.row_beta {k : Fin 8192} (A : At m c k V) (h : Fin 16) :
    row2 (V (Proc.devRef .tc main_v76_3)) (V (Proc.devRef .tc main_v76_5)) (ix1 h) = ((((argHead m c h).beta k).toReal : ℝ) : EReal) := by
  rw [A.count, row2_apply, A.beta, ← ((R h).beta k).eq]
  exact start_beta m c k h
theorem At.row_decay {k : Fin 8192} (A : At m c k V) (h : Fin 16) :
    row2 (V (Proc.devRef .tc main_v76_4)) (V (Proc.devRef .tc main_v76_5)) (ix1 h)
      = ((Real.exp ((argHead m c h).logDecay k).toReal : ℝ) : EReal) := by
  rw [A.count, row2_apply, A.decay, ← Ideal.exp_coe, ← ((R h).logDecay k).eq]
  exact start_decay m c k h

/-- A trip's state. -/
theorem At.next {k : Fin 8192} (A : At m c k V) (h : Fin 16) (i j : Fin 128) :
    nextState V (ix3 h i j) = (((argHead m c h).state (k + 1) i j : ℝ) : EReal) := by
  unfold nextState
  rw [added_apply]
  simp only [faded_apply]
  rw [A.row_value R, A.row_beta R]
  simp only [A.row_key R]
  rw [A.row_decay R]
  rw [show (argHead m c h).state (k + 1) = stepS (Real.exp ((argHead m c h).logDecay k).toReal) ((argHead m c h).beta k).toReal
      (fun d => ((argHead m c h).key k d).toReal) (fun d => ((argHead m c h).value k d).toReal) ((argHead m c h).state k) from rfl]
  unfold stepS
  rw [EReal.coe_add, EReal.coe_mul, EReal.coe_mul, EReal.coe_mul, EReal.coe_sub, ← coe_sum]
  simp only [EReal.coe_mul]
  rw [← A.state h i j]
  simp only [← A.state h]

/-- One trip. -/
theorem At.step {k : Fin 8192} (A : At m c k V) : At m c (k + 1) (STEP V) where
  query := (STEP_main_v76_0 V).trans A.query
  key := (STEP_main_v76_1 V).trans A.key
  value := (STEP_main_v76_2 V).trans A.value
  beta := (STEP_main_v76_3 V).trans A.beta
  decay := (STEP_main_v76_4 V).trans A.decay
  count := step_count V k A.count
  state h i j := (congrFun (step_state V) _).trans (A.next R h i j)
  out t ht h j := by
    refine (congrFun (step_out V) _).trans ?_
    by_cases e : t = k
    · subst e
      rw [congrArg (written _ _) A.count, written_same, reads_apply]
      show _ = ((∑ i, _ * (argHead m c h).state (t + 1) i j : ℝ) : EReal)
      rw [← coe_sum]
      refine Finset.sum_congr rfl fun i _ => ?_
      rw [A.next R, A.row_query R, EReal.coe_mul]
    · rw [congrArg (written _ _) A.count, written_other _ _ _ _ e]
      exact A.out t (by have : t.val ≠ k.val := fun h => e (Fin.ext h); omega) h j

/-- Every trip. -/
theorem trips : ∀ k, k ≤ 8192 → At m c k (STEP^[k] (start m c))
  | 0, _ => {
      query := rfl, key := rfl, value := rfl, beta := rfl, decay := rfl
      count := ctr_entry m c
      state := fun h i j => start_state m c h i j
      out := fun t ht => absurd ht (Nat.not_lt_zero _) }
  | k + 1, hk => by
    rw [Function.iterate_succ_apply']
    exact At.step R (k := ⟨k, hk⟩) (trips k (Nat.le_of_succ_le hk))

end

/-- What follows the loop. -/
def finish (o : FVec Ideal S8192x16x128 .f32) (nw : FVec Ideal S128 .f32) (pa : FVec Ideal S8192x8192 .f32) : FVec Ideal S8192x2048 .bf16 :=
  let z : FVec Ideal S8192x16x128 .f32 := shapeCast S8192x16x128 (extractStridedSlice S8192x2048 ![0, 6144] pa slices_S8192x8192_S8192x2048_0_6144) shapeCasts_S8192x2048_S8192x16x128
  let one : FVec Ideal S8192x16x128 .f32 := broadcastInDim S8192x16x128 ![] bcast_S_S8192x16x128 (constant S_ .f32 0x3F800000#32)
  truncf .bf16 (shapeCast S8192x2048 (mulf (mulf (mulf o (broadcastInDim S8192x16x128 ![0, 1, 2] bcast_S8192x16x1_S8192x16x128_0_1_2
    (Host.rsqrt (addf (Host.divf (broadcastInDim S8192x16x1 ![0, 1] bcast_S8192x16_S8192x16x1_0_1
      (Host.reduceAdd (mulf o o) (constant S_ .f32 0x00000000#32) reducesTo_S8192x16x128_S8192x16_d2 h_S_))
      (broadcastInDim S8192x16x1 ![] bcast_S_S8192x16x1 (constant S_ .f32 0x43000000#32)))
      (broadcastInDim S8192x16x1 ![] bcast_S_S8192x16x1 (constant S_ .f32 0x358637BD#32))))))
    (broadcastInDim S8192x16x128 ![0, 1, 2] bcast_S1x1x128_S8192x16x128_0_1_2 (broadcastInDim S1x1x128 ![2] bcast_S128_S1x1x128_2 nw)))
    (mulf z (Host.divf one (addf one (Host.exp (Host.negf z)))))) shapeCasts_S8192x16x128_S8192x2048) bitsLt_bf16_f32

theorem finish_apply (o : FVec Ideal S8192x16x128 .f32) (nw : FVec Ideal S128 .f32) (pa : FVec Ideal S8192x8192 .f32)
    (t : Fin 8192) (h : Fin 16) (j : Fin 128) :
    finish o nw pa (ix2 t (⟨128 * h + j, by omega⟩ : Fin 2048))
      = Head.gated (fun e => o (ix3 t h e)) (nw (ix1 j)) (pa (ix2 t (⟨6144 + (128 * h + j), by omega⟩ : Fin 8192))) j := by
  unfold finish Head.gated silu Ideal.logistic
  pointwise
  rw [show (⟨6144 + (h.val * 128 + j.val), by omega⟩ : Fin 8192) = ⟨6144 + (128 * h.val + j.val), by omega⟩ from
    Fin.ext (by dsimp only; omega)]

/-- The reference's result is the layer's. -/
theorem result (F : Finite (argPa m c) (argSm m c) (argCv m c) (argAl m c) (argDt m c)) (t : Fin 8192) (h : Fin 16) (j : Fin 128) :
    (out_main_v95 (STEP^[8192] (entryContents preI m c)) : S8192x2048.Idx → EReal) (ix2 t (⟨128 * h + j, by omega⟩ : Fin 2048))
      = layerOut (argPa m c) (argSm m c) (argCv m c) (argAl m c) (argDt m c) (argNw m c) t h j := by
  have e : out_main_v95 (STEP^[8192] (entryContents preI m c))
      = finish ((STEP^[8192] (entryContents preI m c)) (Proc.devRef .tc main_v76_7)) (m ((c : Thread nD τ).loc main_arg5)) (m ((c : Thread nD τ).loc main_arg0)) := by
    rw [← iter_main_arg5 m c 8192, ← iter_main_arg0 m c 8192]
    rfl
  rw [e, finish_apply]
  have A := trips (fun h => F.head h) 8192 (le_refl _)
  unfold layerOut
  exact congrArg (fun o => Head.gated o _ _ j) (funext fun e => A.out t t.isLt h e)

end Cert.ReferenceIdeal.Delta
-- ==== Proof.Delta.lean ====
module

public import proofs.«01_k».proof.Defs
public import proofs.«01_k».proof.Proof.Finite
public import proofs.«01_k».proof.Proof.Grid
public import proofs.«01_k».proof.Proof.RefLoop

/-!
The value claim of the DeltaNet mixer: kernel and reference both end at the layer's result.
-/

@[expose] public section

noncomputable section

open Idealize.ShloMosaic Idealize.ShloMosaic.TcCoe Idealize.SL.Sem

namespace Cert.Delta

/-- Two result arrays that agree at every coordinate of every head are equal. -/
theorem ext_heads {x y : (⟨2, ![8192, 2048]⟩ : Shape).Idx → EReal}
    (e : ∀ (t : Fin 8192) (h : Fin 16) (j : Fin 128), x (ix2 t (⟨128 * h + j, by omega⟩ : Fin 2048)) = y (ix2 t (⟨128 * h + j, by omega⟩ : Fin 2048))) :
    x = y := by
  funext i
  have hn : (i 1).val < 2048 := (i 1).isLt
  have ei : i = ix2 (i 0 : Fin 8192) (⟨128 * ((i 1).val / 128) + (i 1).val % 128, by omega⟩ : Fin 2048) := by
    funext a
    match a with
    | ⟨0, _⟩ => rfl
    | ⟨1, _⟩ => exact Fin.ext (Nat.div_add_mod _ _).symm
  rw [ei]
  exact e (i 0) ⟨(i 1).val / 128, by omega⟩ ⟨(i 1).val % 128, Nat.mod_lt _ (by decide)⟩

/-- On arrays of real numbers kernel and reference end at the same function of the same arguments. -/
theorem algebraic : Cert.algebraic_KernelIdeal_ReferenceIdeal_pre_finite := by
  intro m ρ m' ρ' hpre hagree
  refine ⟨fun c => Cert.KernelIdeal.Value.G11 m c, Cert.KernelIdeal.Value.run (F := Ideal) m ρ,
    (θ_run Cert.ReferenceIdeal.defs _ _).mono (fun r h c => ⟨?_, (h c).2⟩) (Cert.ReferenceIdeal.Value.run (F := Ideal) m' ρ')⟩
  rw [(h c).1]
  obtain ⟨g0, g1, g2, g3, g4, g5⟩ := hagree c
  have F := finite_of_pre _ _ _ _ _ _ (hpre c)
  have F' : Finite (Cert.ReferenceIdeal.Delta.argPa m' c) (Cert.ReferenceIdeal.Delta.argSm m' c) (Cert.ReferenceIdeal.Delta.argCv m' c)
      (Cert.ReferenceIdeal.Delta.argAl m' c) (Cert.ReferenceIdeal.Delta.argDt m' c) := by
    have F2 := F
    rw [← g0, ← g1, ← g2, ← g3, ← g4] at F2
    exact F2
  refine ext_heads fun t h j => ?_
  refine (Cert.ReferenceIdeal.Delta.result F' t h j).trans (Eq.trans ?_ (Cert.KernelIdeal.Delta.result c F t h j).symm)
  unfold Cert.ReferenceIdeal.Delta.argPa Cert.ReferenceIdeal.Delta.argSm Cert.ReferenceIdeal.Delta.argCv
    Cert.ReferenceIdeal.Delta.argAl Cert.ReferenceIdeal.Delta.argDt Cert.ReferenceIdeal.Delta.argNw
  rw [g0, g1, g2, g3, g4, g5]

end Cert.Delta
-- ==== Proof.ProjA.lean ====
/-
  The DeltaNet branch's columns of the input projection: after the launch the result array holds, at token `r` and column `c`, the product of row `r` of the
  activations with column `c` of the layer's input projection; so does the reference's.
-/
module

public import proofs.«01_k».proof.Proof.Gen.Kernel4Ideal.Value
public import proofs.«01_k».proof.Proof.Gen.Reference4Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Proj

open Cert.Kernel4Ideal Cert.Kernel4Ideal.Gen

/-- The result at an index. -/
def proj (a : S8192x4096.Idx → EReal) (w : S2x4096x27696.Idx → EReal) (i : S8192x8192.Idx) : EReal :=
  ∑ k : Fin 4096, a (ix2 (i 0) k) * w (ix3 (0 : Fin 2) k ⟨(i 1).val, by have := (i 1).isLt; change (i 1).val < 8192 at this; omega⟩)

/-- One grid point's payload at an index, from the blocks it loads. -/
theorem pay_apply (x0 : S2048x4096.Idx → EReal) (x1 : S1x512x4096.Idx → EReal) (j : S2048x512.Idx) :
    k0_pay1 (F := Ideal) x0 x1 j = ∑ k : Fin 4096, x0 (ix2 (j 0) k) * x1 (ix3 (0 : Fin 1) (j 1) k) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The weight the launch reads is the argument with its last two axes swapped. -/
theorem V_main_v0 (c : Dev nD) (l : Fin 2) (r : Fin 27696) (k : Fin 4096) :
    V m c main_v0 (ix3 l r k) = m ((c : Thread nD τ).loc main_arg1) (ix3 l k r) := by
  have h : (transpose S2x27696x4096 [0, 2, 1] (m ((c : Thread nD τ).loc main_arg1)) transposes_S2x4096x27696_S2x27696x4096_0_2_1 : S2x27696x4096.Idx → EReal) (ix3 l r k)
      = m ((c : Thread nD τ).loc main_arg1) (ix3 l k r) := by
    pointwise
  exact h

/-- The windows' block indices at a grid point, all from the output's; the weight's window counts elements. -/
theorem idx_facts : ∀ t : Fin cfg0.N, win0_0.index t 0 = win0_2.index t 0 ∧ win0_0.index t 1 = 0
    ∧ win0_1.index t 0 = 0 ∧ win0_1.index t 1 = win0_2.index t 1 * 512 ∧ win0_1.index t 2 = 0
    ∧ win0_2.index t 0 < 4 ∧ win0_2.index t 1 < 16 :=
  (by decide +kernel : ∀ t : Fin grid0.N, _)

/-- The grid point whose block holds a given pair of block indices. -/
theorem idx_surj : ∀ (a : Fin 4) (b : Fin 16), ∃ t : Fin cfg0.N, win0_2.index t 0 = a.val ∧ win0_2.index t 1 = b.val :=
  (by decide +kernel : ∀ (a : Fin 4) (b : Fin 16), ∃ t : Fin grid0.N, win0_2.index t 0 = a.val ∧ win0_2.index t 1 = b.val)

/-- What the result array ends holding. -/
abbrev result (c : Dev nD) : Buf (Elt Ideal) ((c : Thread nD τ).loc main_v1) :=
  proj (m ((c : Thread nD τ).loc main_arg0)) (m ((c : Thread nD τ).loc main_arg1))

/-- What a grid point writes back is its block of `result`. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz3]
  obtain ⟨h00, h01, h10, h11, h12, hr, hc⟩ := idx_facts t
  funext j
  show k0_pay1 (F := Ideal) (iblk m c 0 t) (iblk m c 1 t) j = _
  rw [pay_apply, View.read_apply]
  have hj0 : (j 0).val < 2048 := (j 0).isLt
  have hj1 : (j 1).val < 512 := (j 1).isLt
  have e0 : ∀ k : Fin 4096, iblk m c 0 t (ix2 (j 0) k)
      = m ((c : Thread nD τ).loc main_arg0) (ix2 ⟨win0_2.index t 0 * 2048 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 2048 + 1 * (j 0).val = _; rw [h00]; simp
    | ⟨1, _⟩ => show win0_0.index t 1 * 4096 + 1 * k.val = k.val; rw [h01]; omega
  have e1 : ∀ k : Fin 4096, iblk m c 1 t (ix3 (0 : Fin 1) (j 1) k)
      = m ((c : Thread nD τ).loc main_arg1) (ix3 (0 : Fin 2) k ⟨(win0_2.index t 1 * 512 + (j 1).val), by omega⟩) := by
    intro k
    unfold iblk
    rw [View.read_apply, ← V_main_v0 m c]
    show V m c main_v0 _ = _
    congr 1
    funext a
    apply Fin.ext
    match a with
    | ⟨0, _⟩ => show win0_1.index t 0 + 1 * 0 = 0; rw [h10]
    | ⟨1, _⟩ => show win0_1.index t 1 + 1 * (j 1).val = (win0_2.index t 1 * 512 + (j 1).val); rw [h11]; omega
    | ⟨2, _⟩ => show win0_1.index t 2 + 1 * k.val = k.val; rw [h12]; omega
  simp only [e0, e1]
  have hi : ((cfg0.win 2).blk t).view.emb j
      = (ix2 (⟨win0_2.index t 0 * 2048 + (j 0).val, by omega⟩ : Fin 8192) (⟨win0_2.index t 1 * 512 + (j 1).val, by omega⟩ : Fin 8192) : S8192x8192.Idx) := by
    funext a
    apply Fin.ext
    match a with
    | ⟨0, _⟩ => show win0_2.index t 0 * 2048 + 1 * (j 0).val = _; simp
    | ⟨1, _⟩ => show win0_2.index t 1 * 512 + 1 * (j 1).val = _; simp
  rw [hi]
  rfl

/-- The blocks tile the result array. -/
theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht0, ht1⟩ := idx_surj ⟨(i 0).val / 2048, by omega⟩ ⟨(i 1).val / 512, by omega⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 2048 ≤ (i 0).val ∧ (i 0).val < win0_2.index t 0 * 2048 + 2048
              rw [ht0]; dsimp only; omega
  | ⟨1, _⟩ => show win0_2.index t 1 * 512 ≤ (i 1).val ∧ (i 1).val < win0_2.index t 1 * 512 + 512
              rw [ht1]; dsimp only; omega

/-- The kernel's result array ends holding `result`. -/
theorem final (c : Dev nD) : (dats m 0 c).arrAt 2 cfg0.N = result m c :=
  (dats m 0 c).arrAt_eq_of_cover 2 (result m c) (fun t _ => flushed_eq m c t) cover

end Cert.Kernel4Ideal.Proj

namespace Cert.Reference4Ideal.Proj

open Cert.Reference4Ideal Cert.Reference4Ideal.Read

/-- The reference's result is the same function of the same two arrays. -/
theorem val_eq (a : (⟨S8192x4096, .bf16⟩ : BufTy).Contents (Elt Ideal)) (w : (⟨S2x4096x27696, .f32⟩ : BufTy).Contents (Elt Ideal)) :
    val_main_v3 (F := Ideal) a w = Cert.Kernel4Ideal.Proj.proj a w := by
  rw [← val_main_v3_eq]
  funext i
  idx_vars i
  pointwise
  rfl

end Cert.Reference4Ideal.Proj

end
-- ==== Proof.ProjB.lean ====
/-
  The other two branches' columns of the input projection: after the launch the result array holds, at token `r` and column `c`, the product of row `r` of the
  activations with column `8224 + c` of the layer's input projection; so does the reference's.
-/
module

public import proofs.«01_k».proof.Proof.Gen.Kernel5Ideal.Value
public import proofs.«01_k».proof.Proof.Gen.Reference5Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Proj

open Cert.Kernel5Ideal Cert.Kernel5Ideal.Gen

/-- The result at an index. -/
def proj (a : S8192x4096.Idx → EReal) (w : S2x4096x27696.Idx → EReal) (i : S8192x7168.Idx) : EReal :=
  ∑ k : Fin 4096, a (ix2 (i 0) k) * w (ix3 (0 : Fin 2) k ⟨8224 + (i 1).val, by have := (i 1).isLt; change (i 1).val < 7168 at this; omega⟩)

/-- One grid point's payload at an index, from the blocks it loads. -/
theorem pay_apply (x0 : S2048x4096.Idx → EReal) (x1 : S1x512x4096.Idx → EReal) (j : S2048x512.Idx) :
    k0_pay1 (F := Ideal) x0 x1 j = ∑ k : Fin 4096, x0 (ix2 (j 0) k) * x1 (ix3 (0 : Fin 1) (j 1) k) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The weight the launch reads is the argument with its last two axes swapped. -/
theorem V_main_v0 (c : Dev nD) (l : Fin 2) (r : Fin 27696) (k : Fin 4096) :
    V m c main_v0 (ix3 l r k) = m ((c : Thread nD τ).loc main_arg1) (ix3 l k r) := by
  have h : (transpose S2x27696x4096 [0, 2, 1] (m ((c : Thread nD τ).loc main_arg1)) transposes_S2x4096x27696_S2x27696x4096_0_2_1 : S2x27696x4096.Idx → EReal) (ix3 l r k)
      = m ((c : Thread nD τ).loc main_arg1) (ix3 l k r) := by
    pointwise
  exact h

/-- The windows' block indices at a grid point, all from the output's; the weight's window counts elements. -/
theorem idx_facts : ∀ t : Fin cfg0.N, win0_0.index t 0 = win0_2.index t 0 ∧ win0_0.index t 1 = 0
    ∧ win0_1.index t 0 = 0 ∧ win0_1.index t 1 = 8224 + win0_2.index t 1 * 512 ∧ win0_1.index t 2 = 0
    ∧ win0_2.index t 0 < 4 ∧ win0_2.index t 1 < 14 :=
  (by decide +kernel : ∀ t : Fin grid0.N, _)

/-- The grid point whose block holds a given pair of block indices. -/
theorem idx_surj : ∀ (a : Fin 4) (b : Fin 14), ∃ t : Fin cfg0.N, win0_2.index t 0 = a.val ∧ win0_2.index t 1 = b.val :=
  (by decide +kernel : ∀ (a : Fin 4) (b : Fin 14), ∃ t : Fin grid0.N, win0_2.index t 0 = a.val ∧ win0_2.index t 1 = b.val)

/-- What the result array ends holding. -/
abbrev result (c : Dev nD) : Buf (Elt Ideal) ((c : Thread nD τ).loc main_v1) :=
  proj (m ((c : Thread nD τ).loc main_arg0)) (m ((c : Thread nD τ).loc main_arg1))

/-- What a grid point writes back is its block of `result`. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz3]
  obtain ⟨h00, h01, h10, h11, h12, hr, hc⟩ := idx_facts t
  funext j
  show k0_pay1 (F := Ideal) (iblk m c 0 t) (iblk m c 1 t) j = _
  rw [pay_apply, View.read_apply]
  have hj0 : (j 0).val < 2048 := (j 0).isLt
  have hj1 : (j 1).val < 512 := (j 1).isLt
  have e0 : ∀ k : Fin 4096, iblk m c 0 t (ix2 (j 0) k)
      = m ((c : Thread nD τ).loc main_arg0) (ix2 ⟨win0_2.index t 0 * 2048 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 2048 + 1 * (j 0).val = _; rw [h00]; simp
    | ⟨1, _⟩ => show win0_0.index t 1 * 4096 + 1 * k.val = k.val; rw [h01]; omega
  have e1 : ∀ k : Fin 4096, iblk m c 1 t (ix3 (0 : Fin 1) (j 1) k)
      = m ((c : Thread nD τ).loc main_arg1) (ix3 (0 : Fin 2) k ⟨8224 + (win0_2.index t 1 * 512 + (j 1).val), by omega⟩) := by
    intro k
    unfold iblk
    rw [View.read_apply, ← V_main_v0 m c]
    show V m c main_v0 _ = _
    congr 1
    funext a
    apply Fin.ext
    match a with
    | ⟨0, _⟩ => show win0_1.index t 0 + 1 * 0 = 0; rw [h10]
    | ⟨1, _⟩ => show win0_1.index t 1 + 1 * (j 1).val = 8224 + (win0_2.index t 1 * 512 + (j 1).val); rw [h11]; omega
    | ⟨2, _⟩ => show win0_1.index t 2 + 1 * k.val = k.val; rw [h12]; omega
  simp only [e0, e1]
  have hi : ((cfg0.win 2).blk t).view.emb j
      = (ix2 (⟨win0_2.index t 0 * 2048 + (j 0).val, by omega⟩ : Fin 8192) (⟨win0_2.index t 1 * 512 + (j 1).val, by omega⟩ : Fin 7168) : S8192x7168.Idx) := by
    funext a
    apply Fin.ext
    match a with
    | ⟨0, _⟩ => show win0_2.index t 0 * 2048 + 1 * (j 0).val = _; simp
    | ⟨1, _⟩ => show win0_2.index t 1 * 512 + 1 * (j 1).val = _; simp
  rw [hi]
  rfl

/-- The blocks tile the result array. -/
theorem cover (i : S8192x7168.Idx) : ∃ t : Fin cfg0.N, (cfg0.win 2).flush t = true ∧ i ∈ ((cfg0.win 2).blk t).view.set := by
  have h0 : (i 0).val < 8192 := (i 0).isLt
  have h1 : (i 1).val < 7168 := (i 1).isLt
  obtain ⟨t, ht0, ht1⟩ := idx_surj ⟨(i 0).val / 2048, by omega⟩ ⟨(i 1).val / 512, by omega⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 2048 ≤ (i 0).val ∧ (i 0).val < win0_2.index t 0 * 2048 + 2048
              rw [ht0]; dsimp only; omega
  | ⟨1, _⟩ => show win0_2.index t 1 * 512 ≤ (i 1).val ∧ (i 1).val < win0_2.index t 1 * 512 + 512
              rw [ht1]; dsimp only; omega

/-- The kernel's result array ends holding `result`. -/
theorem final (c : Dev nD) : (dats m 0 c).arrAt 2 cfg0.N = result m c :=
  (dats m 0 c).arrAt_eq_of_cover 2 (result m c) (fun t _ => flushed_eq m c t) cover

end Cert.Kernel5Ideal.Proj

namespace Cert.Reference5Ideal.Proj

open Cert.Reference5Ideal Cert.Reference5Ideal.Read

/-- The reference's result is the same function of the same two arrays. -/
theorem val_eq (a : (⟨S8192x4096, .bf16⟩ : BufTy).Contents (Elt Ideal)) (w : (⟨S2x4096x27696, .f32⟩ : BufTy).Contents (Elt Ideal)) :
    val_main_v3 (F := Ideal) a w = Cert.Kernel5Ideal.Proj.proj a w := by
  rw [← val_main_v3_eq]
  funext i
  idx_vars i
  pointwise
  rfl

end Cert.Reference5Ideal.Proj

end
-- ==== Proof.ProjG.lean ====
/-
  The branch gates' columns of the input projection: after the launch the result array holds, at token `r` and column `c`, the product of row `r` of the
  activations with column `15408 + c` of the layer's input projection; so does the reference's.
-/
module

public import proofs.«01_k».proof.Proof.Gen.Kernel6Ideal.Value
public import proofs.«01_k».proof.Proof.Gen.Reference6Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Proj

open Cert.Kernel6Ideal Cert.Kernel6Ideal.Gen

/-- The result at an index. -/
def proj (a : S8192x4096.Idx → EReal) (w : S2x4096x27696.Idx → EReal) (i : S8192x12288.Idx) : EReal :=
  ∑ k : Fin 4096, a (ix2 (i 0) k) * w (ix3 (0 : Fin 2) k ⟨15408 + (i 1).val, by have := (i 1).isLt; change (i 1).val < 12288 at this; omega⟩)

/-- One grid point's payload at an index, from the blocks it loads. -/
theorem pay_apply (x0 : S2048x4096.Idx → EReal) (x1 : S1x512x4096.Idx → EReal) (j : S2048x512.Idx) :
    k0_pay1 (F := Ideal) x0 x1 j = ∑ k : Fin 4096, x0 (ix2 (j 0) k) * x1 (ix3 (0 : Fin 1) (j 1) k) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The weight the launch reads is the argument with its last two axes swapped. -/
theorem V_main_v0 (c : Dev nD) (l : Fin 2) (r : Fin 27696) (k : Fin 4096) :
    V m c main_v0 (ix3 l r k) = m ((c : Thread nD τ).loc main_arg1) (ix3 l k r) := by
  have h : (transpose S2x27696x4096 [0, 2, 1] (m ((c : Thread nD τ).loc main_arg1)) transposes_S2x4096x27696_S2x27696x4096_0_2_1 : S2x27696x4096.Idx → EReal) (ix3 l r k)
      = m ((c : Thread nD τ).loc main_arg1) (ix3 l k r) := by
    pointwise
  exact h

/-- The windows' block indices at a grid point, all from the output's; the weight's window counts elements. -/
theorem idx_facts : ∀ t : Fin cfg0.N, win0_0.index t 0 = win0_2.index t 0 ∧ win0_0.index t 1 = 0
    ∧ win0_1.index t 0 = 0 ∧ win0_1.index t 1 = 15408 + win0_2.index t 1 * 512 ∧ win0_1.index t 2 = 0
    ∧ win0_2.index t 0 < 4 ∧ win0_2.index t 1 < 24 :=
  (by decide +kernel : ∀ t : Fin grid0.N, _)

/-- The grid point whose block holds a given pair of block indices. -/
theorem idx_surj : ∀ (a : Fin 4) (b : Fin 24), ∃ t : Fin cfg0.N, win0_2.index t 0 = a.val ∧ win0_2.index t 1 = b.val :=
  (by decide +kernel : ∀ (a : Fin 4) (b : Fin 24), ∃ t : Fin grid0.N, win0_2.index t 0 = a.val ∧ win0_2.index t 1 = b.val)

/-- What the result array ends holding. -/
abbrev result (c : Dev nD) : Buf (Elt Ideal) ((c : Thread nD τ).loc main_v1) :=
  proj (m ((c : Thread nD τ).loc main_arg0)) (m ((c : Thread nD τ).loc main_arg1))

/-- What a grid point writes back is its block of `result`. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz3]
  obtain ⟨h00, h01, h10, h11, h12, hr, hc⟩ := idx_facts t
  funext j
  show k0_pay1 (F := Ideal) (iblk m c 0 t) (iblk m c 1 t) j = _
  rw [pay_apply, View.read_apply]
  have hj0 : (j 0).val < 2048 := (j 0).isLt
  have hj1 : (j 1).val < 512 := (j 1).isLt
  have e0 : ∀ k : Fin 4096, iblk m c 0 t (ix2 (j 0) k)
      = m ((c : Thread nD τ).loc main_arg0) (ix2 ⟨win0_2.index t 0 * 2048 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 2048 + 1 * (j 0).val = _; rw [h00]; simp
    | ⟨1, _⟩ => show win0_0.index t 1 * 4096 + 1 * k.val = k.val; rw [h01]; omega
  have e1 : ∀ k : Fin 4096, iblk m c 1 t (ix3 (0 : Fin 1) (j 1) k)
      = m ((c : Thread nD τ).loc main_arg1) (ix3 (0 : Fin 2) k ⟨15408 + (win0_2.index t 1 * 512 + (j 1).val), by omega⟩) := by
    intro k
    unfold iblk
    rw [View.read_apply, ← V_main_v0 m c]
    show V m c main_v0 _ = _
    congr 1
    funext a
    apply Fin.ext
    match a with
    | ⟨0, _⟩ => show win0_1.index t 0 + 1 * 0 = 0; rw [h10]
    | ⟨1, _⟩ => show win0_1.index t 1 + 1 * (j 1).val = 15408 + (win0_2.index t 1 * 512 + (j 1).val); rw [h11]; omega
    | ⟨2, _⟩ => show win0_1.index t 2 + 1 * k.val = k.val; rw [h12]; omega
  simp only [e0, e1]
  have hi : ((cfg0.win 2).blk t).view.emb j
      = (ix2 (⟨win0_2.index t 0 * 2048 + (j 0).val, by omega⟩ : Fin 8192) (⟨win0_2.index t 1 * 512 + (j 1).val, by omega⟩ : Fin 12288) : S8192x12288.Idx) := by
    funext a
    apply Fin.ext
    match a with
    | ⟨0, _⟩ => show win0_2.index t 0 * 2048 + 1 * (j 0).val = _; simp
    | ⟨1, _⟩ => show win0_2.index t 1 * 512 + 1 * (j 1).val = _; simp
  rw [hi]
  rfl

/-- The blocks tile the result array. -/
theorem cover (i : S8192x12288.Idx) : ∃ t : Fin cfg0.N, (cfg0.win 2).flush t = true ∧ i ∈ ((cfg0.win 2).blk t).view.set := by
  have h0 : (i 0).val < 8192 := (i 0).isLt
  have h1 : (i 1).val < 12288 := (i 1).isLt
  obtain ⟨t, ht0, ht1⟩ := idx_surj ⟨(i 0).val / 2048, by omega⟩ ⟨(i 1).val / 512, by omega⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 2048 ≤ (i 0).val ∧ (i 0).val < win0_2.index t 0 * 2048 + 2048
              rw [ht0]; dsimp only; omega
  | ⟨1, _⟩ => show win0_2.index t 1 * 512 ≤ (i 1).val ∧ (i 1).val < win0_2.index t 1 * 512 + 512
              rw [ht1]; dsimp only; omega

/-- The kernel's result array ends holding `result`. -/
theorem final (c : Dev nD) : (dats m 0 c).arrAt 2 cfg0.N = result m c :=
  (dats m 0 c).arrAt_eq_of_cover 2 (result m c) (fun t _ => flushed_eq m c t) cover

end Cert.Kernel6Ideal.Proj

namespace Cert.Reference6Ideal.Proj

open Cert.Reference6Ideal Cert.Reference6Ideal.Read

/-- The reference's result is the same function of the same two arrays. -/
theorem val_eq (a : (⟨S8192x4096, .bf16⟩ : BufTy).Contents (Elt Ideal)) (w : (⟨S2x4096x27696, .f32⟩ : BufTy).Contents (Elt Ideal)) :
    val_main_v4 (F := Ideal) a w = Cert.Kernel6Ideal.Proj.proj a w := by
  rw [← val_main_v4_eq]
  funext i
  idx_vars i
  pointwise
  rfl

end Cert.Reference6Ideal.Proj

end
-- ==== Proof.Merge.lean ====
/-
  The gated merge of the three branches: after the launch the result array holds, at token `r` and channel `c`, the sum
  over the branches of the logistic of the branch's gate times the branch's row through its rows of the weight; so does
  the reference's.
-/
module

public import proofs.«01_k».proof.Proof.Gen.Kernel7Ideal.Value
public import proofs.«01_k».proof.Proof.Gen.Reference7Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Merge

open Cert.Kernel7Ideal Cert.Kernel7Ideal.Gen

/-- The result at an index. -/
def merge (a0 : S8192x2048.Idx → EReal) (a1 a2 : S8192x1024.Idx → EReal) (w : S2x4096x4096.Idx → EReal) (g : S8192x12288.Idx → EReal)
    (i : S8192x4096.Idx) : EReal :=
    Ideal.logistic (g (ix2 (i 0) (⟨(i 1).val, by have := (i 1).isLt; change (i 1).val < 4096 at this; omega⟩ : Fin 12288)))
      * ∑ k : Fin 2048, a0 (ix2 (i 0) k) * w (ix3 (0 : Fin 2) (⟨k.val, by omega⟩ : Fin 4096) (i 1))
    + Ideal.logistic (g (ix2 (i 0) (⟨4096 + (i 1).val, by have := (i 1).isLt; change (i 1).val < 4096 at this; omega⟩ : Fin 12288)))
      * ∑ k : Fin 1024, a1 (ix2 (i 0) k) * w (ix3 (0 : Fin 2) (⟨2048 + k.val, by omega⟩ : Fin 4096) (i 1))
    + Ideal.logistic (g (ix2 (i 0) (⟨8192 + (i 1).val, by have := (i 1).isLt; change (i 1).val < 4096 at this; omega⟩ : Fin 12288)))
      * ∑ k : Fin 1024, a2 (ix2 (i 0) k) * w (ix3 (0 : Fin 2) (⟨3072 + k.val, by omega⟩ : Fin 4096) (i 1))

/-- One grid point's payload at an index, from the blocks it loads. -/
theorem pay_apply (x0 : S2048x2048.Idx → EReal) (x1 x2 : S2048x1024.Idx → EReal) (x3 : S1x2048x256.Idx → EReal)
    (x4 x5 : S1x1024x256.Idx → EReal) (x6 x7 x8 : S2048x256.Idx → EReal) (j : S2048x256.Idx) :
    k0_pay1 (F := Ideal) x6 x0 x3 x7 x1 x4 x8 x2 x5 j
      = Ideal.logistic (x6 j) * (∑ k : Fin 2048, x0 (ix2 (j 0) k) * x3 (ix3 (0 : Fin 1) k (j 1)))
        + Ideal.logistic (x7 j) * (∑ k : Fin 1024, x1 (ix2 (j 0) k) * x4 (ix3 (0 : Fin 1) k (j 1)))
        + Ideal.logistic (x8 j) * (∑ k : Fin 1024, x2 (ix2 (j 0) k) * x5 (ix3 (0 : Fin 1) k (j 1))) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The windows' block indices at a grid point, all from the output's. -/
theorem idx_facts : ∀ t : Fin cfg0.N, (win0_0.index t 0 = win0_9.index t 0 ∧ win0_0.index t 1 = 0
    ∧ win0_1.index t 0 = win0_9.index t 0 ∧ win0_1.index t 1 = 0 ∧ win0_2.index t 0 = win0_9.index t 0 ∧ win0_2.index t 1 = 0)
    ∧ (win0_3.index t 0 = 0 ∧ win0_3.index t 1 = 0 ∧ win0_3.index t 2 = win0_9.index t 1
    ∧ win0_4.index t 0 = 0 ∧ win0_4.index t 1 = 2 ∧ win0_4.index t 2 = win0_9.index t 1
    ∧ win0_5.index t 0 = 0 ∧ win0_5.index t 1 = 3 ∧ win0_5.index t 2 = win0_9.index t 1)
    ∧ (win0_6.index t 0 = win0_9.index t 0 ∧ win0_6.index t 1 = win0_9.index t 1
    ∧ win0_7.index t 0 = win0_9.index t 0 ∧ win0_7.index t 1 = 16 + win0_9.index t 1
    ∧ win0_8.index t 0 = win0_9.index t 0 ∧ win0_8.index t 1 = 32 + win0_9.index t 1)
    ∧ win0_9.index t 0 < 4 ∧ win0_9.index t 1 < 16 :=
  (by decide +kernel : ∀ t : Fin grid0.N, _)

/-- The grid point whose block holds a given pair of block indices. -/
theorem idx_surj : ∀ (a : Fin 4) (b : Fin 16), ∃ t : Fin cfg0.N, win0_9.index t 0 = a.val ∧ win0_9.index t 1 = b.val :=
  (by decide +kernel : ∀ (a : Fin 4) (b : Fin 16), ∃ t : Fin grid0.N, win0_9.index t 0 = a.val ∧ win0_9.index t 1 = b.val)

/-- What the result array ends holding. -/
abbrev result (c : Dev nD) : Buf (Elt Ideal) ((c : Thread nD τ).loc main_v0) :=
  merge (m ((c : Thread nD τ).loc main_arg0)) (m ((c : Thread nD τ).loc main_arg1)) (m ((c : Thread nD τ).loc main_arg2))
    (m ((c : Thread nD τ).loc main_arg3)) (m ((c : Thread nD τ).loc main_arg4))

set_option maxHeartbeats 1000000 in
/-- What a grid point writes back is its block of `result`. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz2]
  rw [View.ld_unit_zero (S := S2048x256) hz2, View.ld_unit_zero (S := S2048x2048) hz2, View.ld_unit_zero (S := S1x2048x256) hz3,
    View.ld_unit_zero (S := S2048x256) hz2, View.ld_unit_zero (S := S2048x1024) hz2, View.ld_unit_zero (S := S1x1024x256) hz3,
    View.ld_unit_zero (S := S2048x256) hz2, View.ld_unit_zero (S := S2048x1024) hz2, View.ld_unit_zero (S := S1x1024x256) hz3]
  obtain ⟨⟨h00, h01, h10, h11, h20, h21⟩, ⟨h30, h31, h32, h40, h41, h42, h50, h51, h52⟩, ⟨h60, h61, h70, h71, h80, h81⟩, hr, hc⟩ := idx_facts t
  funext j
  have hj0 : (j 0).val < 2048 := (j 0).isLt
  have hj1 : (j 1).val < 256 := (j 1).isLt
  refine (pay_apply (iblk m c 0 t) (iblk m c 1 t) (iblk m c 2 t) (iblk m c 3 t) (iblk m c 4 t) (iblk m c 5 t) (iblk m c 6 t) (iblk m c 7 t) (iblk m c 8 t) j).trans ?_
  rw [View.read_apply]
  have e0 : ∀ k : Fin 2048, iblk m c 0 t (ix2 (j 0) k)
      = m ((c : Thread nD τ).loc main_arg0) (ix2 ⟨win0_9.index t 0 * 2048 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 2048 + 1 * (j 0).val = _; rw [h00]; simp
    | ⟨1, _⟩ => show win0_0.index t 1 * 2048 + 1 * k.val = k.val; rw [h01]; omega
  have e1 : ∀ k : Fin 1024, iblk m c 1 t (ix2 (j 0) k)
      = m ((c : Thread nD τ).loc main_arg1) (ix2 ⟨win0_9.index t 0 * 2048 + (j 0).val, by omega⟩ k) := by
    intro k
    unfold iblk
    rw [View.read_apply]
    show V m c main_arg1 _ = _
    rw [V_main_arg1]
    congr 1
    funext a
    apply Fin.ext
    match a with
    | ⟨0, _⟩ => show win0_1.index t 0 * 2048 + 1 * (j 0).val = _; rw [h10]; simp
    | ⟨1, _⟩ => show win0_1.index t 1 * 1024 + 1 * k.val = k.val; rw [h11]; omega
  have e2 : ∀ k : Fin 1024, iblk m c 2 t (ix2 (j 0) k)
      = m ((c : Thread nD τ).loc main_arg2) (ix2 ⟨win0_9.index t 0 * 2048 + (j 0).val, by omega⟩ k) := by
    intro k
    unfold iblk
    rw [View.read_apply]
    show V m c main_arg2 _ = _
    rw [V_main_arg2]
    congr 1
    funext a
    apply Fin.ext
    match a with
    | ⟨0, _⟩ => show win0_2.index t 0 * 2048 + 1 * (j 0).val = _; rw [h20]; simp
    | ⟨1, _⟩ => show win0_2.index t 1 * 1024 + 1 * k.val = k.val; rw [h21]; omega
  have e3 : ∀ k : Fin 2048, iblk m c 3 t (ix3 (0 : Fin 1) k (j 1))
      = m ((c : Thread nD τ).loc main_arg3) (ix3 (0 : Fin 2) (⟨k.val, by omega⟩ : Fin 4096) ⟨win0_9.index t 1 * 256 + (j 1).val, by omega⟩) := by
    intro k
    unfold iblk
    rw [View.read_apply]
    show V m c main_arg3 _ = _
    rw [V_main_arg3]
    congr 1
    funext a
    apply Fin.ext
    match a with
    | ⟨0, _⟩ => show win0_3.index t 0 * 1 + 1 * 0 = 0; rw [h30]
    | ⟨1, _⟩ => show win0_3.index t 1 * 2048 + 1 * k.val = k.val; rw [h31]; omega
    | ⟨2, _⟩ => show win0_3.index t 2 * 256 + 1 * (j 1).val = _; rw [h32]; simp
  have e4 : ∀ k : Fin 1024, iblk m c 4 t (ix3 (0 : Fin 1) k (j 1))
      = m ((c : Thread nD τ).loc main_arg3) (ix3 (0 : Fin 2) (⟨2048 + k.val, by omega⟩ : Fin 4096) ⟨win0_9.index t 1 * 256 + (j 1).val, by omega⟩) := by
    intro k
    unfold iblk
    rw [View.read_apply]
    show V m c main_arg3 _ = _
    rw [V_main_arg3]
    congr 1
    funext a
    apply Fin.ext
    match a with
    | ⟨0, _⟩ => show win0_4.index t 0 * 1 + 1 * 0 = 0; rw [h40]
    | ⟨1, _⟩ => show win0_4.index t 1 * 1024 + 1 * k.val = 2048 + k.val; rw [h41]; omega
    | ⟨2, _⟩ => show win0_4.index t 2 * 256 + 1 * (j 1).val = _; rw [h42]; simp
  have e5 : ∀ k : Fin 1024, iblk m c 5 t (ix3 (0 : Fin 1) k (j 1))
      = m ((c : Thread nD τ).loc main_arg3) (ix3 (0 : Fin 2) (⟨3072 + k.val, by omega⟩ : Fin 4096) ⟨win0_9.index t 1 * 256 + (j 1).val, by omega⟩) := by
    intro k
    unfold iblk
    rw [View.read_apply]
    show V m c main_arg3 _ = _
    rw [V_main_arg3]
    congr 1
    funext a
    apply Fin.ext
    match a with
    | ⟨0, _⟩ => show win0_5.index t 0 * 1 + 1 * 0 = 0; rw [h50]
    | ⟨1, _⟩ => show win0_5.index t 1 * 1024 + 1 * k.val = 3072 + k.val; rw [h51]; omega
    | ⟨2, _⟩ => show win0_5.index t 2 * 256 + 1 * (j 1).val = _; rw [h52]; simp
  have e6 : iblk m c 6 t j
      = m ((c : Thread nD τ).loc main_arg4) (ix2 (⟨win0_9.index t 0 * 2048 + (j 0).val, by omega⟩ : Fin 8192) (⟨(win0_9.index t 1 * 256 + (j 1).val), by omega⟩ : Fin 12288)) := by
    unfold iblk
    rw [View.read_apply]
    show V m c main_arg4 _ = _
    rw [V_main_arg4]
    congr 1
    funext a
    apply Fin.ext
    match a with
    | ⟨0, _⟩ => show win0_6.index t 0 * 2048 + 1 * (j 0).val = _; rw [h60]; simp
    | ⟨1, _⟩ => show win0_6.index t 1 * 256 + 1 * (j 1).val = (win0_9.index t 1 * 256 + (j 1).val); rw [h61]; omega
  have e7 : iblk m c 7 t j
      = m ((c : Thread nD τ).loc main_arg4) (ix2 (⟨win0_9.index t 0 * 2048 + (j 0).val, by omega⟩ : Fin 8192) (⟨4096 + (win0_9.index t 1 * 256 + (j 1).val), by omega⟩ : Fin 12288)) := by
    unfold iblk
    rw [View.read_apply]
    show V m c main_arg4 _ = _
    rw [V_main_arg4]
    congr 1
    funext a
    apply Fin.ext
    match a with
    | ⟨0, _⟩ => show win0_7.index t 0 * 2048 + 1 * (j 0).val = _; rw [h70]; simp
    | ⟨1, _⟩ => show win0_7.index t 1 * 256 + 1 * (j 1).val = 4096 + (win0_9.index t 1 * 256 + (j 1).val); rw [h71]; omega
  have e8 : iblk m c 8 t j
      = m ((c : Thread nD τ).loc main_arg4) (ix2 (⟨win0_9.index t 0 * 2048 + (j 0).val, by omega⟩ : Fin 8192) (⟨8192 + (win0_9.index t 1 * 256 + (j 1).val), by omega⟩ : Fin 12288)) := by
    unfold iblk
    rw [View.read_apply]
    show V m c main_arg4 _ = _
    rw [V_main_arg4]
    congr 1
    funext a
    apply Fin.ext
    match a with
    | ⟨0, _⟩ => show win0_8.index t 0 * 2048 + 1 * (j 0).val = _; rw [h80]; simp
    | ⟨1, _⟩ => show win0_8.index t 1 * 256 + 1 * (j 1).val = 8192 + (win0_9.index t 1 * 256 + (j 1).val); rw [h81]; omega
  simp only [e0, e1, e2, e3, e4, e5, e6, e7, e8]
  have hi : ((cfg0.win 9).blk t).view.emb j
      = (ix2 (⟨win0_9.index t 0 * 2048 + (j 0).val, by omega⟩ : Fin 8192) (⟨win0_9.index t 1 * 256 + (j 1).val, by omega⟩ : Fin 4096) : S8192x4096.Idx) := by
    funext a
    apply Fin.ext
    match a with
    | ⟨0, _⟩ => show win0_9.index t 0 * 2048 + 1 * (j 0).val = _; simp
    | ⟨1, _⟩ => show win0_9.index t 1 * 256 + 1 * (j 1).val = _; simp
  rw [hi]
  rfl

/-- The blocks tile the result array. -/
theorem cover (i : S8192x4096.Idx) : ∃ t : Fin cfg0.N, (cfg0.win 9).flush t = true ∧ i ∈ ((cfg0.win 9).blk t).view.set := by
  have h0 : (i 0).val < 8192 := (i 0).isLt
  have h1 : (i 1).val < 4096 := (i 1).isLt
  obtain ⟨t, ht0, ht1⟩ := idx_surj ⟨(i 0).val / 2048, by omega⟩ ⟨(i 1).val / 256, by omega⟩
  refine ⟨t, flush0_9 t, ?_⟩
  show i ∈ ((View.whole main_v0).slice (win0_9.rect t)).set
  rw [View.set_slice_whole, Rect.mem_set_unit]
  intro a
  match a with
  | ⟨0, _⟩ => show win0_9.index t 0 * 2048 ≤ (i 0).val ∧ (i 0).val < win0_9.index t 0 * 2048 + 2048
              rw [ht0]; dsimp only; omega
  | ⟨1, _⟩ => show win0_9.index t 1 * 256 ≤ (i 1).val ∧ (i 1).val < win0_9.index t 1 * 256 + 256
              rw [ht1]; dsimp only; omega

/-- The kernel's result array ends holding `result`. -/
theorem final (c : Dev nD) : (dats m 0 c).arrAt 9 cfg0.N = result m c :=
  (dats m 0 c).arrAt_eq_of_cover 9 (result m c) (fun t _ => flushed_eq m c t) cover

end Cert.Kernel7Ideal.Merge

namespace Cert.Reference7Ideal.Merge

open Cert.Reference7Ideal Cert.Reference7Ideal.Read

/-- The reference's result is the same function of the same arrays. -/
theorem val_eq (a0 : (⟨S8192x2048, .bf16⟩ : BufTy).Contents (Elt Ideal)) (a1 a2 : (⟨S8192x1024, .bf16⟩ : BufTy).Contents (Elt Ideal))
    (w : (⟨S2x4096x4096, .f32⟩ : BufTy).Contents (Elt Ideal)) (g : (⟨S8192x12288, .bf16⟩ : BufTy).Contents (Elt Ideal)) :
    val_main_v30 (F := Ideal) a0 a1 a2 w g = Cert.Kernel7Ideal.Merge.merge a0 a1 a2 w g := by
  rw [← val_main_v30_eq]
  funext i
  idx_vars i
  pointwise
  rfl

end Cert.Reference7Ideal.Merge

end
-- ==== Proof.OutProj.lean ====
/-
  The output projection with its residual: after the launch the result array holds, at token `r` and channel `c`, the
  residual plus the product of row `r` with column `c` of the layer's weight; so does the reference's. The kernel's
  product with the literal one is dropped.
-/
module

public import proofs.«01_k».proof.Proof.Gen.Kernel8Ideal.Value
public import proofs.«01_k».proof.Proof.Gen.Reference8Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.OutProj

open Cert.Kernel8Ideal Cert.Kernel8Ideal.Gen

/-- The result at an index. -/
def added (a : S8192x4096.Idx → EReal) (w : S2x4096x4096.Idx → EReal) (h : S8192x4096.Idx → EReal) (i : S8192x4096.Idx) : EReal :=
  h i + ∑ k : Fin 4096, a (ix2 (i 0) k) * w (ix3 (0 : Fin 2) k (i 1))

/-- One grid point's payload at an index, from the blocks it loads. -/
theorem pay_apply (x0 : S2048x4096.Idx → EReal) (x1 : S1x4096x256.Idx → EReal) (x2 : S2048x256.Idx → EReal) (j : S2048x256.Idx) :
    k0_pay1 (F := Ideal) x0 x1 x2 j = x2 j + ∑ k : Fin 4096, x0 (ix2 (j 0) k) * x1 (ix3 (0 : Fin 1) k (j 1)) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The windows' block indices at a grid point, all from the output's. -/
theorem idx_facts : ∀ t : Fin cfg0.N, win0_0.index t 0 = win0_3.index t 0 ∧ win0_0.index t 1 = 0
    ∧ win0_1.index t 0 = 0 ∧ win0_1.index t 1 = 0 ∧ win0_1.index t 2 = win0_3.index t 1
    ∧ win0_2.index t 0 = win0_3.index t 0 ∧ win0_2.index t 1 = win0_3.index t 1
    ∧ win0_3.index t 0 < 4 ∧ win0_3.index t 1 < 16 :=
  (by decide +kernel : ∀ t : Fin grid0.N, _)

/-- The grid point whose block holds a given pair of block indices. -/
theorem idx_surj : ∀ (a : Fin 4) (b : Fin 16), ∃ t : Fin cfg0.N, win0_3.index t 0 = a.val ∧ win0_3.index t 1 = b.val :=
  (by decide +kernel : ∀ (a : Fin 4) (b : Fin 16), ∃ t : Fin grid0.N, win0_3.index t 0 = a.val ∧ win0_3.index t 1 = b.val)

/-- What the result array ends holding. -/
abbrev result (c : Dev nD) : Buf (Elt Ideal) ((c : Thread nD τ).loc main_v0) :=
  added (m ((c : Thread nD τ).loc main_arg0)) (m ((c : Thread nD τ).loc main_arg1)) (m ((c : Thread nD τ).loc main_arg2))

/-- What a grid point writes back is its block of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz2, View.ld_unit_zero hz2, View.ld_unit_zero hz3, View.ld_unit_zero hz2]
  obtain ⟨h00, h01, h10, h11, h12, h20, h21, hr, hc⟩ := idx_facts t
  funext j
  have hj0 : (j 0).val < 2048 := (j 0).isLt
  have hj1 : (j 1).val < 256 := (j 1).isLt
  refine (pay_apply (iblk m c 0 t) (iblk m c 1 t) (iblk m c 2 t) j).trans ?_
  rw [View.read_apply]
  have e0 : ∀ k : Fin 4096, iblk m c 0 t (ix2 (j 0) k)
      = m ((c : Thread nD τ).loc main_arg0) (ix2 ⟨win0_3.index t 0 * 2048 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 2048 + 1 * (j 0).val = _; rw [h00]; simp
    | ⟨1, _⟩ => show win0_0.index t 1 * 4096 + 1 * k.val = k.val; rw [h01]; omega
  have e1 : ∀ k : Fin 4096, iblk m c 1 t (ix3 (0 : Fin 1) k (j 1))
      = m ((c : Thread nD τ).loc main_arg1) (ix3 (0 : Fin 2) k ⟨win0_3.index t 1 * 256 + (j 1).val, by omega⟩) := by
    intro k
    unfold iblk
    rw [View.read_apply]
    show V m c main_arg1 _ = _
    rw [V_main_arg1]
    congr 1
    funext a
    apply Fin.ext
    match a with
    | ⟨0, _⟩ => show win0_1.index t 0 * 1 + 1 * 0 = 0; rw [h10]
    | ⟨1, _⟩ => show win0_1.index t 1 * 4096 + 1 * k.val = k.val; rw [h11]; omega
    | ⟨2, _⟩ => show win0_1.index t 2 * 256 + 1 * (j 1).val = _; rw [h12]; simp
  have e2 : iblk m c 2 t j
      = m ((c : Thread nD τ).loc main_arg2) (ix2 (⟨win0_3.index t 0 * 2048 + (j 0).val, by omega⟩ : Fin 8192) (⟨win0_3.index t 1 * 256 + (j 1).val, by omega⟩ : Fin 4096)) := by
    unfold iblk
    rw [View.read_apply]
    show V m c main_arg2 _ = _
    rw [V_main_arg2]
    congr 1
    funext a
    apply Fin.ext
    match a with
    | ⟨0, _⟩ => show win0_2.index t 0 * 2048 + 1 * (j 0).val = _; rw [h20]; simp
    | ⟨1, _⟩ => show win0_2.index t 1 * 256 + 1 * (j 1).val = _; rw [h21]; simp
  simp only [e0, e1, e2]
  have hi : ((cfg0.win 3).blk t).view.emb j
      = (ix2 (⟨win0_3.index t 0 * 2048 + (j 0).val, by omega⟩ : Fin 8192) (⟨win0_3.index t 1 * 256 + (j 1).val, by omega⟩ : Fin 4096) : S8192x4096.Idx) := by
    funext a
    apply Fin.ext
    match a with
    | ⟨0, _⟩ => show win0_3.index t 0 * 2048 + 1 * (j 0).val = _; simp
    | ⟨1, _⟩ => show win0_3.index t 1 * 256 + 1 * (j 1).val = _; simp
  rw [hi]
  rfl

/-- The blocks tile the result array. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht0, ht1⟩ := idx_surj ⟨(i 0).val / 2048, by omega⟩ ⟨(i 1).val / 256, by omega⟩
  refine ⟨t, flush0_3 t, ?_⟩
  show i ∈ ((View.whole main_v0).slice (win0_3.rect t)).set
  rw [View.set_slice_whole, Rect.mem_set_unit]
  intro a
  match a with
  | ⟨0, _⟩ => show win0_3.index t 0 * 2048 ≤ (i 0).val ∧ (i 0).val < win0_3.index t 0 * 2048 + 2048
              rw [ht0]; dsimp only; omega
  | ⟨1, _⟩ => show win0_3.index t 1 * 256 ≤ (i 1).val ∧ (i 1).val < win0_3.index t 1 * 256 + 256
              rw [ht1]; dsimp only; omega

/-- The kernel's result array ends holding `result`. -/
theorem final (c : Dev nD) : (dats m 0 c).arrAt 3 cfg0.N = result m c :=
  (dats m 0 c).arrAt_eq_of_cover 3 (result m c) (fun t _ => flushed_eq m c t) cover

end Cert.Kernel8Ideal.OutProj

namespace Cert.Reference8Ideal.OutProj

open Cert.Reference8Ideal Cert.Reference8Ideal.Read

/-- The reference's result is the same function of the same arrays. -/
theorem val_eq (a : (⟨S8192x4096, .bf16⟩ : BufTy).Contents (Elt Ideal)) (w : (⟨S2x4096x4096, .f32⟩ : BufTy).Contents (Elt Ideal))
    (h : (⟨S8192x4096, .f32⟩ : BufTy).Contents (Elt Ideal)) :
    val_main_v4 (F := Ideal) a w h = Cert.Kernel8Ideal.OutProj.added a w h := by
  rw [← val_main_v4_eq]
  funext i
  idx_vars i
  pointwise
  rfl

end Cert.Reference8Ideal.OutProj

end
-- ==== Proof.Norm.lean ====
/-
  The final RMS norm: after the launch the result array holds, at token `r` and channel `c`, the entry times the
  reciprocal root of the row's mean square plus the norm's constant, times the channel's weight; so does the reference's.
-/
module

public import proofs.«01_k».proof.Proof.Gen.Kernel9Ideal.Value
public import proofs.«01_k».proof.Proof.Gen.Reference9Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Norm

open Cert.Kernel9Ideal Cert.Kernel9Ideal.Gen

/-- The result at an index. -/
def norm (h : S8192x4096.Idx → EReal) (w : S4096.Idx → EReal) (i : S8192x4096.Idx) : EReal :=
  h i * Ideal.rsqrt (Ideal.div (∑ k : Fin 4096, h (ix2 (i 0) k) * h (ix2 (i 0) k)) (Ideal.ofBits .f32 0x45800000#32)
      + Ideal.ofBits .f32 0x358637BD#32) * w (ix1 (i 1))

/-- One grid point's payload at an index, from the blocks it loads. -/
theorem pay_apply (x0 : S256x4096.Idx → EReal) (x1 : S1x4096.Idx → EReal) (j : S256x4096.Idx) :
    k0_pay1 (F := Ideal) x0 x1 j = x0 j * Ideal.rsqrt (Ideal.div (∑ k : Fin 4096, x0 (ix2 (j 0) k) * x0 (ix2 (j 0) k)) (Ideal.ofBits .f32 0x45800000#32)
      + Ideal.ofBits .f32 0x358637BD#32) * x1 (ix2 (0 : Fin 1) (j 1)) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- A vector as one row, at an index. -/
theorem row_apply (x : S4096.Idx → EReal) (k : Fin 4096) :
    (shapeCast S1x4096 x shapeCasts_S4096_S1x4096 : S1x4096.Idx → EReal) (ix2 (0 : Fin 1) k) = x (ix1 k) := by
  pointwise

/-- The weight the launch reads is the argument as one row. -/
theorem V_main_v0 (c : Dev nD) (k : Fin 4096) :
    V m c main_v0 (ix2 (0 : Fin 1) k) = m ((c : Thread nD τ).loc main_arg1) (ix1 k) :=
  row_apply (m ((c : Thread nD τ).loc main_arg1)) k

/-- The windows' block indices at a grid point, all from the output's. -/
theorem idx_facts : ∀ t : Fin cfg0.N, win0_0.index t 0 = win0_2.index t 0 ∧ win0_0.index t 1 = 0
    ∧ win0_1.index t 0 = 0 ∧ win0_1.index t 1 = 0 ∧ win0_2.index t 1 = 0 ∧ win0_2.index t 0 < 32 :=
  (by decide +kernel : ∀ t : Fin grid0.N, _)

/-- The grid point whose block holds a given pair of block indices. -/
theorem idx_surj : ∀ (a : Fin 32) (b : Fin 1), ∃ t : Fin cfg0.N, win0_2.index t 0 = a.val ∧ win0_2.index t 1 = b.val :=
  (by decide +kernel : ∀ (a : Fin 32) (b : Fin 1), ∃ t : Fin grid0.N, win0_2.index t 0 = a.val ∧ win0_2.index t 1 = b.val)

/-- What the result array ends holding. -/
abbrev result (c : Dev nD) : Buf (Elt Ideal) ((c : Thread nD τ).loc main_v1) :=
  norm (m ((c : Thread nD τ).loc main_arg0)) (m ((c : Thread nD τ).loc main_arg1))

/-- What a grid point writes back is its block of `result`. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz2]
  obtain ⟨h00, h01, h10, h11, hc, hr⟩ := idx_facts t
  funext j
  have hj0 : (j 0).val < 256 := (j 0).isLt
  have hj1 : (j 1).val < 4096 := (j 1).isLt
  refine (pay_apply (iblk m c 0 t) (iblk m c 1 t) j).trans ?_
  rw [View.read_apply]
  have e0 : ∀ k : Fin 4096, iblk m c 0 t (ix2 (j 0) k)
      = m ((c : Thread nD τ).loc main_arg0) (ix2 ⟨win0_2.index t 0 * 256 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 256 + 1 * (j 0).val = _; rw [h00]; simp
    | ⟨1, _⟩ => show win0_0.index t 1 * 4096 + 1 * k.val = k.val; rw [h01]; omega
  have e0' := e0 (j 1)
  rw [show (ix2 (j 0) (j 1) : S256x4096.Idx) = j from by idx_vars j] at e0'
  have e1 : iblk m c 1 t (ix2 (0 : Fin 1) (j 1)) = m ((c : Thread nD τ).loc main_arg1) (ix1 (j 1)) := by
    unfold iblk
    rw [View.read_apply]
    refine Eq.trans ?_ (V_main_v0 m c (j 1))
    show V m c main_v0 _ = _
    congr 1
    funext a
    apply Fin.ext
    match a with
    | ⟨0, _⟩ => show win0_1.index t 0 * 1 + 1 * 0 = 0; rw [h10]
    | ⟨1, _⟩ => show win0_1.index t 1 * 4096 + 1 * (j 1).val = (j 1).val; rw [h11]; omega
  rw [e0', e1]
  simp only [e0]
  have hi : ((cfg0.win 2).blk t).view.emb j
      = (ix2 (⟨win0_2.index t 0 * 256 + (j 0).val, by omega⟩ : Fin 8192) (j 1 : Fin 4096) : S8192x4096.Idx) := by
    funext a
    apply Fin.ext
    match a with
    | ⟨0, _⟩ => show win0_2.index t 0 * 256 + 1 * (j 0).val = _; simp
    | ⟨1, _⟩ => show win0_2.index t 1 * 4096 + 1 * (j 1).val = (j 1).val; rw [hc]; omega
  rw [hi]
  rfl

/-- The blocks tile the result array. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht0, ht1⟩ := idx_surj ⟨(i 0).val / 256, by omega⟩ ⟨(i 1).val / 4096, by omega⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [ht0]; dsimp only; omega
  | ⟨1, _⟩ => show win0_2.index t 1 * 4096 ≤ (i 1).val ∧ (i 1).val < win0_2.index t 1 * 4096 + 4096
              rw [ht1]; dsimp only; omega

/-- The kernel's result array ends holding `result`. -/
theorem final (c : Dev nD) : (dats m 0 c).arrAt 2 cfg0.N = result m c :=
  (dats m 0 c).arrAt_eq_of_cover 2 (result m c) (fun t _ => flushed_eq m c t) cover

end Cert.Kernel9Ideal.Norm

namespace Cert.Reference9Ideal.Norm

open Cert.Reference9Ideal Cert.Reference9Ideal.Read

/-- The reference's result is the same function of the same arrays. -/
theorem val_eq (h : (⟨S8192x4096, .f32⟩ : BufTy).Contents (Elt Ideal)) (w : (⟨S4096, .f32⟩ : BufTy).Contents (Elt Ideal)) :
    val_main_v12 (F := Ideal) h w = Cert.Kernel9Ideal.Norm.norm h w := by
  rw [← val_main_v12_eq]
  funext i
  idx_vars i
  pointwise
  rfl

end Cert.Reference9Ideal.Norm

end
-- ==== Proof.Small.lean ====
/-
  The small columns of the input projection, padded to a row of 128 lanes: after the launch lanes 0..31 hold the products
  with the columns 8192.. of the weight, lanes 32..47 those with the columns 15392.., and the rest zero; so does the
  reference's result. The kernel multiplies by zero rows for the padding.
-/
module

public import proofs.«01_k».proof.Proof.Gen.Kernel10Ideal.Value
public import proofs.«01_k».proof.Proof.Gen.Reference10Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Small

open Cert.Kernel10Ideal Cert.Kernel10Ideal.Gen

/-- The result at an index. -/
def small (a : S8192x4096.Idx → EReal) (w : S2x4096x27696.Idx → EReal) (i : S8192x128.Idx) : EReal :=
  if h : (i 1).val < 32 then ∑ k : Fin 4096, a (ix2 (i 0) k) * w (ix3 (0 : Fin 2) k (⟨8192 + (i 1).val, by omega⟩ : Fin 27696))
  else if h' : (i 1).val - 32 < 16 then ∑ k : Fin 4096, a (ix2 (i 0) k) * w (ix3 (0 : Fin 2) k (⟨15392 + ((i 1).val - 32), by omega⟩ : Fin 27696))
  else 0

/-- One grid point's payload at an index, from the blocks it loads. -/
theorem pay_apply (x0 : S1024x4096.Idx → EReal) (x1 : S1x32x4096.Idx → EReal) (x2 : S1x16x4096.Idx → EReal) (j : S1024x128.Idx) :
    k0_pay1 (F := Ideal) x1 x2 x0 j
      = if h : (j 1).val < 32 then ∑ k : Fin 4096, x0 (ix2 (j 0) k) * x1 (ix3 (0 : Fin 1) (⟨(j 1).val, h⟩ : Fin 32) k)
        else if h' : (j 1).val - 32 < 16 then ∑ k : Fin 4096, x0 (ix2 (j 0) k) * x2 (ix3 (0 : Fin 1) (⟨(j 1).val - 32, by omega⟩ : Fin 16) k)
        else 0 := by
  idx_vars j
  unfold k0_pay1
  show _ = if h : j1.val < 32 then ∑ k : Fin 4096, x0 (ix2 j0 k) * x1 (ix3 (0 : Fin 1) (⟨j1.val, h⟩ : Fin 32) k)
        else if h' : j1.val - 32 < 16 then ∑ k : Fin 4096, x0 (ix2 j0 k) * x2 (ix3 (0 : Fin 1) (⟨j1.val - 32, by omega⟩ : Fin 16) k)
        else 0
  pointwise
  split
  · rfl
  · split
    · rfl
    · simp

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The weight the launch reads is the argument with its last two axes swapped. -/
theorem V_main_v0 (c : Dev nD) (l : Fin 2) (r : Fin 27696) (k : Fin 4096) :
    V m c main_v0 (ix3 l r k) = m ((c : Thread nD τ).loc main_arg1) (ix3 l k r) := by
  have h : (transpose S2x27696x4096 [0, 2, 1] (m ((c : Thread nD τ).loc main_arg1)) transposes_S2x4096x27696_S2x27696x4096_0_2_1 : S2x27696x4096.Idx → EReal) (ix3 l r k)
      = m ((c : Thread nD τ).loc main_arg1) (ix3 l k r) := by
    pointwise
  exact h

/-- The windows' block indices at a grid point, all from the output's; the weight's windows count elements. -/
theorem idx_facts : ∀ t : Fin cfg0.N, win0_0.index t 0 = win0_3.index t 0 ∧ win0_0.index t 1 = 0
    ∧ win0_1.index t 0 = 0 ∧ win0_1.index t 1 = 8192 ∧ win0_1.index t 2 = 0
    ∧ win0_2.index t 0 = 0 ∧ win0_2.index t 1 = 15392 ∧ win0_2.index t 2 = 0
    ∧ win0_3.index t 1 = 0 ∧ win0_3.index t 0 < 8 :=
  (by decide +kernel : ∀ t : Fin grid0.N, _)

/-- The grid point whose block holds a given pair of block indices. -/
theorem idx_surj : ∀ (a : Fin 8) (b : Fin 1), ∃ t : Fin cfg0.N, win0_3.index t 0 = a.val ∧ win0_3.index t 1 = b.val :=
  (by decide +kernel : ∀ (a : Fin 8) (b : Fin 1), ∃ t : Fin grid0.N, win0_3.index t 0 = a.val ∧ win0_3.index t 1 = b.val)

/-- What the result array ends holding. -/
abbrev result (c : Dev nD) : Buf (Elt Ideal) ((c : Thread nD τ).loc main_v1) :=
  small (m ((c : Thread nD τ).loc main_arg0)) (m ((c : Thread nD τ).loc main_arg1))

/-- What a grid point writes back is its block of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz2, View.ld_unit_zero hz3, View.ld_unit_zero hz3, View.ld_unit_zero hz2]
  obtain ⟨h00, h01, h10, h11, h12, h20, h21, h22, hc, hr⟩ := idx_facts t
  funext j
  have hj0 : (j 0).val < 1024 := (j 0).isLt
  have hj1 : (j 1).val < 128 := (j 1).isLt
  refine (pay_apply (iblk m c 0 t) (iblk m c 1 t) (iblk m c 2 t) j).trans ?_
  rw [View.read_apply]
  have e0 : ∀ k : Fin 4096, iblk m c 0 t (ix2 (j 0) k)
      = m ((c : Thread nD τ).loc main_arg0) (ix2 ⟨win0_3.index t 0 * 1024 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 1024 + 1 * (j 0).val = _; rw [h00]; simp
    | ⟨1, _⟩ => show win0_0.index t 1 * 4096 + 1 * k.val = k.val; rw [h01]; omega
  have e1 : ∀ (r : Fin 32) (k : Fin 4096), iblk m c 1 t (ix3 (0 : Fin 1) r k)
      = m ((c : Thread nD τ).loc main_arg1) (ix3 (0 : Fin 2) k (⟨8192 + r.val, by omega⟩ : Fin 27696)) := by
    intro r k
    unfold iblk
    rw [View.read_apply, ← V_main_v0 m c]
    show V m c main_v0 _ = _
    congr 1
    funext a
    apply Fin.ext
    match a with
    | ⟨0, _⟩ => show win0_1.index t 0 + 1 * 0 = 0; rw [h10]
    | ⟨1, _⟩ => show win0_1.index t 1 + 1 * r.val = 8192 + r.val; rw [h11]; omega
    | ⟨2, _⟩ => show win0_1.index t 2 + 1 * k.val = k.val; rw [h12]; omega
  have e2 : ∀ (r : Fin 16) (k : Fin 4096), iblk m c 2 t (ix3 (0 : Fin 1) r k)
      = m ((c : Thread nD τ).loc main_arg1) (ix3 (0 : Fin 2) k (⟨15392 + r.val, by omega⟩ : Fin 27696)) := by
    intro r k
    unfold iblk
    rw [View.read_apply, ← V_main_v0 m c]
    show V m c main_v0 _ = _
    congr 1
    funext a
    apply Fin.ext
    match a with
    | ⟨0, _⟩ => show win0_2.index t 0 + 1 * 0 = 0; rw [h20]
    | ⟨1, _⟩ => show win0_2.index t 1 + 1 * r.val = 15392 + r.val; rw [h21]; omega
    | ⟨2, _⟩ => show win0_2.index t 2 + 1 * k.val = k.val; rw [h22]; omega
  simp only [e0, e1, e2]
  have hi : ((cfg0.win 3).blk t).view.emb j
      = (ix2 (⟨win0_3.index t 0 * 1024 + (j 0).val, by omega⟩ : Fin 8192) (j 1 : Fin 128) : S8192x128.Idx) := by
    funext a
    apply Fin.ext
    match a with
    | ⟨0, _⟩ => show win0_3.index t 0 * 1024 + 1 * (j 0).val = _; simp
    | ⟨1, _⟩ => show win0_3.index t 1 * 128 + 1 * (j 1).val = (j 1).val; rw [hc]; omega
  rw [hi]
  rfl

/-- The blocks tile the result array. -/
theorem cover (i : S8192x128.Idx) : ∃ t : Fin cfg0.N, (cfg0.win 3).flush t = true ∧ i ∈ ((cfg0.win 3).blk t).view.set := by
  have h0 : (i 0).val < 8192 := (i 0).isLt
  have h1 : (i 1).val < 128 := (i 1).isLt
  obtain ⟨t, ht0, ht1⟩ := idx_surj ⟨(i 0).val / 1024, by omega⟩ ⟨(i 1).val / 128, by omega⟩
  refine ⟨t, flush0_3 t, ?_⟩
  show i ∈ ((View.whole main_v1).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [ht0]; dsimp only; omega
  | ⟨1, _⟩ => show win0_3.index t 1 * 128 ≤ (i 1).val ∧ (i 1).val < win0_3.index t 1 * 128 + 128
              rw [ht1]; dsimp only; omega

/-- The kernel's result array ends holding `result`. -/
theorem final (c : Dev nD) : (dats m 0 c).arrAt 3 cfg0.N = result m c :=
  (dats m 0 c).arrAt_eq_of_cover 3 (result m c) (fun t _ => flushed_eq m c t) cover

end Cert.Kernel10Ideal.Small

namespace Cert.Reference10Ideal.Small

open Cert.Reference10Ideal Cert.Reference10Ideal.Read

/-- The reference's result is the same function of the same arrays. -/
theorem val_eq (a : (⟨S8192x4096, .bf16⟩ : BufTy).Contents (Elt Ideal)) (w : (⟨S2x4096x27696, .f32⟩ : BufTy).Contents (Elt Ideal)) :
    val_main_v9 (F := Ideal) a w = Cert.Kernel10Ideal.Small.small a w := by
  rw [← val_main_v9_eq]
  funext i
  idx_vars i
  pointwise
  rfl

end Cert.Reference10Ideal.Small

end
-- ==== Proof.GlaMath.lean ====
module

public import proofs.«01_k».proof.Proof.Chunk
public import Idealize.ShloMosaic.Lib.Pointwise

/-!
The gated recurrence with one decay for each key column, and its form for a chunk of tokens.
-/

@[expose] public section

open scoped BigOperators

namespace Cert.Gla

open Cert.Delta

/-- A state: 128 key columns by 256 value columns. -/
abbrev State := Fin 128 → Fin 256 → ℝ

section
variable (g q k : ℕ → Fin 128 → ℝ) (v : ℕ → Fin 256 → ℝ)

/-- The state before each token: every key column decays, then the token is added. -/
noncomputable def states : ℕ → State
  | 0 => fun _ _ => 0
  | t + 1 => fun d e => states t d e * Real.exp (g t d) + k t d * v t e

/-- What the query of a token reads from the state after it. -/
noncomputable def read (t : ℕ) (e : Fin 256) : ℝ := ∑ d, q t d * states g k v (t + 1) d e

/-- The running sums of the log decays of one column. -/
noncomputable def cum (T r : ℕ) (d : Fin 128) : ℝ := run (fun t => g t d) T r

/-- The state after `n` more tokens. -/
theorem states_add (T n : ℕ) (d : Fin 128) (e : Fin 256) :
    states g k v (T + n) d e = states g k v T d e * Real.exp (∑ j ∈ Finset.range n, g (T + j) d)
      + ∑ j ∈ Finset.range n, k (T + j) d * Real.exp ((∑ j ∈ Finset.range n, g (T + j) d) - cum g T j d) * v (T + j) e := by
  induction n with
  | zero => simp
  | succ n ih =>
    have hL : (∑ j ∈ Finset.range (n + 1), g (T + j) d) = (∑ j ∈ Finset.range n, g (T + j) d) + g (T + n) d :=
      Finset.sum_range_succ _ _
    have hc : cum g T n d = (∑ j ∈ Finset.range n, g (T + j) d) + g (T + n) d := hL
    show states g k v (T + n) d e * Real.exp (g (T + n) d) + k (T + n) d * v (T + n) e = _
    rw [ih, Finset.sum_range_succ (fun j => k (T + j) d * _ * v (T + j) e), hc, hL, sub_self, Real.exp_zero, Real.exp_add,
      add_mul, Finset.sum_mul, mul_one]
    have : ∀ j, k (T + j) d * Real.exp ((∑ j ∈ Finset.range n, g (T + j) d) + g (T + n) d - cum g T j d) * v (T + j) e
        = k (T + j) d * Real.exp ((∑ j ∈ Finset.range n, g (T + j) d) - cum g T j d) * v (T + j) e * Real.exp (g (T + n) d) := by
      intro j
      rw [show (∑ j ∈ Finset.range n, g (T + j) d) + g (T + n) d - cum g T j d
        = ((∑ j ∈ Finset.range n, g (T + j) d) - cum g T j d) + g (T + n) d by ring, Real.exp_add]
      ring
    simp only [this]
    ring

/-- The state after token `r` of a chunk. -/
theorem states_token (T r : ℕ) (d : Fin 128) (e : Fin 256) :
    states g k v (T + (r + 1)) d e = states g k v T d e * Real.exp (cum g T r d)
      + ∑ j ∈ Finset.range (r + 1), k (T + j) d * Real.exp (cum g T r d - cum g T j d) * v (T + j) e :=
  states_add g k v T (r + 1) d e

/-- The state after a chunk of 64 tokens. -/
theorem states_chunk (T : ℕ) (d : Fin 128) (e : Fin 256) :
    states g k v T d e * Real.exp (cum g T 63 d)
      + (∑ x : Fin 64, k (T + x) d * Real.exp (cum g T 63 d - cum g T x d) * v (T + x) e)
      = states g k v (T + 64) d e := by
  rw [states_add, Finset.sum_range (n := 64) fun j => k (T + j) d * _ * v (T + j) e]
  rfl

/-- What one token of a chunk sees of another. -/
noncomputable def score (T : ℕ) (r c : Fin 64) : ℝ :=
  if c ≤ r then ∑ d, q (T + r) d * k (T + c) d * Real.exp (cum g T r d - cum g T c d) else 0

/-- What the query of a token of a chunk reads. -/
theorem read_chunk (T : ℕ) (r : Fin 64) (e : Fin 256) :
    (∑ d, q (T + r) d * Real.exp (cum g T r d) * states g k v T d e) + (∑ c : Fin 64, score g q k T r c * v (T + c) e)
      = read g q k v (T + r) e := by
  have h : ∀ f : ℕ → ℝ, (∑ j ∈ Finset.range (r.val + 1), f j) = ∑ c : Fin 64, if c ≤ r then f c else 0 := by
    intro f
    rw [← Finset.sum_filter]
    symm
    refine Finset.sum_bij (fun c _ => c.val) ?_ ?_ ?_ ?_
    · intro c hc
      have := (Finset.mem_filter.mp hc).2
      exact Finset.mem_range.mpr (Nat.lt_succ_of_le this)
    · intro a _ b _ hab; exact Fin.ext hab
    · intro j hj
      have := Finset.mem_range.mp hj
      exact ⟨⟨j, by omega⟩, Finset.mem_filter.mpr ⟨Finset.mem_univ _, Nat.le_of_lt_succ this⟩, rfl⟩
    · intro c _; rfl
  unfold read
  simp only [add_assoc, states_token g k v T r.val, mul_add, Finset.sum_add_distrib]
  congr 1
  · exact Finset.sum_congr rfl fun d _ => by ring
  · simp only [h, score, Finset.mul_sum]
    rw [Finset.sum_comm]
    refine Finset.sum_congr rfl fun c _ => ?_
    split_ifs
    · rw [Finset.sum_mul]
      exact Finset.sum_congr rfl fun d _ => by ring
    · simp

/-- The running sums fall where every log decay is at most zero. -/
theorem cum_anti (hg : ∀ t d, g t d ≤ 0) (T : ℕ) (d : Fin 128) {c r : ℕ} (h : c ≤ r) : cum g T r d ≤ cum g T c d := by
  induction r, h using Nat.le_induction with
  | base => exact le_rfl
  | succ n _ ih =>
    have : cum g T (n + 1) d = cum g T n d + g (T + (n + 1)) d := run_succ _ T n
    have := hg (T + (n + 1)) d
    linarith

end

end Cert.Gla
-- ==== Proof.GlaHead.lean ====
module

public import proofs.«01_k».proof.Proof.GlaMath
public import proofs.«01_k».proof.Proof.Head
public import Idealize.ShloMosaic.Lib.Pointwise
public import Idealize.ShloMosaic.Lib.ValueIdx

/-!
What one head of the gated attention computes, from its columns of the projections.
-/

@[expose] public section

noncomputable section

open Idealize.ShloMosaic Idealize.ShloMosaic.TcCoe
open scoped BigOperators

namespace Cert.Gla

open Cert.Delta

theorem max_coe (a b : ℝ) : max (a : EReal) (b : EReal) = ((max a b : ℝ) : EReal) :=
  (EReal.coe_strictMono.monotone.map_max (a := a) (b := b)).symm

theorem min_coe (a b : ℝ) : min (a : EReal) (b : EReal) = ((min a b : ℝ) : EReal) :=
  (EReal.coe_strictMono.monotone.map_min (a := a) (b := b)).symm

/-- The logarithm of the logistic function. -/
def logSig (x : EReal) : EReal := min x 0 - Ideal.log (1 + Ideal.exp (0 - max x (-x)))

/-- The same on the reals. -/
def logSigR (a : ℝ) : ℝ := min a 0 - Real.log (1 + Real.exp (-|a|))

theorem logSig_coe (a : ℝ) : logSig (a : EReal) = ((logSigR a : ℝ) : EReal) := by
  have h : (0 : ℝ) < 1 + Real.exp (-|a|) := by positivity
  unfold logSig logSigR
  rw [← EReal.coe_neg, max_coe, ← EReal.coe_zero, ← EReal.coe_sub, Ideal.exp_coe, ← EReal.coe_one, ← EReal.coe_add, min_coe,
    show max a (-a) = |a| from rfl, zero_sub, log_pos h, ← EReal.coe_sub]

theorem logSigR_nonpos (a : ℝ) : logSigR a ≤ 0 := by
  have h1 : min a 0 ≤ 0 := min_le_right _ _
  have h2 : 0 ≤ Real.log (1 + Real.exp (-|a|)) := Real.log_nonneg (by have := Real.exp_pos (-|a|); linarith)
  unfold logSigR
  linarith

theorem sixteen_eq : ∃ ε : ℝ, 0 < ε ∧ Ideal.ofBits .f32 0x41800000#32 = (ε : EReal) := by
  refine ⟨_, ?_, rfl⟩
  simp

theorem scale_eq : ∃ ε : ℝ, Ideal.ofBits .f32 0x3DB504F3#32 = (ε : EReal) :=
  ⟨_, rfl⟩

/-- What one head is given. -/
structure Head where
  q : ℕ → Fin 128 → EReal
  k : ℕ → Fin 128 → EReal
  v : ℕ → Fin 256 → EReal
  x : ℕ → Fin 16 → EReal
  w : Fin 16 → Fin 128 → EReal
  b : Fin 128 → EReal

namespace Head
variable (G : Head)

def query (t : ℕ) (d : Fin 128) : EReal := G.q t d * Ideal.ofBits .f32 0x3DB504F3#32

def logDecay (t : ℕ) (d : Fin 128) : EReal :=
  Ideal.div (logSig ((∑ i, G.x t i * G.w i d) + G.b d)) (Ideal.ofBits .f32 0x41800000#32)

/-- Everything the head is given is a real number. -/
structure Real : Prop where
  q : ∀ t d, IsReal (G.q t d)
  k : ∀ t d, IsReal (G.k t d)
  v : ∀ t d, IsReal (G.v t d)
  x : ∀ t i, IsReal (G.x t i)
  w : ∀ i d, IsReal (G.w i d)
  b : ∀ d, IsReal (G.b d)

def gR (t : ℕ) (d : Fin 128) : ℝ := (G.logDecay t d).toReal
def qR (t : ℕ) (d : Fin 128) : ℝ := (G.query t d).toReal
def kR (t : ℕ) (d : Fin 128) : ℝ := (G.k t d).toReal
def vR (t : ℕ) (e : Fin 256) : ℝ := (G.v t e).toReal

/-- The states and what the queries read. -/
def state : ℕ → State := states G.gR G.kR G.vR
def reads (t : ℕ) (e : Fin 256) : ℝ := read G.gR G.qR G.kR G.vR t e

variable {G}

theorem isReal_sum {n : ℕ} {f : Fin n → EReal} (h : ∀ i, IsReal (f i)) : IsReal (∑ i, f i) := by
  refine ⟨∑ i, (f i).toReal, ?_⟩
  rw [← coe_sum]
  exact Finset.sum_congr rfl fun i _ => (h i).eq

theorem Real.pre (R : G.Real) (t : ℕ) (d : Fin 128) : IsReal ((∑ i, G.x t i * G.w i d) + G.b d) :=
  (isReal_sum fun i => (R.x t i).mul (R.w i d)).add (R.b d)

theorem Real.query (R : G.Real) (t : ℕ) (d : Fin 128) : G.query t d = ((G.qR t d : ℝ) : EReal) :=
  ((R.q t d).mul scale_eq).eq

theorem Real.logDecay' (R : G.Real) (t : ℕ) (d : Fin 128) : ∃ r : ℝ, r ≤ 0 ∧ G.logDecay t d = (r : EReal) := by
  obtain ⟨a, ha⟩ := R.pre t d
  obtain ⟨ε, hε, e⟩ := sixteen_eq
  refine ⟨logSigR a / ε, div_nonpos_of_nonpos_of_nonneg (logSigR_nonpos a) hε.le, ?_⟩
  unfold Head.logDecay
  rw [ha, logSig_coe, e, div_coe hε.ne']

theorem Real.logDecay (R : G.Real) (t : ℕ) (d : Fin 128) : G.logDecay t d = ((G.gR t d : ℝ) : EReal) := by
  obtain ⟨r, _, e⟩ := R.logDecay' t d
  unfold gR
  rw [e]; rfl

theorem Real.gR_nonpos (R : G.Real) (t : ℕ) (d : Fin 128) : G.gR t d ≤ 0 := by
  obtain ⟨r, h, e⟩ := R.logDecay' t d
  unfold gR
  rw [e]; exact h

/-- The normalised and gated output. -/
def gated (o : Fin 256 → EReal) (nw z : EReal) (j : Fin 256) : EReal :=
  o j * Ideal.rsqrt (Ideal.div (∑ e, o e * o e) (Ideal.ofBits .f32 0x43800000#32) + Ideal.ofBits .f32 0x358637BD#32) * nw
    * silu z

end Head

end Cert.Gla
-- ==== Proof.GlaLayer.lean ====
module

public import proofs.«01_k».proof.Proof.GlaHead
public import proofs.«01_k».proof.Proof.Layer

/-!
The heads of the gated attention, read from the layer's arrays, and its result.
-/

@[expose] public section

noncomputable section

open Idealize.ShloMosaic
open scoped BigOperators

namespace Cert.Gla

open Cert.Delta

section
variable (pa : Fin 8192 → Fin 7168 → EReal) (sm : Fin 8192 → Fin 128 → EReal) (w : Fin 16 → Fin 512 → EReal)
  (b : Fin 512 → EReal) (nw : Fin 256 → EReal)

/-- Head `h` of the layer. -/
def layerHead (h : Fin 4) : Head where
  q t d := pa (tok t) ⟨4096 + (128 * h + d), by omega⟩
  k t d := pa (tok t) ⟨4608 + (128 * h + d), by omega⟩
  v t e := pa (tok t) ⟨5120 + (256 * h + e), by omega⟩
  x t i := sm (tok t) ⟨32 + i, by omega⟩
  w i d := w i ⟨128 * h + d, by omega⟩
  b d := b ⟨128 * h + d, by omega⟩

/-- The result of the layer for token `t` at coordinate `j` of head `h`. -/
def layerOut (t : Fin 8192) (h : Fin 4) (j : Fin 256) : EReal :=
  Head.gated (fun e => (((layerHead pa sm w b h).reads t e : ℝ) : EReal)) (nw j) (pa t ⟨6144 + (256 * h + j), by omega⟩) j

/-- What the arrays must satisfy: everything that enters the recurrence is a real number. -/
structure Finite : Prop where
  pa : ∀ (t : Fin 8192) (j : Fin 2048), IsReal (pa t ⟨4096 + j, by omega⟩)
  sm : ∀ (t : Fin 8192) (i : Fin 16), IsReal (sm t ⟨32 + i, by omega⟩)
  w : ∀ i j, IsReal (w i j)
  b : ∀ j, IsReal (b j)

variable {pa sm w b}

theorem Finite.head (F : Finite pa sm w b) (h : Fin 4) : (layerHead pa sm w b h).Real where
  q t d := F.pa _ ⟨128 * h + d, by omega⟩
  k t d := by
    have := F.pa (tok t) ⟨512 + (128 * h + d), by omega⟩
    simp only [← Nat.add_assoc] at this ⊢
    simpa only [layerHead, ← Nat.add_assoc] using this
  v t e := by
    have := F.pa (tok t) ⟨1024 + (256 * h + e), by omega⟩
    simp only [← Nat.add_assoc] at this ⊢
    simpa only [layerHead, ← Nat.add_assoc] using this
  x t i := F.sm _ i
  w i d := F.w i _
  b d := F.b _

end

end Cert.Gla
-- ==== Proof.GlaFinite.lean ====
module

public import Idealize.ShloMosaic.Lib.Pointwise
public import Idealize.ShloMosaic.Lib.ReduceAll
public import proofs.«01_k».proof.Proof.GlaLayer
public import proofs.«01_k».proof.Proof.Finite
public import proofs.«01_k».proof.Proof.Gen.Pre_finite_gla

/-!
The precondition read back: every entry that enters the recurrence is a real number.
-/

@[expose] public section

noncomputable section

open Idealize.ShloMosaic

namespace Cert.Gla

open Cert.Delta Cert.Pre_finite_gla Cert.Pre_finite_gla.Gen

/-- An array of which every absolute value is below the infinity has only real entries. -/
theorem isReal_of_all {S : Shape} {axes : List (Fin S.rank)} (y : FVec Ideal S .f32) (hb : S_.BroadcastsInDim S ![])
    (hr : S.ReducesTo axes S_) (h0 : 0 < S_.numel) (z : IVec S_ 1) (j : S_.Idx)
    (e : Host.reduce IntOp.andi (cmpf .olt (Host.absf y) (broadcastInDim S ![] hb (constant (F := Ideal) S_ .f32 0x7F800000#32))) z hr h0 j = 1#1)
    (i : S.Idx) : IsReal (y i : EReal) := by
  haveI : Subsingleton S_.Idx := ⟨fun a b => funext fun d => d.elim0⟩
  exact isReal_of_cmp (Host.reduce_andi_all _ _ hr h0 j e i)

/-- The precondition says that everything that enters the recurrence is a real number. -/
theorem finite_of_pre (a0 : FVec Ideal Pre_finite_gla.S8192x7168 .f32) (a1 : FVec Ideal Pre_finite_gla.S8192x128 .f32)
    (a2 : FVec Ideal Pre_finite_gla.S2x16x512 .f32) (a3 : FVec Ideal Pre_finite_gla.S2x512 .f32) (a4 : FVec Ideal Pre_finite_gla.S256 .f32)
    (h : Cert.Pre_finite_gla.fn (F := Ideal) a0 a1 a2 a3 a4 = fun _ => 1#1) :
    Finite (fun t j => a0 (ix2 t j)) (fun t j => a1 (ix2 t j)) (fun i j => a2 (ix3 (0 : Fin 2) i j)) (fun j => a3 (ix2 (0 : Fin 2) j)) := by
  have e := congrFun h (fun d => d.elim0)
  unfold Cert.Pre_finite_gla.fn Cert.Pre_finite_gla.fn_part1 at e
  dsimp only at e
  obtain ⟨e, e3⟩ := IntOp.andi_eq_one.1 e
  obtain ⟨e, e2⟩ := IntOp.andi_eq_one.1 e
  obtain ⟨e0, e1⟩ := IntOp.andi_eq_one.1 e
  refine ⟨fun t j => ?_, fun t j => ?_, fun i j => ?_, fun j => ?_⟩
  · have r := isReal_of_all _ _ _ _ _ _ e0 (ix2 t j)
    have q : extractStridedSlice S8192x2048 ![0, 4096] a0 slices_S8192x7168_S8192x2048_0_4096 (ix2 t j) = a0 (ix2 t (⟨4096 + j, by omega⟩ : Fin 7168)) := by
      pointwise
    rwa [q] at r
  · have r := isReal_of_all _ _ _ _ _ _ e1 (ix2 t j)
    have q : extractStridedSlice S8192x16 ![0, 32] a1 slices_S8192x128_S8192x16_0_32 (ix2 t j) = a1 (ix2 t (⟨32 + j, by omega⟩ : Fin 128)) := by
      pointwise
    rwa [q] at r
  · have r := isReal_of_all _ _ _ _ _ _ e2 (ix2 i j)
    have q : shapeCast S16x512 (extractStridedSlice S1x16x512 ![0, 0, 0] a2 slices_S2x16x512_S1x16x512_0_0_0)
        shapeCasts_S1x16x512_S16x512 (ix2 i j) = a2 (ix3 (0 : Fin 2) i j) := by
      pointwise
    rwa [q] at r
  · have r := isReal_of_all _ _ _ _ _ _ e3 (ix1 j)
    have q : shapeCast S512 (extractStridedSlice S1x512 ![0, 0] a3 slices_S2x512_S1x512_0_0)
        shapeCasts_S1x512_S512 (ix1 j) = a3 (ix2 (0 : Fin 2) j) := by
      pointwise
    rwa [q] at r

end Cert.Gla
-- ==== Proof.GlaWords.lean ====
module

public import proofs.«01_k».proof.Proof.Words

/-!
Remainders and quotients of small numbers by 8 and 64, as the kernel computes them on words.
-/

@[expose] public section

set_option maxRecDepth 65536

open Idealize.ShloMosaic

namespace Cert.Gla

open Cert.Delta

/-- The remainder as the kernel computes it: the truncated remainder, plus the divisor where the signs differ. -/
def remWord (m x : BitVec 32) : BitVec 32 :=
  Scalar.select
    (IntOp.andi
      (IntOp.xori
        (IntOp.cmpi .slt (IntOp.remsi .vector x (Scalar.select (Scalar.cmpi .eq m 0#32) 1#32 m)) 0#32)
        (Scalar.cmpi .slt (Scalar.select (Scalar.cmpi .eq m 0#32) 1#32 m) 0#32))
      (IntOp.cmpi .ne (IntOp.remsi .vector x (Scalar.select (Scalar.cmpi .eq m 0#32) 1#32 m)) 0#32))
    (IntOp.addi (IntOp.remsi .vector x (Scalar.select (Scalar.cmpi .eq m 0#32) 1#32 m))
      (Scalar.select (Scalar.cmpi .eq m 0#32) 1#32 m))
    (IntOp.remsi .vector x (Scalar.select (Scalar.cmpi .eq m 0#32) 1#32 m))

/-- The quotient as the kernel computes it: the truncated quotient, less one where the signs differ and there is a
remainder. -/
def quotWord (m x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt m 0#32)) (Scalar.extui (Scalar.cmpi .slt m 0#32))))
      (IntOp.cmpi .ne (IntOp.remsi .vector x m) 0#32))
    (IntOp.subi (IntOp.divsi .vector x m) 1#32)
    (IntOp.divsi .vector x m)

theorem remWord8 {x : ℕ} (h : x < 256) : remWord 8#32 (BitVec.ofNat 32 x) = BitVec.ofNat 32 (x % 8) := by
  have : ∀ x : Fin 256, remWord 8#32 (BitVec.ofNat 32 x) = BitVec.ofNat 32 (x % 8) := by decide
  exact this ⟨x, h⟩

theorem remWord64 {x : ℕ} (h : x < 256) : remWord 64#32 (BitVec.ofNat 32 x) = BitVec.ofNat 32 (x % 64) := by
  have : ∀ x : Fin 256, remWord 64#32 (BitVec.ofNat 32 x) = BitVec.ofNat 32 (x % 64) := by decide
  exact this ⟨x, h⟩

theorem quotWord8 {x : ℕ} (h : x < 256) : quotWord 8#32 (BitVec.ofNat 32 x) = BitVec.ofNat 32 (x / 8) := by
  have : ∀ x : Fin 256, quotWord 8#32 (BitVec.ofNat 32 x) = BitVec.ofNat 32 (x / 8) := by decide
  exact this ⟨x, h⟩

theorem quotWord64 {x : ℕ} (h : x < 256) : quotWord 64#32 (BitVec.ofNat 32 x) = BitVec.ofNat 32 (x / 64) := by
  have : ∀ x : Fin 256, quotWord 64#32 (BitVec.ofNat 32 x) = BitVec.ofNat 32 (x / 64) := by decide
  exact this ⟨x, h⟩

/-- The remainder by 8 of a row or a column, written out. -/
theorem rem8_row (x : Fin 256) :
    Scalar.select
      (IntOp.andi
        (IntOp.xori
          (IntOp.cmpi .slt (IntOp.remsi .vector (BitVec.ofNat 32 x) (Scalar.select (Scalar.cmpi .eq 8#32 0#32) 1#32 8#32)) 0#32)
          (Scalar.cmpi .slt (Scalar.select (Scalar.cmpi .eq 8#32 0#32) 1#32 8#32) 0#32))
        (IntOp.cmpi .ne (IntOp.remsi .vector (BitVec.ofNat 32 x) (Scalar.select (Scalar.cmpi .eq 8#32 0#32) 1#32 8#32)) 0#32))
      (IntOp.addi (IntOp.remsi .vector (BitVec.ofNat 32 x) (Scalar.select (Scalar.cmpi .eq 8#32 0#32) 1#32 8#32))
        (Scalar.select (Scalar.cmpi .eq 8#32 0#32) 1#32 8#32))
      (IntOp.remsi .vector (BitVec.ofNat 32 x) (Scalar.select (Scalar.cmpi .eq 8#32 0#32) 1#32 8#32))
      = BitVec.ofNat 32 (x % 8) := remWord8 x.isLt

/-- The remainder by 8 of a row or a column, written out. -/
theorem rem8_col (x : Fin 64) :
    Scalar.select
      (IntOp.andi
        (IntOp.xori
          (IntOp.cmpi .slt (IntOp.remsi .vector (BitVec.ofNat 32 x) (Scalar.select (Scalar.cmpi .eq 8#32 0#32) 1#32 8#32)) 0#32)
          (Scalar.cmpi .slt (Scalar.select (Scalar.cmpi .eq 8#32 0#32) 1#32 8#32) 0#32))
        (IntOp.cmpi .ne (IntOp.remsi .vector (BitVec.ofNat 32 x) (Scalar.select (Scalar.cmpi .eq 8#32 0#32) 1#32 8#32)) 0#32))
      (IntOp.addi (IntOp.remsi .vector (BitVec.ofNat 32 x) (Scalar.select (Scalar.cmpi .eq 8#32 0#32) 1#32 8#32))
        (Scalar.select (Scalar.cmpi .eq 8#32 0#32) 1#32 8#32))
      (IntOp.remsi .vector (BitVec.ofNat 32 x) (Scalar.select (Scalar.cmpi .eq 8#32 0#32) 1#32 8#32))
      = BitVec.ofNat 32 (x % 8) := remWord8 (by omega)

/-- The mask of one diagonal: same block, column `j` of the block, and the row not before it. -/
theorem mask_diag (p : Prop) [Decidable p] {a b j : ℕ} (ha : a < 8) (hb : b < 8) (hj : j < 8) {α : Type} (x y : α) :
    Scalar.select (IntOp.andi (IntOp.andi (BitVec.ofBool (decide p)) (IntOp.cmpi .eq (BitVec.ofNat 32 a) (BitVec.ofNat 32 j)))
      (IntOp.cmpi .sge (BitVec.ofNat 32 b) (BitVec.ofNat 32 j))) x y = if p ∧ a = j ∧ j ≤ b then x else y := by
  have : IntOp.cmpi .sge (BitVec.ofNat 32 b) (BitVec.ofNat 32 j) = BitVec.ofBool (decide (j ≤ b)) :=
    cmpi_sle (a := j) (b := b) (by omega) (by omega)
  rw [this, cmpi_eq (by omega) (by omega), and_ofBool, and_ofBool, sel_ofBool]
  simp only [and_assoc]

/-- Eight nested choices are one. -/
theorem pick {α : Type} [Zero α] (f : Fin 8 → α) (p : Prop) [Decidable p] {a b : ℕ} (ha : a < 8) (hb : b < 8) :
    (if p ∧ a = 7 ∧ 7 ≤ b then f 7 else if p ∧ a = 6 ∧ 6 ≤ b then f 6 else if p ∧ a = 5 ∧ 5 ≤ b then f 5 else
      if p ∧ a = 4 ∧ 4 ≤ b then f 4 else if p ∧ a = 3 ∧ 3 ≤ b then f 3 else if p ∧ a = 2 ∧ 2 ≤ b then f 2 else
      if p ∧ a = 1 ∧ 1 ≤ b then f 1 else if p ∧ a = 0 ∧ 0 ≤ b then f 0 else 0)
      = if p ∧ a ≤ b then f ⟨a, ha⟩ else 0 := by
  interval_cases a <;> simp

end Cert.Gla
-- ==== Proof.GlaSlabs.lean ====
module

public import proofs.«01_k».proof.Proof.Gen.Kernel12Ideal.Skeleton
public import proofs.«01_k».proof.Proof.GlaWords
public import proofs.«01_k».proof.Proof.Head
public import proofs.«01_k».proof.Proof.GlaHead
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

/-- The running sums of the log decays over each chunk. -/
def bcum (v22 : FVec Ideal S256x512 .f32) : FVec Ideal S256x512 .f32 :=
  let v31 : IVec S256x256 32 := iota .tc S256x256 32 [0] iota_S256x256_d0_w32
  let v32 : IVec S256x256 32 := iota .tc S256x256 32 [1] iota_S256x256_d1_w32
  let v56 : IVec S256x256 32 := k0_pay6 v31
  let v58 : IVec S256x256 32 := k0_pay7 v32
  let v77 : IVec S256x256 1 := k0_pay8 v32
  let v78 : IVec S256x256 32 := k0_pay9
  k0_pay10 v22 v31 v32 v56 v58 v77 v78

theorem bcum_apply (y : FVec Ideal S256x512 .f32) (r : Fin 256) (l : Fin 512) :
    bcum y (ix2 r l) = ∑ x : Fin 256, if r.val / 64 = x.val / 64 ∧ x ≤ r then y (ix2 x l) else 0 := by
  unfold bcum
  simp only [k0_pay6, k0_pay7, k0_pay8, k0_pay9, k0_pay10]
  pointwise
  refine Finset.sum_congr rfl fun x _ => ?_
  rw [quot64, quot64, cmpi_eq (by omega) (by omega), cmpi_sle (by omega) (by omega), and_ofBool, sel_ofBool]
  rfl

theorem qt_aux (v22 v25 : FVec Ideal S256x512 .f32) (v31 v32 v56 v58 : IVec S256x256 32) (v77 : IVec S256x256 1) (v78 : IVec S256x256 32) (r : Fin 256) (l : Fin 512) :
    k0_pay12 v22 v25 v31 v32 v56 v58 v77 v78 (ix2 r l) = v25 (ix2 r l) * Ideal.exp (k0_pay10 v22 v31 v32 v56 v58 v77 v78 (ix2 r l) -
      if r.val / 8 % 8 = 0 then 0 else k0_pay10 v22 v31 v32 v56 v58 v77 v78 (ix2 ⟨r / 8 * 8 - 1, by omega⟩ l)) := by
  simp only [k0_pay12, k0_pay11]
  pointwise
  change v25 (ix2 r l) * Ideal.exp (_ - Scalar.select (IntOp.cmpi .eq (remWord 8#32 (BitVec.ofNat 32 (r.val / 8))) (BitVec.ofNat 32 0)) (0 : EReal) _) = _
  rw [remWord8 (by omega), cmpi_eq (by omega) (by omega), sel_ofBool]
  by_cases h : r.val / 8 % 8 = 0
  · rw [if_pos h, if_pos h]
  · rw [if_neg h, if_neg h, dif_neg (by omega)]
    congr 5
    apply Fin.ext; dsimp only; omega

/-- The queries decayed from the start of their block of eight. -/
def qt (v22 : FVec Ideal S256x512 .f32) (v25 : FVec Ideal S256x512 .f32) : FVec Ideal S256x512 .f32 :=
  let v31 : IVec S256x256 32 := iota .tc S256x256 32 [0] iota_S256x256_d0_w32
  let v32 : IVec S256x256 32 := iota .tc S256x256 32 [1] iota_S256x256_d1_w32
  let v56 : IVec S256x256 32 := k0_pay6 v31
  let v58 : IVec S256x256 32 := k0_pay7 v32
  let v77 : IVec S256x256 1 := k0_pay8 v32
  let v78 : IVec S256x256 32 := k0_pay9
  k0_pay12 v22 v25 v31 v32 v56 v58 v77 v78

theorem qt_apply (y q : FVec Ideal S256x512 .f32) (r : Fin 256) (l : Fin 512) :
    qt y q (ix2 r l) = q (ix2 r l) * Ideal.exp (bcum y (ix2 r l) -
      if r.val / 8 % 8 = 0 then 0 else bcum y (ix2 ⟨r / 8 * 8 - 1, by omega⟩ l)) := qt_aux _ _ _ _ _ _ _ _ r l

/-- The queries decayed from the start of their chunk. -/
def qe (v22 : FVec Ideal S256x512 .f32) (v25 : FVec Ideal S256x512 .f32) : FVec Ideal S256x512 .f32 :=
  let v31 : IVec S256x256 32 := iota .tc S256x256 32 [0] iota_S256x256_d0_w32
  let v32 : IVec S256x256 32 := iota .tc S256x256 32 [1] iota_S256x256_d1_w32
  let v56 : IVec S256x256 32 := k0_pay6 v31
  let v58 : IVec S256x256 32 := k0_pay7 v32
  let v77 : IVec S256x256 1 := k0_pay8 v32
  let v78 : IVec S256x256 32 := k0_pay9
  k0_pay13 v22 v25 v31 v32 v56 v58 v77 v78

theorem qe_apply (y q : FVec Ideal S256x512 .f32) (r : Fin 256) (l : Fin 512) :
    qe y q (ix2 r l) = q (ix2 r l) * Ideal.exp (bcum y (ix2 r l)) := rfl

theorem gate_apply (s : Vec Ideal S256x128 .f32) (w : Vec Ideal S128x512 .f32) (b : Vec Ideal S1x512 .f32) (r : Fin 256) (l : Fin 512) :
    k0_pay3 s w b (ix2 r l) = Ideal.div (logSig ((∑ x : Fin 128, s (ix2 r x) * w (ix2 x l)) + b (ix2 0 l))) (Ideal.ofBits .f32 0x41800000#32) := by
  simp only [k0_pay3]
  pointwise
  rfl

theorem scale_apply (q : Vec Ideal S256x512 .f32) (r : Fin 256) (l : Fin 512) :
    k0_pay4 q (ix2 r l) = q (ix2 r l) * Ideal.ofBits .f32 0x3DB504F3#32 := rfl

end Cert.Kernel12Ideal.Gla
-- ==== Proof.GlaDiag.lean ====
module

public import proofs.«01_k».proof.Proof.Gen.Kernel12Ideal.Skeleton
public import proofs.«01_k».proof.Proof.GlaWords
public import proofs.«01_k».proof.Proof.Head
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

/-- Whether a row and a column of a chunk lie in the same block of eight. -/
def same  : IVec S256x64 1 :=
  let v125 : IVec S256x64 32 := iota .tc S256x64 32 [1] iota_S256x64_d1_w32
  let v124 : IVec S256x64 32 := iota .tc S256x64 32 [0] iota_S256x64_d0_w32
  let c64_i32_44 : BitVec 32 := 64#32
  let v165 : IVec S256x64 32 := k0_pay16 v124 c64_i32_44
  let c8_i32_57 : BitVec 32 := 8#32
  let v167 : IVec S256x64 32 := k0_pay17 v125
  let v170 : IVec S256x64 32 := k0_pay18 v125
  let c0_i32_59 : BitVec 32 := 0#32
  k0_pay19 v125 v165 c8_i32_57 v167 v170 c0_i32_59

theorem same_apply (r : Fin 256) (c : Fin 64) : same (ix2 r c) = BitVec.ofBool (decide (r.val % 64 / 8 = c.val / 8)) := by
  unfold same
  simp only [k0_pay16, k0_pay17, k0_pay18, k0_pay19]
  pointwise
  change IntOp.cmpi .eq (quotWord 8#32 (remWord 64#32 (BitVec.ofNat 32 r.val))) (quotWord 8#32 (BitVec.ofNat 32 c.val)) = _
  rw [remWord64 (by omega), quotWord8 (by omega), quotWord8 (by omega), cmpi_eq (by omega) (by omega)]

/-- The products of the queries with the `j`-th key of their block of eight, decayed from it. -/
def prods (b q k : FVec Ideal S32x8x512 .f32) : Fin 8 → FVec Ideal S256x512 .f32 :=
  ![k0_pay24 b q k, k0_pay35 b q k, k0_pay45 b q k, k0_pay55 b q k, k0_pay65 b q k, k0_pay73 b q k, k0_pay82 b q k, k0_pay89 b q k]

theorem prods_apply (b q k : FVec Ideal S32x8x512 .f32) (j : Fin 8) (r : Fin 256) (l : Fin 512) :
    prods b q k j (ix2 r l) = q (ix3 ⟨r / 8, by omega⟩ ⟨r % 8, by omega⟩ l) * k (ix3 ⟨r / 8, by omega⟩ j l) *
      Ideal.exp (min (b (ix3 ⟨r / 8, by omega⟩ ⟨r % 8, by omega⟩ l) - b (ix3 ⟨r / 8, by omega⟩ j l)) 0) := by
  fin_cases j <;> (dsimp [prods]; simp only [k0_pay24, k0_pay35, k0_pay45, k0_pay55, k0_pay65, k0_pay73, k0_pay82, k0_pay89]; pointwise)

/-- The entries of the diagonal blocks of head 0. -/
def diag0 (v190 : IVec S256x64 1) (v205 : FVec Ideal S256x512 .f32) (v278 : FVec Ideal S256x512 .f32) (v351 : FVec Ideal S256x512 .f32) (v424 : FVec Ideal S256x512 .f32) (v497 : FVec Ideal S256x512 .f32) (v570 : FVec Ideal S256x512 .f32) (v643 : FVec Ideal S256x512 .f32) (v716 : FVec Ideal S256x512 .f32) : FVec Ideal S256x64 .f32 :=
  let v124 : IVec S256x64 32 := iota .tc S256x64 32 [0] iota_S256x64_d0_w32
  let v125 : IVec S256x64 32 := iota .tc S256x64 32 [1] iota_S256x64_d1_w32
  let v191 : FVec Ideal S256x64 .f32 := k0_pay20 (F := Ideal)
  let v206 : BitVec 1 := Scalar.cmpi .eq 8#32 0#32
  let v207 : BitVec 32 := Scalar.select v206 1#32 8#32
  let v209 : IVec S256x64 32 := k0_pay25 v125
  let v211 : IVec S256x64 1 := k0_pay26 v125
  let v213 : IVec S256x64 1 := k0_pay27 v125
  let v215 : IVec S256x64 1 := k0_pay28
  let v249 : FVec Ideal S256x64 .f32 := k0_pay30 v124 v190 v191 v205 v207 v209 v211 v213 v215
  let v297 : IVec S256x64 1 := k0_pay36 v125 v190
  let v298 : BitVec 1 := Scalar.cmpi .eq 8#32 0#32
  let v299 : BitVec 32 := Scalar.select v298 1#32 8#32
  let v301 : IVec S256x64 32 := k0_pay37 v124
  let v303 : IVec S256x64 1 := k0_pay38 v124
  let v309 : IVec S256x64 1 := k0_pay39 v124
  let v322 : FVec Ideal S256x64 .f32 := k0_pay41 v249 v278 v297 v299 v301 v303 v309
  let v352 : BitVec 1 := Scalar.cmpi .eq 8#32 0#32
  let v353 : BitVec 32 := Scalar.select v352 1#32 8#32
  let v355 : IVec S256x64 32 := k0_pay46 v125
  let v357 : IVec S256x64 1 := k0_pay47 v125
  let v358 : IVec S256x64 32 := k0_pay48
  let v395 : FVec Ideal S256x64 .f32 := k0_pay50 v124 v190 v322 v351 v353 v355 v357 v358
  let v443 : IVec S256x64 1 := k0_pay56 v125 v190
  let v444 : BitVec 1 := Scalar.cmpi .eq 8#32 0#32
  let v445 : BitVec 32 := Scalar.select v444 1#32 8#32
  let v447 : IVec S256x64 32 := k0_pay57 v124
  let v449 : IVec S256x64 1 := k0_pay58 v124
  let v451 : IVec S256x64 1 := k0_pay59 v124
  let c0_i32_136 : BitVec 32 := 0#32
  let v468 : FVec Ideal S256x64 .f32 := k0_pay61 v395 v424 v443 v445 v447 v449 v451 c0_i32_136
  let v498 : BitVec 1 := Scalar.cmpi .eq 8#32 0#32
  let v499 : BitVec 32 := Scalar.select v498 1#32 8#32
  let v501 : IVec S256x64 32 := k0_pay66 v125
  let c0_i32_146 : BitVec 32 := 0#32
  let v541 : FVec Ideal S256x64 .f32 := k0_pay68 v124 v190 v468 v497 v499 v501 c0_i32_146
  let v589 : IVec S256x64 1 := k0_pay74 v125 v190
  let v590 : BitVec 1 := Scalar.cmpi .eq 8#32 0#32
  let v591 : BitVec 32 := Scalar.select v590 1#32 8#32
  let v593 : IVec S256x64 32 := k0_pay75 v124
  let v595 : IVec S256x64 1 := k0_pay76 v124
  let v614 : FVec Ideal S256x64 .f32 := k0_pay78 v541 v570 v589 v591 v593 v595
  let c8_i32_179 : BitVec 32 := 8#32
  let v644 : BitVec 1 := Scalar.cmpi .eq 8#32 0#32
  let c1_i32_181 : BitVec 32 := 1#32
  let v687 : FVec Ideal S256x64 .f32 := k0_pay84 v124 v125 v190 v614 v643 c8_i32_179 v644 c1_i32_181
  let v735 : IVec S256x64 1 := k0_pay90 v125 v190
  let v736 : BitVec 1 := Scalar.cmpi .eq 8#32 0#32
  let v737 : BitVec 32 := Scalar.select v736 1#32 8#32
  let v738 : IVec S256x64 32 := k0_pay91
  k0_pay93 v124 v687 v716 v735 v737 v738

theorem diag0_apply (P : Fin 8 → FVec Ideal S256x512 .f32) (r : Fin 256) (c : Fin 64) :
    diag0 same (P 0) (P 1) (P 2) (P 3) (P 4) (P 5) (P 6) (P 7) (ix2 r c)
      = if r.val % 64 / 8 = c.val / 8 ∧ c.val % 8 ≤ r.val % 8 then ∑ d : Fin 128, P ⟨c % 8, by omega⟩ (ix2 r ⟨0 + d, by omega⟩) else 0 := by
  unfold diag0
  simp only [k0_pay20, k0_pay25, k0_pay26, k0_pay27, k0_pay28, k0_pay30, k0_pay36, k0_pay37, k0_pay38, k0_pay39, k0_pay41, k0_pay46, k0_pay47, k0_pay48, k0_pay50, k0_pay56, k0_pay57, k0_pay58, k0_pay59, k0_pay61, k0_pay66, k0_pay68, k0_pay74, k0_pay75, k0_pay76, k0_pay78, k0_pay84, k0_pay90, k0_pay91, k0_pay93, k0_pay92, k0_pay83, k0_pay77, k0_pay67, k0_pay60, k0_pay49, k0_pay40, k0_pay29]
  pointwise
  simp only [same_apply, rem8_row, rem8_col]
  iterate 8 rw [mask_diag _ (by omega) (by omega) (by omega)]
  exact pick (fun j => ∑ d : Fin 128, P j (ix2 r ⟨0 + d, by omega⟩)) _ (by omega) (by omega)

/-- The entries of the diagonal blocks of head 1. -/
def diag1 (v190 : IVec S256x64 1) (v205 : FVec Ideal S256x512 .f32) (v278 : FVec Ideal S256x512 .f32) (v351 : FVec Ideal S256x512 .f32) (v424 : FVec Ideal S256x512 .f32) (v497 : FVec Ideal S256x512 .f32) (v570 : FVec Ideal S256x512 .f32) (v643 : FVec Ideal S256x512 .f32) (v716 : FVec Ideal S256x512 .f32) : FVec Ideal S256x64 .f32 :=
  let v124 : IVec S256x64 32 := iota .tc S256x64 32 [0] iota_S256x64_d0_w32
  let v192 : FVec Ideal S256x64 .f32 := k0_pay21 (F := Ideal)
  let v206 : BitVec 1 := Scalar.cmpi .eq 8#32 0#32
  let v207 : BitVec 32 := Scalar.select v206 1#32 8#32
  let v125 : IVec S256x64 32 := iota .tc S256x64 32 [1] iota_S256x64_d1_w32
  let v209 : IVec S256x64 32 := k0_pay25 v125
  let v211 : IVec S256x64 1 := k0_pay26 v125
  let v213 : IVec S256x64 1 := k0_pay27 v125
  let v215 : IVec S256x64 1 := k0_pay28
  let v255 : FVec Ideal S256x64 .f32 := k0_pay31 v124 v190 v192 v205 v207 v209 v211 v213 v215
  let v297 : IVec S256x64 1 := k0_pay36 v125 v190
  let v298 : BitVec 1 := Scalar.cmpi .eq 8#32 0#32
  let v299 : BitVec 32 := Scalar.select v298 1#32 8#32
  let v301 : IVec S256x64 32 := k0_pay37 v124
  let v303 : IVec S256x64 1 := k0_pay38 v124
  let v309 : IVec S256x64 1 := k0_pay39 v124
  let v328 : FVec Ideal S256x64 .f32 := k0_pay42 v255 v278 v297 v299 v301 v303 v309
  let v352 : BitVec 1 := Scalar.cmpi .eq 8#32 0#32
  let v353 : BitVec 32 := Scalar.select v352 1#32 8#32
  let v355 : IVec S256x64 32 := k0_pay46 v125
  let v357 : IVec S256x64 1 := k0_pay47 v125
  let v358 : IVec S256x64 32 := k0_pay48
  let v401 : FVec Ideal S256x64 .f32 := k0_pay51 v124 v190 v328 v351 v353 v355 v357 v358
  let v443 : IVec S256x64 1 := k0_pay56 v125 v190
  let v444 : BitVec 1 := Scalar.cmpi .eq 8#32 0#32
  let v445 : BitVec 32 := Scalar.select v444 1#32 8#32
  let v447 : IVec S256x64 32 := k0_pay57 v124
  let v449 : IVec S256x64 1 := k0_pay58 v124
  let v451 : IVec S256x64 1 := k0_pay59 v124
  let c0_i32_136 : BitVec 32 := 0#32
  let v474 : FVec Ideal S256x64 .f32 := k0_pay62 v401 v424 v443 v445 v447 v449 v451 c0_i32_136
  let v498 : BitVec 1 := Scalar.cmpi .eq 8#32 0#32
  let v499 : BitVec 32 := Scalar.select v498 1#32 8#32
  let v501 : IVec S256x64 32 := k0_pay66 v125
  let c0_i32_146 : BitVec 32 := 0#32
  let v547 : FVec Ideal S256x64 .f32 := k0_pay69 v124 v190 v474 v497 v499 v501 c0_i32_146
  let v589 : IVec S256x64 1 := k0_pay74 v125 v190
  let v590 : BitVec 1 := Scalar.cmpi .eq 8#32 0#32
  let v591 : BitVec 32 := Scalar.select v590 1#32 8#32
  let v593 : IVec S256x64 32 := k0_pay75 v124
  let v595 : IVec S256x64 1 := k0_pay76 v124
  let v620 : FVec Ideal S256x64 .f32 := k0_pay79 v547 v570 v589 v591 v593 v595
  let c8_i32_179 : BitVec 32 := 8#32
  let v644 : BitVec 1 := Scalar.cmpi .eq 8#32 0#32
  let c1_i32_181 : BitVec 32 := 1#32
  let v681 : IVec S256x64 1 := k0_pay83 v124 v125 v190 c8_i32_179 v644 c1_i32_181
  let v691 : FVec Ideal S256x1 .f32 := k0_pay85 v643
  let v693 : FVec Ideal S256x64 .f32 := k0_pay86 v620 v681 v691
  let v735 : IVec S256x64 1 := k0_pay90 v125 v190
  let v736 : BitVec 1 := Scalar.cmpi .eq 8#32 0#32
  let v737 : BitVec 32 := Scalar.select v736 1#32 8#32
  let v738 : IVec S256x64 32 := k0_pay91
  k0_pay94 v124 v693 v716 v735 v737 v738

theorem diag1_apply (P : Fin 8 → FVec Ideal S256x512 .f32) (r : Fin 256) (c : Fin 64) :
    diag1 same (P 0) (P 1) (P 2) (P 3) (P 4) (P 5) (P 6) (P 7) (ix2 r c)
      = if r.val % 64 / 8 = c.val / 8 ∧ c.val % 8 ≤ r.val % 8 then ∑ d : Fin 128, P ⟨c % 8, by omega⟩ (ix2 r ⟨128 + d, by omega⟩) else 0 := by
  unfold diag1
  simp only [k0_pay21, k0_pay25, k0_pay26, k0_pay27, k0_pay28, k0_pay31, k0_pay36, k0_pay37, k0_pay38, k0_pay39, k0_pay42, k0_pay46, k0_pay47, k0_pay48, k0_pay51, k0_pay56, k0_pay57, k0_pay58, k0_pay59, k0_pay62, k0_pay66, k0_pay69, k0_pay74, k0_pay75, k0_pay76, k0_pay79, k0_pay83, k0_pay85, k0_pay86, k0_pay90, k0_pay91, k0_pay94, k0_pay92, k0_pay77, k0_pay67, k0_pay60, k0_pay49, k0_pay40, k0_pay29]
  pointwise
  simp only [same_apply, rem8_row, rem8_col]
  iterate 8 rw [mask_diag _ (by omega) (by omega) (by omega)]
  exact pick (fun j => ∑ d : Fin 128, P j (ix2 r ⟨128 + d, by omega⟩)) _ (by omega) (by omega)

/-- The entries of the diagonal blocks of head 2. -/
def diag2 (v190 : IVec S256x64 1) (v205 : FVec Ideal S256x512 .f32) (v278 : FVec Ideal S256x512 .f32) (v351 : FVec Ideal S256x512 .f32) (v424 : FVec Ideal S256x512 .f32) (v497 : FVec Ideal S256x512 .f32) (v570 : FVec Ideal S256x512 .f32) (v643 : FVec Ideal S256x512 .f32) (v716 : FVec Ideal S256x512 .f32) : FVec Ideal S256x64 .f32 :=
  let v124 : IVec S256x64 32 := iota .tc S256x64 32 [0] iota_S256x64_d0_w32
  let v193 : FVec Ideal S256x64 .f32 := k0_pay22 (F := Ideal)
  let v206 : BitVec 1 := Scalar.cmpi .eq 8#32 0#32
  let v207 : BitVec 32 := Scalar.select v206 1#32 8#32
  let v125 : IVec S256x64 32 := iota .tc S256x64 32 [1] iota_S256x64_d1_w32
  let v209 : IVec S256x64 32 := k0_pay25 v125
  let v211 : IVec S256x64 1 := k0_pay26 v125
  let v213 : IVec S256x64 1 := k0_pay27 v125
  let v215 : IVec S256x64 1 := k0_pay28
  let v261 : FVec Ideal S256x64 .f32 := k0_pay32 v124 v190 v193 v205 v207 v209 v211 v213 v215
  let v297 : IVec S256x64 1 := k0_pay36 v125 v190
  let v298 : BitVec 1 := Scalar.cmpi .eq 8#32 0#32
  let v299 : BitVec 32 := Scalar.select v298 1#32 8#32
  let v301 : IVec S256x64 32 := k0_pay37 v124
  let v303 : IVec S256x64 1 := k0_pay38 v124
  let v309 : IVec S256x64 1 := k0_pay39 v124
  let v334 : FVec Ideal S256x64 .f32 := k0_pay43 v261 v278 v297 v299 v301 v303 v309
  let v352 : BitVec 1 := Scalar.cmpi .eq 8#32 0#32
  let v353 : BitVec 32 := Scalar.select v352 1#32 8#32
  let v355 : IVec S256x64 32 := k0_pay46 v125
  let v357 : IVec S256x64 1 := k0_pay47 v125
  let v358 : IVec S256x64 32 := k0_pay48
  let v389 : IVec S256x64 1 := k0_pay49 v124 v190 v353 v355 v357 v358
  let v406 : FVec Ideal S256x64 .f32 := k0_pay52 v351
  let v407 : FVec Ideal S256x64 .f32 := k0_pay53 v334 v389 v406
  let v443 : IVec S256x64 1 := k0_pay56 v125 v190
  let v444 : BitVec 1 := Scalar.cmpi .eq 8#32 0#32
  let v445 : BitVec 32 := Scalar.select v444 1#32 8#32
  let v447 : IVec S256x64 32 := k0_pay57 v124
  let v449 : IVec S256x64 1 := k0_pay58 v124
  let v451 : IVec S256x64 1 := k0_pay59 v124
  let c0_i32_136 : BitVec 32 := 0#32
  let v480 : FVec Ideal S256x64 .f32 := k0_pay63 v407 v424 v443 v445 v447 v449 v451 c0_i32_136
  let v498 : BitVec 1 := Scalar.cmpi .eq 8#32 0#32
  let v499 : BitVec 32 := Scalar.select v498 1#32 8#32
  let v501 : IVec S256x64 32 := k0_pay66 v125
  let c0_i32_146 : BitVec 32 := 0#32
  let v535 : IVec S256x64 1 := k0_pay67 v124 v190 v499 v501 c0_i32_146
  let v548 : FVec Ideal S256x128 .f32 := k0_pay70 v497
  let v553 : FVec Ideal S256x64 .f32 := k0_pay71 v480 v535 v548
  let v589 : IVec S256x64 1 := k0_pay74 v125 v190
  let v590 : BitVec 1 := Scalar.cmpi .eq 8#32 0#32
  let v591 : BitVec 32 := Scalar.select v590 1#32 8#32
  let v593 : IVec S256x64 32 := k0_pay75 v124
  let v595 : IVec S256x64 1 := k0_pay76 v124
  let v626 : FVec Ideal S256x64 .f32 := k0_pay80 v553 v570 v589 v591 v593 v595
  let c8_i32_179 : BitVec 32 := 8#32
  let v644 : BitVec 1 := Scalar.cmpi .eq 8#32 0#32
  let c1_i32_181 : BitVec 32 := 1#32
  let v681 : IVec S256x64 1 := k0_pay83 v124 v125 v190 c8_i32_179 v644 c1_i32_181
  let v699 : FVec Ideal S256x64 .f32 := k0_pay87 v626 v643 v681
  let v735 : IVec S256x64 1 := k0_pay90 v125 v190
  let v736 : BitVec 1 := Scalar.cmpi .eq 8#32 0#32
  let v737 : BitVec 32 := Scalar.select v736 1#32 8#32
  let v738 : IVec S256x64 32 := k0_pay91
  k0_pay95 v124 v699 v716 v735 v737 v738

theorem diag2_apply (P : Fin 8 → FVec Ideal S256x512 .f32) (r : Fin 256) (c : Fin 64) :
    diag2 same (P 0) (P 1) (P 2) (P 3) (P 4) (P 5) (P 6) (P 7) (ix2 r c)
      = if r.val % 64 / 8 = c.val / 8 ∧ c.val % 8 ≤ r.val % 8 then ∑ d : Fin 128, P ⟨c % 8, by omega⟩ (ix2 r ⟨256 + d, by omega⟩) else 0 := by
  unfold diag2
  simp only [k0_pay22, k0_pay25, k0_pay26, k0_pay27, k0_pay28, k0_pay32, k0_pay36, k0_pay37, k0_pay38, k0_pay39, k0_pay43, k0_pay46, k0_pay47, k0_pay48, k0_pay49, k0_pay52, k0_pay53, k0_pay56, k0_pay57, k0_pay58, k0_pay59, k0_pay63, k0_pay66, k0_pay67, k0_pay70, k0_pay71, k0_pay74, k0_pay75, k0_pay76, k0_pay80, k0_pay83, k0_pay87, k0_pay90, k0_pay91, k0_pay95, k0_pay92, k0_pay77, k0_pay60, k0_pay40, k0_pay29]
  pointwise
  simp only [same_apply, rem8_row, rem8_col]
  iterate 8 rw [mask_diag _ (by omega) (by omega) (by omega)]
  exact pick (fun j => ∑ d : Fin 128, P j (ix2 r ⟨256 + d, by omega⟩)) _ (by omega) (by omega)

/-- The entries of the diagonal blocks of head 3. -/
def diag3 (v190 : IVec S256x64 1) (v205 : FVec Ideal S256x512 .f32) (v278 : FVec Ideal S256x512 .f32) (v351 : FVec Ideal S256x512 .f32) (v424 : FVec Ideal S256x512 .f32) (v497 : FVec Ideal S256x512 .f32) (v570 : FVec Ideal S256x512 .f32) (v643 : FVec Ideal S256x512 .f32) (v716 : FVec Ideal S256x512 .f32) : FVec Ideal S256x64 .f32 :=
  let v124 : IVec S256x64 32 := iota .tc S256x64 32 [0] iota_S256x64_d0_w32
  let v194 : FVec Ideal S256x64 .f32 := k0_pay23 (F := Ideal)
  let v206 : BitVec 1 := Scalar.cmpi .eq 8#32 0#32
  let v207 : BitVec 32 := Scalar.select v206 1#32 8#32
  let v125 : IVec S256x64 32 := iota .tc S256x64 32 [1] iota_S256x64_d1_w32
  let v209 : IVec S256x64 32 := k0_pay25 v125
  let v211 : IVec S256x64 1 := k0_pay26 v125
  let v213 : IVec S256x64 1 := k0_pay27 v125
  let v215 : IVec S256x64 1 := k0_pay28
  let v243 : IVec S256x64 1 := k0_pay29 v124 v190 v207 v209 v211 v213 v215
  let v263 : FVec Ideal S256 .f32 := k0_pay33 v205
  let v267 : FVec Ideal S256x64 .f32 := k0_pay34 v194 v243 v263
  let v297 : IVec S256x64 1 := k0_pay36 v125 v190
  let v298 : BitVec 1 := Scalar.cmpi .eq 8#32 0#32
  let v299 : BitVec 32 := Scalar.select v298 1#32 8#32
  let v301 : IVec S256x64 32 := k0_pay37 v124
  let v303 : IVec S256x64 1 := k0_pay38 v124
  let v309 : IVec S256x64 1 := k0_pay39 v124
  let v340 : FVec Ideal S256x64 .f32 := k0_pay44 v267 v278 v297 v299 v301 v303 v309
  let v352 : BitVec 1 := Scalar.cmpi .eq 8#32 0#32
  let v353 : BitVec 32 := Scalar.select v352 1#32 8#32
  let v355 : IVec S256x64 32 := k0_pay46 v125
  let v357 : IVec S256x64 1 := k0_pay47 v125
  let v358 : IVec S256x64 32 := k0_pay48
  let v389 : IVec S256x64 1 := k0_pay49 v124 v190 v353 v355 v357 v358
  let v413 : FVec Ideal S256x64 .f32 := k0_pay54 v340 v351 v389
  let v443 : IVec S256x64 1 := k0_pay56 v125 v190
  let v444 : BitVec 1 := Scalar.cmpi .eq 8#32 0#32
  let v445 : BitVec 32 := Scalar.select v444 1#32 8#32
  let v447 : IVec S256x64 32 := k0_pay57 v124
  let v449 : IVec S256x64 1 := k0_pay58 v124
  let v451 : IVec S256x64 1 := k0_pay59 v124
  let c0_i32_136 : BitVec 32 := 0#32
  let v486 : FVec Ideal S256x64 .f32 := k0_pay64 v413 v424 v443 v445 v447 v449 v451 c0_i32_136
  let v498 : BitVec 1 := Scalar.cmpi .eq 8#32 0#32
  let v499 : BitVec 32 := Scalar.select v498 1#32 8#32
  let v501 : IVec S256x64 32 := k0_pay66 v125
  let c0_i32_146 : BitVec 32 := 0#32
  let v535 : IVec S256x64 1 := k0_pay67 v124 v190 v499 v501 c0_i32_146
  let v559 : FVec Ideal S256x64 .f32 := k0_pay72 v486 v497 v535
  let v589 : IVec S256x64 1 := k0_pay74 v125 v190
  let v590 : BitVec 1 := Scalar.cmpi .eq 8#32 0#32
  let v591 : BitVec 32 := Scalar.select v590 1#32 8#32
  let v593 : IVec S256x64 32 := k0_pay75 v124
  let v595 : IVec S256x64 1 := k0_pay76 v124
  let v632 : FVec Ideal S256x64 .f32 := k0_pay81 v559 v570 v589 v591 v593 v595
  let c8_i32_179 : BitVec 32 := 8#32
  let v644 : BitVec 1 := Scalar.cmpi .eq 8#32 0#32
  let c1_i32_181 : BitVec 32 := 1#32
  let v681 : IVec S256x64 1 := k0_pay83 v124 v125 v190 c8_i32_179 v644 c1_i32_181
  let v705 : FVec Ideal S256x64 .f32 := k0_pay88 v632 v643 v681
  let v735 : IVec S256x64 1 := k0_pay90 v125 v190
  let v736 : BitVec 1 := Scalar.cmpi .eq 8#32 0#32
  let v737 : BitVec 32 := Scalar.select v736 1#32 8#32
  let v738 : IVec S256x64 32 := k0_pay91
  k0_pay96 v124 v705 v716 v735 v737 v738

theorem diag3_apply (P : Fin 8 → FVec Ideal S256x512 .f32) (r : Fin 256) (c : Fin 64) :
    diag3 same (P 0) (P 1) (P 2) (P 3) (P 4) (P 5) (P 6) (P 7) (ix2 r c)
      = if r.val % 64 / 8 = c.val / 8 ∧ c.val % 8 ≤ r.val % 8 then ∑ d : Fin 128, P ⟨c % 8, by omega⟩ (ix2 r ⟨384 + d, by omega⟩) else 0 := by
  unfold diag3
  simp only [k0_pay23, k0_pay25, k0_pay26, k0_pay27, k0_pay28, k0_pay29, k0_pay33, k0_pay34, k0_pay36, k0_pay37, k0_pay38, k0_pay39, k0_pay44, k0_pay46, k0_pay47, k0_pay48, k0_pay49, k0_pay54, k0_pay56, k0_pay57, k0_pay58, k0_pay59, k0_pay64, k0_pay66, k0_pay67, k0_pay72, k0_pay74, k0_pay75, k0_pay76, k0_pay81, k0_pay83, k0_pay88, k0_pay90, k0_pay91, k0_pay96, k0_pay92, k0_pay77, k0_pay60, k0_pay40]
  pointwise
  simp only [same_apply, rem8_row, rem8_col]
  iterate 8 rw [mask_diag _ (by omega) (by omega) (by omega)]
  exact pick (fun j => ∑ d : Fin 128, P j (ix2 r ⟨384 + d, by omega⟩)) _ (by omega) (by omega)

end Cert.Kernel12Ideal.Gla
-- ==== Proof.GlaMember.lean ====
module

public import proofs.«01_k».proof.Proof.Gen.Kernel12Ideal.Skeleton
public import proofs.«01_k».proof.Proof.GlaWords
public import proofs.«01_k».proof.Proof.Head
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

/-- The queries of the seven later blocks of eight rows, one column block for each. -/
def lhsOf (v781 : FVec Ideal S64x128 .f32) : FVec Ideal S64x896 .f32 :=
  let v794 : FVec Ideal S64x128 .f32 := k0_pay103 v781
  let v807 : FVec Ideal S64x128 .f32 := k0_pay105 v781
  let v820 : FVec Ideal S64x128 .f32 := k0_pay107 v781
  let v833 : FVec Ideal S64x128 .f32 := k0_pay109 v781
  k0_pay112 v781 v794 v807 v820 v833

theorem lhsOf_apply (y : FVec Ideal S64x128 .f32) (r : Fin 64) (i : Fin 7) (d : Fin 128) :
    lhsOf y (ix2 r ⟨128 * i + d, by omega⟩) = if r.val / 8 = i + 1 then y (ix2 r d) else 0 := by
  unfold lhsOf
  simp only [k0_pay103, k0_pay105, k0_pay107, k0_pay109, k0_pay112]
  by_cases h : r.val / 8 = i + 1
  all_goals
    first | rw [if_pos h] | rw [if_neg h]
    fin_cases i <;> dsimp only <;> pointwise <;> (repeat rw [dif_neg (by omega)]) <;> (try rw [dif_pos (by omega)]) <;>
    (try simp only [Nat.sub_sub, Nat.reduceAdd, Nat.add_sub_cancel_left]) <;>
    (dsimp only at h) <;>
    (split_ifs <;> first | rfl | omega | (congr 2; apply Fin.ext; dsimp only; omega))

/-- The keys decayed to the end of each of the seven earlier blocks of eight rows. -/
def rhsOf (v887 v888 : FVec Ideal S64x128 .f32) : FVec Ideal S64x896 .f32 :=
  let v890 : FVec Ideal S1x128 .f32 := extractStridedSlice S1x128 ![7, 0] v887 slices_S64x128_o7_0_S1x128
  let v898 : FVec Ideal S64x128 .f32 := k0_pay122 v887 v888 v890
  let v911 : FVec Ideal S64x128 .f32 := k0_pay124 v887 v888
  let v924 : FVec Ideal S64x128 .f32 := k0_pay126 v887 v888
  let v937 : FVec Ideal S64x128 .f32 := k0_pay128 v887 v888
  k0_pay132 v887 v888 v898 v911 v924 v937

theorem rhsOf_apply (b k : FVec Ideal S64x128 .f32) (c : Fin 64) (i : Fin 7) (d : Fin 128) :
    rhsOf b k (ix2 c ⟨128 * i + d, by omega⟩)
      = if c.val < 8 * (i + 1) then k (ix2 c d) * Ideal.exp (b (ix2 ⟨8 * (i + 1) - 1, by omega⟩ d) - b (ix2 c d)) else 0 := by
  unfold rhsOf
  simp only [k0_pay122, k0_pay124, k0_pay126, k0_pay128, k0_pay132]
  by_cases h : c.val < 8 * (i + 1)
  all_goals
    first | rw [if_pos h] | rw [if_neg h]
    fin_cases i <;> dsimp only <;> pointwise <;> (repeat rw [dif_neg (by omega)]) <;> (try rw [dif_pos (by omega)]) <;>
    (try simp only [Nat.sub_sub, Nat.reduceAdd, Nat.add_sub_cancel_left]) <;>
    (dsimp only at h) <;>
    (split_ifs <;> first | rfl | omega)

/-- The keys decayed to the end of their chunk, and the decay of the whole chunk, transposed. -/
def trOf (v779 : FVec Ideal S64x128 .f32) (v780 : FVec Ideal S64x128 .f32) : FVec Ideal S128x128 .f32 :=
  k0_pay114 v779 v780

theorem trOf_key (b k : FVec Ideal S64x128 .f32) (d : Fin 128) (x : Fin 64) :
    trOf b k (ix2 d ⟨x, by omega⟩) = k (ix2 x d) * Ideal.exp (b (ix2 63 d) - b (ix2 x d)) := by
  unfold trOf
  simp only [k0_pay114]
  pointwise

theorem trOf_last (b k : FVec Ideal S64x128 .f32) (d : Fin 128) (x : Fin 64) :
    trOf b k (ix2 d ⟨64 + x, by omega⟩) = Ideal.exp (b (ix2 63 d)) := by
  unfold trOf
  simp only [k0_pay114]
  pointwise

end Cert.Kernel12Ideal.Gla
-- ==== Proof.GlaStages.lean ====
module

public import proofs.«01_k».proof.Proof.Gen.Kernel12Ideal.Skeleton
public import proofs.«01_k».proof.Proof.GlaMember
public import Idealize.ShloMosaic.Lib.Pointwise
public import Idealize.ShloMosaic.Lib.ValueIdx

/-!
The sixteen members of a block, four heads in each of four chunks: the scores, the states and the outputs.
-/

@[expose] public section

set_option maxRecDepth 16384

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

/-- The lanes of one head in one chunk. -/
def sl (y : FVec Ideal S256x512 .f32) (m : Fin 16) : FVec Ideal S64x128 .f32 :=
  ![extractStridedSlice S64x128 ![0, 0] y slices_S256x512_o0_0_S64x128,
    extractStridedSlice S64x128 ![0, 128] y slices_S256x512_o0_128_S64x128,
    extractStridedSlice S64x128 ![0, 256] y slices_S256x512_o0_256_S64x128,
    extractStridedSlice S64x128 ![0, 384] y slices_S256x512_o0_384_S64x128,
    extractStridedSlice S64x128 ![64, 0] y slices_S256x512_o64_0_S64x128,
    extractStridedSlice S64x128 ![64, 128] y slices_S256x512_o64_128_S64x128,
    extractStridedSlice S64x128 ![64, 256] y slices_S256x512_o64_256_S64x128,
    extractStridedSlice S64x128 ![64, 384] y slices_S256x512_o64_384_S64x128,
    extractStridedSlice S64x128 ![128, 0] y slices_S256x512_o128_0_S64x128,
    extractStridedSlice S64x128 ![128, 128] y slices_S256x512_o128_128_S64x128,
    extractStridedSlice S64x128 ![128, 256] y slices_S256x512_o128_256_S64x128,
    extractStridedSlice S64x128 ![128, 384] y slices_S256x512_o128_384_S64x128,
    extractStridedSlice S64x128 ![192, 0] y slices_S256x512_o192_0_S64x128,
    extractStridedSlice S64x128 ![192, 128] y slices_S256x512_o192_128_S64x128,
    extractStridedSlice S64x128 ![192, 256] y slices_S256x512_o192_256_S64x128,
    extractStridedSlice S64x128 ![192, 384] y slices_S256x512_o192_384_S64x128] m

/-- The values of one head in one chunk. -/
def vl (y : FVec Ideal S256x1024 .f32) (m : Fin 16) : FVec Ideal S64x256 .f32 :=
  ![extractStridedSlice S64x256 ![0, 0] y slices_S256x1024_o0_0_S64x256,
    extractStridedSlice S64x256 ![0, 256] y slices_S256x1024_o0_256_S64x256,
    extractStridedSlice S64x256 ![0, 512] y slices_S256x1024_o0_512_S64x256,
    extractStridedSlice S64x256 ![0, 768] y slices_S256x1024_o0_768_S64x256,
    extractStridedSlice S64x256 ![64, 0] y slices_S256x1024_o64_0_S64x256,
    extractStridedSlice S64x256 ![64, 256] y slices_S256x1024_o64_256_S64x256,
    extractStridedSlice S64x256 ![64, 512] y slices_S256x1024_o64_512_S64x256,
    extractStridedSlice S64x256 ![64, 768] y slices_S256x1024_o64_768_S64x256,
    extractStridedSlice S64x256 ![128, 0] y slices_S256x1024_o128_0_S64x256,
    extractStridedSlice S64x256 ![128, 256] y slices_S256x1024_o128_256_S64x256,
    extractStridedSlice S64x256 ![128, 512] y slices_S256x1024_o128_512_S64x256,
    extractStridedSlice S64x256 ![128, 768] y slices_S256x1024_o128_768_S64x256,
    extractStridedSlice S64x256 ![192, 0] y slices_S256x1024_o192_0_S64x256,
    extractStridedSlice S64x256 ![192, 256] y slices_S256x1024_o192_256_S64x256,
    extractStridedSlice S64x256 ![192, 512] y slices_S256x1024_o192_512_S64x256,
    extractStridedSlice S64x256 ![192, 768] y slices_S256x1024_o192_768_S64x256] m

/-- The block of scores of one head in one chunk. -/
def dl (y : Fin 4 → FVec Ideal S256x64 .f32) (m : Fin 16) : FVec Ideal S64x64 .f32 :=
  ![extractStridedSlice S64x64 ![0, 0] (y 0) slices_S256x64_o0_0_S64x64,
    extractStridedSlice S64x64 ![0, 0] (y 1) slices_S256x64_o0_0_S64x64,
    extractStridedSlice S64x64 ![0, 0] (y 2) slices_S256x64_o0_0_S64x64,
    extractStridedSlice S64x64 ![0, 0] (y 3) slices_S256x64_o0_0_S64x64,
    extractStridedSlice S64x64 ![64, 0] (y 0) slices_S256x64_o64_0_S64x64,
    extractStridedSlice S64x64 ![64, 0] (y 1) slices_S256x64_o64_0_S64x64,
    extractStridedSlice S64x64 ![64, 0] (y 2) slices_S256x64_o64_0_S64x64,
    extractStridedSlice S64x64 ![64, 0] (y 3) slices_S256x64_o64_0_S64x64,
    extractStridedSlice S64x64 ![128, 0] (y 0) slices_S256x64_o128_0_S64x64,
    extractStridedSlice S64x64 ![128, 0] (y 1) slices_S256x64_o128_0_S64x64,
    extractStridedSlice S64x64 ![128, 0] (y 2) slices_S256x64_o128_0_S64x64,
    extractStridedSlice S64x64 ![128, 0] (y 3) slices_S256x64_o128_0_S64x64,
    extractStridedSlice S64x64 ![192, 0] (y 0) slices_S256x64_o192_0_S64x64,
    extractStridedSlice S64x64 ![192, 0] (y 1) slices_S256x64_o192_0_S64x64,
    extractStridedSlice S64x64 ![192, 0] (y 2) slices_S256x64_o192_0_S64x64,
    extractStridedSlice S64x64 ![192, 0] (y 3) slices_S256x64_o192_0_S64x64] m

/-- The row of the block of row `r` of a member. -/
def row (m : Fin 16) (r : Fin 64) : Fin 256 := ⟨64 * (m / 4) + r, by omega⟩

/-- The head of a member. -/
def head (m : Fin 16) : Fin 4 := ⟨m % 4, by omega⟩

theorem sl_apply (y : FVec Ideal S256x512 .f32) (m : Fin 16) (r : Fin 64) (d : Fin 128) :
    sl y m (ix2 r d) = y (ix2 (row m r) ⟨128 * (m % 4) + d, by omega⟩) := by
  fin_cases m <;> (dsimp only [sl, row]; pointwise)

theorem vl_apply (y : FVec Ideal S256x1024 .f32) (m : Fin 16) (r : Fin 64) (d : Fin 256) :
    vl y m (ix2 r d) = y (ix2 (row m r) ⟨256 * (m % 4) + d, by omega⟩) := by
  fin_cases m <;> (dsimp only [vl, row]; pointwise)

theorem dl_apply (y : Fin 4 → FVec Ideal S256x64 .f32) (m : Fin 16) (r c : Fin 64) :
    dl y m (ix2 r c) = y (head m) (ix2 (row m r) c) := by
  fin_cases m <;> (dsimp only [dl, row, head]; pointwise)

/-- The scores of every member. -/
def scores (L R : Fin 16 → FVec Ideal S64x896 .f32) (D : Fin 16 → FVec Ideal S64x64 .f32) : FVec Ideal S16x64x64 .f32 :=
  (k0_pay452 (R 0) (D 0) (R 1) (D 1) (R 2) (D 2) (R 3) (D 3) (L 4) (R 4) (D 4) (L 5) (R 5) (D 5) (L 6) (R 6) (D 6) (L 7) (R 7) (D 7) (L 8) (R 8) (D 8) (L 9) (R 9) (D 9) (L 10) (R 10) (D 10) (L 11) (R 11) (D 11) (L 12) (R 12) (D 12) (L 13) (R 13) (D 13) (L 14) (R 14) (D 14) (L 15) (R 15) (D 15) (k0_pay448 (L 0)) (k0_pay449 (L 1)) (k0_pay450 (L 2)) (k0_pay451 (L 3)))

theorem scores_apply (L R : Fin 16 → FVec Ideal S64x896 .f32) (D : Fin 16 → FVec Ideal S64x64 .f32) (m : Fin 16) (r c : Fin 64) :
    scores L R D (ix3 m r c) = D m (ix2 r c) + ∑ x : Fin 896, L m (ix2 r x) * R m (ix2 c x) := by
  unfold scores
  fin_cases m <;> (dsimp only; simp only [k0_pay452, k0_pay448, k0_pay449, k0_pay450, k0_pay451]; pointwise)

/-- The states after 1 chunks. -/
def st1 (T : Fin 16 → FVec Ideal S128x128 .f32) (V : Fin 16 → FVec Ideal S64x256 .f32) (s : FVec Ideal S4x128x256 .f32) : FVec Ideal S4x128x256 .f32 :=
  (k0_pay464 (V 0) (V 1) (V 2) (V 3) (V 4) (V 5) (V 6) (V 7) (T 8) (V 8) (T 9) (V 9) (T 10) (V 10) (T 11) (V 11) (T 12) (V 12) (T 13) (V 13) (T 14) (V 14) (T 15) (V 15) (k0_pay453 (T 0)) (k0_pay454 (T 1)) (k0_pay455 (T 2)) (k0_pay456 (T 3)) (k0_pay457 (T 4)) (k0_pay458 (T 5)) (k0_pay459 (T 6)) (k0_pay460 (T 7)) s)

/-- The states after 2 chunks. -/
def st2 (T : Fin 16 → FVec Ideal S128x128 .f32) (V : Fin 16 → FVec Ideal S64x256 .f32) (s : FVec Ideal S4x128x256 .f32) : FVec Ideal S4x128x256 .f32 :=
  (k0_pay465 (V 0) (V 1) (V 2) (V 3) (V 4) (V 5) (V 6) (V 7) (T 8) (V 8) (T 9) (V 9) (T 10) (V 10) (T 11) (V 11) (T 12) (V 12) (T 13) (V 13) (T 14) (V 14) (T 15) (V 15) (k0_pay453 (T 0)) (k0_pay454 (T 1)) (k0_pay455 (T 2)) (k0_pay456 (T 3)) (k0_pay457 (T 4)) (k0_pay458 (T 5)) (k0_pay459 (T 6)) (k0_pay460 (T 7)) s)

/-- The states after 3 chunks. -/
def st3 (T : Fin 16 → FVec Ideal S128x128 .f32) (V : Fin 16 → FVec Ideal S64x256 .f32) (s : FVec Ideal S4x128x256 .f32) : FVec Ideal S4x128x256 .f32 :=
  (k0_pay466 (V 0) (V 1) (V 2) (V 3) (V 4) (V 5) (V 6) (V 7) (T 8) (V 8) (T 9) (V 9) (T 10) (V 10) (T 11) (V 11) (T 12) (V 12) (T 13) (V 13) (T 14) (V 14) (T 15) (V 15) (k0_pay453 (T 0)) (k0_pay454 (T 1)) (k0_pay455 (T 2)) (k0_pay456 (T 3)) (k0_pay457 (T 4)) (k0_pay458 (T 5)) (k0_pay459 (T 6)) (k0_pay460 (T 7)) s)

/-- The states after 4 chunks. -/
def st4 (T : Fin 16 → FVec Ideal S128x128 .f32) (V : Fin 16 → FVec Ideal S64x256 .f32) (s : FVec Ideal S4x128x256 .f32) : FVec Ideal S4x128x256 .f32 :=
  (k0_pay467 (V 0) (V 1) (V 2) (V 3) (V 4) (V 5) (V 6) (V 7) (T 8) (V 8) (T 9) (V 9) (T 10) (V 10) (T 11) (V 11) (T 12) (V 12) (T 13) (V 13) (T 14) (V 14) (T 15) (V 15) (k0_pay453 (T 0)) (k0_pay454 (T 1)) (k0_pay455 (T 2)) (k0_pay456 (T 3)) (k0_pay457 (T 4)) (k0_pay458 (T 5)) (k0_pay459 (T 6)) (k0_pay460 (T 7)) s)

theorem st1_apply (T : Fin 16 → FVec Ideal S128x128 .f32) (V : Fin 16 → FVec Ideal S64x256 .f32) (s : FVec Ideal S4x128x256 .f32) (h : Fin 4) (d : Fin 128) (e : Fin 256) :
    st1 T V s (ix3 h d e) = (s) (ix3 h d e) * T ⟨0 + h, by omega⟩ (ix2 d 64)
      + ∑ x : Fin 64, T ⟨0 + h, by omega⟩ (ix2 d ⟨x, by omega⟩) * V ⟨0 + h, by omega⟩ (ix2 x e) := by
  unfold st1
  simp only [k0_pay464, k0_pay463, k0_pay461, k0_pay462, k0_pay453, k0_pay454, k0_pay455, k0_pay456, k0_pay457, k0_pay458, k0_pay459, k0_pay460]
  fin_cases h <;> (dsimp only; pointwise)

theorem st2_apply (T : Fin 16 → FVec Ideal S128x128 .f32) (V : Fin 16 → FVec Ideal S64x256 .f32) (s : FVec Ideal S4x128x256 .f32) (h : Fin 4) (d : Fin 128) (e : Fin 256) :
    st2 T V s (ix3 h d e) = (st1 T V s) (ix3 h d e) * T ⟨4 + h, by omega⟩ (ix2 d 64)
      + ∑ x : Fin 64, T ⟨4 + h, by omega⟩ (ix2 d ⟨x, by omega⟩) * V ⟨4 + h, by omega⟩ (ix2 x e) := by
  unfold st2 st1
  simp only [k0_pay465, k0_pay463, k0_pay461, k0_pay462, k0_pay453, k0_pay454, k0_pay455, k0_pay456, k0_pay457, k0_pay458, k0_pay459, k0_pay460]
  fin_cases h <;> (dsimp only; pointwise)

theorem st3_apply (T : Fin 16 → FVec Ideal S128x128 .f32) (V : Fin 16 → FVec Ideal S64x256 .f32) (s : FVec Ideal S4x128x256 .f32) (h : Fin 4) (d : Fin 128) (e : Fin 256) :
    st3 T V s (ix3 h d e) = (st2 T V s) (ix3 h d e) * T ⟨8 + h, by omega⟩ (ix2 d 64)
      + ∑ x : Fin 64, T ⟨8 + h, by omega⟩ (ix2 d ⟨x, by omega⟩) * V ⟨8 + h, by omega⟩ (ix2 x e) := by
  unfold st3 st2
  simp only [k0_pay466, k0_pay463, k0_pay461, k0_pay462, k0_pay453, k0_pay454, k0_pay455, k0_pay456, k0_pay457, k0_pay458, k0_pay459, k0_pay460]
  fin_cases h <;> (dsimp only; pointwise)

theorem st4_apply (T : Fin 16 → FVec Ideal S128x128 .f32) (V : Fin 16 → FVec Ideal S64x256 .f32) (s : FVec Ideal S4x128x256 .f32) (h : Fin 4) (d : Fin 128) (e : Fin 256) :
    st4 T V s (ix3 h d e) = (st3 T V s) (ix3 h d e) * T ⟨12 + h, by omega⟩ (ix2 d 64)
      + ∑ x : Fin 64, T ⟨12 + h, by omega⟩ (ix2 d ⟨x, by omega⟩) * V ⟨12 + h, by omega⟩ (ix2 x e) := by
  unfold st4 st3
  simp only [k0_pay467, k0_pay463, k0_pay461, k0_pay462, k0_pay453, k0_pay454, k0_pay455, k0_pay456, k0_pay457, k0_pay458, k0_pay459, k0_pay460]
  fin_cases h <;> (dsimp only; pointwise)

/-- The outputs of every member. -/
def outs (E : Fin 16 → FVec Ideal S64x128 .f32) (W : FVec Ideal S16x64x64 .f32) (V : Fin 16 → FVec Ideal S64x256 .f32)
    (s : Fin 4 → FVec Ideal S4x128x256 .f32) : FVec Ideal S16x64x256 .f32 :=
  (k0_pay469 (E 0) (E 1) (E 2) (E 3) (E 4) (E 5) (E 6) (E 7) (E 8) (E 9) (E 10) (E 11) (E 12) (E 13) (E 14) (E 15) W (k0_pay462 (V 0) (V 1) (V 2) (V 3) (V 4) (V 5) (V 6) (V 7) (V 8) (V 9) (V 10) (V 11) (V 12) (V 13) (V 14) (V 15)) (s 0) (s 1) (s 2) (s 3))

theorem outs_apply (E : Fin 16 → FVec Ideal S64x128 .f32) (W : FVec Ideal S16x64x64 .f32) (V : Fin 16 → FVec Ideal S64x256 .f32)
    (s : Fin 4 → FVec Ideal S4x128x256 .f32) (m : Fin 16) (r : Fin 64) (e : Fin 256) :
    outs E W V s (ix3 m r e) = (∑ d : Fin 128, E m (ix2 r d) * s ⟨m / 4, by omega⟩ (ix3 (head m) d e))
      + ∑ c : Fin 64, W (ix3 m r c) * V m (ix2 c e) := by
  unfold outs
  simp only [k0_pay469, k0_pay462]
  fin_cases m <;> (dsimp only [head]; pointwise)

end Cert.Kernel12Ideal.Gla
-- ==== Proof.GlaBlock.lean ====
module

public import proofs.«01_k».proof.Proof.Slabs
public import proofs.«01_k».proof.Proof.GlaHead
public import proofs.«01_k».proof.Proof.GlaSlabs
public import proofs.«01_k».proof.Proof.GlaDiag
public import proofs.«01_k».proof.Proof.GlaStages
public import Idealize.ShloMosaic.Lib.Pointwise
public import Idealize.ShloMosaic.Lib.ValueIdx

/-!
One block of the gated attention is 256 steps of its recurrence.
-/

@[expose] public section

set_option maxRecDepth 16384

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

/-- A sum over seven blocks of 128 lanes. -/
theorem sum_blocks (f : Fin 896 → EReal) : (∑ x, f x) = ∑ i : Fin 7, ∑ d : Fin 128, f ⟨128 * i + d, by omega⟩ := by
  rw [← Fintype.sum_prod_type' (fun (i : Fin 7) (d : Fin 128) => f ⟨128 * i + d, by omega⟩)]
  refine (Fintype.sum_equiv (finProdFinEquiv (m := 7) (n := 128)) _ _ fun p => ?_).symm
  refine congrArg f (Fin.ext ?_)
  show 128 * p.1.val + p.2.val = p.2.val + 128 * p.1.val
  omega

/-- What a row sees of the blocks of eight rows before its own. -/
theorem earlier (y b k : FVec Ideal S64x128 .f32) (r c : Fin 64) :
    (∑ x : Fin 896, lhsOf y (ix2 r x) * rhsOf b k (ix2 c x))
      = if c.val < 8 * (r.val / 8) then
          ∑ d : Fin 128, y (ix2 r d) * (k (ix2 c d) * Ideal.exp (b (ix2 ⟨8 * (r / 8) - 1, by omega⟩ d) - b (ix2 c d)))
        else 0 := by
  rw [sum_blocks]
  simp only [lhsOf_apply, rhsOf_apply]
  by_cases h0 : r.val / 8 = 0
  · rw [if_neg (by omega)]
    refine Finset.sum_eq_zero fun i _ => Finset.sum_eq_zero fun d _ => ?_
    rw [if_neg (by omega), zero_mul]
  · rw [Finset.sum_eq_single (⟨r / 8 - 1, by omega⟩ : Fin 7)]
    · have e : r.val / 8 - 1 + 1 = r.val / 8 := by omega
      simp only [e, if_true]
      split_ifs
      · rfl
      · simp
    · intro i _ hi
      refine Finset.sum_eq_zero fun d _ => ?_
      rw [if_neg (fun e => hi (Fin.ext (by dsimp only; omega))), zero_mul]
    · intro h; exact absurd (Finset.mem_univ _) h

/-- A slab cut into blocks of eight rows. -/
def oct (y : FVec Ideal S256x512 .f32) : FVec Ideal S32x8x512 .f32 := k0_pay14 y

theorem oct_apply (y : FVec Ideal S256x512 .f32) (a : Fin 32) (b : Fin 8) (l : Fin 512) :
    oct y (ix3 a b l) = y (ix2 ⟨8 * a + b, by omega⟩ l) := by
  unfold oct
  simp only [k0_pay14]
  pointwise
  exact congrArg (fun x => y (ix2 x l)) (Fin.ext (by dsimp only; omega))

/-- What the body is given for one block. -/
structure Blk where
  q : Vec Ideal S256x512 .f32
  k : Vec Ideal S256x512 .f32
  v : Vec Ideal S256x1024 .f32
  small : Vec Ideal S256x128 .f32
  w : Vec Ideal S128x512 .f32
  b : Vec Ideal S1x512 .f32
  state : Vec Ideal S4x128x256 .f32

namespace Blk
variable (D : Blk)

def lg : FVec Ideal S256x512 .f32 := k0_pay3 D.small D.w D.b
def qs : FVec Ideal S256x512 .f32 := k0_pay4 D.q
def B : FVec Ideal S256x512 .f32 := bcum D.lg
def P : Fin 8 → FVec Ideal S256x512 .f32 := prods (oct D.B) (oct D.qs) (oct D.k)
def dg : Fin 4 → FVec Ideal S256x64 .f32 :=
  ![diag0 same (D.P 0) (D.P 1) (D.P 2) (D.P 3) (D.P 4) (D.P 5) (D.P 6) (D.P 7),
    diag1 same (D.P 0) (D.P 1) (D.P 2) (D.P 3) (D.P 4) (D.P 5) (D.P 6) (D.P 7),
    diag2 same (D.P 0) (D.P 1) (D.P 2) (D.P 3) (D.P 4) (D.P 5) (D.P 6) (D.P 7),
    diag3 same (D.P 0) (D.P 1) (D.P 2) (D.P 3) (D.P 4) (D.P 5) (D.P 6) (D.P 7)]
def L : Fin 16 → FVec Ideal S64x896 .f32 := fun m => lhsOf (sl (qt D.lg D.qs) m)
def R : Fin 16 → FVec Ideal S64x896 .f32 := fun m => rhsOf (sl D.B m) (sl D.k m)
def T : Fin 16 → FVec Ideal S128x128 .f32 := fun m => trOf (sl D.B m) (sl D.k m)
def V : Fin 16 → FVec Ideal S64x256 .f32 := fun m => vl D.v m
def E : Fin 16 → FVec Ideal S64x128 .f32 := fun m => sl (qe D.lg D.qs) m
def W : FVec Ideal S16x64x64 .f32 := scores D.L D.R (fun m => dl D.dg m)

/-- The state before each chunk. -/
def sts : Fin 4 → FVec Ideal S4x128x256 .f32 := ![D.state, st1 D.T D.V D.state, st2 D.T D.V D.state, st3 D.T D.V D.state]

/-- The outputs of every member. -/
def out : FVec Ideal S16x64x256 .f32 := outs D.E D.W D.V D.sts

theorem dg_apply (h : Fin 4) (r : Fin 256) (c : Fin 64) :
    D.dg h (ix2 r c) = if r.val % 64 / 8 = c.val / 8 ∧ c.val % 8 ≤ r.val % 8 then
      ∑ d : Fin 128, D.P ⟨c % 8, by omega⟩ (ix2 r ⟨128 * h + d, by omega⟩) else 0 := by
  fin_cases h
  · exact diag0_apply D.P r c
  · exact diag1_apply D.P r c
  · exact diag2_apply D.P r c
  · exact diag3_apply D.P r c

theorem P_apply (j : Fin 8) (r : Fin 256) (l : Fin 512) :
    D.P j (ix2 r l) = D.qs (ix2 r l) * D.k (ix2 ⟨8 * (r / 8) + j, by omega⟩ l)
      * Ideal.exp (min (D.B (ix2 r l) - D.B (ix2 ⟨8 * (r / 8) + j, by omega⟩ l)) 0) := by
  have e : (⟨8 * (r.val / 8) + r.val % 8, by omega⟩ : Fin 256) = r := Fin.ext (by dsimp only; omega)
  unfold P
  rw [prods_apply]
  simp only [oct_apply]
  rw [e]

end Blk

/-- Column `d` of the keys of head `h`, and column `e` of its values. -/
def hc (h : Fin 4) (d : Fin 128) : Fin 512 := ⟨128 * h + d, by omega⟩
def vc (h : Fin 4) (e : Fin 256) : Fin 1024 := ⟨256 * h + e, by omega⟩

/-- The block holds head `G` of the layer at its head `h`, from token `T`. -/
structure Fed (D : Blk) (G : Cert.Gla.Head) (h : Fin 4) (T : ℕ) : Prop where
  q : ∀ (r : Fin 256) d, D.q (ix2 r (hc h d)) = G.q (T + r) d
  k : ∀ (r : Fin 256) d, D.k (ix2 r (hc h d)) = G.k (T + r) d
  v : ∀ (r : Fin 256) e, D.v (ix2 r (vc h e)) = G.v (T + r) e
  g : ∀ (r : Fin 256) d, (∑ x : Fin 128, D.small (ix2 r x) * D.w (ix2 x (hc h d))) = ∑ i, G.x (T + r) i * G.w i d
  b : ∀ d, D.b (ix2 0 (hc h d)) = G.b d

section
variable {D : Blk} {G : Cert.Gla.Head} {h : Fin 4} {T : ℕ} (F : Fed D G h T) (R : G.Real)
include F R

theorem Fed.lg (r : Fin 256) (d : Fin 128) : D.lg (ix2 r (hc h d)) = ((G.gR (T + r) d : ℝ) : EReal) := by
  unfold Blk.lg
  rw [gate_apply, F.g, F.b]
  exact R.logDecay _ _

theorem Fed.qs (r : Fin 256) (d : Fin 128) : D.qs (ix2 r (hc h d)) = ((G.qR (T + r) d : ℝ) : EReal) := by
  unfold Blk.qs
  rw [scale_apply, F.q]
  exact R.query _ _

theorem Fed.kk (r : Fin 256) (d : Fin 128) : D.k (ix2 r (hc h d)) = ((G.kR (T + r) d : ℝ) : EReal) := by
  rw [F.k]
  exact (R.k _ _).eq

theorem Fed.B (r : Fin 256) (d : Fin 128) :
    D.B (ix2 r (hc h d)) = ((cum G.gR (T + 64 * (r / 64)) (r % 64) d : ℝ) : EReal) := by
  unfold Blk.B
  rw [bcum_apply]
  exact Cert.KernelIdeal.Delta.run_sum (fun t => G.gR t d) T (fun x => D.lg (ix2 x (hc h d))) (fun x => F.lg R x d) r

variable (m : Fin 16) (hm : m.val % 4 = h)
include hm

omit F R in
theorem col_eq (d : Fin 128) : (⟨128 * (m.val % 4) + d, by omega⟩ : Fin 512) = hc h d := Fin.ext (by dsimp only [hc]; omega)

theorem Fed.slB (r : Fin 64) (d : Fin 128) :
    sl D.B m (ix2 r d) = ((cum G.gR (T + 64 * (m / 4)) r d : ℝ) : EReal) := by
  rw [sl_apply, col_eq m hm, F.B R]
  have e1 : (row m r).val / 64 = m / 4 := by dsimp only [row]; omega
  have e2 : (row m r).val % 64 = r := by dsimp only [row]; omega
  rw [e1, e2]

omit F R hm in
theorem row_tok (r : Fin 64) : T + (row m r).val = T + 64 * (m / 4) + r := by dsimp only [row]; omega

theorem Fed.slk (r : Fin 64) (d : Fin 128) : sl D.k m (ix2 r d) = ((G.kR (T + 64 * (m / 4) + r) d : ℝ) : EReal) := by
  rw [sl_apply, col_eq m hm, F.kk R, row_tok]

theorem Fed.vv (r : Fin 64) (e : Fin 256) : D.V m (ix2 r e) = ((G.vR (T + 64 * (m / 4) + r) e : ℝ) : EReal) := by
  unfold Blk.V
  have : (⟨256 * (m.val % 4) + e, by omega⟩ : Fin 1024) = vc h e := Fin.ext (by dsimp only [vc]; omega)
  rw [vl_apply, this, F.v, row_tok]
  exact (R.v _ _).eq

theorem Fed.E (r : Fin 64) (d : Fin 128) :
    D.E m (ix2 r d) = ((G.qR (T + 64 * (m / 4) + r) d * Real.exp (cum G.gR (T + 64 * (m / 4)) r d) : ℝ) : EReal) := by
  have hB := F.slB R m hm r d
  rw [sl_apply, col_eq m hm] at hB
  unfold Blk.E
  rw [sl_apply, col_eq m hm, qe_apply, F.qs R, row_tok]
  change _ * Ideal.exp (D.B _) = _
  rw [hB, Ideal.exp_coe, ← EReal.coe_mul]

/-- The query of a row, decayed from the end of the block of eight rows before its own. -/
theorem Fed.qt (r : Fin 64) (d : Fin 128) (h0 : r.val / 8 ≠ 0) :
    sl (qt D.lg D.qs) m (ix2 r d) = ((G.qR (T + 64 * (m / 4) + r) d
      * Real.exp (cum G.gR (T + 64 * (m / 4)) r d - cum G.gR (T + 64 * (m / 4)) (8 * (r / 8) - 1) d) : ℝ) : EReal) := by
  have hB := F.slB R m hm r d
  have hB' := F.slB R m hm ⟨8 * (r / 8) - 1, by omega⟩ d
  rw [sl_apply, col_eq m hm] at hB hB'
  rw [sl_apply, col_eq m hm, qt_apply, F.qs R, row_tok, if_neg (by dsimp only [row]; omega)]
  have e : (⟨(row m r).val / 8 * 8 - 1, by omega⟩ : Fin 256) = row m ⟨8 * (r / 8) - 1, by omega⟩ :=
    Fin.ext (by dsimp only [row]; omega)
  rw [e]
  change _ * Ideal.exp (D.B _ - D.B _) = _
  rw [hB, hB', ← EReal.coe_sub, Ideal.exp_coe, ← EReal.coe_mul]

/-- The scores of a member. -/
theorem Fed.W (r c : Fin 64) :
    D.W (ix3 m r c) = ((score G.gR G.qR G.kR (T + 64 * (m / 4)) r c : ℝ) : EReal) := by
  unfold Blk.W
  rw [scores_apply]
  unfold Blk.L Blk.R
  have hh : head m = h := Fin.ext hm
  rw [earlier, dl_apply, hh, Blk.dg_apply]
  have e0 : (row m r).val % 64 / 8 = r.val / 8 := by dsimp only [row]; omega
  have e1 : (row m r).val % 8 = r.val % 8 := by dsimp only [row]; omega
  simp only [e0, e1]
  unfold score
  by_cases hs : c.val < 8 * (r.val / 8)
  · have hle : c ≤ r := by show c.val ≤ r.val; omega
    rw [if_neg (by omega), if_pos hs, if_pos hle, zero_add, ← coe_sum]
    refine Finset.sum_congr rfl fun d _ => ?_
    rw [F.qt R m hm r d (by omega), F.slk R m hm, F.slB R m hm, F.slB R m hm, ← EReal.coe_sub, Ideal.exp_coe, ← EReal.coe_mul,
      ← EReal.coe_mul]
    congr 1
    rw [show cum G.gR (T + 64 * (m / 4)) r d - cum G.gR (T + 64 * (m / 4)) c d
      = (cum G.gR (T + 64 * (m / 4)) r d - cum G.gR (T + 64 * (m / 4)) (8 * (r / 8) - 1) d)
        + (cum G.gR (T + 64 * (m / 4)) (8 * (r / 8) - 1) d - cum G.gR (T + 64 * (m / 4)) c d) by ring, Real.exp_add]
    ring
  · rw [if_neg hs, add_zero]
    by_cases hle : c ≤ r
    · have hle' : c.val ≤ r.val := hle
      rw [if_pos (by omega), if_pos hle, ← coe_sum]
      refine Finset.sum_congr rfl fun d _ => ?_
      have e : (⟨8 * ((row m r).val / 8) + c.val % 8, by omega⟩ : Fin 256) = row m c := Fin.ext (by dsimp only [row]; omega)
      have hB := F.slB R m hm r d
      have hB' := F.slB R m hm c d
      rw [sl_apply, col_eq m hm] at hB hB'
      have ec : (⟨128 * h.val + d, by omega⟩ : Fin 512) = hc h d := rfl
      rw [Blk.P_apply, e, ec, F.qs R, F.kk R, hB, hB', ← EReal.coe_sub, ← EReal.coe_zero, min_coe, Ideal.exp_coe,
        min_eq_left (sub_nonpos.mpr (cum_anti G.gR R.gR_nonpos _ d hle')), ← EReal.coe_mul, ← EReal.coe_mul, row_tok, row_tok]
    · have hle' : ¬ c.val ≤ r.val := hle
      rw [if_neg (by omega), if_neg hle, EReal.coe_zero]

/-- The next state of a member. -/
theorem Fed.next (s : EReal) (d : Fin 128) (e : Fin 256) (hs : s = ((G.state (T + 64 * (m / 4)) d e : ℝ) : EReal)) :
    s * D.T m (ix2 d 64) + (∑ x : Fin 64, D.T m (ix2 d ⟨x, by omega⟩) * D.V m (ix2 x e))
      = ((G.state (T + 64 * (m / 4) + 64) d e : ℝ) : EReal) := by
  unfold Blk.T
  have e64 := trOf_last (sl D.B m) (sl D.k m) d 0
  have ei : (⟨64 + (0 : Fin 64).val, by decide⟩ : Fin 128) = 64 := rfl
  rw [ei] at e64
  have hx : ∀ x : Fin 64, trOf (sl D.B m) (sl D.k m) (ix2 d ⟨x, by omega⟩) * D.V m (ix2 x e)
      = ((G.kR (T + 64 * (m / 4) + x) d * Real.exp (cum G.gR (T + 64 * (m / 4)) 63 d - cum G.gR (T + 64 * (m / 4)) x d)
        * G.vR (T + 64 * (m / 4) + x) e : ℝ) : EReal) := by
    intro x
    rw [trOf_key, F.slk R m hm, F.slB R m hm, F.slB R m hm, F.vv R m hm, ← EReal.coe_sub, Ideal.exp_coe, ← EReal.coe_mul, ← EReal.coe_mul]
    rfl
  rw [e64, F.slB R m hm, hs, Ideal.exp_coe, ← EReal.coe_mul]
  simp only [hx]
  rw [coe_sum, ← EReal.coe_add]
  exact congrArg _ (states_chunk G.gR G.kR G.vR (T + 64 * (m / 4)) d e)

omit hm
variable (hS : ∀ d e, D.state (ix3 h d e) = ((G.state T d e : ℝ) : EReal))
include hS

theorem Fed.st1 (d : Fin 128) (e : Fin 256) : st1 D.T D.V D.state (ix3 h d e) = ((G.state (T + 64) d e : ℝ) : EReal) := by
  have H := F.next R ⟨0 + h, by omega⟩ (by dsimp only; omega) (D.state (ix3 h d e)) d e
  have e0 : T + 64 * ((0 + h.val) / 4) = T := by omega
  dsimp only at H
  rw [e0] at H
  rw [st1_apply]
  exact H (hS d e)

theorem Fed.st2 (d : Fin 128) (e : Fin 256) : st2 D.T D.V D.state (ix3 h d e) = ((G.state (T + 128) d e : ℝ) : EReal) := by
  have H := F.next R ⟨4 + h, by omega⟩ (by dsimp only; omega) (Gla.st1 D.T D.V D.state (ix3 h d e)) d e
  have e0 : T + 64 * ((4 + h.val) / 4) = T + 64 := by omega
  dsimp only at H
  rw [e0] at H
  rw [st2_apply]
  exact H (F.st1 R hS d e)

theorem Fed.st3 (d : Fin 128) (e : Fin 256) : st3 D.T D.V D.state (ix3 h d e) = ((G.state (T + 192) d e : ℝ) : EReal) := by
  have H := F.next R ⟨8 + h, by omega⟩ (by dsimp only; omega) (Gla.st2 D.T D.V D.state (ix3 h d e)) d e
  have e0 : T + 64 * ((8 + h.val) / 4) = T + 128 := by omega
  dsimp only at H
  rw [e0] at H
  rw [st3_apply]
  exact H (F.st2 R hS d e)

/-- The state after the block is the state after its 256 tokens. -/
theorem Fed.st4 (d : Fin 128) (e : Fin 256) : st4 D.T D.V D.state (ix3 h d e) = ((G.state (T + 256) d e : ℝ) : EReal) := by
  have H := F.next R ⟨12 + h, by omega⟩ (by dsimp only; omega) (Gla.st3 D.T D.V D.state (ix3 h d e)) d e
  have e0 : T + 64 * ((12 + h.val) / 4) = T + 192 := by omega
  dsimp only at H
  rw [e0] at H
  rw [st4_apply]
  exact H (F.st3 R hS d e)

theorem Fed.sts (c : Fin 4) (d : Fin 128) (e : Fin 256) : D.sts c (ix3 h d e) = ((G.state (T + 64 * c) d e : ℝ) : EReal) := by
  fin_cases c
  · exact hS d e
  · exact F.st1 R hS d e
  · exact F.st2 R hS d e
  · exact F.st3 R hS d e

include hm in
/-- The outputs of a member are what the queries read from the states. -/
theorem Fed.out (r : Fin 64) (e : Fin 256) :
    D.out (ix3 m r e) = ((G.reads (T + 64 * (m / 4) + r) e : ℝ) : EReal) := by
  have hh : head m = h := Fin.ext hm
  unfold Blk.out
  rw [outs_apply, hh]
  have h1 : ∀ d : Fin 128, D.E m (ix2 r d) * D.sts ⟨m / 4, by omega⟩ (ix3 h d e)
      = ((G.qR (T + 64 * (m / 4) + r) d * Real.exp (cum G.gR (T + 64 * (m / 4)) r d) * G.state (T + 64 * (m / 4)) d e : ℝ) : EReal) := by
    intro d
    rw [F.E R m hm, F.sts R hS, ← EReal.coe_mul]
  have h2 : ∀ c : Fin 64, D.W (ix3 m r c) * D.V m (ix2 c e)
      = ((score G.gR G.qR G.kR (T + 64 * (m / 4)) r c * G.vR (T + 64 * (m / 4) + c) e : ℝ) : EReal) := by
    intro c
    rw [F.W R m hm, F.vv R m hm, ← EReal.coe_mul]
  simp only [h1, h2]
  rw [coe_sum, coe_sum, ← EReal.coe_add]
  exact congrArg _ (read_chunk G.gR G.qR G.kR G.vR (T + 64 * (m / 4)) r e)

end

end Cert.Kernel12Ideal.Gla
-- ==== Proof.GlaTiles.lean ====
module

public import proofs.«01_k».proof.Proof.Gen.Kernel12Ideal.Skeleton
public import proofs.«01_k».proof.Proof.GlaBlock
public import Idealize.ShloMosaic.Lib.Pointwise
public import Idealize.ShloMosaic.Lib.ValueIdx

/-!
The 16 tiles a block stores: each the outputs of one head in one chunk, normalised and gated.
-/

@[expose] public section

set_option maxRecDepth 16384

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

/-- The tiles, the last one first. -/
def tiles (E : Fin 16 → FVec Ideal S64x128 .f32) (W : FVec Ideal S16x64x64 .f32) (V : Fin 16 → FVec Ideal S64x256 .f32)
    (s : Fin 4 → FVec Ideal S4x128x256 .f32) (nw : Vec Ideal S1x256 .f32) (z : Vec Ideal S256x1024 .f32) :
    List (View.Piece (Elt Ideal) S256x1024 .bf16) :=
  let o : FVec Ideal S16x64x256 .f32 := (k0_pay469 (E 0) (E 1) (E 2) (E 3) (E 4) (E 5) (E 6) (E 7) (E 8) (E 9) (E 10) (E 11) (E 12) (E 13) (E 14) (E 15) W (k0_pay462 (V 0) (V 1) (V 2) (V 3) (V 4) (V 5) (V 6) (V 7) (V 8) (V 9) (V 10) (V 11) (V 12) (V 13) (V 14) (V 15)) (s 0) (s 1) (s 2) (s 3))
  [⟨Rect.unit ![192, 768] S64x256.size inb_S256x1024_S64x256_192_768, (k0_pay1 (k0_pay5 nw) (k0_pay496 o) (k0_pay497 z) (k0_pay498 o))⟩,
    ⟨Rect.unit ![192, 512] S64x256.size inb_S256x1024_S64x256_192_512, (k0_pay495 z (k0_pay5 nw) o)⟩,
    ⟨Rect.unit ![192, 256] S64x256.size inb_S256x1024_S64x256_192_256, (k0_pay494 z (k0_pay5 nw) o)⟩,
    ⟨Rect.unit ![192, 0] S64x256.size inb_S256x1024_S64x256_192_0, (k0_pay493 z (k0_pay5 nw) o)⟩,
    ⟨Rect.unit ![128, 768] S64x256.size inb_S256x1024_S64x256_128_768, (k0_pay492 z (k0_pay5 nw) o)⟩,
    ⟨Rect.unit ![128, 512] S64x256.size inb_S256x1024_S64x256_128_512, (k0_pay491 (k0_pay5 nw) (k0_pay488 o) (k0_pay489 z) (k0_pay490 o))⟩,
    ⟨Rect.unit ![128, 256] S64x256.size inb_S256x1024_S64x256_128_256, (k0_pay487 z (k0_pay5 nw) o)⟩,
    ⟨Rect.unit ![128, 0] S64x256.size inb_S256x1024_S64x256_128_0, (k0_pay486 (k0_pay5 nw) (k0_pay483 o) (k0_pay484 z) (k0_pay485 o))⟩,
    ⟨Rect.unit ![64, 768] S64x256.size inb_S256x1024_S64x256_64_768, (k0_pay482 z (k0_pay5 nw) o)⟩,
    ⟨Rect.unit ![64, 512] S64x256.size inb_S256x1024_S64x256_64_512, (k0_pay481 z (k0_pay5 nw) o)⟩,
    ⟨Rect.unit ![64, 256] S64x256.size inb_S256x1024_S64x256_64_256, (k0_pay480 z (k0_pay5 nw) o)⟩,
    ⟨Rect.unit ![64, 0] S64x256.size inb_S256x1024_S64x256_64_0, (k0_pay479 z (k0_pay5 nw) o)⟩,
    ⟨Rect.unit ![0, 768] S64x256.size inb_S256x1024_S64x256_0_768, (k0_pay478 (k0_pay5 nw) (k0_pay476 z) (k0_pay477 o))⟩,
    ⟨Rect.unit ![0, 512] S64x256.size inb_S256x1024_S64x256_0_512, (k0_pay475 z (k0_pay5 nw) o)⟩,
    ⟨Rect.unit ![0, 256] S64x256.size inb_S256x1024_S64x256_0_256, (k0_pay474 (k0_pay5 nw) (k0_pay471 (E 0) (E 1) (E 2) (E 3) (E 4) (E 5) (E 6) (E 7) (E 8) (E 9) (E 10) (E 11) (E 12) (E 13) (E 14) (E 15) W (k0_pay462 (V 0) (V 1) (V 2) (V 3) (V 4) (V 5) (V 6) (V 7) (V 8) (V 9) (V 10) (V 11) (V 12) (V 13) (V 14) (V 15)) (s 0) (s 1) (s 2) (s 3)) (k0_pay472 z) (k0_pay473 (E 0) (E 1) (E 2) (E 3) (E 4) (E 5) (E 6) (E 7) (E 8) (E 9) (E 10) (E 11) (E 12) (E 13) (E 14) (E 15) W (k0_pay462 (V 0) (V 1) (V 2) (V 3) (V 4) (V 5) (V 6) (V 7) (V 8) (V 9) (V 10) (V 11) (V 12) (V 13) (V 14) (V 15)) (s 0) (s 1) (s 2) (s 3)) (Scalar.ofBits .f32 0x43800000#32 : Ideal .f32))⟩,
    ⟨Rect.unit ![0, 0] S64x256.size inb_S256x1024_S64x256_0_0, (k0_pay470 z (k0_pay5 nw) (E 0) (E 1) (E 2) (E 3) (E 4) (E 5) (E 6) (E 7) (E 8) (E 9) (E 10) (E 11) (E 12) (E 13) (E 14) (E 15) W (k0_pay462 (V 0) (V 1) (V 2) (V 3) (V 4) (V 5) (V 6) (V 7) (V 8) (V 9) (V 10) (V 11) (V 12) (V 13) (V 14) (V 15)) (s 0) (s 1) (s 2) (s 3))⟩]

section
variable (o : FVec Ideal S16x64x256 .f32) (nw : Vec Ideal S1x256 .f32) (z : Vec Ideal S256x1024 .f32)

/-- The block of results at an index. -/
def blockAt (y : S256x1024.Idx) : EReal :=
  Cert.Gla.Head.gated (fun e => o (ix3 ⟨4 * ((y 0).val / 64) + (y 1).val / 256, by
        have := (y 0).isLt; change _ < 256 at this; have := (y 1).isLt; change _ < 1024 at this; omega⟩
      ⟨(y 0).val % 64, by omega⟩ e))
    (nw (ix2 0 ⟨(y 1).val % 256, by omega⟩)) (z y) ⟨(y 1).val % 256, by omega⟩

theorem blockAt_tile (c h : Fin 4) (r : Fin 64) (j : Fin 256) :
    blockAt o nw z (ix2 ⟨64 * c + r, by omega⟩ ⟨256 * h + j, by omega⟩)
      = Cert.Gla.Head.gated (fun e => o (ix3 ⟨4 * c + h, by omega⟩ r e)) (nw (ix2 0 j)) (z (ix2 ⟨64 * c + r, by omega⟩ ⟨256 * h + j, by omega⟩)) j := by
  have e1 : (⟨4 * ((64 * c.val + r.val) / 64) + (256 * h.val + j.val) / 256, by omega⟩ : Fin 16) = ⟨4 * c + h, by omega⟩ :=
    Fin.ext (by dsimp only; omega)
  have e3 : (⟨(64 * c.val + r.val) % 64, by omega⟩ : Fin 64) = r := Fin.ext (by dsimp only; omega)
  have e4 : (⟨(256 * h.val + j.val) % 256, by omega⟩ : Fin 256) = j := Fin.ext (by dsimp only; omega)
  show Cert.Gla.Head.gated (fun e => o (ix3 ⟨4 * ((64 * c.val + r.val) / 64) + (256 * h.val + j.val) / 256, _⟩ ⟨(64 * c.val + r.val) % 64, _⟩ e))
    (nw (ix2 0 ⟨(256 * h.val + j.val) % 256, _⟩)) (z (ix2 ⟨64 * c + r, by omega⟩ ⟨256 * h + j, by omega⟩))
    ⟨(256 * h.val + j.val) % 256, _⟩ = _
  rw [e1, e3, e4]

theorem tile_ok (c h : Fin 4) (w : S64x256.Idx → EReal) (off : Fin 2 → ℕ) (inb : ∀ a, off a + S64x256.size a ≤ S256x1024.size a)
    (h0 : off 0 = 64 * c) (h1 : off 1 = 256 * h)
    (hw : ∀ (r : Fin 64) (j : Fin 256), w (ix2 r j)
      = Cert.Gla.Head.gated (fun e => o (ix3 ⟨4 * c + h, by omega⟩ r e)) (nw (ix2 0 j)) (z (ix2 ⟨64 * c + r, by omega⟩ ⟨256 * h + j, by omega⟩)) j)
    (x : S64x256.Idx) :
    w x = blockAt o nw z ((Rect.unit (s := S256x1024) off S64x256.size inb).emb x) := by
  obtain ⟨r, j, rfl⟩ : ∃ r j, x = ix2 r j := ⟨x 0, x 1, by funext a; fin_cases a <;> rfl⟩
  rw [hw, ← blockAt_tile]
  congr 1
  funext a
  fin_cases a
  · apply Fin.ext
    rw [Rect.emb_apply]
    simp [h0]
  · apply Fin.ext
    rw [Rect.emb_apply]
    simp [h1]

end

set_option maxHeartbeats 4000000 in
theorem tiles_ok (E : Fin 16 → FVec Ideal S64x128 .f32) (W : FVec Ideal S16x64x64 .f32) (V : Fin 16 → FVec Ideal S64x256 .f32)
    (s : Fin 4 → FVec Ideal S4x128x256 .f32) (nw : Vec Ideal S1x256 .f32) (z : Vec Ideal S256x1024 .f32) :
    ∀ p ∈ tiles E W V s nw z, ∀ x, p.2 x = blockAt (outs E W V s) nw z (p.1.emb x) := by
  unfold tiles
  simp only [List.forall_mem_cons]
  refine ⟨tile_ok _ _ _ 3 3 _ _ _ rfl rfl ?_, tile_ok _ _ _ 3 2 _ _ _ rfl rfl ?_, tile_ok _ _ _ 3 1 _ _ _ rfl rfl ?_, tile_ok _ _ _ 3 0 _ _ _ rfl rfl ?_, tile_ok _ _ _ 2 3 _ _ _ rfl rfl ?_, tile_ok _ _ _ 2 2 _ _ _ rfl rfl ?_, tile_ok _ _ _ 2 1 _ _ _ rfl rfl ?_, tile_ok _ _ _ 2 0 _ _ _ rfl rfl ?_, tile_ok _ _ _ 1 3 _ _ _ rfl rfl ?_, tile_ok _ _ _ 1 2 _ _ _ rfl rfl ?_, tile_ok _ _ _ 1 1 _ _ _ rfl rfl ?_, tile_ok _ _ _ 1 0 _ _ _ rfl rfl ?_, tile_ok _ _ _ 0 3 _ _ _ rfl rfl ?_, tile_ok _ _ _ 0 2 _ _ _ rfl rfl ?_, tile_ok _ _ _ 0 1 _ _ _ rfl rfl ?_, tile_ok _ _ _ 0 0 _ _ _ rfl rfl ?_, fun p hp => absurd hp (List.not_mem_nil)⟩
  all_goals
    intro r j
    simp only [k0_pay1, k0_pay5, k0_pay462, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, outs, Cert.Gla.Head.gated, silu]
    pointwise
    try simp

end Cert.Kernel12Ideal.Gla
-- ==== Proof.GlaLoad.lean ====
module

public import proofs.«01_k».proof.Proof.Gen.Kernel12Ideal.Frame
public import proofs.«01_k».proof.Proof.GlaTiles
public import Idealize.ShloMosaic.Lib.Pipeline.ValueKit.Tiles
public import Idealize.ShloMosaic.Lib.Pointwise
public import Idealize.ShloMosaic.Lib.ValueIdx

/-!
The loads and stores of one block of the gated attention.
-/

@[expose] public section

set_option maxRecDepth 65536

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

theorem hz2 : (![0, 0] : Fin 2 → ℕ) = fun _ => 0 := by decide
theorem hz3 : (![0, 0, 0] : Fin 3 → ℕ) = fun _ => 0 := by decide

/-- A load of a whole buffer gives what it holds. -/
theorem load_whole {S : Shape} {t : EltTy} (arg : Memref sig .tc .vmem S t) (h : arg.IsWhole) {off : Fin S.rank → ℕ}
    (hz : off = fun _ => 0) (inb : ∀ a, off a + S.size a ≤ S.size a) (x : Vec Ideal S t) :
    View.readAt (Elt Ideal) arg.view (Rect.unit off S.size inb).toLoadRect (h.unread x) = x := by
  rw [View.readAt_eq_ld, h.read_unread, View.ld_unit_zero (S := S) hz]

theorem zeros_eq : (k0_pay2 (F := Ideal)) = fun _ => 0 := by
  funext y
  simp only [k0_pay2]
  pointwise

theorem keep_eq (s : FVec Ideal S4x128x256 .f32) : k0_pay468 s = s := by
  unfold k0_pay468
  dsimp only
  rw [shapeCast_self]

end Cert.Kernel12Ideal.Gla
-- ==== Proof.GlaRunA.lean ====
module

public import proofs.«01_k».proof.Proof.Gen.Kernel12Ideal.Frame
public import proofs.«01_k».proof.Proof.GlaLoad
public import Idealize.ShloMosaic.Lib.Pipeline.ValueKit.Tiles
public import Idealize.ShloMosaic.Lib.Pointwise
public import Idealize.ShloMosaic.Lib.ValueIdx

/-!
The first block: the state starts at zero.
-/

@[expose] public section

set_option maxRecDepth 65536

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

namespace CaseA

section
variable (c : Dev nD) (i : grid0.Coords)
  (arg2 : Memref sig .tc .vmem S256x512 .f32) (harg2 : arg2.IsWhole)
  (arg3 : Memref sig .tc .vmem S256x512 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x128 .f32) (harg6 : arg6.IsWhole)
  (arg7 : Memref sig .tc .vmem S128x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S256x1024 .bf16) (harg10 : arg10.IsWhole)
  (arg11 : Memref sig .tc .vmem S4x128x256 .f32) (harg11 : arg11.IsWhole)
  (x0 x1 : Vec Ideal S256x512 .f32) (x2 x3 : Vec Ideal S256x1024 .f32) (x4 : Vec Ideal S256x128 .f32) (x5 : Vec Ideal S128x512 .f32)
  (x6 : Vec Ideal S1x512 .f32) (x7 : Vec Ideal S1x256 .f32) (xs0 : Vec Ideal S4x128x256 .f32)

/-- The block. -/
def dA : Blk := ⟨x0, x1, x2, x4, x5, x6, fun _ => (0 : EReal)⟩

theorem state0 : (kernelRun0_A.sl.v2600 (F := Ideal) c arg11) = fun _ => (0 : EReal) := by
  unfold kernelRun0_A.sl.v2600 kernelRun0_A.sl.HS0_1
  rw [View.readCov_unit_zero (S := S4x128x256) _ hz3, zeros_eq]
  rfl

theorem k_eq : (kernelRun0_A.sl.r_2 (F := Ideal) c arg3 harg3 x1) = x1 := load_whole (S := S256x512) arg3 harg3 hz2 _ x1

theorem v_eq : (kernelRun0_A.sl.r_3 (F := Ideal) c arg4 harg4 x2) = x2 := load_whole (S := S256x1024) arg4 harg4 hz2 _ x2

theorem z_eq : (kernelRun0_A.sl.r_4 (F := Ideal) c arg5 harg5 x3) = x3 := load_whole (S := S256x1024) arg5 harg5 hz2 _ x3

theorem lg_eq : (kernelRun0_A.sl.r (F := Ideal) c arg6 harg6 arg7 harg7 arg8 harg8 x4 x5 x6) = (dA x0 x1 x2 x4 x5 x6).lg := by
  show k0_pay3 _ _ _ = _
  rw [load_whole (S := S256x128) arg6 harg6 hz2 _ x4, load_whole (S := S128x512) arg7 harg7 hz2 _ x5, load_whole (S := S1x512) arg8 harg8 hz2 _ x6]
  rfl

theorem qs_eq : (kernelRun0_A.sl.r_1 (F := Ideal) c arg2 harg2 x0) = (dA x0 x1 x2 x4 x5 x6).qs := by
  show k0_pay4 _ = _
  rw [load_whole (S := S256x512) arg2 harg2 hz2 _ x0]
  rfl

theorem b_eq : (kernelRun0_A.sl.r_6 (F := Ideal) c arg6 harg6 arg7 harg7 arg8 harg8 x4 x5 x6) = (dA x0 x1 x2 x4 x5 x6).B :=
  (show (kernelRun0_A.sl.r_6 (F := Ideal) c arg6 harg6 arg7 harg7 arg8 harg8 x4 x5 x6) = bcum (kernelRun0_A.sl.r (F := Ideal) c arg6 harg6 arg7 harg7 arg8 harg8 x4 x5 x6) from rfl).trans (by rw [lg_eq]; rfl)

theorem ob_eq : (kernelRun0_A.sl.r_7 (F := Ideal) c arg6 harg6 arg7 harg7 arg8 harg8 x4 x5 x6) = oct (dA x0 x1 x2 x4 x5 x6).B :=
  (show (kernelRun0_A.sl.r_7 (F := Ideal) c arg6 harg6 arg7 harg7 arg8 harg8 x4 x5 x6) = oct (bcum (kernelRun0_A.sl.r (F := Ideal) c arg6 harg6 arg7 harg7 arg8 harg8 x4 x5 x6)) from rfl).trans (by rw [lg_eq]; rfl)

theorem oq_eq : (kernelRun0_A.sl.r_10 (F := Ideal) c arg2 harg2 x0) = oct (dA x0 x1 x2 x4 x5 x6).qs :=
  (show (kernelRun0_A.sl.r_10 (F := Ideal) c arg2 harg2 x0) = oct (kernelRun0_A.sl.r_1 (F := Ideal) c arg2 harg2 x0) from rfl).trans (by rw [qs_eq])

theorem ok_eq : (kernelRun0_A.sl.r_11 (F := Ideal) c arg3 harg3 x1) = oct (dA x0 x1 x2 x4 x5 x6).k :=
  (show (kernelRun0_A.sl.r_11 (F := Ideal) c arg3 harg3 x1) = oct (kernelRun0_A.sl.r_2 (F := Ideal) c arg3 harg3 x1) from rfl).trans (by rw [k_eq]; rfl)

theorem qt_eq : (kernelRun0_A.sl.r_8 (F := Ideal) c arg2 harg2 arg6 harg6 arg7 harg7 arg8 harg8 x0 x4 x5 x6) = qt (dA x0 x1 x2 x4 x5 x6).lg (dA x0 x1 x2 x4 x5 x6).qs :=
  (show (kernelRun0_A.sl.r_8 (F := Ideal) c arg2 harg2 arg6 harg6 arg7 harg7 arg8 harg8 x0 x4 x5 x6) = qt (kernelRun0_A.sl.r (F := Ideal) c arg6 harg6 arg7 harg7 arg8 harg8 x4 x5 x6) (kernelRun0_A.sl.r_1 (F := Ideal) c arg2 harg2 x0) from rfl).trans (by rw [lg_eq, qs_eq])

theorem qe_eq : (kernelRun0_A.sl.r_9 (F := Ideal) c arg2 harg2 arg6 harg6 arg7 harg7 arg8 harg8 x0 x4 x5 x6) = qe (dA x0 x1 x2 x4 x5 x6).lg (dA x0 x1 x2 x4 x5 x6).qs :=
  (show (kernelRun0_A.sl.r_9 (F := Ideal) c arg2 harg2 arg6 harg6 arg7 harg7 arg8 harg8 x0 x4 x5 x6) = qe (kernelRun0_A.sl.r (F := Ideal) c arg6 harg6 arg7 harg7 arg8 harg8 x4 x5 x6) (kernelRun0_A.sl.r_1 (F := Ideal) c arg2 harg2 x0) from rfl).trans (by rw [lg_eq, qs_eq])

theorem p0_eq : (kernelRun0_A.sl.r_13 (F := Ideal) c arg2 harg2 arg3 harg3 arg6 harg6 arg7 harg7 arg8 harg8 x0 x1 x4 x5 x6) = (dA x0 x1 x2 x4 x5 x6).P 0 :=
  (show (kernelRun0_A.sl.r_13 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 0 from rfl).trans (by rw [ob_eq, oq_eq, ok_eq]; rfl)

theorem p1_eq : (kernelRun0_A.sl.r_20 (F := Ideal) c arg2 harg2 arg3 harg3 arg6 harg6 arg7 harg7 arg8 harg8 x0 x1 x4 x5 x6) = (dA x0 x1 x2 x4 x5 x6).P 1 :=
  (show (kernelRun0_A.sl.r_20 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 1 from rfl).trans (by rw [ob_eq, oq_eq, ok_eq]; rfl)

theorem p2_eq : (kernelRun0_A.sl.r_25 (F := Ideal) c arg2 harg2 arg3 harg3 arg6 harg6 arg7 harg7 arg8 harg8 x0 x1 x4 x5 x6) = (dA x0 x1 x2 x4 x5 x6).P 2 :=
  (show (kernelRun0_A.sl.r_25 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 2 from rfl).trans (by rw [ob_eq, oq_eq, ok_eq]; rfl)

theorem p3_eq : (kernelRun0_A.sl.r_32 (F := Ideal) c arg2 harg2 arg3 harg3 arg6 harg6 arg7 harg7 arg8 harg8 x0 x1 x4 x5 x6) = (dA x0 x1 x2 x4 x5 x6).P 3 :=
  (show (kernelRun0_A.sl.r_32 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 3 from rfl).trans (by rw [ob_eq, oq_eq, ok_eq]; rfl)

theorem p4_eq : (kernelRun0_A.sl.r_37 (F := Ideal) c arg2 harg2 arg3 harg3 arg6 harg6 arg7 harg7 arg8 harg8 x0 x1 x4 x5 x6) = (dA x0 x1 x2 x4 x5 x6).P 4 :=
  (show (kernelRun0_A.sl.r_37 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 4 from rfl).trans (by rw [ob_eq, oq_eq, ok_eq]; rfl)

theorem p5_eq : (kernelRun0_A.sl.r_44 (F := Ideal) c arg2 harg2 arg3 harg3 arg6 harg6 arg7 harg7 arg8 harg8 x0 x1 x4 x5 x6) = (dA x0 x1 x2 x4 x5 x6).P 5 :=
  (show (kernelRun0_A.sl.r_44 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 5 from rfl).trans (by rw [ob_eq, oq_eq, ok_eq]; rfl)

theorem p6_eq : (kernelRun0_A.sl.r_49 (F := Ideal) c arg2 harg2 arg3 harg3 arg6 harg6 arg7 harg7 arg8 harg8 x0 x1 x4 x5 x6) = (dA x0 x1 x2 x4 x5 x6).P 6 :=
  (show (kernelRun0_A.sl.r_49 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 6 from rfl).trans (by rw [ob_eq, oq_eq, ok_eq]; rfl)

theorem p7_eq : (kernelRun0_A.sl.r_56 (F := Ideal) c arg2 harg2 arg3 harg3 arg6 harg6 arg7 harg7 arg8 harg8 x0 x1 x4 x5 x6) = (dA x0 x1 x2 x4 x5 x6).P 7 :=
  (show (kernelRun0_A.sl.r_56 (F := Ideal) c arg2 harg2 arg3 harg3 arg6 harg6 arg7 harg7 arg8 harg8 x0 x1 x4 x5 x6) = prods (kernelRun0_A.sl.r_7 (F := Ideal) c arg6 harg6 arg7 harg7 arg8 harg8 x4 x5 x6) (kernelRun0_A.sl.r_10 (F := Ideal) c arg2 harg2 x0) (kernelRun0_A.sl.r_11 (F := Ideal) c arg3 harg3 x1) 7 from rfl).trans (by rw [ob_eq, oq_eq, ok_eq]; rfl)

theorem d0_eq : (kernelRun0_A.sl.r_57 (F := Ideal) c arg2 harg2 arg3 harg3 arg6 harg6 arg7 harg7 arg8 harg8 x0 x1 x4 x5 x6) = (dA x0 x1 x2 x4 x5 x6).dg 0 :=
  (show (kernelRun0_A.sl.r_57 (F := Ideal) c arg2 harg2 arg3 harg3 arg6 harg6 arg7 harg7 arg8 harg8 x0 x1 x4 x5 x6) = diag0 same (kernelRun0_A.sl.r_13 (F := Ideal) c arg2 harg2 arg3 harg3 arg6 harg6 arg7 harg7 arg8 harg8 x0 x1 x4 x5 x6) (kernelRun0_A.sl.r_20 (F := Ideal) c arg2 harg2 arg3 harg3 arg6 harg6 arg7 harg7 arg8 harg8 x0 x1 x4 x5 x6) (kernelRun0_A.sl.r_25 (F := Ideal) c arg2 harg2 arg3 harg3 arg6 harg6 arg7 harg7 arg8 harg8 x0 x1 x4 x5 x6) (kernelRun0_A.sl.r_32 (F := Ideal) c arg2 harg2 arg3 harg3 arg6 harg6 arg7 harg7 arg8 harg8 x0 x1 x4 x5 x6) (kernelRun0_A.sl.r_37 (F := Ideal) c arg2 harg2 arg3 harg3 arg6 harg6 arg7 harg7 arg8 harg8 x0 x1 x4 x5 x6) (kernelRun0_A.sl.r_44 (F := Ideal) c arg2 harg2 arg3 harg3 arg6 harg6 arg7 harg7 arg8 harg8 x0 x1 x4 x5 x6) (kernelRun0_A.sl.r_49 (F := Ideal) c arg2 harg2 arg3 harg3 arg6 harg6 arg7 harg7 arg8 harg8 x0 x1 x4 x5 x6) (kernelRun0_A.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

theorem d1_eq : (kernelRun0_A.sl.r_58 (F := Ideal) c arg2 harg2 arg3 harg3 arg6 harg6 arg7 harg7 arg8 harg8 x0 x1 x4 x5 x6) = (dA x0 x1 x2 x4 x5 x6).dg 1 :=
  (show (kernelRun0_A.sl.r_58 (F := Ideal) c arg2 harg2 arg3 harg3 arg6 harg6 arg7 harg7 arg8 harg8 x0 x1 x4 x5 x6) = diag1 same (kernelRun0_A.sl.r_13 (F := Ideal) c arg2 harg2 arg3 harg3 arg6 harg6 arg7 harg7 arg8 harg8 x0 x1 x4 x5 x6) (kernelRun0_A.sl.r_20 (F := Ideal) c arg2 harg2 arg3 harg3 arg6 harg6 arg7 harg7 arg8 harg8 x0 x1 x4 x5 x6) (kernelRun0_A.sl.r_25 (F := Ideal) c arg2 harg2 arg3 harg3 arg6 harg6 arg7 harg7 arg8 harg8 x0 x1 x4 x5 x6) (kernelRun0_A.sl.r_32 (F := Ideal) c arg2 harg2 arg3 harg3 arg6 harg6 arg7 harg7 arg8 harg8 x0 x1 x4 x5 x6) (kernelRun0_A.sl.r_37 (F := Ideal) c arg2 harg2 arg3 harg3 arg6 harg6 arg7 harg7 arg8 harg8 x0 x1 x4 x5 x6) (kernelRun0_A.sl.r_44 (F := Ideal) c arg2 harg2 arg3 harg3 arg6 harg6 arg7 harg7 arg8 harg8 x0 x1 x4 x5 x6) (kernelRun0_A.sl.r_49 (F := Ideal) c arg2 harg2 arg3 harg3 arg6 harg6 arg7 harg7 arg8 harg8 x0 x1 x4 x5 x6) (kernelRun0_A.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

theorem d2_eq : (kernelRun0_A.sl.r_59 (F := Ideal) c arg2 harg2 arg3 harg3 arg6 harg6 arg7 harg7 arg8 harg8 x0 x1 x4 x5 x6) = (dA x0 x1 x2 x4 x5 x6).dg 2 :=
  (show (kernelRun0_A.sl.r_59 (F := Ideal) c arg2 harg2 arg3 harg3 arg6 harg6 arg7 harg7 arg8 harg8 x0 x1 x4 x5 x6) = diag2 same (kernelRun0_A.sl.r_13 (F := Ideal) c arg2 harg2 arg3 harg3 arg6 harg6 arg7 harg7 arg8 harg8 x0 x1 x4 x5 x6) (kernelRun0_A.sl.r_20 (F := Ideal) c arg2 harg2 arg3 harg3 arg6 harg6 arg7 harg7 arg8 harg8 x0 x1 x4 x5 x6) (kernelRun0_A.sl.r_25 (F := Ideal) c arg2 harg2 arg3 harg3 arg6 harg6 arg7 harg7 arg8 harg8 x0 x1 x4 x5 x6) (kernelRun0_A.sl.r_32 (F := Ideal) c arg2 harg2 arg3 harg3 arg6 harg6 arg7 harg7 arg8 harg8 x0 x1 x4 x5 x6) (kernelRun0_A.sl.r_37 (F := Ideal) c arg2 harg2 arg3 harg3 arg6 harg6 arg7 harg7 arg8 harg8 x0 x1 x4 x5 x6) (kernelRun0_A.sl.r_44 (F := Ideal) c arg2 harg2 arg3 harg3 arg6 harg6 arg7 harg7 arg8 harg8 x0 x1 x4 x5 x6) (kernelRun0_A.sl.r_49 (F := Ideal) c arg2 harg2 arg3 harg3 arg6 harg6 arg7 harg7 arg8 harg8 x0 x1 x4 x5 x6) (kernelRun0_A.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

theorem d3_eq : (kernelRun0_A.sl.r_60 (F := Ideal) c arg2 harg2 arg3 harg3 arg6 harg6 arg7 harg7 arg8 harg8 x0 x1 x4 x5 x6) = (dA x0 x1 x2 x4 x5 x6).dg 3 :=
  (show (kernelRun0_A.sl.r_60 (F := Ideal) c arg2 harg2 arg3 harg3 arg6 harg6 arg7 harg7 arg8 harg8 x0 x1 x4 x5 x6) = diag3 same (kernelRun0_A.sl.r_13 (F := Ideal) c arg2 harg2 arg3 harg3 arg6 harg6 arg7 harg7 arg8 harg8 x0 x1 x4 x5 x6) (kernelRun0_A.sl.r_20 (F := Ideal) c arg2 harg2 arg3 harg3 arg6 harg6 arg7 harg7 arg8 harg8 x0 x1 x4 x5 x6) (kernelRun0_A.sl.r_25 (F := Ideal) c arg2 harg2 arg3 harg3 arg6 harg6 arg7 harg7 arg8 harg8 x0 x1 x4 x5 x6) (kernelRun0_A.sl.r_32 (F := Ideal) c arg2 harg2 arg3 harg3 arg6 harg6 arg7 harg7 arg8 harg8 x0 x1 x4 x5 x6) (kernelRun0_A.sl.r_37 (F := Ideal) c arg2 harg2 arg3 harg3 arg6 harg6 arg7 harg7 arg8 harg8 x0 x1 x4 x5 x6) (kernelRun0_A.sl.r_44 (F := Ideal) c arg2 harg2 arg3 harg3 arg6 harg6 arg7 harg7 arg8 harg8 x0 x1 x4 x5 x6) (kernelRun0_A.sl.r_49 (F := Ideal) c arg2 harg2 arg3 harg3 arg6 harg6 arg7 harg7 arg8 harg8 x0 x1 x4 x5 x6) (kernelRun0_A.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

set_option maxHeartbeats 4000000 in
theorem w_eq : (kernelRun0_A.sl.r_401 (F := Ideal) c arg2 harg2 arg3 harg3 arg6 harg6 arg7 harg7 arg8 harg8 x0 x1 x4 x5 x6) = (dA x0 x1 x2 x4 x5 x6).W :=
  (show (kernelRun0_A.sl.r_401 (F := Ideal) c arg2 harg2 arg3 harg3 arg6 harg6 arg7 harg7 arg8 harg8 x0 x1 x4 x5 x6) = scores (fun m => lhsOf (sl (kernelRun0_A.sl.r_8 (F := Ideal) c arg2 harg2 arg6 harg6 arg7 harg7 arg8 harg8 x0 x4 x5 x6) m)) (fun m => rhsOf (sl (kernelRun0_A.sl.r_6 (F := Ideal) c arg6 harg6 arg7 harg7 arg8 harg8 x4 x5 x6) m) (sl (kernelRun0_A.sl.r_2 (F := Ideal) c arg3 harg3 x1) m)) (fun m => dl ![(kernelRun0_A.sl.r_57 (F := Ideal) c arg2 harg2 arg3 harg3 arg6 harg6 arg7 harg7 arg8 harg8 x0 x1 x4 x5 x6), (kernelRun0_A.sl.r_58 (F := Ideal) c arg2 harg2 arg3 harg3 arg6 harg6 arg7 harg7 arg8 harg8 x0 x1 x4 x5 x6), (kernelRun0_A.sl.r_59 (F := Ideal) c arg2 harg2 arg3 harg3 arg6 harg6 arg7 harg7 arg8 harg8 x0 x1 x4 x5 x6), (kernelRun0_A.sl.r_60 (F := Ideal) c arg2 harg2 arg3 harg3 arg6 harg6 arg7 harg7 arg8 harg8 x0 x1 x4 x5 x6)] m) from rfl).trans (by rw [qt_eq, b_eq, k_eq, d0_eq, d1_eq, d2_eq, d3_eq]; exact congrArg (fun z => scores _ _ (fun m => dl z m)) (by funext h; fin_cases h <;> rfl))

set_option maxHeartbeats 4000000 in
theorem st1_eq : (kernelRun0_A.sl.r_411 (F := Ideal) c arg3 harg3 arg4 harg4 arg6 harg6 arg7 harg7 arg8 harg8 arg11 x1 x2 x4 x5 x6) = st1 (dA x0 x1 x2 x4 x5 x6).T (dA x0 x1 x2 x4 x5 x6).V (dA x0 x1 x2 x4 x5 x6).state :=
  (show (kernelRun0_A.sl.r_411 (F := Ideal) c arg3 harg3 arg4 harg4 arg6 harg6 arg7 harg7 arg8 harg8 arg11 x1 x2 x4 x5 x6) = st1 (fun m => trOf (sl (kernelRun0_A.sl.r_6 (F := Ideal) c arg6 harg6 arg7 harg7 arg8 harg8 x4 x5 x6) m) (sl (kernelRun0_A.sl.r_2 (F := Ideal) c arg3 harg3 x1) m)) (fun m => vl (kernelRun0_A.sl.r_3 (F := Ideal) c arg4 harg4 x2) m) (kernelRun0_A.sl.v2600 (F := Ideal) c arg11) from rfl).trans (by rw [b_eq, k_eq, v_eq, state0]; rfl)

set_option maxHeartbeats 4000000 in
theorem st2_eq : (kernelRun0_A.sl.r_412 (F := Ideal) c arg3 harg3 arg4 harg4 arg6 harg6 arg7 harg7 arg8 harg8 arg11 x1 x2 x4 x5 x6) = st2 (dA x0 x1 x2 x4 x5 x6).T (dA x0 x1 x2 x4 x5 x6).V (dA x0 x1 x2 x4 x5 x6).state :=
  (show (kernelRun0_A.sl.r_412 (F := Ideal) c arg3 harg3 arg4 harg4 arg6 harg6 arg7 harg7 arg8 harg8 arg11 x1 x2 x4 x5 x6) = st2 (fun m => trOf (sl (kernelRun0_A.sl.r_6 (F := Ideal) c arg6 harg6 arg7 harg7 arg8 harg8 x4 x5 x6) m) (sl (kernelRun0_A.sl.r_2 (F := Ideal) c arg3 harg3 x1) m)) (fun m => vl (kernelRun0_A.sl.r_3 (F := Ideal) c arg4 harg4 x2) m) (kernelRun0_A.sl.v2600 (F := Ideal) c arg11) from rfl).trans (by rw [b_eq, k_eq, v_eq, state0]; rfl)

set_option maxHeartbeats 4000000 in
theorem st3_eq : (kernelRun0_A.sl.r_413 (F := Ideal) c arg3 harg3 arg4 harg4 arg6 harg6 arg7 harg7 arg8 harg8 arg11 x1 x2 x4 x5 x6) = st3 (dA x0 x1 x2 x4 x5 x6).T (dA x0 x1 x2 x4 x5 x6).V (dA x0 x1 x2 x4 x5 x6).state :=
  (show (kernelRun0_A.sl.r_413 (F := Ideal) c arg3 harg3 arg4 harg4 arg6 harg6 arg7 harg7 arg8 harg8 arg11 x1 x2 x4 x5 x6) = st3 (fun m => trOf (sl (kernelRun0_A.sl.r_6 (F := Ideal) c arg6 harg6 arg7 harg7 arg8 harg8 x4 x5 x6) m) (sl (kernelRun0_A.sl.r_2 (F := Ideal) c arg3 harg3 x1) m)) (fun m => vl (kernelRun0_A.sl.r_3 (F := Ideal) c arg4 harg4 x2) m) (kernelRun0_A.sl.v2600 (F := Ideal) c arg11) from rfl).trans (by rw [b_eq, k_eq, v_eq, state0]; rfl)

set_option maxHeartbeats 4000000 in
theorem st4_eq : (kernelRun0_A.sl.r_414 (F := Ideal) c arg3 harg3 arg4 harg4 arg6 harg6 arg7 harg7 arg8 harg8 arg11 x1 x2 x4 x5 x6) = st4 (dA x0 x1 x2 x4 x5 x6).T (dA x0 x1 x2 x4 x5 x6).V (dA x0 x1 x2 x4 x5 x6).state :=
  (show (kernelRun0_A.sl.r_414 (F := Ideal) c arg3 harg3 arg4 harg4 arg6 harg6 arg7 harg7 arg8 harg8 arg11 x1 x2 x4 x5 x6) = st4 (fun m => trOf (sl (kernelRun0_A.sl.r_6 (F := Ideal) c arg6 harg6 arg7 harg7 arg8 harg8 x4 x5 x6) m) (sl (kernelRun0_A.sl.r_2 (F := Ideal) c arg3 harg3 x1) m)) (fun m => vl (kernelRun0_A.sl.r_3 (F := Ideal) c arg4 harg4 x2) m) (kernelRun0_A.sl.v2600 (F := Ideal) c arg11) from rfl).trans (by rw [b_eq, k_eq, v_eq, state0]; rfl)

variable (hc0 : cond0_0 i)

theorem state : sout0_A_0 c i arg2 harg2 arg3 harg3 arg4 harg4 arg5 harg5 arg6 harg6 arg7 harg7 arg8 harg8 arg9 harg9 arg10 harg10 arg11 harg11 hc0 x0 x1 x2 x3 x4 x5 x6 x7 = st4 (dA x0 x1 x2 x4 x5 x6).T (dA x0 x1 x2 x4 x5 x6).V (dA x0 x1 x2 x4 x5 x6).state := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  rw [View.canon_cons_unit_zero (S := S4x128x256) hz3, keep_eq, st4_eq]

set_option maxHeartbeats 4000000 in
theorem tiles_eq : (kernelRun0_A (F := Ideal) c i arg2 harg2 arg3 harg3 arg4 harg4 arg5 harg5 arg6 harg6 arg7 harg7 arg8 harg8 arg9 harg9 arg10 harg10 arg11 harg11 hc0 x0 x1 x2 x3 x4 x5 x6 x7).1
    = tiles (dA x0 x1 x2 x4 x5 x6).E (dA x0 x1 x2 x4 x5 x6).W (dA x0 x1 x2 x4 x5 x6).V (dA x0 x1 x2 x4 x5 x6).sts x7 x3 :=
  (show (kernelRun0_A (F := Ideal) c i arg2 harg2 arg3 harg3 arg4 harg4 arg5 harg5 arg6 harg6 arg7 harg7 arg8 harg8 arg9 harg9 arg10 harg10 arg11 harg11 hc0 x0 x1 x2 x3 x4 x5 x6 x7).1 = tiles (fun m => sl (kernelRun0_A.sl.r_9 (F := Ideal) c arg2 harg2 arg6 harg6 arg7 harg7 arg8 harg8 x0 x4 x5 x6) m) (kernelRun0_A.sl.r_401 (F := Ideal) c arg2 harg2 arg3 harg3 arg6 harg6 arg7 harg7 arg8 harg8 x0 x1 x4 x5 x6) (fun m => vl (kernelRun0_A.sl.r_3 (F := Ideal) c arg4 harg4 x2) m) ![(kernelRun0_A.sl.v2600 (F := Ideal) c arg11), (kernelRun0_A.sl.r_411 (F := Ideal) c arg3 harg3 arg4 harg4 arg6 harg6 arg7 harg7 arg8 harg8 arg11 x1 x2 x4 x5 x6), (kernelRun0_A.sl.r_412 (F := Ideal) c arg3 harg3 arg4 harg4 arg6 harg6 arg7 harg7 arg8 harg8 arg11 x1 x2 x4 x5 x6), (kernelRun0_A.sl.r_413 (F := Ideal) c arg3 harg3 arg4 harg4 arg6 harg6 arg7 harg7 arg8 harg8 arg11 x1 x2 x4 x5 x6)] (View.readAt (Elt Ideal) arg9.view (Rect.unit ![0, 0] S1x256.size inb_S1x256_S1x256_0_0).toLoadRect (harg9.unread x7)) (kernelRun0_A.sl.r_4 (F := Ideal) c arg5 harg5 x3) from rfl).trans
    (by rw [qe_eq, w_eq, v_eq, state0, st1_eq, st2_eq, st3_eq, load_whole (S := S1x256) arg9 harg9 hz2 _ x7, z_eq]; rfl)

theorem out (y : S256x1024.Idx) : out0_A_8 c i arg2 harg2 arg3 harg3 arg4 harg4 arg5 harg5 arg6 harg6 arg7 harg7 arg8 harg8 arg9 harg9 arg10 harg10 arg11 harg11 hc0 x0 x1 x2 x3 x4 x5 x6 x7 y = blockAt (dA x0 x1 x2 x4 x5 x6).out x7 x3 y := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7), tiles_eq]
  refine (View.canon_apply_of_pieces _ _ (tiles_ok _ _ _ _ _ _) y ?_).trans ?_
  · have h := cover0_A_8 (F := Ideal) c i arg2 harg2 arg3 harg3 arg4 harg4 arg5 harg5 arg6 harg6 arg7 harg7 arg8 harg8 arg9 harg9 arg10 harg10 arg11 harg11 hc0 x0 x1 x2 x3 x4 x5 x6 x7 y
    rwa [tiles_eq] at h
  · rfl

end

end CaseA

end Cert.Kernel12Ideal.Gla
-- ==== Proof.GlaRunB.lean ====
module

public import proofs.«01_k».proof.Proof.Gen.Kernel12Ideal.Frame
public import proofs.«01_k».proof.Proof.GlaLoad
public import Idealize.ShloMosaic.Lib.Pipeline.ValueKit.Tiles
public import Idealize.ShloMosaic.Lib.Pointwise
public import Idealize.ShloMosaic.Lib.ValueIdx

/-!
A later block: the state is the one the block before left.
-/

@[expose] public section

set_option maxRecDepth 65536

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

namespace CaseB

section
variable (c : Dev nD) (i : grid0.Coords)
  (arg2 : Memref sig .tc .vmem S256x512 .f32) (harg2 : arg2.IsWhole)
  (arg3 : Memref sig .tc .vmem S256x512 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x128 .f32) (harg6 : arg6.IsWhole)
  (arg7 : Memref sig .tc .vmem S128x512 .f32) (harg7 : arg7.IsWhole)
  (arg8 : Memref sig .tc .vmem S1x512 .f32) (harg8 : arg8.IsWhole)
  (arg9 : Memref sig .tc .vmem S1x256 .f32) (harg9 : arg9.IsWhole)
  (arg10 : Memref sig .tc .vmem S256x1024 .bf16) (harg10 : arg10.IsWhole)
  (arg11 : Memref sig .tc .vmem S4x128x256 .f32) (harg11 : arg11.IsWhole)
  (x0 x1 : Vec Ideal S256x512 .f32) (x2 x3 : Vec Ideal S256x1024 .f32) (x4 : Vec Ideal S256x128 .f32) (x5 : Vec Ideal S128x512 .f32)
  (x6 : Vec Ideal S1x512 .f32) (x7 : Vec Ideal S1x256 .f32) (xs0 : Vec Ideal S4x128x256 .f32)

/-- The block. -/
def dB : Blk := ⟨x0, x1, x2, x4, x5, x6, xs0⟩

theorem state0 : (kernelRun0_B.sl.r_411 (F := Ideal) c arg11 harg11 xs0) = xs0 := load_whole (S := S4x128x256) arg11 harg11 hz3 _ xs0

theorem k_eq : (kernelRun0_B.sl.r_2 (F := Ideal) c arg3 harg3 x1) = x1 := load_whole (S := S256x512) arg3 harg3 hz2 _ x1

theorem v_eq : (kernelRun0_B.sl.r_3 (F := Ideal) c arg4 harg4 x2) = x2 := load_whole (S := S256x1024) arg4 harg4 hz2 _ x2

theorem z_eq : (kernelRun0_B.sl.r_4 (F := Ideal) c arg5 harg5 x3) = x3 := load_whole (S := S256x1024) arg5 harg5 hz2 _ x3

theorem lg_eq : (kernelRun0_B.sl.r (F := Ideal) c arg6 harg6 arg7 harg7 arg8 harg8 x4 x5 x6) = (dB x0 x1 x2 x4 x5 x6 xs0).lg := by
  show k0_pay3 _ _ _ = _
  rw [load_whole (S := S256x128) arg6 harg6 hz2 _ x4, load_whole (S := S128x512) arg7 harg7 hz2 _ x5, load_whole (S := S1x512) arg8 harg8 hz2 _ x6]
  rfl

theorem qs_eq : (kernelRun0_B.sl.r_1 (F := Ideal) c arg2 harg2 x0) = (dB x0 x1 x2 x4 x5 x6 xs0).qs := by
  show k0_pay4 _ = _
  rw [load_whole (S := S256x512) arg2 harg2 hz2 _ x0]
  rfl

theorem b_eq : (kernelRun0_B.sl.r_6 (F := Ideal) c arg6 harg6 arg7 harg7 arg8 harg8 x4 x5 x6) = (dB x0 x1 x2 x4 x5 x6 xs0).B :=
  (show (kernelRun0_B.sl.r_6 (F := Ideal) c arg6 harg6 arg7 harg7 arg8 harg8 x4 x5 x6) = bcum (kernelRun0_B.sl.r (F := Ideal) c arg6 harg6 arg7 harg7 arg8 harg8 x4 x5 x6) from rfl).trans (by rw [lg_eq]; rfl)

theorem ob_eq : (kernelRun0_B.sl.r_7 (F := Ideal) c arg6 harg6 arg7 harg7 arg8 harg8 x4 x5 x6) = oct (dB x0 x1 x2 x4 x5 x6 xs0).B :=
  (show (kernelRun0_B.sl.r_7 (F := Ideal) c arg6 harg6 arg7 harg7 arg8 harg8 x4 x5 x6) = oct (bcum (kernelRun0_B.sl.r (F := Ideal) c arg6 harg6 arg7 harg7 arg8 harg8 x4 x5 x6)) from rfl).trans (by rw [lg_eq]; rfl)

theorem oq_eq : (kernelRun0_B.sl.r_10 (F := Ideal) c arg2 harg2 x0) = oct (dB x0 x1 x2 x4 x5 x6 xs0).qs :=
  (show (kernelRun0_B.sl.r_10 (F := Ideal) c arg2 harg2 x0) = oct (kernelRun0_B.sl.r_1 (F := Ideal) c arg2 harg2 x0) from rfl).trans (by rw [qs_eq])

theorem ok_eq : (kernelRun0_B.sl.r_11 (F := Ideal) c arg3 harg3 x1) = oct (dB x0 x1 x2 x4 x5 x6 xs0).k :=
  (show (kernelRun0_B.sl.r_11 (F := Ideal) c arg3 harg3 x1) = oct (kernelRun0_B.sl.r_2 (F := Ideal) c arg3 harg3 x1) from rfl).trans (by rw [k_eq]; rfl)

theorem qt_eq : (kernelRun0_B.sl.r_8 (F := Ideal) c arg2 harg2 arg6 harg6 arg7 harg7 arg8 harg8 x0 x4 x5 x6) = qt (dB x0 x1 x2 x4 x5 x6 xs0).lg (dB x0 x1 x2 x4 x5 x6 xs0).qs :=
  (show (kernelRun0_B.sl.r_8 (F := Ideal) c arg2 harg2 arg6 harg6 arg7 harg7 arg8 harg8 x0 x4 x5 x6) = qt (kernelRun0_B.sl.r (F := Ideal) c arg6 harg6 arg7 harg7 arg8 harg8 x4 x5 x6) (kernelRun0_B.sl.r_1 (F := Ideal) c arg2 harg2 x0) from rfl).trans (by rw [lg_eq, qs_eq])

theorem qe_eq : (kernelRun0_B.sl.r_9 (F := Ideal) c arg2 harg2 arg6 harg6 arg7 harg7 arg8 harg8 x0 x4 x5 x6) = qe (dB x0 x1 x2 x4 x5 x6 xs0).lg (dB x0 x1 x2 x4 x5 x6 xs0).qs :=
  (show (kernelRun0_B.sl.r_9 (F := Ideal) c arg2 harg2 arg6 harg6 arg7 harg7 arg8 harg8 x0 x4 x5 x6) = qe (kernelRun0_B.sl.r (F := Ideal) c arg6 harg6 arg7 harg7 arg8 harg8 x4 x5 x6) (kernelRun0_B.sl.r_1 (F := Ideal) c arg2 harg2 x0) from rfl).trans (by rw [lg_eq, qs_eq])

theorem p0_eq : (kernelRun0_B.sl.r_13 (F := Ideal) c arg2 harg2 arg3 harg3 arg6 harg6 arg7 harg7 arg8 harg8 x0 x1 x4 x5 x6) = (dB x0 x1 x2 x4 x5 x6 xs0).P 0 :=
  (show (kernelRun0_B.sl.r_13 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 0 from rfl).trans (by rw [ob_eq, oq_eq, ok_eq]; rfl)

theorem p1_eq : (kernelRun0_B.sl.r_20 (F := Ideal) c arg2 harg2 arg3 harg3 arg6 harg6 arg7 harg7 arg8 harg8 x0 x1 x4 x5 x6) = (dB x0 x1 x2 x4 x5 x6 xs0).P 1 :=
  (show (kernelRun0_B.sl.r_20 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 1 from rfl).trans (by rw [ob_eq, oq_eq, ok_eq]; rfl)

theorem p2_eq : (kernelRun0_B.sl.r_25 (F := Ideal) c arg2 harg2 arg3 harg3 arg6 harg6 arg7 harg7 arg8 harg8 x0 x1 x4 x5 x6) = (dB x0 x1 x2 x4 x5 x6 xs0).P 2 :=
  (show (kernelRun0_B.sl.r_25 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 2 from rfl).trans (by rw [ob_eq, oq_eq, ok_eq]; rfl)

theorem p3_eq : (kernelRun0_B.sl.r_32 (F := Ideal) c arg2 harg2 arg3 harg3 arg6 harg6 arg7 harg7 arg8 harg8 x0 x1 x4 x5 x6) = (dB x0 x1 x2 x4 x5 x6 xs0).P 3 :=
  (show (kernelRun0_B.sl.r_32 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 3 from rfl).trans (by rw [ob_eq, oq_eq, ok_eq]; rfl)

theorem p4_eq : (kernelRun0_B.sl.r_37 (F := Ideal) c arg2 harg2 arg3 harg3 arg6 harg6 arg7 harg7 arg8 harg8 x0 x1 x4 x5 x6) = (dB x0 x1 x2 x4 x5 x6 xs0).P 4 :=
  (show (kernelRun0_B.sl.r_37 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 4 from rfl).trans (by rw [ob_eq, oq_eq, ok_eq]; rfl)

theorem p5_eq : (kernelRun0_B.sl.r_44 (F := Ideal) c arg2 harg2 arg3 harg3 arg6 harg6 arg7 harg7 arg8 harg8 x0 x1 x4 x5 x6) = (dB x0 x1 x2 x4 x5 x6 xs0).P 5 :=
  (show (kernelRun0_B.sl.r_44 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 5 from rfl).trans (by rw [ob_eq, oq_eq, ok_eq]; rfl)

theorem p6_eq : (kernelRun0_B.sl.r_49 (F := Ideal) c arg2 harg2 arg3 harg3 arg6 harg6 arg7 harg7 arg8 harg8 x0 x1 x4 x5 x6) = (dB x0 x1 x2 x4 x5 x6 xs0).P 6 :=
  (show (kernelRun0_B.sl.r_49 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 6 from rfl).trans (by rw [ob_eq, oq_eq, ok_eq]; rfl)

theorem p7_eq : (kernelRun0_B.sl.r_56 (F := Ideal) c arg2 harg2 arg3 harg3 arg6 harg6 arg7 harg7 arg8 harg8 x0 x1 x4 x5 x6) = (dB x0 x1 x2 x4 x5 x6 xs0).P 7 :=
  (show (kernelRun0_B.sl.r_56 (F := Ideal) c arg2 harg2 arg3 harg3 arg6 harg6 arg7 harg7 arg8 harg8 x0 x1 x4 x5 x6) = prods (kernelRun0_B.sl.r_7 (F := Ideal) c arg6 harg6 arg7 harg7 arg8 harg8 x4 x5 x6) (kernelRun0_B.sl.r_10 (F := Ideal) c arg2 harg2 x0) (kernelRun0_B.sl.r_11 (F := Ideal) c arg3 harg3 x1) 7 from rfl).trans (by rw [ob_eq, oq_eq, ok_eq]; rfl)

theorem d0_eq : (kernelRun0_B.sl.r_57 (F := Ideal) c arg2 harg2 arg3 harg3 arg6 harg6 arg7 harg7 arg8 harg8 x0 x1 x4 x5 x6) = (dB x0 x1 x2 x4 x5 x6 xs0).dg 0 :=
  (show (kernelRun0_B.sl.r_57 (F := Ideal) c arg2 harg2 arg3 harg3 arg6 harg6 arg7 harg7 arg8 harg8 x0 x1 x4 x5 x6) = diag0 same (kernelRun0_B.sl.r_13 (F := Ideal) c arg2 harg2 arg3 harg3 arg6 harg6 arg7 harg7 arg8 harg8 x0 x1 x4 x5 x6) (kernelRun0_B.sl.r_20 (F := Ideal) c arg2 harg2 arg3 harg3 arg6 harg6 arg7 harg7 arg8 harg8 x0 x1 x4 x5 x6) (kernelRun0_B.sl.r_25 (F := Ideal) c arg2 harg2 arg3 harg3 arg6 harg6 arg7 harg7 arg8 harg8 x0 x1 x4 x5 x6) (kernelRun0_B.sl.r_32 (F := Ideal) c arg2 harg2 arg3 harg3 arg6 harg6 arg7 harg7 arg8 harg8 x0 x1 x4 x5 x6) (kernelRun0_B.sl.r_37 (F := Ideal) c arg2 harg2 arg3 harg3 arg6 harg6 arg7 harg7 arg8 harg8 x0 x1 x4 x5 x6) (kernelRun0_B.sl.r_44 (F := Ideal) c arg2 harg2 arg3 harg3 arg6 harg6 arg7 harg7 arg8 harg8 x0 x1 x4 x5 x6) (kernelRun0_B.sl.r_49 (F := Ideal) c arg2 harg2 arg3 harg3 arg6 harg6 arg7 harg7 arg8 harg8 x0 x1 x4 x5 x6) (kernelRun0_B.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

theorem d1_eq : (kernelRun0_B.sl.r_58 (F := Ideal) c arg2 harg2 arg3 harg3 arg6 harg6 arg7 harg7 arg8 harg8 x0 x1 x4 x5 x6) = (dB x0 x1 x2 x4 x5 x6 xs0).dg 1 :=
  (show (kernelRun0_B.sl.r_58 (F := Ideal) c arg2 harg2 arg3 harg3 arg6 harg6 arg7 harg7 arg8 harg8 x0 x1 x4 x5 x6) = diag1 same (kernelRun0_B.sl.r_13 (F := Ideal) c arg2 harg2 arg3 harg3 arg6 harg6 arg7 harg7 arg8 harg8 x0 x1 x4 x5 x6) (kernelRun0_B.sl.r_20 (F := Ideal) c arg2 harg2 arg3 harg3 arg6 harg6 arg7 harg7 arg8 harg8 x0 x1 x4 x5 x6) (kernelRun0_B.sl.r_25 (F := Ideal) c arg2 harg2 arg3 harg3 arg6 harg6 arg7 harg7 arg8 harg8 x0 x1 x4 x5 x6) (kernelRun0_B.sl.r_32 (F := Ideal) c arg2 harg2 arg3 harg3 arg6 harg6 arg7 harg7 arg8 harg8 x0 x1 x4 x5 x6) (kernelRun0_B.sl.r_37 (F := Ideal) c arg2 harg2 arg3 harg3 arg6 harg6 arg7 harg7 arg8 harg8 x0 x1 x4 x5 x6) (kernelRun0_B.sl.r_44 (F := Ideal) c arg2 harg2 arg3 harg3 arg6 harg6 arg7 harg7 arg8 harg8 x0 x1 x4 x5 x6) (kernelRun0_B.sl.r_49 (F := Ideal) c arg2 harg2 arg3 harg3 arg6 harg6 arg7 harg7 arg8 harg8 x0 x1 x4 x5 x6) (kernelRun0_B.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

theorem d2_eq : (kernelRun0_B.sl.r_59 (F := Ideal) c arg2 harg2 arg3 harg3 arg6 harg6 arg7 harg7 arg8 harg8 x0 x1 x4 x5 x6) = (dB x0 x1 x2 x4 x5 x6 xs0).dg 2 :=
  (show (kernelRun0_B.sl.r_59 (F := Ideal) c arg2 harg2 arg3 harg3 arg6 harg6 arg7 harg7 arg8 harg8 x0 x1 x4 x5 x6) = diag2 same (kernelRun0_B.sl.r_13 (F := Ideal) c arg2 harg2 arg3 harg3 arg6 harg6 arg7 harg7 arg8 harg8 x0 x1 x4 x5 x6) (kernelRun0_B.sl.r_20 (F := Ideal) c arg2 harg2 arg3 harg3 arg6 harg6 arg7 harg7 arg8 harg8 x0 x1 x4 x5 x6) (kernelRun0_B.sl.r_25 (F := Ideal) c arg2 harg2 arg3 harg3 arg6 harg6 arg7 harg7 arg8 harg8 x0 x1 x4 x5 x6) (kernelRun0_B.sl.r_32 (F := Ideal) c arg2 harg2 arg3 harg3 arg6 harg6 arg7 harg7 arg8 harg8 x0 x1 x4 x5 x6) (kernelRun0_B.sl.r_37 (F := Ideal) c arg2 harg2 arg3 harg3 arg6 harg6 arg7 harg7 arg8 harg8 x0 x1 x4 x5 x6) (kernelRun0_B.sl.r_44 (F := Ideal) c arg2 harg2 arg3 harg3 arg6 harg6 arg7 harg7 arg8 harg8 x0 x1 x4 x5 x6) (kernelRun0_B.sl.r_49 (F := Ideal) c arg2 harg2 arg3 harg3 arg6 harg6 arg7 harg7 arg8 harg8 x0 x1 x4 x5 x6) (kernelRun0_B.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

theorem d3_eq : (kernelRun0_B.sl.r_60 (F := Ideal) c arg2 harg2 arg3 harg3 arg6 harg6 arg7 harg7 arg8 harg8 x0 x1 x4 x5 x6) = (dB x0 x1 x2 x4 x5 x6 xs0).dg 3 :=
  (show (kernelRun0_B.sl.r_60 (F := Ideal) c arg2 harg2 arg3 harg3 arg6 harg6 arg7 harg7 arg8 harg8 x0 x1 x4 x5 x6) = diag3 same (kernelRun0_B.sl.r_13 (F := Ideal) c arg2 harg2 arg3 harg3 arg6 harg6 arg7 harg7 arg8 harg8 x0 x1 x4 x5 x6) (kernelRun0_B.sl.r_20 (F := Ideal) c arg2 harg2 arg3 harg3 arg6 harg6 arg7 harg7 arg8 harg8 x0 x1 x4 x5 x6) (kernelRun0_B.sl.r_25 (F := Ideal) c arg2 harg2 arg3 harg3 arg6 harg6 arg7 harg7 arg8 harg8 x0 x1 x4 x5 x6) (kernelRun0_B.sl.r_32 (F := Ideal) c arg2 harg2 arg3 harg3 arg6 harg6 arg7 harg7 arg8 harg8 x0 x1 x4 x5 x6) (kernelRun0_B.sl.r_37 (F := Ideal) c arg2 harg2 arg3 harg3 arg6 harg6 arg7 harg7 arg8 harg8 x0 x1 x4 x5 x6) (kernelRun0_B.sl.r_44 (F := Ideal) c arg2 harg2 arg3 harg3 arg6 harg6 arg7 harg7 arg8 harg8 x0 x1 x4 x5 x6) (kernelRun0_B.sl.r_49 (F := Ideal) c arg2 harg2 arg3 harg3 arg6 harg6 arg7 harg7 arg8 harg8 x0 x1 x4 x5 x6) (kernelRun0_B.sl.r_56 (F := Ideal) c arg2 harg2 arg3 harg3 arg6 harg6 arg7 harg7 arg8 harg8 x0 x1 x4 x5 x6) from rfl).trans (by rw [p0_eq, p1_eq, p2_eq, p3_eq, p4_eq, p5_eq, p6_eq, p7_eq]; rfl)

set_option maxHeartbeats 4000000 in
theorem w_eq : (kernelRun0_B.sl.r_401 (F := Ideal) c arg2 harg2 arg3 harg3 arg6 harg6 arg7 harg7 arg8 harg8 x0 x1 x4 x5 x6) = (dB x0 x1 x2 x4 x5 x6 xs0).W :=
  (show (kernelRun0_B.sl.r_401 (F := Ideal) c arg2 harg2 arg3 harg3 arg6 harg6 arg7 harg7 arg8 harg8 x0 x1 x4 x5 x6) = scores (fun m => lhsOf (sl (kernelRun0_B.sl.r_8 (F := Ideal) c arg2 harg2 arg6 harg6 arg7 harg7 arg8 harg8 x0 x4 x5 x6) m)) (fun m => rhsOf (sl (kernelRun0_B.sl.r_6 (F := Ideal) c arg6 harg6 arg7 harg7 arg8 harg8 x4 x5 x6) m) (sl (kernelRun0_B.sl.r_2 (F := Ideal) c arg3 harg3 x1) m)) (fun m => dl ![(kernelRun0_B.sl.r_57 (F := Ideal) c arg2 harg2 arg3 harg3 arg6 harg6 arg7 harg7 arg8 harg8 x0 x1 x4 x5 x6), (kernelRun0_B.sl.r_58 (F := Ideal) c arg2 harg2 arg3 harg3 arg6 harg6 arg7 harg7 arg8 harg8 x0 x1 x4 x5 x6), (kernelRun0_B.sl.r_59 (F := Ideal) c arg2 harg2 arg3 harg3 arg6 harg6 arg7 harg7 arg8 harg8 x0 x1 x4 x5 x6), (kernelRun0_B.sl.r_60 (F := Ideal) c arg2 harg2 arg3 harg3 arg6 harg6 arg7 harg7 arg8 harg8 x0 x1 x4 x5 x6)] m) from rfl).trans (by rw [qt_eq, b_eq, k_eq, d0_eq, d1_eq, d2_eq, d3_eq]; exact congrArg (fun z => scores _ _ (fun m => dl z m)) (by funext h; fin_cases h <;> rfl))

set_option maxHeartbeats 4000000 in
theorem st1_eq : (kernelRun0_B.sl.r_412 (F := Ideal) c arg3 harg3 arg4 harg4 arg6 harg6 arg7 harg7 arg8 harg8 arg11 harg11 x1 x2 x4 x5 x6 xs0) = st1 (dB x0 x1 x2 x4 x5 x6 xs0).T (dB x0 x1 x2 x4 x5 x6 xs0).V (dB x0 x1 x2 x4 x5 x6 xs0).state :=
  (show (kernelRun0_B.sl.r_412 (F := Ideal) c arg3 harg3 arg4 harg4 arg6 harg6 arg7 harg7 arg8 harg8 arg11 harg11 x1 x2 x4 x5 x6 xs0) = st1 (fun m => trOf (sl (kernelRun0_B.sl.r_6 (F := Ideal) c arg6 harg6 arg7 harg7 arg8 harg8 x4 x5 x6) m) (sl (kernelRun0_B.sl.r_2 (F := Ideal) c arg3 harg3 x1) m)) (fun m => vl (kernelRun0_B.sl.r_3 (F := Ideal) c arg4 harg4 x2) m) (kernelRun0_B.sl.r_411 (F := Ideal) c arg11 harg11 xs0) from rfl).trans (by rw [b_eq, k_eq, v_eq, state0]; rfl)

set_option maxHeartbeats 4000000 in
theorem st2_eq : (kernelRun0_B.sl.r_413 (F := Ideal) c arg3 harg3 arg4 harg4 arg6 harg6 arg7 harg7 arg8 harg8 arg11 harg11 x1 x2 x4 x5 x6 xs0) = st2 (dB x0 x1 x2 x4 x5 x6 xs0).T (dB x0 x1 x2 x4 x5 x6 xs0).V (dB x0 x1 x2 x4 x5 x6 xs0).state :=
  (show (kernelRun0_B.sl.r_413 (F := Ideal) c arg3 harg3 arg4 harg4 arg6 harg6 arg7 harg7 arg8 harg8 arg11 harg11 x1 x2 x4 x5 x6 xs0) = st2 (fun m => trOf (sl (kernelRun0_B.sl.r_6 (F := Ideal) c arg6 harg6 arg7 harg7 arg8 harg8 x4 x5 x6) m) (sl (kernelRun0_B.sl.r_2 (F := Ideal) c arg3 harg3 x1) m)) (fun m => vl (kernelRun0_B.sl.r_3 (F := Ideal) c arg4 harg4 x2) m) (kernelRun0_B.sl.r_411 (F := Ideal) c arg11 harg11 xs0) from rfl).trans (by rw [b_eq, k_eq, v_eq, state0]; rfl)

set_option maxHeartbeats 4000000 in
theorem st3_eq : (kernelRun0_B.sl.r_414 (F := Ideal) c arg3 harg3 arg4 harg4 arg6 harg6 arg7 harg7 arg8 harg8 arg11 harg11 x1 x2 x4 x5 x6 xs0) = st3 (dB x0 x1 x2 x4 x5 x6 xs0).T (dB x0 x1 x2 x4 x5 x6 xs0).V (dB x0 x1 x2 x4 x5 x6 xs0).state :=
  (show (kernelRun0_B.sl.r_414 (F := Ideal) c arg3 harg3 arg4 harg4 arg6 harg6 arg7 harg7 arg8 harg8 arg11 harg11 x1 x2 x4 x5 x6 xs0) = st3 (fun m => trOf (sl (kernelRun0_B.sl.r_6 (F := Ideal) c arg6 harg6 arg7 harg7 arg8 harg8 x4 x5 x6) m) (sl (kernelRun0_B.sl.r_2 (F := Ideal) c arg3 harg3 x1) m)) (fun m => vl (kernelRun0_B.sl.r_3 (F := Ideal) c arg4 harg4 x2) m) (kernelRun0_B.sl.r_411 (F := Ideal) c arg11 harg11 xs0) from rfl).trans (by rw [b_eq, k_eq, v_eq, state0]; rfl)

set_option maxHeartbeats 4000000 in
theorem st4_eq : (kernelRun0_B.sl.r_415 (F := Ideal) c arg3 harg3 arg4 harg4 arg6 harg6 arg7 harg7 arg8 harg8 arg11 harg11 x1 x2 x4 x5 x6 xs0) = st4 (dB x0 x1 x2 x4 x5 x6 xs0).T (dB x0 x1 x2 x4 x5 x6 xs0).V (dB x0 x1 x2 x4 x5 x6 xs0).state :=
  (show (kernelRun0_B.sl.r_415 (F := Ideal) c arg3 harg3 arg4 harg4 arg6 harg6 arg7 harg7 arg8 harg8 arg11 harg11 x1 x2 x4 x5 x6 xs0) = st4 (fun m => trOf (sl (kernelRun0_B.sl.r_6 (F := Ideal) c arg6 harg6 arg7 harg7 arg8 harg8 x4 x5 x6) m) (sl (kernelRun0_B.sl.r_2 (F := Ideal) c arg3 harg3 x1) m)) (fun m => vl (kernelRun0_B.sl.r_3 (F := Ideal) c arg4 harg4 x2) m) (kernelRun0_B.sl.r_411 (F := Ideal) c arg11 harg11 xs0) from rfl).trans (by rw [b_eq, k_eq, v_eq, state0]; rfl)

variable (hc0 : ¬cond0_0 i)

theorem state : sout0_B_0 c i arg2 harg2 arg3 harg3 arg4 harg4 arg5 harg5 arg6 harg6 arg7 harg7 arg8 harg8 arg9 harg9 arg10 harg10 arg11 harg11 hc0 x0 x1 x2 x3 x4 x5 x6 x7 xs0 = st4 (dB x0 x1 x2 x4 x5 x6 xs0).T (dB x0 x1 x2 x4 x5 x6 xs0).V (dB x0 x1 x2 x4 x5 x6 xs0).state := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  rw [View.canon_unit_zero (S := S4x128x256) hz3, keep_eq, st4_eq]

set_option maxHeartbeats 4000000 in
theorem tiles_eq : (kernelRun0_B (F := Ideal) c i arg2 harg2 arg3 harg3 arg4 harg4 arg5 harg5 arg6 harg6 arg7 harg7 arg8 harg8 arg9 harg9 arg10 harg10 arg11 harg11 hc0 x0 x1 x2 x3 x4 x5 x6 x7 xs0).1
    = tiles (dB x0 x1 x2 x4 x5 x6 xs0).E (dB x0 x1 x2 x4 x5 x6 xs0).W (dB x0 x1 x2 x4 x5 x6 xs0).V (dB x0 x1 x2 x4 x5 x6 xs0).sts x7 x3 :=
  (show (kernelRun0_B (F := Ideal) c i arg2 harg2 arg3 harg3 arg4 harg4 arg5 harg5 arg6 harg6 arg7 harg7 arg8 harg8 arg9 harg9 arg10 harg10 arg11 harg11 hc0 x0 x1 x2 x3 x4 x5 x6 x7 xs0).1 = tiles (fun m => sl (kernelRun0_B.sl.r_9 (F := Ideal) c arg2 harg2 arg6 harg6 arg7 harg7 arg8 harg8 x0 x4 x5 x6) m) (kernelRun0_B.sl.r_401 (F := Ideal) c arg2 harg2 arg3 harg3 arg6 harg6 arg7 harg7 arg8 harg8 x0 x1 x4 x5 x6) (fun m => vl (kernelRun0_B.sl.r_3 (F := Ideal) c arg4 harg4 x2) m) ![(kernelRun0_B.sl.r_411 (F := Ideal) c arg11 harg11 xs0), (kernelRun0_B.sl.r_412 (F := Ideal) c arg3 harg3 arg4 harg4 arg6 harg6 arg7 harg7 arg8 harg8 arg11 harg11 x1 x2 x4 x5 x6 xs0), (kernelRun0_B.sl.r_413 (F := Ideal) c arg3 harg3 arg4 harg4 arg6 harg6 arg7 harg7 arg8 harg8 arg11 harg11 x1 x2 x4 x5 x6 xs0), (kernelRun0_B.sl.r_414 (F := Ideal) c arg3 harg3 arg4 harg4 arg6 harg6 arg7 harg7 arg8 harg8 arg11 harg11 x1 x2 x4 x5 x6 xs0)] (View.readAt (Elt Ideal) arg9.view (Rect.unit ![0, 0] S1x256.size inb_S1x256_S1x256_0_0).toLoadRect (harg9.unread x7)) (kernelRun0_B.sl.r_4 (F := Ideal) c arg5 harg5 x3) from rfl).trans
    (by rw [qe_eq, w_eq, v_eq, state0, st1_eq, st2_eq, st3_eq, load_whole (S := S1x256) arg9 harg9 hz2 _ x7, z_eq]; rfl)

theorem out (y : S256x1024.Idx) : out0_B_8 c i arg2 harg2 arg3 harg3 arg4 harg4 arg5 harg5 arg6 harg6 arg7 harg7 arg8 harg8 arg9 harg9 arg10 harg10 arg11 harg11 hc0 x0 x1 x2 x3 x4 x5 x6 x7 xs0 y = blockAt (dB x0 x1 x2 x4 x5 x6 xs0).out x7 x3 y := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0), tiles_eq]
  refine (View.canon_apply_of_pieces _ _ (tiles_ok _ _ _ _ _ _) y ?_).trans ?_
  · have h := cover0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0 y
    rwa [tiles_eq] at h
  · rfl

end

end CaseB

end Cert.Kernel12Ideal.Gla
-- ==== Proof.GlaWindows.lean ====
module

public import proofs.«01_k».proof.Proof.Gen.Kernel12Ideal.Value
public import proofs.«01_k».proof.Proof.GlaLayer
public import Idealize.ShloMosaic.Lib.Pointwise
public import Idealize.ShloMosaic.Lib.ValueIdx

/-!
What each window holds at a grid point, in terms of the arguments.
-/

@[expose] public section

set_option maxRecDepth 16384
set_option maxHeartbeats 1000000

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

variable (m : (ℓ : Loc nD τ sig) → Buf (Elt Ideal) ℓ)

abbrev argPa (c : Dev nD) (t : Fin 8192) (j : Fin 7168) : EReal := m ((c : Thread nD τ).loc main_arg0) (ix2 t j)
abbrev argSm (c : Dev nD) (t : Fin 8192) (j : Fin 128) : EReal := m ((c : Thread nD τ).loc main_arg1) (ix2 t j)
abbrev argW (c : Dev nD) (i : Fin 16) (j : Fin 512) : EReal := m ((c : Thread nD τ).loc main_arg2) (ix3 (0 : Fin 2) i j)
abbrev argB (c : Dev nD) (j : Fin 512) : EReal := m ((c : Thread nD τ).loc main_arg3) (ix2 (0 : Fin 2) j)
abbrev argNw (c : Dev nD) (j : Fin 256) : EReal := m ((c : Thread nD τ).loc main_arg4) (ix1 j)

/-- The low-rank weights the launch reads: the argument's rows among rows of zeros. -/
def padded (x : FVec Ideal S2x16x512 .f32) : FVec Ideal S128x512 .f32 :=
  pad S128x512 ![32, 0] ![80, 0] ![0, 0]
    (shapeCast S16x512 (extractStridedSlice S1x16x512 ![0, 0, 0] x slices_S2x16x512_S1x16x512_0_0_0) shapeCasts_S1x16x512_S16x512)
    (sitofp .f32 (constantI S_ 32 0#32)) pads_S16x512_S128x512_32800_000 h_S_

theorem padded_in (x : FVec Ideal S2x16x512 .f32) (i : Fin 16) (j : Fin 512) :
    padded x (ix2 (⟨32 + i, by omega⟩ : Fin 128) j) = x (ix3 (0 : Fin 2) i j) := by
  unfold padded
  pointwise

theorem padded_out (x : FVec Ideal S2x16x512 .f32) (n : Fin 128) (hn : ¬(32 ≤ n.val ∧ n.val < 48)) (j : Fin 512) :
    padded x (ix2 n j) = 0 := by
  unfold padded
  pointwise
  rw [dif_neg fun h => hn ?_]
  · show (((0#32 : BitVec 32).toInt : ℝ) : EReal) = 0
    simp
  · omega

theorem V_main_v2 (c : Dev nD) : V m c main_v2 = padded (m ((c : Thread nD τ).loc main_arg2)) := rfl

/-- Only the argument's rows count in a product with them. -/
theorem sum_padded (f : Fin 128 → EReal) (hf : ∀ n : Fin 128, ¬(32 ≤ n.val ∧ n.val < 48) → f n = 0) :
    (∑ n, f n) = ∑ i : Fin 16, f ⟨32 + i, by omega⟩ := by
  refine (Finset.sum_of_injOn (fun i : Fin 16 => (⟨32 + i, by omega⟩ : Fin 128)) ?_ (fun _ _ => Finset.mem_coe.2 (Finset.mem_univ _)) ?_
    fun _ _ => rfl).symm
  · intro i _ i' _ h
    have := Fin.ext_iff.1 h
    dsimp only at this
    exact Fin.ext (by omega)
  · intro n _ hn
    refine hf n fun h => hn ⟨⟨n - 32, by omega⟩, Finset.mem_coe.2 (Finset.mem_univ _), Fin.ext (by dsimp only; omega)⟩

theorem V_main_v5 (c : Dev nD) (j : Fin 512) : V m c main_v5 (ix2 (0 : Fin 1) j) = argB m c j := by
  have e : (shapeCast S1x512 (shapeCast S512 (extractStridedSlice S1x512 ![0, 0] (m ((c : Thread nD τ).loc main_arg3)) slices_S2x512_S1x512_0_0)
      shapeCasts_S1x512_S512 : FVec Ideal S512 .f32) shapeCasts_S512_S1x512 : FVec Ideal S1x512 .f32) (ix2 (0 : Fin 1) j) = argB m c j := by
    pointwise
  exact e

theorem V_main_v6 (c : Dev nD) (j : Fin 256) : V m c main_v6 (ix2 (0 : Fin 1) j) = argNw m c j := by
  have e : (shapeCast S1x256 (m ((c : Thread nD τ).loc main_arg4)) shapeCasts_S256_S1x256 : FVec Ideal S1x256 .f32) (ix2 (0 : Fin 1) j)
      = argNw m c j := by
    pointwise
  exact e

/-- Where each window's block lies. -/
theorem idx_facts : ∀ t : Fin cfg0.N,
    (win0_0.index t 0 = t ∧ win0_0.index t 1 = 8) ∧ (win0_1.index t 0 = t ∧ win0_1.index t 1 = 9)
    ∧ (win0_2.index t 0 = t ∧ win0_2.index t 1 = 5) ∧ (win0_3.index t 0 = t ∧ win0_3.index t 1 = 6)
    ∧ (win0_4.index t 0 = t ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

theorem N32 (t : Fin cfg0.N) : t.val < 32 := lt_of_lt_of_eq t.isLt (show cfg0.N = 32 from N_0)

/-! The windows of the projections, of the small columns, and of the parameters. -/

theorem blk0 (c : Dev nD) (t : Fin cfg0.N) (r : Fin 256) (j : Fin 512) :
    iblk m c 0 t (ix2 r j) = argPa m c ⟨256 * t.val + r.val, by have := N32 t; omega⟩ ⟨4096 + j.val, by omega⟩ := by
  have hN := N32 t
  obtain ⟨⟨h0, h1⟩, -⟩ := idx_facts t
  unfold iblk
  rw [View.read_apply]
  refine Eq.trans (b := V m c main_arg0 (ix2 (⟨256 * t.val + r.val, by omega⟩ : Fin 8192) (⟨4096 + j.val, by omega⟩ : Fin 7168))) (congrArg (V m c main_arg0) ?_) (congrFun (V_main_arg0 m c) _)
  funext a
  apply Fin.ext
  match a with
  | ⟨0, _⟩ => show win0_0.index t 0 * 256 + 1 * (r.val) = 256 * t.val + r.val; rw [h0]; omega
  | ⟨1, _⟩ => show win0_0.index t 1 * 512 + 1 * (j.val) = 4096 + j.val; rw [h1]; omega

theorem blk1 (c : Dev nD) (t : Fin cfg0.N) (r : Fin 256) (j : Fin 512) :
    iblk m c 1 t (ix2 r j) = argPa m c ⟨256 * t.val + r.val, by have := N32 t; omega⟩ ⟨4608 + j.val, by omega⟩ := by
  have hN := N32 t
  obtain ⟨-, ⟨h0, h1⟩, -⟩ := idx_facts t
  unfold iblk
  rw [View.read_apply]
  refine Eq.trans (b := V m c main_arg0 (ix2 (⟨256 * t.val + r.val, by omega⟩ : Fin 8192) (⟨4608 + j.val, by omega⟩ : Fin 7168))) (congrArg (V m c main_arg0) ?_) (congrFun (V_main_arg0 m c) _)
  funext a
  apply Fin.ext
  match a with
  | ⟨0, _⟩ => show win0_1.index t 0 * 256 + 1 * (r.val) = 256 * t.val + r.val; rw [h0]; omega
  | ⟨1, _⟩ => show win0_1.index t 1 * 512 + 1 * (j.val) = 4608 + j.val; rw [h1]; omega

theorem blk2 (c : Dev nD) (t : Fin cfg0.N) (r : Fin 256) (j : Fin 1024) :
    iblk m c 2 t (ix2 r j) = argPa m c ⟨256 * t.val + r.val, by have := N32 t; omega⟩ ⟨5120 + j.val, by omega⟩ := by
  have hN := N32 t
  obtain ⟨-, -, ⟨h0, h1⟩, -⟩ := idx_facts t
  unfold iblk
  rw [View.read_apply]
  refine Eq.trans (b := V m c main_arg0 (ix2 (⟨256 * t.val + r.val, by omega⟩ : Fin 8192) (⟨5120 + j.val, by omega⟩ : Fin 7168))) (congrArg (V m c main_arg0) ?_) (congrFun (V_main_arg0 m c) _)
  funext a
  apply Fin.ext
  match a with
  | ⟨0, _⟩ => show win0_2.index t 0 * 256 + 1 * (r.val) = 256 * t.val + r.val; rw [h0]; omega
  | ⟨1, _⟩ => show win0_2.index t 1 * 1024 + 1 * (j.val) = 5120 + j.val; rw [h1]; omega

theorem blk3 (c : Dev nD) (t : Fin cfg0.N) (r : Fin 256) (j : Fin 1024) :
    iblk m c 3 t (ix2 r j) = argPa m c ⟨256 * t.val + r.val, by have := N32 t; omega⟩ ⟨6144 + j.val, by omega⟩ := by
  have hN := N32 t
  obtain ⟨-, -, -, ⟨h0, h1⟩, -⟩ := idx_facts t
  unfold iblk
  rw [View.read_apply]
  refine Eq.trans (b := V m c main_arg0 (ix2 (⟨256 * t.val + r.val, by omega⟩ : Fin 8192) (⟨6144 + j.val, by omega⟩ : Fin 7168))) (congrArg (V m c main_arg0) ?_) (congrFun (V_main_arg0 m c) _)
  funext a
  apply Fin.ext
  match a with
  | ⟨0, _⟩ => show win0_3.index t 0 * 256 + 1 * (r.val) = 256 * t.val + r.val; rw [h0]; omega
  | ⟨1, _⟩ => show win0_3.index t 1 * 1024 + 1 * (j.val) = 6144 + j.val; rw [h1]; omega

theorem blk4 (c : Dev nD) (t : Fin cfg0.N) (r : Fin 256) (j : Fin 128) :
    iblk m c 4 t (ix2 r j) = argSm m c ⟨256 * t.val + r.val, by have := N32 t; omega⟩ j := by
  have hN := N32 t
  obtain ⟨-, -, -, -, ⟨h0, h1⟩, -⟩ := idx_facts t
  unfold iblk
  rw [View.read_apply]
  refine Eq.trans (b := V m c main_arg1 (ix2 (⟨256 * t.val + r.val, by omega⟩ : Fin 8192) j)) (congrArg (V m c main_arg1) ?_) (congrFun (V_main_arg1 m c) _)
  funext a
  apply Fin.ext
  match a with
  | ⟨0, _⟩ => show win0_4.index t 0 * 256 + 1 * (r.val) = 256 * t.val + r.val; rw [h0]; omega
  | ⟨1, _⟩ => show win0_4.index t 1 * 128 + 1 * (j.val) = j.val; rw [h1]; omega

theorem blk5 (c : Dev nD) (t : Fin cfg0.N) (x : Fin 128) (j : Fin 512) :
    iblk m c 5 t (ix2 x j) = V m c main_v2 (ix2 x j) := by
  have hN := N32 t
  obtain ⟨-, -, -, -, -, ⟨h0, h1⟩, -⟩ := idx_facts t
  unfold iblk
  rw [View.read_apply]
  refine Eq.trans (b := V m c main_v2 (ix2 x j)) (congrArg (V m c main_v2) ?_) rfl
  funext a
  apply Fin.ext
  match a with
  | ⟨0, _⟩ => show win0_5.index t 0 * 128 + 1 * (x.val) = x.val; rw [h0]; omega
  | ⟨1, _⟩ => show win0_5.index t 1 * 512 + 1 * (j.val) = j.val; rw [h1]; omega

theorem blk6 (c : Dev nD) (t : Fin cfg0.N) (j : Fin 512) :
    iblk m c 6 t (ix2 (0 : Fin 1) j) = argB m c j := by
  have hN := N32 t
  obtain ⟨-, -, -, -, -, -, ⟨h0, h1⟩, -⟩ := idx_facts t
  unfold iblk
  rw [View.read_apply]
  refine Eq.trans (b := V m c main_v5 (ix2 (0 : Fin 1) j)) (congrArg (V m c main_v5) ?_) (V_main_v5 m c j)
  funext a
  apply Fin.ext
  match a with
  | ⟨0, _⟩ => show win0_6.index t 0 * 1 + 1 * (0) = 0; rw [h0]
  | ⟨1, _⟩ => show win0_6.index t 1 * 512 + 1 * (j.val) = j.val; rw [h1]; omega

theorem blk7 (c : Dev nD) (t : Fin cfg0.N) (j : Fin 256) :
    iblk m c 7 t (ix2 (0 : Fin 1) j) = argNw m c j := by
  have hN := N32 t
  obtain ⟨-, -, -, -, -, -, -, ⟨h0, h1⟩⟩ := idx_facts t
  unfold iblk
  rw [View.read_apply]
  refine Eq.trans (b := V m c main_v6 (ix2 (0 : Fin 1) j)) (congrArg (V m c main_v6) ?_) (V_main_v6 m c j)
  funext a
  apply Fin.ext
  match a with
  | ⟨0, _⟩ => show win0_7.index t 0 * 1 + 1 * (0) = 0; rw [h0]
  | ⟨1, _⟩ => show win0_7.index t 1 * 256 + 1 * (j.val) = j.val; rw [h1]; omega

end Cert.Kernel12Ideal.Gla
-- ==== Proof.GlaGrid.lean ====
module

public import proofs.«01_k».proof.Proof.GlaRunA
public import proofs.«01_k».proof.Proof.GlaRunB
public import proofs.«01_k».proof.Proof.GlaWindows

/-!
The grid goes through the blocks in the order of the tokens, so by induction on the point the kernel's state is the
layer's, and its result array ends holding the layer's result.
-/

@[expose] public section

set_option maxRecDepth 16384
set_option maxHeartbeats 1000000

noncomputable section

open Idealize.ShloMosaic Idealize.ShloMosaic.TcCoe Idealize.SL.Sem
open scoped BigOperators

namespace Cert.Kernel12Ideal.Gla

open Cert.Kernel12Ideal Cert.Kernel12Ideal.Gen Cert.Delta Cert.Gla

variable (m : (ℓ : Loc nD τ sig) → Buf (Elt Ideal) ℓ)

/-- Head `h` of the layer, from the arguments. -/
abbrev argHead (c : Dev nD) (h : Fin 4) : Cert.Gla.Head := layerHead (argPa m c) (argSm m c) (argW m c) (argB m c) h

/-- The block at a grid point, given the state. -/
def blkAt (c : Dev nD) (t : Fin cfg0.N) (s : Vec Ideal S4x128x256 .f32) : Blk :=
  ⟨iblk m c 0 t, iblk m c 1 t, iblk m c 2 t, iblk m c 4 t, iblk m c 5 t, iblk m c 6 t, s⟩

theorem tok_mk (t : ℕ) (h : t < 8192) : tok t = ⟨t, h⟩ := Fin.ext (Nat.mod_eq_of_lt h)

theorem fed (c : Dev nD) (t : Fin cfg0.N) (h : Fin 4) (s : Vec Ideal S4x128x256 .f32) :
    Fed (blkAt m c t s) (argHead m c h) h (256 * t.val) := by
  have hN := N32 t
  have hT : ∀ r : Fin 256, tok (256 * t.val + r) = ⟨256 * t.val + r.val, by omega⟩ := fun r => tok_mk _ (by omega)
  constructor
  · intro r d
    refine (blk0 m c t r (hc h d)).trans ?_
    show _ = argPa m c (tok _) _
    rw [hT]
    rfl
  · intro r d
    refine (blk1 m c t r (hc h d)).trans ?_
    show _ = argPa m c (tok _) _
    rw [hT]
    rfl
  · intro r d
    refine (blk2 m c t r (vc h d)).trans ?_
    show _ = argPa m c (tok _) _
    rw [hT]
    rfl
  · intro r d
    have e5 : ∀ x : Fin 128, iblk m c 5 t (ix2 x (hc h d)) = padded (m ((c : Thread nD τ).loc main_arg2)) (ix2 x (hc h d)) := fun x =>
      (blk5 m c t x (hc h d)).trans (congrFun (V_main_v2 m c) _)
    refine (sum_padded _ fun n hn => ?_).trans (Finset.sum_congr rfl fun i _ => ?_)
    · show @HMul.hMul EReal EReal EReal _ _ (iblk m c 5 t (ix2 n (hc h d))) = (0 : EReal)
      rw [e5, padded_out _ n hn, mul_zero]
    · show @HMul.hMul EReal EReal EReal _ (iblk m c 4 t (ix2 r (⟨32 + i, by omega⟩ : Fin 128))) (iblk m c 5 t (ix2 (⟨32 + i, by omega⟩ : Fin 128) (hc h d)))
        = argSm m c (tok _) ⟨32 + i, by omega⟩ * argW m c i ⟨128 * h + d, by omega⟩
      rw [e5, padded_in, hT]
      exact congrArg (fun y : EReal => y * argW m c i ⟨128 * h + d, by omega⟩) (blk4 m c t r _)
  · intro d
    exact blk6 m c t (hc h d)

/-- What the kernel carries after point `n` of the grid. -/
def Carried (c : Dev nD) (n : ℕ) (s : Vec Ideal S4x128x256 .f32) : Prop :=
  ∀ (h : Fin 4) (i : Fin 128) (j : Fin 256), s (ix3 h i j) = (((argHead m c h).state (256 * n + 256) i j : ℝ) : EReal)

/-- What the kernel leaves in the result's block at point `t`. -/
def Block (c : Dev nD) (t : Fin cfg0.N) (y : Vec Ideal S256x1024 .bf16) : Prop :=
  ∀ (r : Fin 256) (j : Fin 1024), y (ix2 r j)
    = layerOut (argPa m c) (argSm m c) (argW m c) (argB m c) (argNw m c) ⟨256 * t.val + r, by have := N32 t; omega⟩
        ⟨j.val / 256, by omega⟩ ⟨j.val % 256, by omega⟩

section
variable {m} (c : Dev nD) (R : Finite (argPa m c) (argSm m c) (argW m c) (argB m c))
include R

/-- The block's results, from its outputs. -/
theorem block_of (t : Fin cfg0.N) (D : Blk)
    (F : ∀ h : Fin 4, Fed D (argHead m c h) h (256 * t.val))
    (hS : ∀ (h : Fin 4) (i : Fin 128) (j : Fin 256), D.state (ix3 h i j) = (((argHead m c h).state (256 * t.val) i j : ℝ) : EReal))
    (y : Vec Ideal S256x1024 .bf16) (hy : ∀ i, y i = blockAt D.out (iblk m c 7 t) (iblk m c 3 t) i) : Block m c t y := by
  have hN := N32 t
  intro r j
  rw [hy]
  have er : (ix2 r j : S256x1024.Idx) = ix2 (⟨64 * (⟨r.val / 64, by omega⟩ : Fin 4).val + (⟨r.val % 64, by omega⟩ : Fin 64).val, by dsimp only; omega⟩ : Fin 256)
      (⟨256 * (⟨j.val / 256, by omega⟩ : Fin 4).val + (⟨j.val % 256, by omega⟩ : Fin 256).val, by dsimp only; omega⟩ : Fin 1024) := by
    congr 1
    · apply Fin.ext; dsimp only; omega
    · apply Fin.ext; dsimp only; omega
  rw [er, blockAt_tile]
  unfold Cert.Gla.layerOut
  have eo : ∀ e, D.out (ix3 (⟨4 * (⟨r.val / 64, by omega⟩ : Fin 4).val + (⟨j.val / 256, by omega⟩ : Fin 4).val, by dsimp only; omega⟩ : Fin 16) (⟨r.val % 64, by omega⟩ : Fin 64) e)
      = (((argHead m c ⟨j.val / 256, by omega⟩).reads (256 * t.val + r) e : ℝ) : EReal) := by
    intro e
    rw [Fed.out (F ⟨j.val / 256, by omega⟩) (R.head _) _ (by dsimp only; omega) (hS _)]
    congr 2
    dsimp only; omega
  simp only [eo]
  congr 1
  · exact blk7 m c t _
  · refine (blk3 m c t _ _).trans ?_
    congr 1
    · apply Fin.ext; dsimp only; omega

theorem first (t : Fin cfg0.N) (acc : Vec Ideal S256x1024 .bf16 × Vec Ideal S4x128x256 .f32) (h0 : t.val % 32 = 0) :
    Carried m c t.val (Value.stAt0 m c t.val t.isLt acc).2 ∧ Block m c t (Value.stAt0 m c t.val t.isLt acc).1 := by
  have hN := N32 t
  have ht : t.val = 0 := by omega
  have F : ∀ h : Fin 4, Fed (blkAt m c t (fun _ => (0 : EReal))) (argHead m c h) h (256 * t.val) := fun h => fed m c t h _
  have hS : ∀ (h : Fin 4) (i : Fin 128) (j : Fin 256), (blkAt m c t (fun _ => (0 : EReal))).state (ix3 h i j)
      = (((argHead m c h).state (256 * t.val) i j : ℝ) : EReal) := by
    intro h i j
    rw [ht]
    rfl
  rw [Value.stAt0_A m c t acc h0]
  dsimp only
  refine ⟨fun h i j => ?_, ?_⟩
  · rw [CaseA.state]
    exact (F h).st4 (R.head _) (hS h) i j
  · exact block_of c R t _ F hS _ fun i => CaseA.out ..

theorem later (t : Fin cfg0.N) (acc : Vec Ideal S256x1024 .bf16 × Vec Ideal S4x128x256 .f32) (h0 : ¬t.val % 32 = 0)
    (C : Carried m c (t.val - 1) acc.2) :
    Carried m c t.val (Value.stAt0 m c t.val t.isLt acc).2 ∧ Block m c t (Value.stAt0 m c t.val t.isLt acc).1 := by
  have hN := N32 t
  have et : 256 * (t.val - 1) + 256 = 256 * t.val := by omega
  have F : ∀ h : Fin 4, Fed (blkAt m c t acc.2) (argHead m c h) h (256 * t.val) := fun h => fed m c t h _
  have hS : ∀ (h : Fin 4) (i : Fin 128) (j : Fin 256), (blkAt m c t acc.2).state (ix3 h i j)
      = (((argHead m c h).state (256 * t.val) i j : ℝ) : EReal) := by
    intro h i j
    refine (C h i j).trans ?_
    rw [et]
  rw [Value.stAt0_B m c t acc h0]
  dsimp only
  refine ⟨fun h i j => ?_, ?_⟩
  · rw [CaseB.state]
    exact (F h).st4 (R.head _) (hS h) i j
  · exact block_of c R t _ F hS _ fun i => CaseB.out ..

theorem at_point (n : ℕ) (hn : n < cfg0.N) :
    Carried m c n (outsAt0 m c n hn).2 ∧ Block m c ⟨n, hn⟩ (outsAt0 m c n hn).1 := by
  induction n with
  | zero =>
    rw [Value.outsAt0_zero]
    exact first c R ⟨0, hn⟩ _ (Nat.zero_mod _)
  | succ n ih =>
    have hN := N32 ⟨n + 1, hn⟩
    rw [Value.outsAt0_succ]
    exact later c R ⟨n + 1, hn⟩ _ (by dsimp only at hN ⊢; omega) (ih (Nat.lt_of_succ_lt hn)).1

/-- The kernel's result array ends holding the layer's result. -/
theorem result (t : Fin 8192) (h : Fin 4) (j : Fin 256) :
    Value.G8 m c (ix2 t (⟨256 * h + j, by omega⟩ : Fin 1024))
      = layerOut (argPa m c) (argSm m c) (argW m c) (argB m c) (argNw m c) t h j := by
  have hp : Value.pt8Of (ix2 t (⟨256 * h + j, by omega⟩ : Fin 1024)) = t.val / 256 := by
    show 1 * (t.val / 256 - 0) + 1 * ((256 * h.val + j.val) / 1024 - 0) = _
    omega
  have hlt : t.val / 256 < cfg0.N := by
    rw [show cfg0.N = 32 from N_0]; omega
  have B := (at_point c R _ hlt).2 ⟨t.val % 256, by omega⟩ ⟨256 * h + j, by omega⟩
  rw [Value.outsAt0_sweep] at B
  unfold Value.G8
  rw [dif_pos (by rw [hp]; exact hlt)]
  have e : ∀ (n n' : ℕ) (hn : 0 + n < cfg0.N) (hn' : 0 + n' < cfg0.N) (y y' : S256x1024.Idx), n = n' → y = y' →
      (Pipeline.accAt (fun n h => Value.stAt0 m c n h Value.junk0) (Value.stAt0 m c) 0 n hn).1 y
        = (Pipeline.accAt (fun n h => Value.stAt0 m c n h Value.junk0) (Value.stAt0 m c) 0 n' hn').1 y' := by
    intro n n' hn hn' y y' e1 e2
    subst e1 e2
    rfl
  refine (e _ _ _ (by omega) _ (ix2 (⟨t.val % 256, by omega⟩ : Fin 256) (⟨256 * h + j, by omega⟩ : Fin 1024)) hp ?_).trans (B.trans ?_)
  · funext a
    match a with
    | ⟨0, _⟩ => rfl
    | ⟨1, _⟩ => exact Fin.ext (Nat.mod_eq_of_lt (show 256 * h.val + j.val < 1024 by omega))
  · congr 1 <;> apply Fin.ext <;> dsimp only <;> omega

end

end Cert.Kernel12Ideal.Gla
-- ==== Proof.GlaRefStart.lean ====
module

public import proofs.«01_k».proof.Proof.Gen.Reference12Ideal.Run
public import proofs.«01_k».proof.Proof.GlaLayer
public import Idealize.ShloMosaic.Lib.Pointwise
public import Idealize.ShloMosaic.Lib.ValueIdx

/-!
What the reference holds on entering its loop, in terms of its arguments.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.Reference12Ideal.Gla

open Cert.Reference12Ideal Cert.Reference12Ideal.Gen Cert.Reference12Ideal.Value Cert.Delta Cert.Gla

/-- The queries, keys and values by heads. -/
def queryHeads (y : FVec Ideal S8192x7168 .f32) : FVec Ideal S8192x4x128 .f32 :=
  shapeCast S8192x4x128 (extractStridedSlice S8192x512 ![0, 4096] y slices_S8192x7168_S8192x512_0_4096) shapeCasts_S8192x512_S8192x4x128

theorem queryHeads_apply (y : FVec Ideal S8192x7168 .f32) (t : Fin 8192) (h : Fin 4) (d : Fin 128) :
    queryHeads y (ix3 t h d) = y (ix2 t (⟨4096 + (128 * h + d), by omega⟩ : Fin 7168)) := by
  unfold queryHeads
  pointwise
  exact congrArg (fun k => y (ix2 t k)) (Fin.ext (by dsimp only; omega))

def keyHeads (y : FVec Ideal S8192x7168 .f32) : FVec Ideal S8192x4x128 .f32 :=
  shapeCast S8192x4x128 (extractStridedSlice S8192x512 ![0, 4608] y slices_S8192x7168_S8192x512_0_4608) shapeCasts_S8192x512_S8192x4x128

theorem keyHeads_apply (y : FVec Ideal S8192x7168 .f32) (t : Fin 8192) (h : Fin 4) (d : Fin 128) :
    keyHeads y (ix3 t h d) = y (ix2 t (⟨4608 + (128 * h + d), by omega⟩ : Fin 7168)) := by
  unfold keyHeads
  pointwise
  exact congrArg (fun k => y (ix2 t k)) (Fin.ext (by dsimp only; omega))

def valueHeads (y : FVec Ideal S8192x7168 .f32) : FVec Ideal S8192x4x256 .f32 :=
  shapeCast S8192x4x256 (extractStridedSlice S8192x1024 ![0, 5120] y slices_S8192x7168_S8192x1024_0_5120) shapeCasts_S8192x1024_S8192x4x256

theorem valueHeads_apply (y : FVec Ideal S8192x7168 .f32) (t : Fin 8192) (h : Fin 4) (d : Fin 256) :
    valueHeads y (ix3 t h d) = y (ix2 t (⟨5120 + (256 * h + d), by omega⟩ : Fin 7168)) := by
  unfold valueHeads
  pointwise
  exact congrArg (fun k => y (ix2 t k)) (Fin.ext (by dsimp only; omega))

/-- The queries' scale. -/
def scaled (x : FVec Ideal S8192x4x128 .f32) : FVec Ideal S8192x4x128 .f32 :=
  mulf x (broadcastInDim S8192x4x128 ![] bcast_S_S8192x4x128 (constant S_ .f32 0x3DB504F3#32))

theorem scaled_apply (x : FVec Ideal S8192x4x128 .f32) (t : Fin 8192) (h : Fin 4) (d : Fin 128) :
    scaled x (ix3 t h d) = x (ix3 t h d) * Ideal.ofBits .f32 0x3DB504F3#32 := by
  unfold scaled
  pointwise

/-- The arguments of the gate's logistic. -/
def logits (x : FVec Ideal S8192x128 .f32) (w : FVec Ideal S2x16x512 .f32) (b : FVec Ideal S2x512 .f32) : FVec Ideal S8192x512 .f32 :=
  addf (Host.dotGeneral dot_S8192x16_S16x512_S8192x512_1_0_0_1_n_n none
      (extractStridedSlice S8192x16 ![0, 32] x slices_S8192x128_S8192x16_0_32)
      (shapeCast S16x512 (extractStridedSlice S1x16x512 ![0, 0, 0] w slices_S2x16x512_S1x16x512_0_0_0) shapeCasts_S1x16x512_S16x512))
    (broadcastInDim S8192x512 ![0, 1] bcast_S1x512_S8192x512_0_1 (broadcastInDim S1x512 ![1] bcast_S512_S1x512_1
      (shapeCast S512 (extractStridedSlice S1x512 ![0, 0] b slices_S2x512_S1x512_0_0) shapeCasts_S1x512_S512)))

theorem logits_apply (x : FVec Ideal S8192x128 .f32) (w : FVec Ideal S2x16x512 .f32) (b : FVec Ideal S2x512 .f32) (t : Fin 8192) (j : Fin 512) :
    logits x w b (ix2 t j)
      = (∑ i : Fin 16, x (ix2 t (⟨32 + i, by omega⟩ : Fin 128)) * w (ix3 (0 : Fin 2) i j)) + b (ix2 (0 : Fin 2) j) := by
  unfold logits
  pointwise

/-- The logarithm of the logistic, as the negated softplus of the negated argument, which leaves an argument that differs
from itself as it is. -/
def logSigs (y : FVec Ideal S8192x512 .f32) : FVec Ideal S8192x512 .f32 :=
  let z : FVec Ideal S8192x512 .f32 := broadcastInDim S8192x512 ![] bcast_S_S8192x512 (constant S_ .f32 0x00000000#32)
  let x : FVec Ideal S8192x512 .f32 := Host.negf y
  Host.negf (select (cmpf .une (subf x z) (subf x z)) (addf x z)
    (addf (maximumf x z) (Host.log1p (Host.exp (Host.negf (Host.absf (subf x z)))))))

theorem logSigs_apply (y : FVec Ideal S8192x512 .f32) (t : Fin 8192) (j : Fin 512) :
    logSigs y (ix2 t j) = -(soft (-(y (ix2 t j)))) := by
  unfold logSigs soft
  pointwise
  rw [if_neg fun h => h rfl, zero_sub]
  rfl

/-- On a real number that is the logarithm of the logistic. -/
theorem neg_soft_neg (a : ℝ) : -(soft (-(a : EReal))) = logSig (a : EReal) := by
  have h : (0 : ℝ) < 1 + Real.exp (-|a|) := by positivity
  have e : soft (-(a : EReal)) = ((max (-a) 0 + Real.log (1 + Real.exp (-|a|)) : ℝ) : EReal) := by
    unfold soft
    rw [neg_neg, ← EReal.coe_neg, max_coe, ← EReal.coe_zero, ← EReal.coe_sub, Ideal.exp_coe, ← EReal.coe_one, ← EReal.coe_add, max_coe,
      max_comm (-a) a, show max a (-a) = |a| from rfl, zero_sub, log_pos h, ← EReal.coe_add]
  rw [e, logSig_coe, ← EReal.coe_neg]
  congr 1
  unfold logSigR
  rcases le_total a 0 with ha | ha
  · rw [max_eq_left (by linarith), min_eq_left ha]; ring
  · rw [max_eq_right (by linarith), min_eq_right ha]; ring

/-- The decays. -/
def decays (s : FVec Ideal S8192x512 .f32) : FVec Ideal S8192x4x128 .f32 :=
  shapeCast S8192x4x128 (Host.exp (Host.divf s (broadcastInDim S8192x512 ![] bcast_S_S8192x512 (constant S_ .f32 0x41800000#32))))
    shapeCasts_S8192x512_S8192x4x128

theorem decays_apply (s : FVec Ideal S8192x512 .f32) (t : Fin 8192) (h : Fin 4) (d : Fin 128) :
    decays s (ix3 t h d) = Ideal.exp (Ideal.div (s (ix2 t (⟨128 * h + d, by omega⟩ : Fin 512))) (Ideal.ofBits .f32 0x41800000#32)) := by
  unfold decays
  pointwise
  rw [show (⟨h.val * 128 + d.val, by omega⟩ : Fin 512) = ⟨128 * h.val + d.val, by omega⟩ from Fin.ext (by dsimp only; omega)]

section stretches
variable (V : Valuation τ sig (Elt Ideal))

theorem at_v3 : after hostOps0 V (Proc.devRef .tc main_v3) = scaled (queryHeads (V (Proc.devRef .tc main_arg0))) := by
  after_reads_simp
  rfl
theorem at_v5 : after hostOps0 V (Proc.devRef .tc main_v5) = keyHeads (V (Proc.devRef .tc main_arg0)) := by
  after_reads_simp
  rfl
theorem at_v7 : after hostOps0 V (Proc.devRef .tc main_v7) = valueHeads (V (Proc.devRef .tc main_arg0)) := by
  after_reads_simp
  rfl
theorem at_v16 : after hostOps0 V (Proc.devRef .tc main_v16)
    = logits (V (Proc.devRef .tc main_arg1)) (V (Proc.devRef .tc main_arg2)) (V (Proc.devRef .tc main_arg3)) := by
  after_reads_simp
  rfl
theorem at_v17 : after hostOps0_1 V (Proc.devRef .tc main_v17) = logSigs (V (Proc.devRef .tc main_v16)) := by
  after_reads_simp
  rfl
theorem at_v24_0 : after hostOps0_2 V (Proc.devRef .tc main_v24_0) = V (Proc.devRef .tc main_v3) := by
  after_reads_simp
  rfl
theorem at_v24_1 : after hostOps0_2 V (Proc.devRef .tc main_v24_1) = V (Proc.devRef .tc main_v5) := by
  after_reads_simp
  rfl
theorem at_v24_2 : after hostOps0_2 V (Proc.devRef .tc main_v24_2) = V (Proc.devRef .tc main_v7) := by
  after_reads_simp
  rfl
theorem at_v24_3 : after hostOps0_2 V (Proc.devRef .tc main_v24_3) = decays (V (Proc.devRef .tc main_v17)) := by
  after_reads_simp
  rfl
theorem at_v24_5 : after hostOps0_2 V (Proc.devRef .tc main_v24_5)
    = (broadcastInDim S4x128x256 ![] bcast_S_S4x128x256 (constant S_ .f32 0x00000000#32) : FVec Ideal S4x128x256 .f32) := by
  after_reads_simp
  rfl

/-- A stretch leaves what it does not write. -/
theorem keep1 (r : Ref sig .tc) (h : r ∉ hostOps0_1_W) :
    after hostOps0_1 V (Proc.devRef .tc r) = V (Proc.devRef .tc r) := after_of_writes_sub hostOps0_1 V hostOps0_1_writes h

end stretches

variable (m : (ℓ : Loc nD τ sig) → Buf (Elt Ideal) ℓ)

abbrev argPa (c : Dev nD) (t : Fin 8192) (j : Fin 7168) : EReal := m ((c : Thread nD τ).loc main_arg0) (ix2 t j)
abbrev argSm (c : Dev nD) (t : Fin 8192) (j : Fin 128) : EReal := m ((c : Thread nD τ).loc main_arg1) (ix2 t j)
abbrev argW (c : Dev nD) (i : Fin 16) (j : Fin 512) : EReal := m ((c : Thread nD τ).loc main_arg2) (ix3 (0 : Fin 2) i j)
abbrev argB (c : Dev nD) (j : Fin 512) : EReal := m ((c : Thread nD τ).loc main_arg3) (ix2 (0 : Fin 2) j)
abbrev argNw (c : Dev nD) (j : Fin 256) : EReal := m ((c : Thread nD τ).loc main_arg4) (ix1 j)

/-- The contents on entering the loop. -/
abbrev start (c : Dev nD) : Valuation τ sig (Elt Ideal) := entryContents preI m c

theorem start_eq (c : Dev nD) : start m c = after hostOps0_2 (after hostOps0_1 (after hostOps0 (launchContents m c))) := rfl

/-- A head of the layer, from the launch's arguments. -/
abbrev argHead (c : Dev nD) (h : Fin 4) : Cert.Gla.Head := layerHead (argPa m c) (argSm m c) (argW m c) (argB m c) h

theorem start_query (c : Dev nD) (t : Fin 8192) (h : Fin 4) (d : Fin 128) :
    (start m c (Proc.devRef .tc main_v24_0) : S8192x4x128.Idx → EReal) (ix3 t h d) = (argHead m c h).query t d := by
  rw [start_eq, at_v24_0, keep1 _ main_v3 (by decide), at_v3, scaled_apply, queryHeads_apply]
  show _ = argPa m c (tok t) _ * _
  rw [tok_val]

theorem start_key (c : Dev nD) (t : Fin 8192) (h : Fin 4) (d : Fin 128) :
    (start m c (Proc.devRef .tc main_v24_1) : S8192x4x128.Idx → EReal) (ix3 t h d) = (argHead m c h).k t d := by
  rw [start_eq, at_v24_1, keep1 _ main_v5 (by decide), at_v5, keyHeads_apply]
  show _ = argPa m c (tok t) _
  rw [tok_val]

theorem start_value (c : Dev nD) (t : Fin 8192) (h : Fin 4) (e : Fin 256) :
    (start m c (Proc.devRef .tc main_v24_2) : S8192x4x256.Idx → EReal) (ix3 t h e) = (argHead m c h).v t e := by
  rw [start_eq, at_v24_2, keep1 _ main_v7 (by decide), at_v7, valueHeads_apply]
  show _ = argPa m c (tok t) _
  rw [tok_val]

theorem start_decay (c : Dev nD) (h : Fin 4) (R : (argHead m c h).Real) (t : Fin 8192) (d : Fin 128) :
    (start m c (Proc.devRef .tc main_v24_3) : S8192x4x128.Idx → EReal) (ix3 t h d) = Ideal.exp ((argHead m c h).logDecay t d) := by
  rw [start_eq, at_v24_3, at_v17, at_v16, decays_apply, logSigs_apply, logits_apply]
  obtain ⟨a, ha⟩ := R.pre t d
  have ha' : (∑ i : Fin 16, argSm m c t ⟨32 + i, by omega⟩ * argW m c i ⟨128 * h + d, by omega⟩) + argB m c ⟨128 * h + d, by omega⟩ = (a : EReal) := by
    rw [← ha]
    show _ = (∑ i : Fin 16, argSm m c (tok t) ⟨32 + i, by omega⟩ * argW m c i ⟨128 * h + d, by omega⟩) + argB m c ⟨128 * h + d, by omega⟩
    rw [tok_val]
  unfold Cert.Gla.Head.logDecay
  rw [ha, ← neg_soft_neg a]
  exact congrArg (fun y => Ideal.exp (Ideal.div (-(soft (-y))) _)) ha'

theorem start_state (c : Dev nD) (h : Fin 4) (i : Fin 128) (j : Fin 256) :
    (start m c (Proc.devRef .tc main_v24_5) : S4x128x256.Idx → EReal) (ix3 h i j) = (0 : EReal) := by
  rw [start_eq, at_v24_5]
  pointwise

end Cert.Reference12Ideal.Gla
-- ==== Proof.GlaRefTrip.lean ====
module

public import proofs.«01_k».proof.Proof.Gen.Reference12Ideal.Run
public import proofs.«01_k».proof.Proof.GlaLayer
public import Idealize.ShloMosaic.Lib.Pointwise
public import Idealize.ShloMosaic.Lib.ValueIdx
public import Idealize.ShloMosaic.Lib.DynamicIndex

/-!
One trip of the reference's loop, entry by entry.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.Reference12Ideal.Gla

open Cert.Reference12Ideal Cert.Reference12Ideal.Gen Cert.Reference12Ideal.Value Cert.Delta Cert.Gla

/-- The loop's counter at trip `k`. -/
def counter (k : ℕ) : IVec S_ 32 := fun _ => BitVec.ofNat 32 k

/-- Where a trip's row begins. -/
def from3 (n : IVec S_ 32) : Fin 3 → Int := fun k =>
  (((![n, constantI S_ 32 0#32, constantI S_ 32 0#32] : Fin 3 → (⟨S_, .i32⟩ : BufTy).Contents (Elt Ideal))) k (Shape.Idx.first h_S_)).toInt

theorem word (k : Fin 8192) : (BitVec.ofNat 32 k.val).toInt = (k.val : Int) := by
  have := k.isLt
  rw [BitVec.toInt_eq_toNat_bmod, BitVec.toNat_ofNat, Int.bmod_def]
  omega

theorem at128_0 (ht : S1x4x128.rank = S8192x4x128.rank) (k : Fin 8192) :
    Host.clampedStart S8192x4x128 S1x4x128 ht (from3 (counter k)) (0 : Fin 3) = k.val := by
  have := k.isLt
  exact Host.clampedStart_of_le ht _ (0 : Fin 3) k.val (word k) (by show k.val + 1 ≤ 8192; omega)
theorem at128_1 (ht : S1x4x128.rank = S8192x4x128.rank) (n : IVec S_ 32) :
    Host.clampedStart S8192x4x128 S1x4x128 ht (from3 n) (1 : Fin 3) = 0 :=
  Host.clampedStart_of_le ht _ (1 : Fin 3) 0 rfl (by show 0 + 4 ≤ 4; omega)
theorem at128_2 (ht : S1x4x128.rank = S8192x4x128.rank) (n : IVec S_ 32) :
    Host.clampedStart S8192x4x128 S1x4x128 ht (from3 n) (2 : Fin 3) = 0 :=
  Host.clampedStart_of_le ht _ (2 : Fin 3) 0 rfl (by show 0 + 128 ≤ 128; omega)

theorem at256_0 (ht : S1x4x256.rank = S8192x4x256.rank) (k : Fin 8192) :
    Host.clampedStart S8192x4x256 S1x4x256 ht (from3 (counter k)) (0 : Fin 3) = k.val := by
  have := k.isLt
  exact Host.clampedStart_of_le ht _ (0 : Fin 3) k.val (word k) (by show k.val + 1 ≤ 8192; omega)
theorem at256_1 (ht : S1x4x256.rank = S8192x4x256.rank) (n : IVec S_ 32) :
    Host.clampedStart S8192x4x256 S1x4x256 ht (from3 n) (1 : Fin 3) = 0 :=
  Host.clampedStart_of_le ht _ (1 : Fin 3) 0 rfl (by show 0 + 4 ≤ 4; omega)
theorem at256_2 (ht : S1x4x256.rank = S8192x4x256.rank) (n : IVec S_ 32) :
    Host.clampedStart S8192x4x256 S1x4x256 ht (from3 n) (2 : Fin 3) = 0 :=
  Host.clampedStart_of_le ht _ (2 : Fin 3) 0 rfl (by show 0 + 256 ≤ 256; omega)

/-- A trip's row of an array over tokens and heads. -/
def keyRow (x : FVec Ideal S8192x4x128 .f32) (n : IVec S_ 32) : FVec Ideal S4x128 .f32 :=
  shapeCast S4x128 (Host.dynamicSlice S1x4x128 x (from3 n) sliceFits_S8192x4x128_S1x4x128) shapeCasts_S1x4x128_S4x128

theorem keyRow_apply (x : FVec Ideal S8192x4x128 .f32) (k : Fin 8192) (h : Fin 4) (d : Fin 128) :
    keyRow x (counter k) (ix2 h d) = x (ix3 k h d) := by
  unfold keyRow
  pointwise
  simp only [at128_0, at128_1, at128_2, Nat.zero_add]

def valueRow (x : FVec Ideal S8192x4x256 .f32) (n : IVec S_ 32) : FVec Ideal S4x256 .f32 :=
  shapeCast S4x256 (Host.dynamicSlice S1x4x256 x (from3 n) sliceFits_S8192x4x256_S1x4x256) shapeCasts_S1x4x256_S4x256

theorem valueRow_apply (x : FVec Ideal S8192x4x256 .f32) (k : Fin 8192) (h : Fin 4) (e : Fin 256) :
    valueRow x (counter k) (ix2 h e) = x (ix3 k h e) := by
  unfold valueRow
  pointwise
  simp only [at256_0, at256_1, at256_2, Nat.zero_add]

/-- What each head's vector reads from its state. -/
def reads (x : FVec Ideal S4x128 .f32) (S : FVec Ideal S4x128x256 .f32) : FVec Ideal S4x256 .f32 :=
  Host.dotGeneral dot_S4x128_S4x128x256_S4x256_1_1_n_2_0_0 none x S

theorem reads_apply (x : FVec Ideal S4x128 .f32) (S : FVec Ideal S4x128x256 .f32) (h : Fin 4) (j : Fin 256) :
    reads x S (ix2 h j) = ∑ d, x (ix2 h d) * S (ix3 h d j) := by
  unfold reads
  pointwise

/-- The state, decayed, with a trip's product added. -/
def added (S : FVec Ideal S4x128x256 .f32) (f k : FVec Ideal S4x128 .f32) (v : FVec Ideal S4x256 .f32) : FVec Ideal S4x128x256 .f32 :=
  addf (mulf S (broadcastInDim S4x128x256 ![0, 1, 2] bcast_S4x128x1_S4x128x256_0_1_2 (broadcastInDim S4x128x1 ![0, 1] bcast_S4x128_S4x128x1_0_1 f)))
    (mulf (broadcastInDim S4x128x256 ![0, 1, 2] bcast_S4x128x1_S4x128x256_0_1_2 (broadcastInDim S4x128x1 ![0, 1] bcast_S4x128_S4x128x1_0_1 k))
      (broadcastInDim S4x128x256 ![0, 1, 2] bcast_S4x1x256_S4x128x256_0_1_2 (broadcastInDim S4x1x256 ![0, 2] bcast_S4x256_S4x1x256_0_2 v)))

theorem added_apply (S : FVec Ideal S4x128x256 .f32) (f k : FVec Ideal S4x128 .f32) (v : FVec Ideal S4x256 .f32) (h : Fin 4) (i : Fin 128) (j : Fin 256) :
    added S f k v (ix3 h i j) = S (ix3 h i j) * f (ix2 h i) + k (ix2 h i) * v (ix2 h j) := by
  unfold added
  pointwise

/-- The outputs with a trip's row written. -/
def written (o : FVec Ideal S8192x4x256 .f32) (r : FVec Ideal S4x256 .f32) (n : IVec S_ 32) : FVec Ideal S8192x4x256 .f32 :=
  Host.dynamicUpdateSlice o (broadcastInDim S1x4x256 ![1, 2] bcast_S4x256_S1x4x256_1_2 r) (from3 n) updateFits_S8192x4x256_S1x4x256

theorem written_same (o : FVec Ideal S8192x4x256 .f32) (r : FVec Ideal S4x256 .f32) (k : Fin 8192) (h : Fin 4) (j : Fin 256) :
    written o r (counter k) (ix3 k h j) = r (ix2 h j) := by
  unfold written
  pointwise
  simp only [at256_0, at256_1, at256_2, Nat.sub_zero]
  rw [dif_pos ⟨⟨le_refl _, Nat.lt_succ_self _⟩, Nat.zero_le _, Nat.zero_le _⟩]

theorem written_other (o : FVec Ideal S8192x4x256 .f32) (r : FVec Ideal S4x256 .f32) (k t : Fin 8192) (ht : t ≠ k) (h : Fin 4) (j : Fin 256) :
    written o r (counter k) (ix3 t h j) = o (ix3 t h j) := by
  unfold written
  pointwise
  simp only [at256_0, at256_1, at256_2, Nat.sub_zero]
  rw [dif_neg]
  rintro ⟨⟨h1, h2⟩, -⟩
  exact ht (Fin.ext (by omega))

section trip
variable (V : Valuation τ sig (Elt Ideal))

/-- The state after a trip. -/
def nextState : FVec Ideal S4x128x256 .f32 :=
  added (V (Proc.devRef .tc main_v24_5)) (keyRow (V (Proc.devRef .tc main_v24_3)) (V (Proc.devRef .tc main_v24_4)))
    (keyRow (V (Proc.devRef .tc main_v24_1)) (V (Proc.devRef .tc main_v24_4))) (valueRow (V (Proc.devRef .tc main_v24_2)) (V (Proc.devRef .tc main_v24_4)))

theorem step_state : STEP V (Proc.devRef .tc main_v24_5) = nextState V := by
  rw [STEP_main_v24_5]
  rfl

theorem step_out : STEP V (Proc.devRef .tc main_v24_6) = written (V (Proc.devRef .tc main_v24_6))
    (reads (keyRow (V (Proc.devRef .tc main_v24_0)) (V (Proc.devRef .tc main_v24_4))) (nextState V)) (V (Proc.devRef .tc main_v24_4)) := by
  rw [STEP_main_v24_6]
  rfl

theorem step_count (k : ℕ) (h : V (Proc.devRef .tc main_v24_4) = (counter k : IVec S_ 32)) :
    STEP V (Proc.devRef .tc main_v24_4) = (counter (k + 1) : IVec S_ 32) := by
  rw [STEP_main_v24_4]
  unfold step_main_v24_4
  rw [h]
  funext i
  show BitVec.ofNat 32 k + 1#32 = _
  exact (BitVec.ofNat_add k 1).symm

end trip

end Cert.Reference12Ideal.Gla
-- ==== Proof.GlaRefLoop.lean ====
module

public import proofs.«01_k».proof.Proof.GlaRefStart
public import proofs.«01_k».proof.Proof.GlaRefTrip
public import proofs.«01_k».proof.Proof.Lift

/-!
The reference's loop computes the recurrence token by token, and what follows it is the layer's result.
-/

@[expose] public section

set_option maxRecDepth 16384
set_option maxHeartbeats 1000000

noncomputable section

open Idealize.ShloMosaic Idealize.ShloMosaic.TcCoe Idealize.ShloMosaic.StableHlo Idealize.SL.Sem
open scoped BigOperators

namespace Cert.Reference12Ideal.Gla

open Cert.Reference12Ideal Cert.Reference12Ideal.Gen Cert.Reference12Ideal.Value Cert.Delta Cert.Gla

variable (m : (ℓ : Loc nD τ sig) → Buf (Elt Ideal) ℓ)

/-- What the loop's buffers hold before trip `k`. -/
structure At (c : Dev nD) (k : ℕ) (V : Valuation τ sig (Elt Ideal)) : Prop where
  query : V (Proc.devRef .tc main_v24_0) = start m c (Proc.devRef .tc main_v24_0)
  key : V (Proc.devRef .tc main_v24_1) = start m c (Proc.devRef .tc main_v24_1)
  value : V (Proc.devRef .tc main_v24_2) = start m c (Proc.devRef .tc main_v24_2)
  decay : V (Proc.devRef .tc main_v24_3) = start m c (Proc.devRef .tc main_v24_3)
  count : V (Proc.devRef .tc main_v24_4) = (counter k : IVec S_ 32)
  state : ∀ (h : Fin 4) (i : Fin 128) (j : Fin 256), (V (Proc.devRef .tc main_v24_5) : S4x128x256.Idx → EReal) (ix3 h i j)
    = (((argHead m c h).state k i j : ℝ) : EReal)
  out : ∀ (t : Fin 8192), t.val < k → ∀ (h : Fin 4) (j : Fin 256), (V (Proc.devRef .tc main_v24_6) : S8192x4x256.Idx → EReal) (ix3 t h j)
    = (((argHead m c h).reads t j : ℝ) : EReal)

variable {m} {c : Dev nD} {V : Valuation τ sig (Elt Ideal)}

section
variable (R : ∀ h, (argHead m c h).Real)
include R

theorem At.row_query {k : Fin 8192} (A : At m c k V) (h : Fin 4) (d : Fin 128) :
    keyRow (V (Proc.devRef .tc main_v24_0)) (V (Proc.devRef .tc main_v24_4)) (ix2 h d) = (((argHead m c h).qR k d : ℝ) : EReal) := by
  rw [A.count, keyRow_apply, A.query, ← (R h).query k d]
  exact start_query m c k h d
theorem At.row_key {k : Fin 8192} (A : At m c k V) (h : Fin 4) (d : Fin 128) :
    keyRow (V (Proc.devRef .tc main_v24_1)) (V (Proc.devRef .tc main_v24_4)) (ix2 h d) = (((argHead m c h).kR k d : ℝ) : EReal) := by
  rw [A.count, keyRow_apply, A.key]
  exact (start_key m c k h d).trans ((R h).k k d).eq
theorem At.row_value {k : Fin 8192} (A : At m c k V) (h : Fin 4) (e : Fin 256) :
    valueRow (V (Proc.devRef .tc main_v24_2)) (V (Proc.devRef .tc main_v24_4)) (ix2 h e) = (((argHead m c h).vR k e : ℝ) : EReal) := by
  rw [A.count, valueRow_apply, A.value]
  exact (start_value m c k h e).trans ((R h).v k e).eq
theorem At.row_decay {k : Fin 8192} (A : At m c k V) (h : Fin 4) (d : Fin 128) :
    keyRow (V (Proc.devRef .tc main_v24_3)) (V (Proc.devRef .tc main_v24_4)) (ix2 h d)
      = ((Real.exp ((argHead m c h).gR k d) : ℝ) : EReal) := by
  rw [A.count, keyRow_apply, A.decay, ← Ideal.exp_coe, ← (R h).logDecay k d]
  exact start_decay m c h (R h) k d

/-- A trip's state. -/
theorem At.next {k : Fin 8192} (A : At m c k V) (h : Fin 4) (i : Fin 128) (j : Fin 256) :
    nextState V (ix3 h i j) = (((argHead m c h).state (k + 1) i j : ℝ) : EReal) := by
  unfold nextState
  rw [added_apply, A.row_value R, A.row_key R, A.row_decay R, A.state h i j, ← EReal.coe_mul, ← EReal.coe_mul, ← EReal.coe_add]
  rfl

/-- One trip. -/
theorem At.step {k : Fin 8192} (A : At m c k V) : At m c (k + 1) (STEP V) where
  query := (STEP_main_v24_0 V).trans A.query
  key := (STEP_main_v24_1 V).trans A.key
  value := (STEP_main_v24_2 V).trans A.value
  decay := (STEP_main_v24_3 V).trans A.decay
  count := step_count V k A.count
  state h i j := (congrFun (step_state V) _).trans (A.next R h i j)
  out t ht h j := by
    refine (congrFun (step_out V) _).trans ?_
    by_cases e : t = k
    · subst e
      rw [congrArg (written _ _) A.count, written_same, reads_apply]
      show _ = ((∑ i, _ * (argHead m c h).state (t + 1) i j : ℝ) : EReal)
      rw [← coe_sum]
      refine Finset.sum_congr rfl fun i _ => ?_
      rw [A.next R, A.row_query R, EReal.coe_mul]
    · rw [congrArg (written _ _) A.count, written_other _ _ _ _ e]
      exact A.out t (by have : t.val ≠ k.val := fun h => e (Fin.ext h); omega) h j

/-- Every trip. -/
theorem trips : ∀ k, k ≤ 8192 → At m c k (STEP^[k] (start m c))
  | 0, _ => {
      query := rfl, key := rfl, value := rfl, decay := rfl
      count := ctr_entry m c
      state := fun h i j => start_state m c h i j
      out := fun t ht => absurd ht (Nat.not_lt_zero _) }
  | k + 1, hk => by
    rw [Function.iterate_succ_apply']
    exact At.step R (k := ⟨k, hk⟩) (trips k (Nat.le_of_succ_le hk))

end

/-- What follows the loop. -/
def finish (o : FVec Ideal S8192x4x256 .f32) (nw : FVec Ideal S256 .f32) (pa : FVec Ideal S8192x7168 .f32) : FVec Ideal S8192x1024 .bf16 :=
  let z : FVec Ideal S8192x4x256 .f32 := shapeCast S8192x4x256 (extractStridedSlice S8192x1024 ![0, 6144] pa slices_S8192x7168_S8192x1024_0_6144) shapeCasts_S8192x1024_S8192x4x256
  let one : FVec Ideal S8192x4x256 .f32 := broadcastInDim S8192x4x256 ![] bcast_S_S8192x4x256 (constant S_ .f32 0x3F800000#32)
  truncf .bf16 (shapeCast S8192x1024 (mulf (mulf (mulf o (broadcastInDim S8192x4x256 ![0, 1, 2] bcast_S8192x4x1_S8192x4x256_0_1_2
    (Host.rsqrt (addf (Host.divf (broadcastInDim S8192x4x1 ![0, 1] bcast_S8192x4_S8192x4x1_0_1
      (Host.reduceAdd (mulf o o) (constant S_ .f32 0x00000000#32) reducesTo_S8192x4x256_S8192x4_d2 h_S_))
      (broadcastInDim S8192x4x1 ![] bcast_S_S8192x4x1 (constant S_ .f32 0x43800000#32)))
      (broadcastInDim S8192x4x1 ![] bcast_S_S8192x4x1 (constant S_ .f32 0x358637BD#32))))))
    (broadcastInDim S8192x4x256 ![0, 1, 2] bcast_S1x1x256_S8192x4x256_0_1_2 (broadcastInDim S1x1x256 ![2] bcast_S256_S1x1x256_2 nw)))
    (mulf z (Host.divf one (addf one (Host.exp (Host.negf z)))))) shapeCasts_S8192x4x256_S8192x1024) bitsLt_bf16_f32

theorem finish_apply (o : FVec Ideal S8192x4x256 .f32) (nw : FVec Ideal S256 .f32) (pa : FVec Ideal S8192x7168 .f32)
    (t : Fin 8192) (h : Fin 4) (j : Fin 256) :
    finish o nw pa (ix2 t (⟨256 * h + j, by omega⟩ : Fin 1024))
      = Cert.Gla.Head.gated (fun e => o (ix3 t h e)) (nw (ix1 j)) (pa (ix2 t (⟨6144 + (256 * h + j), by omega⟩ : Fin 7168))) j := by
  unfold finish Cert.Gla.Head.gated silu Ideal.logistic
  pointwise
  rw [show (⟨6144 + (h.val * 256 + j.val), by omega⟩ : Fin 7168) = ⟨6144 + (256 * h.val + j.val), by omega⟩ from
    Fin.ext (by dsimp only; omega)]

/-- The reference's result is the layer's. -/
theorem result (F : Finite (argPa m c) (argSm m c) (argW m c) (argB m c)) (t : Fin 8192) (h : Fin 4) (j : Fin 256) :
    (out_main_v43 (STEP^[8192] (entryContents preI m c)) : S8192x1024.Idx → EReal) (ix2 t (⟨256 * h + j, by omega⟩ : Fin 1024))
      = layerOut (argPa m c) (argSm m c) (argW m c) (argB m c) (argNw m c) t h j := by
  have e : out_main_v43 (STEP^[8192] (entryContents preI m c))
      = finish ((STEP^[8192] (entryContents preI m c)) (Proc.devRef .tc main_v24_6)) (m ((c : Thread nD τ).loc main_arg4)) (m ((c : Thread nD τ).loc main_arg0)) := by
    rw [← iter_main_arg4 m c 8192, ← iter_main_arg0 m c 8192]
    rfl
  rw [e, finish_apply]
  have A := trips (fun h => F.head h) 8192 (le_refl _)
  unfold Cert.Gla.layerOut
  exact congrArg (fun o => Cert.Gla.Head.gated o _ _ j) (funext fun e => A.out t t.isLt h e)

end Cert.Reference12Ideal.Gla
-- ==== Proof.Gla.lean ====
module

public import proofs.«01_k».proof.Defs
public import proofs.«01_k».proof.Proof.GlaFinite
public import proofs.«01_k».proof.Proof.GlaGrid
public import proofs.«01_k».proof.Proof.GlaRefLoop

/-!
The value claim of the gated linear attention: kernel and reference both end at the layer's result.
-/

@[expose] public section

noncomputable section

open Idealize.ShloMosaic Idealize.ShloMosaic.TcCoe Idealize.SL.Sem

namespace Cert.Gla

/-- Two result arrays that agree at every coordinate of every head are equal. -/
theorem ext_heads {x y : (⟨2, ![8192, 1024]⟩ : Shape).Idx → EReal}
    (e : ∀ (t : Fin 8192) (h : Fin 4) (j : Fin 256), x (ix2 t (⟨256 * h + j, by omega⟩ : Fin 1024)) = y (ix2 t (⟨256 * h + j, by omega⟩ : Fin 1024))) :
    x = y := by
  funext i
  have hn : (i 1).val < 1024 := (i 1).isLt
  have ei : i = ix2 (i 0 : Fin 8192) (⟨256 * ((i 1).val / 256) + (i 1).val % 256, by omega⟩ : Fin 1024) := by
    funext a
    match a with
    | ⟨0, _⟩ => rfl
    | ⟨1, _⟩ => exact Fin.ext (Nat.div_add_mod _ _).symm
  rw [ei]
  exact e (i 0) ⟨(i 1).val / 256, by omega⟩ ⟨(i 1).val % 256, Nat.mod_lt _ (by decide)⟩

/-- On arrays of real numbers kernel and reference end at the same function of the same arguments. -/
theorem algebraic : Cert.algebraic_Kernel12Ideal_Reference12Ideal_pre_finite_gla := by
  intro m ρ m' ρ' hpre hagree
  refine ⟨fun c => Cert.Kernel12Ideal.Value.G8 m c, Cert.Kernel12Ideal.Value.run (F := Ideal) m ρ,
    (θ_run Cert.Reference12Ideal.defs _ _).mono (fun r h c => ⟨?_, (h c).2⟩) (Cert.Reference12Ideal.Value.run (F := Ideal) m' ρ')⟩
  rw [(h c).1]
  obtain ⟨g0, g1, g2, g3, g4⟩ := hagree c
  have F := finite_of_pre _ _ _ _ _ (hpre c)
  have F' : Finite (Cert.Reference12Ideal.Gla.argPa m' c) (Cert.Reference12Ideal.Gla.argSm m' c) (Cert.Reference12Ideal.Gla.argW m' c)
      (Cert.Reference12Ideal.Gla.argB m' c) := by
    have F2 := F
    rw [← g0, ← g1, ← g2, ← g3] at F2
    exact F2
  refine ext_heads fun t h j => ?_
  refine (Cert.Reference12Ideal.Gla.result F' t h j).trans (Eq.trans ?_ (Cert.Kernel12Ideal.Gla.result c F t h j).symm)
  unfold Cert.Reference12Ideal.Gla.argPa Cert.Reference12Ideal.Gla.argSm Cert.Reference12Ideal.Gla.argW
    Cert.Reference12Ideal.Gla.argB Cert.Reference12Ideal.Gla.argNw
  rw [g0, g1, g2, g3, g4]

end Cert.Gla
-- ==== Proof.NormB.lean ====
/-
  The RMS norm before a block, whose result is rounded to bfloat16: after the launch the result array holds, at token `r` and channel `c`, the entry times the
  reciprocal root of the row's mean square plus the norm's constant, times the channel's weight; so does the reference's.
  (In exact arithmetic the rounding is the identity.)
-/
module

public import proofs.«01_k».proof.Proof.Gen.Kernel11Ideal.Value
public import proofs.«01_k».proof.Proof.Gen.Reference11Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Norm

open Cert.Kernel11Ideal Cert.Kernel11Ideal.Gen

/-- The result at an index. -/
def norm (h : S8192x4096.Idx → EReal) (w : S4096.Idx → EReal) (i : S8192x4096.Idx) : EReal :=
  h i * Ideal.rsqrt (Ideal.div (∑ k : Fin 4096, h (ix2 (i 0) k) * h (ix2 (i 0) k)) (Ideal.ofBits .f32 0x45800000#32)
      + Ideal.ofBits .f32 0x358637BD#32) * w (ix1 (i 1))

/-- One grid point's payload at an index, from the blocks it loads. -/
theorem pay_apply (x0 : S256x4096.Idx → EReal) (x1 : S1x4096.Idx → EReal) (j : S256x4096.Idx) :
    k0_pay1 (F := Ideal) x0 x1 j = x0 j * Ideal.rsqrt (Ideal.div (∑ k : Fin 4096, x0 (ix2 (j 0) k) * x0 (ix2 (j 0) k)) (Ideal.ofBits .f32 0x45800000#32)
      + Ideal.ofBits .f32 0x358637BD#32) * x1 (ix2 (0 : Fin 1) (j 1)) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- A vector as one row, at an index. -/
theorem row_apply (x : S4096.Idx → EReal) (k : Fin 4096) :
    (shapeCast S1x4096 x shapeCasts_S4096_S1x4096 : S1x4096.Idx → EReal) (ix2 (0 : Fin 1) k) = x (ix1 k) := by
  pointwise

/-- The weight the launch reads is the argument as one row. -/
theorem V_main_v0 (c : Dev nD) (k : Fin 4096) :
    V m c main_v0 (ix2 (0 : Fin 1) k) = m ((c : Thread nD τ).loc main_arg1) (ix1 k) :=
  row_apply (m ((c : Thread nD τ).loc main_arg1)) k

/-- The windows' block indices at a grid point, all from the output's. -/
theorem idx_facts : ∀ t : Fin cfg0.N, win0_0.index t 0 = win0_2.index t 0 ∧ win0_0.index t 1 = 0
    ∧ win0_1.index t 0 = 0 ∧ win0_1.index t 1 = 0 ∧ win0_2.index t 1 = 0 ∧ win0_2.index t 0 < 32 :=
  (by decide +kernel : ∀ t : Fin grid0.N, _)

/-- The grid point whose block holds a given pair of block indices. -/
theorem idx_surj : ∀ (a : Fin 32) (b : Fin 1), ∃ t : Fin cfg0.N, win0_2.index t 0 = a.val ∧ win0_2.index t 1 = b.val :=
  (by decide +kernel : ∀ (a : Fin 32) (b : Fin 1), ∃ t : Fin grid0.N, win0_2.index t 0 = a.val ∧ win0_2.index t 1 = b.val)

/-- What the result array ends holding. -/
abbrev result (c : Dev nD) : Buf (Elt Ideal) ((c : Thread nD τ).loc main_v1) :=
  norm (m ((c : Thread nD τ).loc main_arg0)) (m ((c : Thread nD τ).loc main_arg1))

/-- What a grid point writes back is its block of `result`. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz2]
  obtain ⟨h00, h01, h10, h11, hc, hr⟩ := idx_facts t
  funext j
  have hj0 : (j 0).val < 256 := (j 0).isLt
  have hj1 : (j 1).val < 4096 := (j 1).isLt
  refine (pay_apply (iblk m c 0 t) (iblk m c 1 t) j).trans ?_
  rw [View.read_apply]
  have e0 : ∀ k : Fin 4096, iblk m c 0 t (ix2 (j 0) k)
      = m ((c : Thread nD τ).loc main_arg0) (ix2 ⟨win0_2.index t 0 * 256 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 256 + 1 * (j 0).val = _; rw [h00]; simp
    | ⟨1, _⟩ => show win0_0.index t 1 * 4096 + 1 * k.val = k.val; rw [h01]; omega
  have e0' := e0 (j 1)
  rw [show (ix2 (j 0) (j 1) : S256x4096.Idx) = j from by idx_vars j] at e0'
  have e1 : iblk m c 1 t (ix2 (0 : Fin 1) (j 1)) = m ((c : Thread nD τ).loc main_arg1) (ix1 (j 1)) := by
    unfold iblk
    rw [View.read_apply]
    refine Eq.trans ?_ (V_main_v0 m c (j 1))
    show V m c main_v0 _ = _
    congr 1
    funext a
    apply Fin.ext
    match a with
    | ⟨0, _⟩ => show win0_1.index t 0 * 1 + 1 * 0 = 0; rw [h10]
    | ⟨1, _⟩ => show win0_1.index t 1 * 4096 + 1 * (j 1).val = (j 1).val; rw [h11]; omega
  rw [e0', e1]
  simp only [e0]
  have hi : ((cfg0.win 2).blk t).view.emb j
      = (ix2 (⟨win0_2.index t 0 * 256 + (j 0).val, by omega⟩ : Fin 8192) (j 1 : Fin 4096) : S8192x4096.Idx) := by
    funext a
    apply Fin.ext
    match a with
    | ⟨0, _⟩ => show win0_2.index t 0 * 256 + 1 * (j 0).val = _; simp
    | ⟨1, _⟩ => show win0_2.index t 1 * 4096 + 1 * (j 1).val = (j 1).val; rw [hc]; omega
  rw [hi]
  rfl

/-- The blocks tile the result array. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht0, ht1⟩ := idx_surj ⟨(i 0).val / 256, by omega⟩ ⟨(i 1).val / 4096, by omega⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [ht0]; dsimp only; omega
  | ⟨1, _⟩ => show win0_2.index t 1 * 4096 ≤ (i 1).val ∧ (i 1).val < win0_2.index t 1 * 4096 + 4096
              rw [ht1]; dsimp only; omega

/-- The kernel's result array ends holding `result`. -/
theorem final (c : Dev nD) : (dats m 0 c).arrAt 2 cfg0.N = result m c :=
  (dats m 0 c).arrAt_eq_of_cover 2 (result m c) (fun t _ => flushed_eq m c t) cover

end Cert.Kernel11Ideal.Norm

namespace Cert.Reference11Ideal.Norm

open Cert.Reference11Ideal Cert.Reference11Ideal.Read

/-- The reference's result is the same function of the same arrays. -/
theorem val_eq (h : (⟨S8192x4096, .f32⟩ : BufTy).Contents (Elt Ideal)) (w : (⟨S4096, .f32⟩ : BufTy).Contents (Elt Ideal)) :
    val_main_v13 (F := Ideal) h w = Cert.Kernel11Ideal.Norm.norm h w := by
  rw [← val_main_v13_eq]
  funext i
  idx_vars i
  pointwise
  rfl

end Cert.Reference11Ideal.Norm

end
-- ==== Proof.Glu.lean ====
/-
  The gate half of a feed-forward block: after the launch the kernel's result array holds, at token `r` and channel `c`,
  `g · logistic g · u` of the two products `g = Σ a(r, k) w(0, k, c)` and `u = Σ a(r, k) w(0, k, 11008 + c)`; so does the
  reference's. The extended reals' sums are the same sums on both sides, so nothing is asked of the arguments.
-/
module

public import proofs.«01_k».proof.Proof.Gen.Kernel2Ideal.Value
public import proofs.«01_k».proof.Proof.Gen.Reference2Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Glu

open Cert.Kernel2Ideal Cert.Kernel2Ideal.Gen

/-- The product of row `r` of the activations with column `c` of the first layer's weight. -/
def col (a : S8192x4096.Idx → EReal) (w : S2x4096x22016.Idx → EReal) (r : Fin 8192) (c : Fin 22016) : EReal :=
  ∑ k : Fin 4096, a (ix2 r k) * w (ix3 (0 : Fin 2) k c)

/-- The result at an index: the gated product of the two columns `c` and `11008 + c`. -/
def glu (a : S8192x4096.Idx → EReal) (w : S2x4096x22016.Idx → EReal) (i : S8192x11008.Idx) : EReal :=
  col a w (i 0) ⟨(i 1).val, by have := (i 1).isLt; change (i 1).val < 11008 at this; omega⟩
    * Ideal.logistic (col a w (i 0) ⟨(i 1).val, by have := (i 1).isLt; change (i 1).val < 11008 at this; omega⟩)
    * col a w (i 0) ⟨11008 + (i 1).val, by have := (i 1).isLt; change (i 1).val < 11008 at this; omega⟩

/-- One grid point's payload at an index, from the blocks it loads. -/
theorem pay_apply (x1 x2 : S1x4096x256.Idx → EReal) (x0 : S2048x4096.Idx → EReal) (j : S2048x256.Idx) :
    k0_pay1 (F := Ideal) x1 x2 x0 j
      = (∑ k : Fin 4096, x0 (ix2 (j 0) k) * x1 (ix3 (0 : Fin 1) k (j 1)))
        * Ideal.logistic (∑ k : Fin 4096, x0 (ix2 (j 0) k) * x1 (ix3 (0 : Fin 1) k (j 1)))
        * (∑ k : Fin 4096, x0 (ix2 (j 0) k) * x2 (ix3 (0 : Fin 1) k (j 1))) := by
  idx_vars j
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The windows' block indices at a grid point, all from the output's. -/
theorem idx_facts : ∀ t : Fin cfg0.N, win0_0.index t 0 = win0_3.index t 0 ∧ win0_0.index t 1 = 0
    ∧ win0_1.index t 0 = 0 ∧ win0_1.index t 1 = 0 ∧ win0_1.index t 2 = win0_3.index t 1
    ∧ win0_2.index t 0 = 0 ∧ win0_2.index t 1 = 0 ∧ win0_2.index t 2 = 43 + win0_3.index t 1
    ∧ win0_3.index t 0 < 4 ∧ win0_3.index t 1 < 43 :=
  (by decide +kernel : ∀ t : Fin grid0.N, _)

/-- The grid point whose block holds a given pair of block indices. -/
theorem idx_surj : ∀ (a : Fin 4) (b : Fin 43), ∃ t : Fin cfg0.N, win0_3.index t 0 = a.val ∧ win0_3.index t 1 = b.val :=
  (by decide +kernel : ∀ (a : Fin 4) (b : Fin 43), ∃ t : Fin grid0.N, win0_3.index t 0 = a.val ∧ win0_3.index t 1 = b.val)

/-- What the result array ends holding. -/
abbrev result (c : Dev nD) : Buf (Elt Ideal) ((c : Thread nD τ).loc main_v0) :=
  glu (m ((c : Thread nD τ).loc main_arg0)) (m ((c : Thread nD τ).loc main_arg1))

/-- What a grid point writes back is its block of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz2, View.ld_unit_zero hz3, View.ld_unit_zero hz3, View.ld_unit_zero hz2]
  obtain ⟨h00, h01, h10, h11, h12, h20, h21, h22, hr, hc⟩ := idx_facts t
  funext j
  show k0_pay1 (F := Ideal) (iblk m c 1 t) (iblk m c 2 t) (iblk m c 0 t) j = _
  rw [pay_apply, View.read_apply]
  have hj0 : (j 0).val < 2048 := (j 0).isLt
  have hj1 : (j 1).val < 256 := (j 1).isLt
  have e0 : ∀ k : Fin 4096, iblk m c 0 t (ix2 (j 0) k)
      = m ((c : Thread nD τ).loc main_arg0) (ix2 ⟨win0_3.index t 0 * 2048 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 2048 + 1 * (j 0).val = _; rw [h00]; simp
    | ⟨1, _⟩ => show win0_0.index t 1 * 4096 + 1 * k.val = k.val; rw [h01]; omega
  have e1 : ∀ k : Fin 4096, iblk m c 1 t (ix3 (0 : Fin 1) k (j 1))
      = m ((c : Thread nD τ).loc main_arg1) (ix3 (0 : Fin 2) k ⟨win0_3.index t 1 * 256 + (j 1).val, by omega⟩) := by
    intro k
    unfold iblk
    rw [View.read_apply]
    show V m c main_arg1 _ = _
    rw [V_main_arg1]
    congr 1
    funext a
    apply Fin.ext
    match a with
    | ⟨0, _⟩ => show win0_1.index t 0 * 1 + 1 * 0 = 0; rw [h10]
    | ⟨1, _⟩ => show win0_1.index t 1 * 4096 + 1 * k.val = k.val; rw [h11]; omega
    | ⟨2, _⟩ => show win0_1.index t 2 * 256 + 1 * (j 1).val = _; rw [h12]; simp
  have e2 : ∀ k : Fin 4096, iblk m c 2 t (ix3 (0 : Fin 1) k (j 1))
      = m ((c : Thread nD τ).loc main_arg1) (ix3 (0 : Fin 2) k ⟨11008 + (win0_3.index t 1 * 256 + (j 1).val), by omega⟩) := by
    intro k
    unfold iblk
    rw [View.read_apply]
    show V m c main_arg1 _ = _
    rw [V_main_arg1]
    congr 1
    funext a
    apply Fin.ext
    match a with
    | ⟨0, _⟩ => show win0_2.index t 0 * 1 + 1 * 0 = 0; rw [h20]
    | ⟨1, _⟩ => show win0_2.index t 1 * 4096 + 1 * k.val = k.val; rw [h21]; omega
    | ⟨2, _⟩ => show win0_2.index t 2 * 256 + 1 * (j 1).val = 11008 + (win0_3.index t 1 * 256 + (j 1).val); rw [h22]; omega
  simp only [e0, e1, e2]
  have hi : ((cfg0.win 3).blk t).view.emb j
      = (ix2 (⟨win0_3.index t 0 * 2048 + (j 0).val, by omega⟩ : Fin 8192) (⟨win0_3.index t 1 * 256 + (j 1).val, by omega⟩ : Fin 11008) : S8192x11008.Idx) := by
    funext a
    apply Fin.ext
    match a with
    | ⟨0, _⟩ => show win0_3.index t 0 * 2048 + 1 * (j 0).val = _; simp
    | ⟨1, _⟩ => show win0_3.index t 1 * 256 + 1 * (j 1).val = _; simp
  rw [hi]
  rfl

/-- The blocks tile the result array. -/
theorem cover (i : S8192x11008.Idx) : ∃ t : Fin cfg0.N, (cfg0.win 3).flush t = true ∧ i ∈ ((cfg0.win 3).blk t).view.set := by
  have h0 : (i 0).val < 8192 := (i 0).isLt
  have h1 : (i 1).val < 11008 := (i 1).isLt
  obtain ⟨t, ht0, ht1⟩ := idx_surj ⟨(i 0).val / 2048, by omega⟩ ⟨(i 1).val / 256, by omega⟩
  refine ⟨t, flush0_3 t, ?_⟩
  show i ∈ ((View.whole main_v0).slice (win0_3.rect t)).set
  rw [View.set_slice_whole, Rect.mem_set_unit]
  intro a
  match a with
  | ⟨0, _⟩ => show win0_3.index t 0 * 2048 ≤ (i 0).val ∧ (i 0).val < win0_3.index t 0 * 2048 + 2048
              rw [ht0]; dsimp only; omega
  | ⟨1, _⟩ => show win0_3.index t 1 * 256 ≤ (i 1).val ∧ (i 1).val < win0_3.index t 1 * 256 + 256
              rw [ht1]; dsimp only; omega

/-- The kernel's result array ends holding `result`. -/
theorem final (c : Dev nD) : (dats m 0 c).arrAt 3 cfg0.N = result m c :=
  (dats m 0 c).arrAt_eq_of_cover 3 (result m c) (fun t _ => flushed_eq m c t) cover

end Cert.Kernel2Ideal.Glu

namespace Cert.Reference2Ideal.Glu

open Cert.Reference2Ideal Cert.Reference2Ideal.Read

/-- The reference's result is the same function of the same two arrays. -/
theorem val_eq (a : (⟨S8192x4096, .bf16⟩ : BufTy).Contents (Elt Ideal)) (w : (⟨S2x4096x22016, .f32⟩ : BufTy).Contents (Elt Ideal)) :
    val_main_v8 (F := Ideal) a w = Cert.Kernel2Ideal.Glu.glu a w := by
  rw [← val_main_v8_eq]
  funext i
  idx_vars i
  pointwise
  rfl

end Cert.Reference2Ideal.Glu

end
-- ==== Proof.Residual.lean ====
/-
  The second half of a feed-forward block: after the launch the kernel's result array holds, at token `r` and channel `c`,
  `h(r, c) + 1/2 · Σ a(r, k) w(0, k, c)`; so does the reference's. The kernel adds the contraction's two halves; over the
  extended reals the two sums are the whole one.
-/
module

public import proofs.«01_k».proof.Proof.Gen.Kernel3Ideal.Value
public import proofs.«01_k».proof.Proof.Gen.Reference3Ideal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Residual

open Cert.Kernel3Ideal Cert.Kernel3Ideal.Gen

/-- The result at an index: the residual stream plus half the product. -/
def added (a : S8192x11008.Idx → EReal) (w : S2x11008x4096.Idx → EReal) (h : S8192x4096.Idx → EReal) (i : S8192x4096.Idx) : EReal :=
  h i + Ideal.ofBits .f32 0x3F000000#32 * ∑ k : Fin 11008, a (ix2 (i 0) k) * w (ix3 (0 : Fin 2) k (i 1))

/-- The contraction's two halves add up to the whole. -/
theorem sum_halves (f : Fin 11008 → EReal) :
    ∑ k : Fin 11008, f k = ∑ k : Fin 5504, f ⟨k.val, by omega⟩ + ∑ k : Fin 5504, f ⟨5504 + k.val, by omega⟩ :=
  Fin.sum_univ_add (a := 5504) (b := 5504) f

/-- One grid point's payload at an index, from the blocks it loads. -/
theorem pay_apply (x0 : S1024x11008.Idx → EReal) (x1 : S1x11008x256.Idx → EReal) (x2 : S1024x256.Idx → EReal) (j : S1024x256.Idx) :
    k0_pay1 (F := Ideal) (View.ld (Val := Elt Ideal) (e' := .bf16) x0 r0_0) (View.ld (Val := Elt Ideal) (e' := .f32) x1 r0_1)
        (View.ld (Val := Elt Ideal) (e' := .bf16) x0 r0_2) (View.ld (Val := Elt Ideal) (e' := .f32) x1 r0_3) x2 j
      = x2 j + Ideal.ofBits .f32 0x3F000000#32 * ∑ k : Fin 11008, x0 (ix2 (j 0) k) * x1 (ix3 (0 : Fin 1) k (j 1)) := by
  idx_vars j
  rw [sum_halves]
  unfold k0_pay1
  pointwise

theorem hz2 : (![0, 0] : Fin 2 → Nat) = fun _ => 0 := funext fun a => by fin_cases a <;> rfl

variable (m : (ℓ : Loc nD τ sig) → Buf (Elt Ideal) ℓ) (ρ : Dev nD → PrngReg)

/-- The windows' block indices at a grid point, all from the output's. -/
theorem idx_facts : ∀ t : Fin cfg0.N, win0_0.index t 0 = win0_3.index t 0 ∧ win0_0.index t 1 = 0
    ∧ win0_1.index t 0 = 0 ∧ win0_1.index t 1 = 0 ∧ win0_1.index t 2 = win0_3.index t 1
    ∧ win0_2.index t 0 = win0_3.index t 0 ∧ win0_2.index t 1 = win0_3.index t 1
    ∧ win0_3.index t 0 < 8 ∧ win0_3.index t 1 < 16 :=
  (by decide +kernel : ∀ t : Fin grid0.N, _)

/-- The grid point whose block holds a given pair of block indices. -/
theorem idx_surj : ∀ (a : Fin 8) (b : Fin 16), ∃ t : Fin cfg0.N, win0_3.index t 0 = a.val ∧ win0_3.index t 1 = b.val :=
  (by decide +kernel : ∀ (a : Fin 8) (b : Fin 16), ∃ t : Fin grid0.N, win0_3.index t 0 = a.val ∧ win0_3.index t 1 = b.val)

/-- What the result array ends holding. -/
abbrev result (c : Dev nD) : Buf (Elt Ideal) ((c : Thread nD τ).loc main_v0) :=
  added (m ((c : Thread nD τ).loc main_arg0)) (m ((c : Thread nD τ).loc main_arg1)) (m ((c : Thread nD τ).loc main_arg2))

/-- What a grid point writes back is its block of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz2, View.ld_unit_zero hz2]
  obtain ⟨h00, h01, h10, h11, h12, h20, h21, hr, hc⟩ := idx_facts t
  funext j
  have hj0 : (j 0).val < 1024 := (j 0).isLt
  have hj1 : (j 1).val < 256 := (j 1).isLt
  refine (pay_apply (iblk m c 0 t) (iblk m c 1 t) (iblk m c 2 t) j).trans ?_
  rw [View.read_apply]
  have e0 : ∀ k : Fin 11008, iblk m c 0 t (ix2 (j 0) k)
      = m ((c : Thread nD τ).loc main_arg0) (ix2 ⟨win0_3.index t 0 * 1024 + (j 0).val, by omega⟩ k) := by
    intro k
    unfold iblk
    rw [View.read_apply]
    show V m c main_arg0 _ = _
    rw [V_main_arg0]
    congr 1
    funext a
    apply Fin.ext
    match a with
    | ⟨0, _⟩ => show win0_0.index t 0 * 1024 + 1 * (j 0).val = _; rw [h00]; simp
    | ⟨1, _⟩ => show win0_0.index t 1 * 11008 + 1 * k.val = k.val; rw [h01]; omega
  have e1 : ∀ k : Fin 11008, iblk m c 1 t (ix3 (0 : Fin 1) k (j 1))
      = m ((c : Thread nD τ).loc main_arg1) (ix3 (0 : Fin 2) k ⟨win0_3.index t 1 * 256 + (j 1).val, by omega⟩) := by
    intro k
    unfold iblk
    rw [View.read_apply]
    show V m c main_arg1 _ = _
    rw [V_main_arg1]
    congr 1
    funext a
    apply Fin.ext
    match a with
    | ⟨0, _⟩ => show win0_1.index t 0 * 1 + 1 * 0 = 0; rw [h10]
    | ⟨1, _⟩ => show win0_1.index t 1 * 11008 + 1 * k.val = k.val; rw [h11]; omega
    | ⟨2, _⟩ => show win0_1.index t 2 * 256 + 1 * (j 1).val = _; rw [h12]; simp
  have hi : ((cfg0.win 3).blk t).view.emb j
      = (ix2 (⟨win0_3.index t 0 * 1024 + (j 0).val, by omega⟩ : Fin 8192) (⟨win0_3.index t 1 * 256 + (j 1).val, by omega⟩ : Fin 4096) : S8192x4096.Idx) := by
    funext a
    apply Fin.ext
    match a with
    | ⟨0, _⟩ => show win0_3.index t 0 * 1024 + 1 * (j 0).val = _; simp
    | ⟨1, _⟩ => show win0_3.index t 1 * 256 + 1 * (j 1).val = _; simp
  have e2 : iblk m c 2 t j = m ((c : Thread nD τ).loc main_arg2)
      (ix2 (⟨win0_3.index t 0 * 1024 + (j 0).val, by omega⟩ : Fin 8192) (⟨win0_3.index t 1 * 256 + (j 1).val, by omega⟩ : Fin 4096)) := by
    unfold iblk
    rw [View.read_apply, ← hi]
    show V m c main_arg2 _ = _
    rw [V_main_arg2]
    congr 1
  rw [e2, hi]
  simp only [e0, e1]
  rfl

/-- The blocks tile the result array. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht0, ht1⟩ := idx_surj ⟨(i 0).val / 1024, by omega⟩ ⟨(i 1).val / 256, by omega⟩
  refine ⟨t, flush0_3 t, ?_⟩
  show i ∈ ((View.whole main_v0).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [ht0]; dsimp only; omega
  | ⟨1, _⟩ => show win0_3.index t 1 * 256 ≤ (i 1).val ∧ (i 1).val < win0_3.index t 1 * 256 + 256
              rw [ht1]; dsimp only; omega

/-- The kernel's result array ends holding `result`. -/
theorem final (c : Dev nD) : (dats m 0 c).arrAt 3 cfg0.N = result m c :=
  (dats m 0 c).arrAt_eq_of_cover 3 (result m c) (fun t _ => flushed_eq m c t) cover

end Cert.Kernel3Ideal.Residual

namespace Cert.Reference3Ideal.Residual

open Cert.Reference3Ideal Cert.Reference3Ideal.Read

/-- The reference's result is the same function of the same three arrays. -/
theorem val_eq (a : (⟨S8192x11008, .bf16⟩ : BufTy).Contents (Elt Ideal)) (w : (⟨S2x11008x4096, .f32⟩ : BufTy).Contents (Elt Ideal))
    (h : (⟨S8192x4096, .f32⟩ : BufTy).Contents (Elt Ideal)) :
    val_main_v6 (F := Ideal) a w h = Cert.Kernel3Ideal.Residual.added a w h := by
  rw [← val_main_v6_eq]
  funext i
  idx_vars i
  pointwise
  rfl

end Cert.Reference3Ideal.Residual

end
-- ==== Proof.lean ====
module

public import proofs.«01_k».proof.Defs
public import proofs.«01_k».proof.Proof.Gen.Pre_finite
public import proofs.«01_k».proof.Proof.Delta
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.ProjA
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.ProjB
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.ProjG
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Merge
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.OutProj
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Norm
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Small
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Pre_finite_gla
public import proofs.«01_k».proof.Proof.Gla
public import proofs.«01_k».proof.Proof.NormB
public import proofs.«01_k».proof.Proof.Glu
public import proofs.«01_k».proof.Proof.Residual
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The DeltaNet reference runs, leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the kernel and the reference started on arrays of real numbers. -/
theorem frame_finite : Cert.quiescent_KernelIdeal_pre_finite := fun m ρ _ => Cert.KernelIdeal.Gen.frame m ρ

theorem frame_reference_finite : Cert.quiescent_ReferenceIdeal_pre_finite := fun m ρ _ => frame_reference m ρ trivial

/-- The gate half's reference runs, leaves its arguments as they were, and has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The residual half's reference runs, leaves its arguments as they were, and has no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The DeltaNet mixer: on arrays of real numbers kernel and reference end at the same function of the same arguments. -/
theorem algebraic : Cert.algebraic_KernelIdeal_ReferenceIdeal_pre_finite := Cert.Delta.algebraic

/-- The gate half: kernel and reference end at the same function of the same arguments. -/
theorem algebraic2 : Cert.algebraic_Kernel2Ideal_Reference2Ideal := by
  intro m ρ m' ρ' _ hagree
  refine ⟨fun c => Cert.Kernel2Ideal.Glu.result m c,
    (θ_run Cert.Kernel2Ideal.defs _ _).mono (fun r h c => ⟨(h c).1.trans (Cert.Kernel2Ideal.Glu.final m c), (h c).2⟩)
      (Cert.Kernel2Ideal.Value.run_blocks (F := Ideal) m ρ),
    (θ_run Cert.Reference2Ideal.defs _ _).mono (fun r h c => ⟨?_, (h c).2⟩) (Cert.Reference2Ideal.Value.run (F := Ideal) m' ρ')⟩
  rw [(h c).1, Cert.Reference2Ideal.Read.val_main_v8_eq, Cert.Reference2Ideal.Glu.val_eq, (hagree c).1, (hagree c).2]

/-- The residual half: kernel and reference end at the same function of the same arguments. -/
theorem algebraic3 : Cert.algebraic_Kernel3Ideal_Reference3Ideal := by
  intro m ρ m' ρ' _ hagree
  refine ⟨fun c => Cert.Kernel3Ideal.Residual.result m c,
    (θ_run Cert.Kernel3Ideal.defs _ _).mono (fun r h c => ⟨(h c).1.trans (Cert.Kernel3Ideal.Residual.final m c), (h c).2⟩)
      (Cert.Kernel3Ideal.Value.run_blocks (F := Ideal) m ρ),
    (θ_run Cert.Reference3Ideal.defs _ _).mono (fun r h c => ⟨?_, (h c).2⟩) (Cert.Reference3Ideal.Value.run (F := Ideal) m' ρ')⟩
  rw [(h c).1, Cert.Reference3Ideal.Read.val_main_v6_eq, Cert.Reference3Ideal.Residual.val_eq, (hagree c).1, (hagree c).2.1, (hagree c).2.2]

/-- The DeltaNet branch's projection: the reference runs, leaves its arguments as they were, and has no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The DeltaNet branch's projection: kernel and reference end at the same function of the same arguments. -/
theorem algebraic4 : Cert.algebraic_Kernel4Ideal_Reference4Ideal := by
  intro m ρ m' ρ' _ hagree
  refine ⟨fun c => Cert.Kernel4Ideal.Proj.result m c,
    (θ_run Cert.Kernel4Ideal.defs _ _).mono (fun r h c => ⟨(h c).1.trans (Cert.Kernel4Ideal.Proj.final m c), (h c).2⟩)
      (Cert.Kernel4Ideal.Value.run_blocks (F := Ideal) m ρ),
    (θ_run Cert.Reference4Ideal.defs _ _).mono (fun r h c => ⟨?_, (h c).2⟩) (Cert.Reference4Ideal.Value.run (F := Ideal) m' ρ')⟩
  rw [(h c).1, Cert.Reference4Ideal.Read.val_main_v3_eq, Cert.Reference4Ideal.Proj.val_eq, (hagree c).1, (hagree c).2]

/-- The other two branches' projection: the reference runs, leaves its arguments as they were, and has no semaphore. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The other two branches' projection: kernel and reference end at the same function of the same arguments. -/
theorem algebraic5 : Cert.algebraic_Kernel5Ideal_Reference5Ideal := by
  intro m ρ m' ρ' _ hagree
  refine ⟨fun c => Cert.Kernel5Ideal.Proj.result m c,
    (θ_run Cert.Kernel5Ideal.defs _ _).mono (fun r h c => ⟨(h c).1.trans (Cert.Kernel5Ideal.Proj.final m c), (h c).2⟩)
      (Cert.Kernel5Ideal.Value.run_blocks (F := Ideal) m ρ),
    (θ_run Cert.Reference5Ideal.defs _ _).mono (fun r h c => ⟨?_, (h c).2⟩) (Cert.Reference5Ideal.Value.run (F := Ideal) m' ρ')⟩
  rw [(h c).1, Cert.Reference5Ideal.Read.val_main_v3_eq, Cert.Reference5Ideal.Proj.val_eq, (hagree c).1, (hagree c).2]

/-- The gates' projection: the reference runs, leaves its arguments as they were, and has no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gates' projection: kernel and reference end at the same function of the same arguments. -/
theorem algebraic6 : Cert.algebraic_Kernel6Ideal_Reference6Ideal := by
  intro m ρ m' ρ' _ hagree
  refine ⟨fun c => Cert.Kernel6Ideal.Proj.result m c,
    (θ_run Cert.Kernel6Ideal.defs _ _).mono (fun r h c => ⟨(h c).1.trans (Cert.Kernel6Ideal.Proj.final m c), (h c).2⟩)
      (Cert.Kernel6Ideal.Value.run_blocks (F := Ideal) m ρ),
    (θ_run Cert.Reference6Ideal.defs _ _).mono (fun r h c => ⟨?_, (h c).2⟩) (Cert.Reference6Ideal.Value.run (F := Ideal) m' ρ')⟩
  rw [(h c).1, Cert.Reference6Ideal.Read.val_main_v4_eq, Cert.Reference6Ideal.Proj.val_eq, (hagree c).1, (hagree c).2]

/-- The branches' merge: the reference runs, leaves its arguments as they were, and has no semaphore. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The branches' merge: kernel and reference end at the same function of the same arguments. -/
theorem algebraic7 : Cert.algebraic_Kernel7Ideal_Reference7Ideal := by
  intro m ρ m' ρ' _ hagree
  refine ⟨fun c => Cert.Kernel7Ideal.Merge.result m c,
    (θ_run Cert.Kernel7Ideal.defs _ _).mono (fun r h c => ⟨(h c).1.trans (Cert.Kernel7Ideal.Merge.final m c), (h c).2⟩)
      (Cert.Kernel7Ideal.Value.run_blocks (F := Ideal) m ρ),
    (θ_run Cert.Reference7Ideal.defs _ _).mono (fun r h c => ⟨?_, (h c).2⟩) (Cert.Reference7Ideal.Value.run (F := Ideal) m' ρ')⟩
  rw [(h c).1, Cert.Reference7Ideal.Read.val_main_v30_eq, Cert.Reference7Ideal.Merge.val_eq, (hagree c).1, (hagree c).2.1, (hagree c).2.2.1, (hagree c).2.2.2.1, (hagree c).2.2.2.2]

/-- The output projection: the reference runs, leaves its arguments as they were, and has no semaphore. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The output projection: kernel and reference end at the same function of the same arguments. -/
theorem algebraic8 : Cert.algebraic_Kernel8Ideal_Reference8Ideal := by
  intro m ρ m' ρ' _ hagree
  refine ⟨fun c => Cert.Kernel8Ideal.OutProj.result m c,
    (θ_run Cert.Kernel8Ideal.defs _ _).mono (fun r h c => ⟨(h c).1.trans (Cert.Kernel8Ideal.OutProj.final m c), (h c).2⟩)
      (Cert.Kernel8Ideal.Value.run_blocks (F := Ideal) m ρ),
    (θ_run Cert.Reference8Ideal.defs _ _).mono (fun r h c => ⟨?_, (h c).2⟩) (Cert.Reference8Ideal.Value.run (F := Ideal) m' ρ')⟩
  rw [(h c).1, Cert.Reference8Ideal.Read.val_main_v4_eq, Cert.Reference8Ideal.OutProj.val_eq, (hagree c).1, (hagree c).2.1, (hagree c).2.2]

/-- The final norm: the reference runs, leaves its arguments as they were, and has no semaphore. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The final norm: kernel and reference end at the same function of the same arguments. -/
theorem algebraic9 : Cert.algebraic_Kernel9Ideal_Reference9Ideal := by
  intro m ρ m' ρ' _ hagree
  refine ⟨fun c => Cert.Kernel9Ideal.Norm.result m c,
    (θ_run Cert.Kernel9Ideal.defs _ _).mono (fun r h c => ⟨(h c).1.trans (Cert.Kernel9Ideal.Norm.final m c), (h c).2⟩)
      (Cert.Kernel9Ideal.Value.run_blocks (F := Ideal) m ρ),
    (θ_run Cert.Reference9Ideal.defs _ _).mono (fun r h c => ⟨?_, (h c).2⟩) (Cert.Reference9Ideal.Value.run (F := Ideal) m' ρ')⟩
  rw [(h c).1, Cert.Reference9Ideal.Read.val_main_v12_eq, Cert.Reference9Ideal.Norm.val_eq, (hagree c).1, (hagree c).2]

/-- The small columns' projection: the reference runs, leaves its arguments as they were, and has no semaphore. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The small columns' projection: kernel and reference end at the same function of the same arguments. -/
theorem algebraic10 : Cert.algebraic_Kernel10Ideal_Reference10Ideal := by
  intro m ρ m' ρ' _ hagree
  refine ⟨fun c => Cert.Kernel10Ideal.Small.result m c,
    (θ_run Cert.Kernel10Ideal.defs _ _).mono (fun r h c => ⟨(h c).1.trans (Cert.Kernel10Ideal.Small.final m c), (h c).2⟩)
      (Cert.Kernel10Ideal.Value.run_blocks (F := Ideal) m ρ),
    (θ_run Cert.Reference10Ideal.defs _ _).mono (fun r h c => ⟨?_, (h c).2⟩) (Cert.Reference10Ideal.Value.run (F := Ideal) m' ρ')⟩
  rw [(h c).1, Cert.Reference10Ideal.Read.val_main_v9_eq, Cert.Reference10Ideal.Small.val_eq, (hagree c).1, (hagree c).2]

/-- The norm before a block: the reference runs, leaves its arguments as they were, and has no semaphore. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The norm before a block: kernel and reference end at the same function of the same arguments. -/
theorem algebraic11 : Cert.algebraic_Kernel11Ideal_Reference11Ideal := by
  intro m ρ m' ρ' _ hagree
  refine ⟨fun c => Cert.Kernel11Ideal.Norm.result m c,
    (θ_run Cert.Kernel11Ideal.defs _ _).mono (fun r h c => ⟨(h c).1.trans (Cert.Kernel11Ideal.Norm.final m c), (h c).2⟩)
      (Cert.Kernel11Ideal.Value.run_blocks (F := Ideal) m ρ),
    (θ_run Cert.Reference11Ideal.defs _ _).mono (fun r h c => ⟨?_, (h c).2⟩) (Cert.Reference11Ideal.Value.run (F := Ideal) m' ρ')⟩
  rw [(h c).1, Cert.Reference11Ideal.Read.val_main_v13_eq, Cert.Reference11Ideal.Norm.val_eq, (hagree c).1, (hagree c).2]

/-- The gated linear attention: the reference runs, leaves its arguments as they were, and has no semaphore. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The same of the kernel and the reference started on arrays of real numbers. -/
theorem frame_finite_gla : Cert.quiescent_Kernel12Ideal_pre_finite_gla := fun m ρ _ => Cert.Kernel12Ideal.Gen.frame m ρ

theorem frame_reference_finite_gla : Cert.quiescent_Reference12Ideal_pre_finite_gla := fun m ρ _ => frame_reference12 m ρ trivial

/-- The gated linear attention: on arrays of real numbers kernel and reference end at the same function of the same arguments. -/
theorem algebraic12 : Cert.algebraic_Kernel12Ideal_Reference12Ideal_pre_finite_gla := Cert.Gla.algebraic

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, Cert.Pre_finite.Gen.facts, Cert.Pre_finite_gla.Gen.facts,
  fun m ρ _ => Cert.Kernel.Gen.frame m ρ, fun m ρ _ => Cert.KernelIdeal.Gen.frame m ρ, frame_finite, frame_reference, frame_reference_finite,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_finite_gla, frame_reference12, frame_reference_finite_gla,
  trivial, algebraic, trivial, algebraic2, trivial, algebraic3,
  trivial, algebraic4, trivial, algebraic5, trivial, algebraic6, trivial, algebraic7, trivial, algebraic8, trivial, algebraic9, trivial, algebraic10, trivial, algebraic11, trivial, algebraic12⟩

end Cert.Proof

end
